-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_wrap [hPre_no_wrap : Cert.Pre_no_wrap.Facts] (m : (ℓ : Loc Cert.KernelIdeal.nD Cert.KernelIdeal.τ Cert.KernelIdeal.sig) → Buf (Elt Ideal) ℓ) : Prop :=
  ∀ c : Dev Cert.KernelIdeal.nD,
    (Cert.Pre_no_wrap.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_wrap [hPre_no_wrap : Cert.Pre_no_wrap.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_wrap.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_no_wrap [hKernelIdeal : Cert.KernelIdeal.Facts] [hPre_no_wrap : Cert.Pre_no_wrap.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_wrap m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_no_wrap [hReferenceIdeal : Cert.ReferenceIdeal.Facts] [hPre_no_wrap : Cert.Pre_no_wrap.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_wrap m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_no_wrap [hKernelIdeal : Cert.KernelIdeal.Facts] [hReferenceIdeal : Cert.ReferenceIdeal.Facts] [hPre_no_wrap : Cert.Pre_no_wrap.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_wrap m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)) (v2 : (c : Dev Cert.KernelIdeal.nD) → Buf (Elt Ideal) ((c.tc : Thread Cert.KernelIdeal.nD Cert.KernelIdeal.τ).loc Cert.KernelIdeal.main_v8_0)) (v3 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_v8_0) = v2 c
          ∧ r.2.mem ((c.tc : Thread Cert.KernelIdeal.nD Cert.KernelIdeal.τ).loc Cert.KernelIdeal.main_v8_1) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20_0) = v0 c
          ∧ r.2.mem ((c.tc : Thread Cert.ReferenceIdeal.nD Cert.ReferenceIdeal.τ).loc Cert.ReferenceIdeal.main_v20_1) = v1 c
          ∧ r.2.mem ((c.tc : Thread Cert.ReferenceIdeal.nD Cert.ReferenceIdeal.τ).loc Cert.ReferenceIdeal.main_v20_2) = v2 c
          ∧ r.2.mem ((c.tc : Thread Cert.ReferenceIdeal.nD Cert.ReferenceIdeal.τ).loc Cert.ReferenceIdeal.main_v20_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_no_wrap : Cert.Pre_no_wrap.Facts),
    quiescent_Kernel (hKernel := hKernel)
    ∧ quiescent_KernelIdeal (hKernelIdeal := hKernelIdeal)
    ∧ quiescent_KernelIdeal_pre_no_wrap (hKernelIdeal := hKernelIdeal) (hPre_no_wrap := hPre_no_wrap)
    ∧ quiescent_ReferenceIdeal (hReferenceIdeal := hReferenceIdeal)
    ∧ quiescent_ReferenceIdeal_pre_no_wrap (hReferenceIdeal := hReferenceIdeal) (hPre_no_wrap := hPre_no_wrap)
    ∧ preserves_Kernel_KernelIdeal
    ∧ algebraic_KernelIdeal_ReferenceIdeal_pre_no_wrap (hKernelIdeal := hKernelIdeal) (hReferenceIdeal := hReferenceIdeal) (hPre_no_wrap := hPre_no_wrap)
-- ==== Pre_no_wrap.lean ====
abbrev S4x2560x7168 : Shape := ⟨3, ![4, 2560, 7168]⟩
abbrev S4x2560x56 : Shape := ⟨3, ![4, 2560, 56]⟩
abbrev S4 : Shape := ⟨1, ![4]⟩
abbrev S4x4096x7168 : Shape := ⟨3, ![4, 4096, 7168]⟩
abbrev S4x32x56 : Shape := ⟨3, ![4, 32, 56]⟩
abbrev S4x7168x2048 : Shape := ⟨3, ![4, 7168, 2048]⟩
abbrev S4x56x16 : Shape := ⟨3, ![4, 56, 16]⟩
abbrev S_ : Shape := ⟨0, ![]⟩

class Facts : Prop where
  bcast_S_S4 : S_.BroadcastsInDim S4 (![] : Fin 0 → Fin S4.rank)

variable [Facts]

def fn {F : FTy → Type} [FloatOps F] (main_arg0 : FVec F S4x2560x7168 .fp8e4m3) (main_arg1 : FVec F S4x2560x56 .f32) (main_arg2 : IVec S4 32) (main_arg3 : FVec F S4x4096x7168 .fp8e4m3) (main_arg4 : FVec F S4x32x56 .f32) (main_arg5 : FVec F S4x7168x2048 .fp8e4m3) (main_arg6 : FVec F S4x56x16 .f32) : IVec S4 1 :=
  let main_c : IVec S_ 32 := constantI S_ 32 2147485696#32
  let main_v0 : IVec S4 32 := broadcastInDim S4 ![] bcast_S_S4 main_c
  let main_v1 : IVec S4 1 := cmpi .sge main_arg2 main_v0
  main_v1
-- ==== Kernel.lean ====
abbrev S4x2560x7168 : Shape := ⟨3, ![4, 2560, 7168]⟩
abbrev S4x2560x56 : Shape := ⟨3, ![4, 2560, 56]⟩
abbrev S4 : Shape := ⟨1, ![4]⟩
abbrev S4x4096x7168 : Shape := ⟨3, ![4, 4096, 7168]⟩
abbrev S4x32x56 : Shape := ⟨3, ![4, 32, 56]⟩
abbrev S4x7168x2048 : Shape := ⟨3, ![4, 7168, 2048]⟩
abbrev S4x56x16 : Shape := ⟨3, ![4, 56, 16]⟩
abbrev S4x32x56x128 : Shape := ⟨4, ![4, 32, 56, 128]⟩
abbrev S4x32x7168 : Shape := ⟨3, ![4, 32, 7168]⟩
abbrev S4x32x1x7168 : Shape := ⟨4, ![4, 32, 1, 7168]⟩
abbrev S4x56x16x128 : Shape := ⟨4, ![4, 56, 16, 128]⟩
abbrev S4x56x2048 : Shape := ⟨3, ![4, 56, 2048]⟩
abbrev S4x56x1x2048 : Shape := ⟨4, ![4, 56, 1, 2048]⟩
abbrev S4x2560x2048 : Shape := ⟨3, ![4, 2560, 2048]⟩
abbrev S4x2560x16 : Shape := ⟨3, ![4, 2560, 16]⟩
abbrev S1x512x7168 : Shape := ⟨3, ![1, 512, 7168]⟩
abbrev S1x512x56 : Shape := ⟨3, ![1, 512, 56]⟩
abbrev S1x256x7168 : Shape := ⟨3, ![1, 256, 7168]⟩
abbrev S1x2x1x7168 : Shape := ⟨4, ![1, 2, 1, 7168]⟩
abbrev S1x512x256 : Shape := ⟨3, ![1, 512, 256]⟩
abbrev S1x512x16 : Shape := ⟨3, ![1, 512, 16]⟩
abbrev S512x7168 : Shape := ⟨2, ![512, 7168]⟩
abbrev S256x7168 : Shape := ⟨2, ![256, 7168]⟩
abbrev S1 : Shape := ⟨1, ![1]⟩
abbrev S512x128 : Shape := ⟨2, ![512, 128]⟩
abbrev S512x56 : Shape := ⟨2, ![512, 56]⟩
abbrev S512x1 : Shape := ⟨2, ![512, 1]⟩
abbrev S1x512x128 : Shape := ⟨3, ![1, 512, 128]⟩
abbrev S512x16 : Shape := ⟨2, ![512, 16]⟩
abbrev S1x128x7168 : Shape := ⟨3, ![1, 128, 7168]⟩
abbrev S128x7168 : Shape := ⟨2, ![128, 7168]⟩
abbrev S1x1x1x7168 : Shape := ⟨4, ![1, 1, 1, 7168]⟩
abbrev S1x7168 : Shape := ⟨2, ![1, 7168]⟩
abbrev S512x256 : Shape := ⟨2, ![512, 256]⟩
abbrev S512 : Shape := ⟨1, ![512]⟩
abbrev S1x512x2048 : Shape := ⟨3, ![1, 512, 2048]⟩
abbrev S1x4x1x2048 : Shape := ⟨4, ![1, 4, 1, 2048]⟩
abbrev S1x512x512 : Shape := ⟨3, ![1, 512, 512]⟩
abbrev S512x2048 : Shape := ⟨2, ![512, 2048]⟩
abbrev S1x128x2048 : Shape := ⟨3, ![1, 128, 2048]⟩
abbrev S128x2048 : Shape := ⟨2, ![128, 2048]⟩
abbrev S1x1x1x2048 : Shape := ⟨4, ![1, 1, 1, 2048]⟩
abbrev S1x2048 : Shape := ⟨2, ![1, 2048]⟩
abbrev S512x512 : Shape := ⟨2, ![512, 512]⟩

abbrev nBuf : Space → Nat
  | .hbm => 18
  | .vmem => 33
  | .smem => 1
  | _ => 0

abbrev bufTy : (tb : Table) → Fin (tcTables nBuf tb) → BufTy
  | .hbm, ⟨0, _⟩ => ⟨S4x2560x7168, .fp8e4m3⟩
  | .hbm, ⟨1, _⟩ => ⟨S4x2560x56, .f32⟩
  | .hbm, ⟨2, _⟩ => ⟨S4x4096x7168, .fp8e4m3⟩
  | .hbm, ⟨3, _⟩ => ⟨S4x32x56, .f32⟩
  | .hbm, ⟨4, _⟩ => ⟨S4x7168x2048, .fp8e4m3⟩
  | .hbm, ⟨5, _⟩ => ⟨S4x56x16, .f32⟩
  | .hbm, ⟨6, _⟩ => ⟨S4x32x56, .bf16⟩
  | .hbm, ⟨7, _⟩ => ⟨S4x32x56x128, .bf16⟩
  | .hbm, ⟨8, _⟩ => ⟨S4x32x7168, .bf16⟩
  | .hbm, ⟨9, _⟩ => ⟨S4x32x1x7168, .bf16⟩
  | .hbm, ⟨10, _⟩ => ⟨S4x56x16, .bf16⟩
  | .hbm, ⟨11, _⟩ => ⟨S4x56x16x128, .bf16⟩
  | .hbm, ⟨12, _⟩ => ⟨S4x56x2048, .bf16⟩
  | .hbm, ⟨13, _⟩ => ⟨S4x56x1x2048, .bf16⟩
  | .hbm, ⟨14, _⟩ => ⟨S4x2560x2048, .fp8e4m3⟩
  | .hbm, ⟨15, _⟩ => ⟨S4x2560x16, .f32⟩
  | .hbm, ⟨16, _⟩ => ⟨S4x2560x7168, .fp8e4m3⟩
  | .hbm, ⟨17, _⟩ => ⟨S4x2560x56, .f32⟩
  | .local _ .vmem, ⟨0, _⟩ => ⟨S1x512x7168, .fp8e4m3⟩
  | .local _ .vmem, ⟨1, _⟩ => ⟨S1x512x7168, .fp8e4m3⟩
  | .local _ .vmem, ⟨2, _⟩ => ⟨S1x512x56, .f32⟩
  | .local _ .vmem, ⟨3, _⟩ => ⟨S1x512x56, .f32⟩
  | .local _ .vmem, ⟨4, _⟩ => ⟨S1x256x7168, .fp8e4m3⟩
  | .local _ .vmem, ⟨5, _⟩ => ⟨S1x256x7168, .fp8e4m3⟩
  | .local _ .vmem, ⟨6, _⟩ => ⟨S1x256x7168, .fp8e4m3⟩
  | .local _ .vmem, ⟨7, _⟩ => ⟨S1x256x7168, .fp8e4m3⟩
  | .local _ .vmem, ⟨8, _⟩ => ⟨S1x2x1x7168, .bf16⟩
  | .local _ .vmem, ⟨9, _⟩ => ⟨S1x2x1x7168, .bf16⟩
  | .local _ .vmem, ⟨10, _⟩ => ⟨S1x2x1x7168, .bf16⟩
  | .local _ .vmem, ⟨11, _⟩ => ⟨S1x2x1x7168, .bf16⟩
  | .local _ .vmem, ⟨12, _⟩ => ⟨S1x512x256, .fp8e4m3⟩
  | .local _ .vmem, ⟨13, _⟩ => ⟨S1x512x256, .fp8e4m3⟩
  | .local _ .vmem, ⟨14, _⟩ => ⟨S1x512x16, .f32⟩
  | .local _ .vmem, ⟨15, _⟩ => ⟨S1x512x16, .f32⟩
  | .local _ .vmem, ⟨16, _⟩ => ⟨S512x7168, .bf16⟩
  | .local _ .vmem, ⟨17, _⟩ => ⟨S256x7168, .bf16⟩
  | .local _ .vmem, ⟨18, _⟩ => ⟨S256x7168, .bf16⟩
  | .local _ .vmem, ⟨19, _⟩ => ⟨S1x512x2048, .fp8e4m3⟩
  | .local _ .vmem, ⟨20, _⟩ => ⟨S1x512x2048, .fp8e4m3⟩
  | .local _ .vmem, ⟨21, _⟩ => ⟨S1x512x16, .f32⟩
  | .local _ .vmem, ⟨22, _⟩ => ⟨S1x512x16, .f32⟩
  | .local _ .vmem, ⟨23, _⟩ => ⟨S1x512x2048, .fp8e4m3⟩
  | .local _ .vmem, ⟨24, _⟩ => ⟨S1x512x2048, .fp8e4m3⟩
  | .local _ .vmem, ⟨25, _⟩ => ⟨S1x4x1x2048, .bf16⟩
  | .local _ .vmem, ⟨26, _⟩ => ⟨S1x4x1x2048, .bf16⟩
  | .local _ .vmem, ⟨27, _⟩ => ⟨S1x512x512, .fp8e4m3⟩
  | .local _ .vmem, ⟨28, _⟩ => ⟨S1x512x512, .fp8e4m3⟩
  | .local _ .vmem, ⟨29, _⟩ => ⟨S1x512x56, .f32⟩
  | .local _ .vmem, ⟨30, _⟩ => ⟨S1x512x56, .f32⟩
  | .local _ .vmem, ⟨31, _⟩ => ⟨S512x2048, .bf16⟩
  | .local _ .vmem, ⟨32, _⟩ => ⟨S512x2048, .bf16⟩
  | .local _ .smem, ⟨0, _⟩ => ⟨S4, .i32⟩
  | _, _ => ⟨S4x2560x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v9_0 : Ref sig .tc := ⟨.hbm, 16, rfl⟩
abbrev main_v9_1 : Ref sig .tc := ⟨.hbm, 17, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg1_1 : Ref sig .tc := ⟨.vmem, 22, rfl⟩
abbrev cc1_stg2_0 : Ref sig .tc := ⟨.vmem, 23, rfl⟩
abbrev cc1_stg2_1 : Ref sig .tc := ⟨.vmem, 24, rfl⟩
abbrev cc1_stg3_0 : Ref sig .tc := ⟨.vmem, 25, rfl⟩
abbrev cc1_stg3_1 : Ref sig .tc := ⟨.vmem, 26, rfl⟩
abbrev cc1_stg4_0 : Ref sig .tc := ⟨.vmem, 27, rfl⟩
abbrev cc1_stg4_1 : Ref sig .tc := ⟨.vmem, 28, rfl⟩
abbrev cc1_stg5_0 : Ref sig .tc := ⟨.vmem, 29, rfl⟩
abbrev cc1_stg5_1 : Ref sig .tc := ⟨.vmem, 30, rfl⟩
abbrev cc1_scratch0 : Ref sig .tc := ⟨.vmem, 31, rfl⟩
abbrev cc1_scratch1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27

abbrev nD : Nat := 1
abbrev τ : Topo := Topo.v7x

variable {F : FTy → Type} [FloatOps F]

abbrev grid0 : Pipeline.Grid := ⟨3, ![4, 5, 8], ![false, false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v1 : BitVec 32) : BitVec 1 :=
  let arg1 : BitVec 32 := BitVec.ofNat 32 (i 1).val
  let c512_i32 : BitVec 32 := 512#32
  let v2 : BitVec 32 := Scalar.muli arg1 c512_i32
  let v3 : BitVec 32 := Scalar.subi v1 v2
  let c0_i32 : BitVec 32 := 0#32
  let v4 : BitVec 1 := Scalar.cmpi .sgt v3 c0_i32
  let v5 : BitVec 32 := Scalar.extui v4
  let c0_i32_0 : BitVec 32 := 0#32
  let v6 : BitVec 1 := Scalar.cmpi .ne v5 c0_i32_0
  v6

def k0_cond3 (i : grid0.Coords) (v1 : BitVec 32) : BitVec 1 :=
  let arg1 : BitVec 32 := BitVec.ofNat 32 (i 1).val
  let c512_i32 : BitVec 32 := 512#32
  let v2 : BitVec 32 := Scalar.muli arg1 c512_i32
  let v3 : BitVec 32 := Scalar.subi v1 v2
  let c0_i32_1 : BitVec 32 := 0#32
  let v7 : BitVec 1 := Scalar.cmpi .sle v3 c0_i32_1
  let v8 : BitVec 32 := Scalar.extui v7
  let c0_i32_2 : BitVec 32 := 0#32
  let v9 : BitVec 1 := Scalar.cmpi .ne v8 c0_i32_2
  v9

def k0_cond2 (i : grid0.Coords) : BitVec 1 :=
  let arg2 : BitVec 32 := BitVec.ofNat 32 (i 2).val
  let c0_i32_3 : BitVec 32 := 0#32
  let v10 : BitVec 1 := Scalar.cmpi .eq arg2 c0_i32_3
  let v11 : BitVec 32 := Scalar.extui v10
  let c0_i32_4 : BitVec 32 := 0#32
  let v12 : BitVec 1 := Scalar.cmpi .ne v11 c0_i32_4
  v12

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi arg2 c8_i32
  let c0_i32 : BitVec 32 := 0#32
  let c0_i32_0 : BitVec 32 := 0#32
  ![arg0.toNat, v0.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi arg2 c8_i32
  let c0_i32 : BitVec 32 := 0#32
  let c0_i32_0 : BitVec 32 := 0#32
  let c0_i32_1 : BitVec 32 := 0#32
  ![arg0.toNat, v0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x7168 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x56 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x256x7168 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x256x7168 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x2x1x7168 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1x2x1x7168 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S1x512x256 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x512x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev grid1 : Pipeline.Grid := ⟨3, ![4, 5, 14], ![false, false, false]⟩

abbrev pre1 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
def k1_cond1 (i : grid1.Coords) (v1 : BitVec 32) : BitVec 1 :=
  let arg1 : BitVec 32 := BitVec.ofNat 32 (i 1).val
  let c512_i32 : BitVec 32 := 512#32
  let v2 : BitVec 32 := Scalar.muli arg1 c512_i32
  let v3 : BitVec 32 := Scalar.subi v1 v2
  let c0_i32 : BitVec 32 := 0#32
  let v4 : BitVec 1 := Scalar.cmpi .sgt v3 c0_i32
  let v5 : BitVec 32 := Scalar.extui v4
  let c0_i32_0 : BitVec 32 := 0#32
  let v6 : BitVec 1 := Scalar.cmpi .ne v5 c0_i32_0
  v6

def k1_cond3 (i : grid1.Coords) (v1 : BitVec 32) : BitVec 1 :=
  let arg1 : BitVec 32 := BitVec.ofNat 32 (i 1).val
  let c512_i32 : BitVec 32 := 512#32
  let v2 : BitVec 32 := Scalar.muli arg1 c512_i32
  let v3 : BitVec 32 := Scalar.subi v1 v2
  let c0_i32_1 : BitVec 32 := 0#32
  let v7 : BitVec 1 := Scalar.cmpi .sle v3 c0_i32_1
  let v8 : BitVec 32 := Scalar.extui v7
  let c0_i32_2 : BitVec 32 := 0#32
  let v9 : BitVec 1 := Scalar.cmpi .ne v8 c0_i32_2
  v9

def k1_cond2 (i : grid1.Coords) : BitVec 1 :=
  let arg2 : BitVec 32 := BitVec.ofNat 32 (i 2).val
  let c0_i32_3 : BitVec 32 := 0#32
  let v10 : BitVec 1 := Scalar.cmpi .eq arg2 c0_i32_3
  let v11 : BitVec 32 := Scalar.extui v10
  let c0_i32_4 : BitVec 32 := 0#32
  let v12 : BitVec 1 := Scalar.cmpi .ne v11 c0_i32_4
  v12

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x512x2048 .fp8e4m3 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x512x2048 .fp8e4m3 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x4x1x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false, true]

abbrev stage1_4 : Fin 2 → Memref sig .tc .vmem S1x512x512 .fp8e4m3 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true]

abbrev stage1_5 : Fin 2 → Memref sig .tc .vmem S1x512x56 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]
-- ==== ReferenceIdeal.lean ====
abbrev S4x2560x7168 : Shape := ⟨3, ![4, 2560, 7168]⟩
abbrev S4x2560x56 : Shape := ⟨3, ![4, 2560, 56]⟩
abbrev S4 : Shape := ⟨1, ![4]⟩
abbrev S4x4096x7168 : Shape := ⟨3, ![4, 4096, 7168]⟩
abbrev S4x32x56 : Shape := ⟨3, ![4, 32, 56]⟩
abbrev S4x7168x2048 : Shape := ⟨3, ![4, 7168, 2048]⟩
abbrev S4x56x16 : Shape := ⟨3, ![4, 56, 16]⟩
abbrev S4x2560x1 : Shape := ⟨3, ![4, 2560, 1]⟩
abbrev S4x1x1 : Shape := ⟨3, ![4, 1, 1]⟩
abbrev S255 : Shape := ⟨1, ![255]⟩
abbrev S_ : Shape := ⟨0, ![]⟩
abbrev S4x2560x56x128 : Shape := ⟨4, ![4, 2560, 56, 128]⟩
abbrev S4x32x56x128 : Shape := ⟨4, ![4, 32, 56, 128]⟩
abbrev S4x32x7168 : Shape := ⟨3, ![4, 32, 7168]⟩
abbrev S4x56x16x128 : Shape := ⟨4, ![4, 56, 16, 128]⟩
abbrev S4x56x2048 : Shape := ⟨3, ![4, 56, 2048]⟩
abbrev S4x2560x2048 : Shape := ⟨3, ![4, 2560, 2048]⟩
abbrev S4x2560x16 : Shape := ⟨3, ![4, 2560, 16]⟩
abbrev S4x32x128x7168 : Shape := ⟨4, ![4, 32, 128, 7168]⟩
abbrev S4x32x1x7168 : Shape := ⟨4, ![4, 32, 1, 7168]⟩
abbrev S4x2560x4096 : Shape := ⟨3, ![4, 2560, 4096]⟩
abbrev S4x2560x16x128 : Shape := ⟨4, ![4, 2560, 16, 128]⟩
abbrev S4x2560x16x1 : Shape := ⟨4, ![4, 2560, 16, 1]⟩
abbrev S1x1x1x255 : Shape := ⟨4, ![1, 1, 1, 255]⟩
abbrev S4x2560x16x255 : Shape := ⟨4, ![4, 2560, 16, 255]⟩
abbrev S4x56x128x2048 : Shape := ⟨4, ![4, 56, 128, 2048]⟩
abbrev S4x56x1x2048 : Shape := ⟨4, ![4, 56, 1, 2048]⟩
abbrev S4x2560x56x1 : Shape := ⟨4, ![4, 2560, 56, 1]⟩
abbrev S4x2560x56x255 : Shape := ⟨4, ![4, 2560, 56, 255]⟩

abbrev nBuf : Space → Nat
  | .hbm => 33
  | .vmem => 12
  | .smem => 0
  | _ => 0

abbrev bufTy : (tb : Table) → Fin (tcTables nBuf tb) → BufTy
  | .hbm, ⟨0, _⟩ => ⟨S4x2560x7168, .fp8e4m3⟩
  | .hbm, ⟨1, _⟩ => ⟨S4x2560x56, .f32⟩
  | .hbm, ⟨2, _⟩ => ⟨S4, .i32⟩
  | .hbm, ⟨3, _⟩ => ⟨S4x4096x7168, .fp8e4m3⟩
  | .hbm, ⟨4, _⟩ => ⟨S4x32x56, .f32⟩
  | .hbm, ⟨5, _⟩ => ⟨S4x7168x2048, .fp8e4m3⟩
  | .hbm, ⟨6, _⟩ => ⟨S4x56x16, .f32⟩
  | .hbm, ⟨7, _⟩ => ⟨S4x2560x1, .i32⟩
  | .hbm, ⟨8, _⟩ => ⟨S4x1x1, .i32⟩
  | .hbm, ⟨9, _⟩ => ⟨S4x2560x1, .i32⟩
  | .hbm, ⟨10, _⟩ => ⟨S4x2560x1, .i1⟩
  | .hbm, ⟨11, _⟩ => ⟨S4x2560x1, .i32⟩
  | .hbm, ⟨12, _⟩ => ⟨S255, .i32⟩
  | .hbm, ⟨13, _⟩ => ⟨S_, .i32⟩
  | .hbm, ⟨14, _⟩ => ⟨S255, .i32⟩
  | .hbm, ⟨15, _⟩ => ⟨S255, .i32⟩
  | .hbm, ⟨16, _⟩ => ⟨S_, .i32⟩
  | .hbm, ⟨17, _⟩ => ⟨S255, .i32⟩
  | .hbm, ⟨18, _⟩ => ⟨S255, .i32⟩
  | .hbm, ⟨19, _⟩ => ⟨S255, .f32⟩
  | .hbm, ⟨20, _⟩ => ⟨S4x2560x56, .bf16⟩
  | .hbm, ⟨21, _⟩ => ⟨S4x2560x56x128, .bf16⟩
  | .hbm, ⟨22, _⟩ => ⟨S4x2560x7168, .bf16⟩
  | .hbm, ⟨23, _⟩ => ⟨S4x32x56, .bf16⟩
  | .hbm, ⟨24, _⟩ => ⟨S4x32x56x128, .bf16⟩
  | .hbm, ⟨25, _⟩ => ⟨S4x32x7168, .bf16⟩
  | .hbm, ⟨26, _⟩ => ⟨S4x56x16, .bf16⟩
  | .hbm, ⟨27, _⟩ => ⟨S4x56x16x128, .bf16⟩
  | .hbm, ⟨28, _⟩ => ⟨S4x56x2048, .bf16⟩
  | .hbm, ⟨29, _⟩ => ⟨S4x2560x7168, .fp8e4m3⟩
  | .hbm, ⟨30, _⟩ => ⟨S4x2560x56, .f32⟩
  | .hbm, ⟨31, _⟩ => ⟨S4x2560x2048, .fp8e4m3⟩
  | .hbm, ⟨32, _⟩ => ⟨S4x2560x16, .f32⟩
  | .local _ .vmem, ⟨0, _⟩ => ⟨S4x2560x7168, .fp8e4m3⟩
  | .local _ .vmem, ⟨1, _⟩ => ⟨S4x2560x7168, .bf16⟩
  | .local _ .vmem, ⟨2, _⟩ => ⟨S4x2560x1, .i32⟩
  | .local _ .vmem, ⟨3, _⟩ => ⟨S4x4096x7168, .fp8e4m3⟩
  | .local _ .vmem, ⟨4, _⟩ => ⟨S4x32x7168, .bf16⟩
  | .local _ .vmem, ⟨5, _⟩ => ⟨S4x7168x2048, .fp8e4m3⟩
  | .local _ .vmem, ⟨6, _⟩ => ⟨S4x56x2048, .bf16⟩
  | .local _ .vmem, ⟨7, _⟩ => ⟨S255, .f32⟩
  | .local _ .vmem, ⟨8, _⟩ => ⟨S4x2560x7168, .fp8e4m3⟩
  | .local _ .vmem, ⟨9, _⟩ => ⟨S4x2560x56, .f32⟩
  | .local _ .vmem, ⟨10, _⟩ => ⟨S4x2560x2048, .fp8e4m3⟩
  | .local _ .vmem, ⟨11, _⟩ => ⟨S4x2560x16, .f32⟩
  | _, _ => ⟨S4x2560x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20_0 : Ref sig .tc := ⟨.hbm, 29, rfl⟩
abbrev main_v20_1 : Ref sig .tc := ⟨.hbm, 30, rfl⟩
abbrev main_v20_2 : Ref sig .tc := ⟨.hbm, 31, rfl⟩
abbrev main_v20_3 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S4x2560x7168 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x2560x7168 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x2560x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x4096x7168 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x32x7168 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x7168x2048 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x56x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S255 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x2560x7168 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4x2560x56 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4x2560x2048 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S4x2560x16 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.Kernel.Defs0.lean ====
module

public import proofs.«01_k».proof.Proof.Gen.Kernel.Launch
public import proofs.«01_k».proof.Proof.Gen.Kernel.Skeleton
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-!
# Call 0: the word of the table that a grid point reads
-/

@[expose] public section

noncomputable section

namespace Cert.Kernel.Gen

open Idealize.ShloMosaic Idealize.ShloMosaic.TcCoe

variable {F : FTy → Type} [FloatOps F]

/-- The word a point of call 0 reads from the table of row counts, as the body's load reads it. -/
abbrev word0 (i : grid0.Coords) (arg3 : Memref sig .tc .smem S4 .i32) (harg3 : arg3.IsWhole) (T : Vec F S4 .i32) : Elt F .i32 :=
  arg3.view.readAt (Elt F) (Rect.unit (s := S4) (k0_off1 i) S1.size (k0_off1_inb i)).toLoadRect (harg3.unread T) (Shape.Idx.first (numel1_S1.symm ▸ Nat.one_pos))

theorem word0_congr (i i' : grid0.Coords) (arg3 : Memref sig .tc .smem S4 .i32) (harg3 : arg3.IsWhole) (T : Vec F S4 .i32)
    (h : k0_off1 i = k0_off1 i') : word0 i arg3 harg3 T = word0 i' arg3 harg3 T := by
  unfold word0
  have key : ∀ (o o' : Fin S4.rank → ℕ) (hoo : o = o') (p : ∀ k, o k + S1.size k ≤ S4.size k) (p' : ∀ k, o' k + S1.size k ≤ S4.size k),
      arg3.view.readAt (Elt F) (Rect.unit (s := S4) o S1.size p).toLoadRect (harg3.unread T) (Shape.Idx.first (numel1_S1.symm ▸ Nat.one_pos))
        = arg3.view.readAt (Elt F) (Rect.unit (s := S4) o' S1.size p').toLoadRect (harg3.unread T) (Shape.Idx.first (numel1_S1.symm ▸ Nat.one_pos)) := by
    rintro o _ rfl p p'; rfl
  exact key _ _ h _ _

end Cert.Kernel.Gen

end
-- ==== Proof.Kernel.Run0A.lean ====
module

public import proofs.«01_k».proof.Proof.Kernel.Defs0

/-!
# The body of call 0, first column tile of a live block
-/

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large: the definition's epilogue walks it past the default budget
set_option maxHeartbeats 1600000 in
/-- What `cc0_up` stores in each buffer it writes, as pieces (last first), at a live block's first column tile, with the proof that from whole buffers the
body runs to its end, leaves the table and the inputs as they were and leaves those pieces. The pieces are the witness
the symbolic run finds. -/
noncomputable def run0A (c : Dev nD) (i : grid0.Coords) (arg3 : Memref sig .tc .smem S4 .i32) (harg3 : arg3.IsWhole) (arg4 : Memref sig .tc .vmem S1x512x7168 .fp8e4m3) (harg4 : arg4.IsWhole) (arg5 : Memref sig .tc .vmem S1x512x56 .f32) (harg5 : arg5.IsWhole) (arg6 : Memref sig .tc .vmem S1x256x7168 .fp8e4m3) (harg6 : arg6.IsWhole) (arg7 : Memref sig .tc .vmem S1x256x7168 .fp8e4m3) (harg7 : arg7.IsWhole) (arg8 : Memref sig .tc .vmem S1x2x1x7168 .bf16) (harg8 : arg8.IsWhole) (arg9 : Memref sig .tc .vmem S1x2x1x7168 .bf16) (harg9 : arg9.IsWhole) (arg10 : Memref sig .tc .vmem S1x512x256 .fp8e4m3) (harg10 : arg10.IsWhole) (arg11 : Memref sig .tc .vmem S1x512x16 .f32) (harg11 : arg11.IsWhole) (arg12 : Memref sig .tc .vmem S512x7168 .bf16) (harg12 : arg12.IsWhole) (arg13 : Memref sig .tc .vmem S256x7168 .bf16) (harg13 : arg13.IsWhole) (arg14 : Memref sig .tc .vmem S256x7168 .bf16) (harg14 : arg14.IsWhole)
    (T : Vec F S4 .i32) (x0 : Vec F S1x512x7168 .fp8e4m3) (x1 : Vec F S1x512x56 .f32) (x2 : Vec F S1x256x7168 .fp8e4m3) (x3 : Vec F S1x256x7168 .fp8e4m3) (x4 : Vec F S1x2x1x7168 .bf16) (x5 : Vec F S1x2x1x7168 .bf16) (hc0 : k0_cond1 i (word0 i arg3 harg3 T) = 1#1) (hc1 : k0_cond2 i = 1#1) (hc2 : ¬k0_cond3 i (word0 i arg3 harg3 T) = 1#1) :
    Σ' (L0 : List (View.Piece (Elt F) S1x512x256 .fp8e4m3)), Σ' (L1 : List (View.Piece (Elt F) S1x512x16 .f32)), Σ' (LS0 : List (View.Piece (Elt F) S512x7168 .bf16)), Σ' (LS1 : List (View.Piece (Elt F) S256x7168 .bf16)), { LS2 : List (View.Piece (Elt F) S256x7168 .bf16) //
      ∀ (E : Set ℕ) (K : PUnit → sProp 𝕄),
        iprop(owns (c : Thread nD τ) arg3 fullShare T ∗ owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg3 fullShare T ∗ owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ (∃ f, arg10.view.loc (c : Thread nD τ) ↦[arg10.view.set]{fullShare} arg10.view.writes (Elt F) f L0) ∗ (∃ f, arg11.view.loc (c : Thread nD τ) ↦[arg11.view.set]{fullShare} arg11.view.writes (Elt F) f L1) ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2)) -∗ K ⟨⟩))
          ⊢ wp frame (wpE (defs₀ (F := F)) Variants.none c none) E (cc0_up i arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, fun E K => ?run⟩
  case run =>
    simp only [cc0_up_eq_skeleton]; unfold cc0_up_skel
    simp only [k0_part20_eq_skeleton, k0_part21_eq_skeleton, k0_part22_eq_skeleton, k0_part23_eq_skeleton, k0_part24_eq_skeleton]
    unfold owns
    iintro ⟨⟨%fT, %hfT, HT⟩, ⟨%f0, %hf0, H0⟩, ⟨%f1, %hf1, H1⟩, ⟨%f2, %hf2, H2⟩, ⟨%f3, %hf3, H3⟩, ⟨%f4, %hf4, H4⟩, ⟨%f5, %hf5, H5⟩, ⟨%dO0, %fO0, -, HO0⟩, ⟨%dO1, %fO1, -, HO1⟩, ⟨%dS0, %fS0, -, HS0⟩, ⟨%dS1, %fS1, -, HS1⟩, ⟨%dS2, %fS2, -, HS2⟩, Hk⟩
    obtain rfl := harg3.eq_unread hfT; obtain rfl := harg4.eq_unread hf0; obtain rfl := harg5.eq_unread hf1; obtain rfl := harg6.eq_unread hf2; obtain rfl := harg7.eq_unread hf3; obtain rfl := harg8.eq_unread hf4; obtain rfl := harg9.eq_unread hf5
    sl_exec (disch := first | sl_exact hc0 | sl_exact hc1 | sl_exact hc2)
    sl_exec (disch := first | sl_exact hc0 | sl_exact hc1 | sl_exact hc2)
    sl_step
    iapply Hk
    isplitl [HT]
    · iexists _; isplitr; · ipureintro; exact harg3.read_unread _
      iexact HT
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [HO0]
    · iexists _; iexact HO0
    isplitl [HO1]
    · iexists _; iexact HO1
    isplitl [HS0]
    · iexists _; iexact HS0
    isplitl [HS1]
    · iexists _; iexact HS1
    iexists _; iexact HS2

end Cert.Kernel.Gen

end
-- ==== Proof.Kernel.Run0B.lean ====
module

public import proofs.«01_k».proof.Proof.Kernel.Defs0

/-!
# The body of call 0, later column tiles of a live block
-/

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large: the definition's epilogue walks it past the default budget
set_option maxHeartbeats 1600000 in
/-- What `cc0_up` stores in each buffer it writes, as pieces (last first), at a live block's later column tiles, with the proof that from whole buffers the
body runs to its end, leaves the table and the inputs as they were and leaves those pieces. The pieces are the witness
the symbolic run finds. -/
noncomputable def run0B (c : Dev nD) (i : grid0.Coords) (arg3 : Memref sig .tc .smem S4 .i32) (harg3 : arg3.IsWhole) (arg4 : Memref sig .tc .vmem S1x512x7168 .fp8e4m3) (harg4 : arg4.IsWhole) (arg5 : Memref sig .tc .vmem S1x512x56 .f32) (harg5 : arg5.IsWhole) (arg6 : Memref sig .tc .vmem S1x256x7168 .fp8e4m3) (harg6 : arg6.IsWhole) (arg7 : Memref sig .tc .vmem S1x256x7168 .fp8e4m3) (harg7 : arg7.IsWhole) (arg8 : Memref sig .tc .vmem S1x2x1x7168 .bf16) (harg8 : arg8.IsWhole) (arg9 : Memref sig .tc .vmem S1x2x1x7168 .bf16) (harg9 : arg9.IsWhole) (arg10 : Memref sig .tc .vmem S1x512x256 .fp8e4m3) (harg10 : arg10.IsWhole) (arg11 : Memref sig .tc .vmem S1x512x16 .f32) (harg11 : arg11.IsWhole) (arg12 : Memref sig .tc .vmem S512x7168 .bf16) (harg12 : arg12.IsWhole) (arg13 : Memref sig .tc .vmem S256x7168 .bf16) (harg13 : arg13.IsWhole) (arg14 : Memref sig .tc .vmem S256x7168 .bf16) (harg14 : arg14.IsWhole)
    (T : Vec F S4 .i32) (x0 : Vec F S1x512x7168 .fp8e4m3) (x1 : Vec F S1x512x56 .f32) (x2 : Vec F S1x256x7168 .fp8e4m3) (x3 : Vec F S1x256x7168 .fp8e4m3) (x4 : Vec F S1x2x1x7168 .bf16) (x5 : Vec F S1x2x1x7168 .bf16) (h : Vec F S1x512x16 .f32) (s0 : Vec F S512x7168 .bf16) (hc0 : k0_cond1 i (word0 i arg3 harg3 T) = 1#1) (hc1 : ¬k0_cond2 i = 1#1) (hc2 : ¬k0_cond3 i (word0 i arg3 harg3 T) = 1#1) :
    Σ' (L0 : List (View.Piece (Elt F) S1x512x256 .fp8e4m3)), Σ' (L1 : List (View.Piece (Elt F) S1x512x16 .f32)), Σ' (LS1 : List (View.Piece (Elt F) S256x7168 .bf16)), { LS2 : List (View.Piece (Elt F) S256x7168 .bf16) //
      ∀ (E : Set ℕ) (K : PUnit → sProp 𝕄),
        iprop(owns (c : Thread nD τ) arg3 fullShare T ∗ owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ (∃ d, owns (c : Thread nD τ) arg10 fullShare d) ∗ owns (c : Thread nD τ) arg11 fullShare h ∗ owns (c : Thread nD τ) arg12 fullShare s0 ∗ (∃ d, owns (c : Thread nD τ) arg13 fullShare d) ∗ (∃ d, owns (c : Thread nD τ) arg14 fullShare d)
            ∗ (iprop(owns (c : Thread nD τ) arg3 fullShare T ∗ owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ (∃ f, arg10.view.loc (c : Thread nD τ) ↦[arg10.view.set]{fullShare} arg10.view.writes (Elt F) f L0) ∗ (∃ f, arg11.view.loc (c : Thread nD τ) ↦[arg11.view.set]{fullShare} arg11.view.writes (Elt F) f L1) ∗ owns (c : Thread nD τ) arg12 fullShare s0 ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2)) -∗ K ⟨⟩))
          ⊢ wp frame (wpE (defs₀ (F := F)) Variants.none c none) E (cc0_up i arg3 harg3 arg4 harg4 arg5 harg5 arg6 harg6 arg7 harg7 arg8 harg8 arg9 harg9 arg10 harg10 arg11 harg11 arg12 harg12 arg13 harg13 arg14 harg14) K } := by
  refine ⟨?_, ?_, ?_, ?_, fun E K => ?run⟩
  case run =>
    simp only [cc0_up_eq_skeleton]; unfold cc0_up_skel
    simp only [k0_part20_eq_skeleton, k0_part21_eq_skeleton, k0_part22_eq_skeleton, k0_part23_eq_skeleton, k0_part24_eq_skeleton]
    unfold owns
    iintro ⟨⟨%fT, %hfT, HT⟩, ⟨%f0, %hf0, H0⟩, ⟨%f1, %hf1, H1⟩, ⟨%f2, %hf2, H2⟩, ⟨%f3, %hf3, H3⟩, ⟨%f4, %hf4, H4⟩, ⟨%f5, %hf5, H5⟩, ⟨%dO0, %fO0, -, HO0⟩, ⟨%fO1, %hfO1, HO1⟩, ⟨%fS0, %hfS0, HS0⟩, ⟨%dS1, %fS1, -, HS1⟩, ⟨%dS2, %fS2, -, HS2⟩, Hk⟩
    obtain rfl := harg3.eq_unread hfT; obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg11.eq_unread hfO1; obtain rfl := harg12.eq_unread hfS0
    sl_exec (disch := first | sl_exact hc0 | sl_exact hc1 | sl_exact hc2)
    sl_step
    iapply Hk
    isplitl [HT]
    · iexists _; isplitr; · ipureintro; exact harg3.read_unread _
      iexact HT
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [HO0]
    · iexists _; iexact HO0
    isplitl [HO1]
    · iexists _; iexact HO1
    isplitl [HS0]
    · iexists _; isplitr; · ipureintro; exact harg12.read_unread _
      iexact HS0
    isplitl [HS1]
    · iexists _; iexact HS1
    iexists _; iexact HS2

end Cert.Kernel.Gen

end
-- ==== Proof.Kernel.Run0C.lean ====
module

public import proofs.«01_k».proof.Proof.Kernel.Defs0

/-!
# The body of call 0, dead block
-/

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large: the definition's epilogue walks it past the default budget
set_option maxHeartbeats 1600000 in
/-- What `cc0_up` stores in each buffer it writes, as pieces (last first), at a dead block, with the proof that from whole buffers the
body runs to its end, leaves the table and the inputs as they were and leaves those pieces. The pieces are the witness
the symbolic run finds. -/
noncomputable def run0C (c : Dev nD) (i : grid0.Coords) (arg3 : Memref sig .tc .smem S4 .i32) (harg3 : arg3.IsWhole) (arg4 : Memref sig .tc .vmem S1x512x7168 .fp8e4m3) (harg4 : arg4.IsWhole) (arg5 : Memref sig .tc .vmem S1x512x56 .f32) (harg5 : arg5.IsWhole) (arg6 : Memref sig .tc .vmem S1x256x7168 .fp8e4m3) (harg6 : arg6.IsWhole) (arg7 : Memref sig .tc .vmem S1x256x7168 .fp8e4m3) (harg7 : arg7.IsWhole) (arg8 : Memref sig .tc .vmem S1x2x1x7168 .bf16) (harg8 : arg8.IsWhole) (arg9 : Memref sig .tc .vmem S1x2x1x7168 .bf16) (harg9 : arg9.IsWhole) (arg10 : Memref sig .tc .vmem S1x512x256 .fp8e4m3) (harg10 : arg10.IsWhole) (arg11 : Memref sig .tc .vmem S1x512x16 .f32) (harg11 : arg11.IsWhole) (arg12 : Memref sig .tc .vmem S512x7168 .bf16) (harg12 : arg12.IsWhole) (arg13 : Memref sig .tc .vmem S256x7168 .bf16) (harg13 : arg13.IsWhole) (arg14 : Memref sig .tc .vmem S256x7168 .bf16) (harg14 : arg14.IsWhole)
    (T : Vec F S4 .i32) (x0 : Vec F S1x512x7168 .fp8e4m3) (x1 : Vec F S1x512x56 .f32) (x2 : Vec F S1x256x7168 .fp8e4m3) (x3 : Vec F S1x256x7168 .fp8e4m3) (x4 : Vec F S1x2x1x7168 .bf16) (x5 : Vec F S1x2x1x7168 .bf16) (hc0 : ¬k0_cond1 i (word0 i arg3 harg3 T) = 1#1) (hc2 : k0_cond3 i (word0 i arg3 harg3 T) = 1#1) :
    Σ' (L0 : List (View.Piece (Elt F) S1x512x256 .fp8e4m3)), { L1 : List (View.Piece (Elt F) S1x512x16 .f32) //
      ∀ (E : Set ℕ) (K : PUnit → sProp 𝕄),
        iprop(owns (c : Thread nD τ) arg3 fullShare T ∗ owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ (∃ d, owns (c : Thread nD τ) arg10 fullShare d) ∗ (∃ d, owns (c : Thread nD τ) arg11 fullShare d)
            ∗ (iprop(owns (c : Thread nD τ) arg3 fullShare T ∗ owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ (∃ f, arg10.view.loc (c : Thread nD τ) ↦[arg10.view.set]{fullShare} arg10.view.writes (Elt F) f L0) ∗ (∃ f, arg11.view.loc (c : Thread nD τ) ↦[arg11.view.set]{fullShare} arg11.view.writes (Elt F) f L1)) -∗ K ⟨⟩))
          ⊢ wp frame (wpE (defs₀ (F := F)) Variants.none c none) E (cc0_up i arg3 harg3 arg4 harg4 arg5 harg5 arg6 harg6 arg7 harg7 arg8 harg8 arg9 harg9 arg10 harg10 arg11 harg11 arg12 harg12 arg13 harg13 arg14 harg14) K } := by
  refine ⟨?_, ?_, fun E K => ?run⟩
  case run =>
    simp only [cc0_up_eq_skeleton]; unfold cc0_up_skel
    simp only [k0_part20_eq_skeleton, k0_part21_eq_skeleton, k0_part22_eq_skeleton, k0_part23_eq_skeleton, k0_part24_eq_skeleton]
    unfold owns
    iintro ⟨⟨%fT, %hfT, HT⟩, ⟨%f0, %hf0, H0⟩, ⟨%f1, %hf1, H1⟩, ⟨%f2, %hf2, H2⟩, ⟨%f3, %hf3, H3⟩, ⟨%f4, %hf4, H4⟩, ⟨%f5, %hf5, H5⟩, ⟨%dO0, %fO0, -, HO0⟩, ⟨%dO1, %fO1, -, HO1⟩, Hk⟩
    obtain rfl := harg3.eq_unread hfT; obtain rfl := harg4.eq_unread hf0; obtain rfl := harg5.eq_unread hf1; obtain rfl := harg6.eq_unread hf2; obtain rfl := harg7.eq_unread hf3; obtain rfl := harg8.eq_unread hf4; obtain rfl := harg9.eq_unread hf5
    sl_exec (disch := first | sl_exact hc0 | sl_exact hc2)
    sl_step
    iapply Hk
    isplitl [HT]
    · iexists _; isplitr; · ipureintro; exact harg3.read_unread _
      iexact HT
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [HO0]
    · iexists _; iexact HO0
    iexists _; iexact HO1

end Cert.Kernel.Gen

end
-- ==== Proof.Kernel.Data0.lean ====
module

public import proofs.«01_k».proof.Proof.Kernel.Run0A
public import proofs.«01_k».proof.Proof.Kernel.Run0B
public import proofs.«01_k».proof.Proof.Kernel.Run0C

/-!
# Call 0: what each grid point leaves
-/

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfg0 (F := F)).Adm)
variable (V : (c : Dev nD) → (b : Ref sig .tc) → Buf (Elt F) ((c : Thread nD τ).loc b))

/-- The table's contents. -/
abbrev tab0 : Vec F S4 .i32 := a.1 0

/-- The word of the table the body reads at point `t`. -/
abbrev wd0 (t : Fin (cfg0 a).N) : Elt F .i32 := word0 (grid0.coords t) (Memref.whole main_arg2) (Memref.isWhole_whole _) (tab0 a)

/-! ## A block is either live or dead -/

theorem k0_live_or_dead (i : grid0.Coords) (w : BitVec 32) : k0_cond1 i w = 1#1 ∨ k0_cond3 i w = 1#1 := by
  unfold k0_cond1 k0_cond3; dsimp only
  generalize Scalar.subi w _ = z
  by_cases h : (0#32).slt z = true
  · left; simp [Scalar.cmpi, IntOp.cmpi, Scalar.extui, h]
  · right; simp [Scalar.cmpi, IntOp.cmpi, Scalar.extui, h, BitVec.sle_eq_not_slt]

theorem k0_not_dead (i : grid0.Coords) (w : BitVec 32) (h1 : k0_cond1 i w = 1#1) : ¬k0_cond3 i w = 1#1 := by
  revert h1; unfold k0_cond1 k0_cond3; dsimp only
  generalize Scalar.subi w _ = z
  by_cases h : (0#32).slt z = true
  · simp [Scalar.cmpi, IntOp.cmpi, Scalar.extui, h, BitVec.sle_eq_not_slt]
  · simp [Scalar.cmpi, IntOp.cmpi, Scalar.extui, h]

/-- No window is ever idle: every point stores both outputs. -/
theorem live0_6 (i : grid0.Coords) : (cfg0 a).idle 6 i = false := by
  change (!(k0_cond1 i _ == 1#1) && !(k0_cond3 i _ == 1#1)) = false
  rcases k0_live_or_dead i (a.1.atD 0 (k0_off1 i)) with h | h <;> simp [h]
theorem live0_7 (i : grid0.Coords) : (cfg0 a).idle 7 i = false := by
  change (!(k0_cond1 i _ == 1#1 && k0_cond2 i == 1#1) && !(k0_cond1 i _ == 1#1) && !(k0_cond3 i _ == 1#1)) = false
  rcases k0_live_or_dead i (a.1.atD 0 (k0_off1 i)) with h | h <;> simp [h]

theorem hcond0 : ∀ t : Fin (cfg0 a).N, k0_cond2 (grid0.coords t) = 1#1 ↔ t.val % 8 = 0 :=
  (by decide +kernel : ∀ t : Fin grid0.N, k0_cond2 (grid0.coords t) = 1#1 ↔ t.val % 8 = 0)

/-- Column tiles of one row block read one word, and so are all live or all dead. -/
theorem live_pred0 (t : Fin (cfg0 a).N) (ht : t.val % 8 ≠ 0) (h : k0_cond1 (grid0.coords t) (wd0 a t) = 1#1) :
    k0_cond1 (grid0.coords ⟨t.val - 1, Nat.lt_of_le_of_lt (Nat.sub_le _ _) t.isLt⟩) (wd0 a ⟨t.val - 1, Nat.lt_of_le_of_lt (Nat.sub_le _ _) t.isLt⟩) = 1#1 := by
  have hc := (by decide +kernel : ∀ u : Fin grid0.N, u.val % 8 ≠ 0 →
    (grid0.coords ⟨u.val - 1, Nat.lt_of_le_of_lt (Nat.sub_le _ _) u.isLt⟩ 0).val = (grid0.coords u 0).val
    ∧ (grid0.coords ⟨u.val - 1, Nat.lt_of_le_of_lt (Nat.sub_le _ _) u.isLt⟩ 1).val = (grid0.coords u 1).val) t ht
  have ho : k0_off1 (grid0.coords ⟨t.val - 1, Nat.lt_of_le_of_lt (Nat.sub_le _ _) t.isLt⟩) = k0_off1 (grid0.coords t) := by
    unfold k0_off1; simp only [hc.1]
  have hw : wd0 a ⟨t.val - 1, Nat.lt_of_le_of_lt (Nat.sub_le _ _) t.isLt⟩ = wd0 a t := word0_congr _ _ _ _ _ ho
  rw [hw]; unfold k0_cond1 at h ⊢; simp only [hc.2]; exact h

/-! ## The windows' blocks and staging buffers -/

/-- Window `w`'s block at point `t`, read off its array as the region finds it (`V`). -/
def iblk0 (c : Dev nD) (w : Fin (cfg0 a).W) (t : Fin (cfg0 a).N) : (((cfg0 a).win w).xblock ((cfg0 a).grid.coords t)).Idx → Elt F ((cfg0 a).win w).elt :=
  (((cfg0 a).win w).blk t).view.read (Elt F) (V c (Pipeline.arrRef spec0 w))

theorem before0_0_of {c : Dev nD} (dat : Dat τ (Elt F) Unit ℕ (UR sig nD τ) ℕ (cfg0 a) c) (hA : dat.A 0 = V c (Pipeline.arrRef spec0 0))
    (hafter : ∀ t, dat.after 0 t = iblk0 a V c 0 t) (t : Fin (cfg0 a).N) (d) : dat.before 0 t d = iblk0 a V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ (cfg0 a) c) (hA : dat.A 1 = V c (Pipeline.arrRef spec0 1))
    (hafter : ∀ t, dat.after 1 t = iblk0 a V c 1 t) (t : Fin (cfg0 a).N) (d) : dat.before 1 t d = iblk0 a V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ (cfg0 a) c) (hA : dat.A 2 = V c (Pipeline.arrRef spec0 2))
    (hafter : ∀ t, dat.after 2 t = iblk0 a V c 2 t) (t : Fin (cfg0 a).N) (d) : dat.before 2 t d = iblk0 a V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ (cfg0 a) c) (hA : dat.A 3 = V c (Pipeline.arrRef spec0 3))
    (hafter : ∀ t, dat.after 3 t = iblk0 a V c 3 t) (t : Fin (cfg0 a).N) (d) : dat.before 3 t d = iblk0 a V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ (cfg0 a) c) (hA : dat.A 4 = V c (Pipeline.arrRef spec0 4))
    (hafter : ∀ t, dat.after 4 t = iblk0 a V c 4 t) (t : Fin (cfg0 a).N) (d) : dat.before 4 t d = iblk0 a V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ (cfg0 a) c) (hA : dat.A 5 = V c (Pipeline.arrRef spec0 5))
    (hafter : ∀ t, dat.after 5 t = iblk0 a V c 5 t) (t : Fin (cfg0 a).N) (d) : dat.before 5 t d = iblk0 a V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
abbrev ms0_0 (t : Fin (cfg0 a).N) := spec0_0.stage ((cfg0 a).slots t 0)
theorem hs0_0 (t : Fin (cfg0 a).N) : (ms0_0 a t).IsWhole := hstage0_0 (((cfg0 a).slots t 0).cast nbuf0_0)
abbrev ms0_1 (t : Fin (cfg0 a).N) := spec0_1.stage ((cfg0 a).slots t 1)
theorem hs0_1 (t : Fin (cfg0 a).N) : (ms0_1 a t).IsWhole := hstage0_1 (((cfg0 a).slots t 1).cast nbuf0_1)
abbrev ms0_2 (t : Fin (cfg0 a).N) := spec0_2.stage ((cfg0 a).slots t 2)
theorem hs0_2 (t : Fin (cfg0 a).N) : (ms0_2 a t).IsWhole := hstage0_2 (((cfg0 a).slots t 2).cast nbuf0_2)
abbrev ms0_3 (t : Fin (cfg0 a).N) := spec0_3.stage ((cfg0 a).slots t 3)
theorem hs0_3 (t : Fin (cfg0 a).N) : (ms0_3 a t).IsWhole := hstage0_3 (((cfg0 a).slots t 3).cast nbuf0_3)
abbrev ms0_4 (t : Fin (cfg0 a).N) := spec0_4.stage ((cfg0 a).slots t 4)
theorem hs0_4 (t : Fin (cfg0 a).N) : (ms0_4 a t).IsWhole := hstage0_4 (((cfg0 a).slots t 4).cast nbuf0_4)
abbrev ms0_5 (t : Fin (cfg0 a).N) := spec0_5.stage ((cfg0 a).slots t 5)
theorem hs0_5 (t : Fin (cfg0 a).N) : (ms0_5 a t).IsWhole := hstage0_5 (((cfg0 a).slots t 5).cast nbuf0_5)
abbrev ms0_6 (t : Fin (cfg0 a).N) := spec0_6.stage ((cfg0 a).slots t 6)
theorem hs0_6 (t : Fin (cfg0 a).N) : (ms0_6 a t).IsWhole := hstage0_6 (((cfg0 a).slots t 6).cast nbuf0_6)
abbrev ms0_7 (t : Fin (cfg0 a).N) := spec0_7.stage ((cfg0 a).slots t 7)
theorem hs0_7 (t : Fin (cfg0 a).N) : (ms0_7 a t).IsWhole := hstage0_7 (((cfg0 a).slots t 7).cast nbuf0_7)
abbrev scM0_0 := Memref.whole cc0_scratch0
abbrev scM0_1 := Memref.whole cc0_scratch1
abbrev scM0_2 := Memref.whole cc0_scratch2

/-! ## The stores of each case cover the buffers they go to -/

abbrev VO0_6 := (Memref.whole cc0_stg6_0).view
abbrev VO0_7 := (Memref.whole cc0_stg7_0).view
abbrev VS0 := (Memref.whole cc0_scratch0).view

theorem cover0_A_o0 (c : Dev nD) (i : grid0.Coords) (arg3 : Memref sig .tc .smem S4 .i32) (harg3 : arg3.IsWhole) (arg4 : Memref sig .tc .vmem S1x512x7168 .fp8e4m3) (harg4 : arg4.IsWhole) (arg5 : Memref sig .tc .vmem S1x512x56 .f32) (harg5 : arg5.IsWhole) (arg6 : Memref sig .tc .vmem S1x256x7168 .fp8e4m3) (harg6 : arg6.IsWhole) (arg7 : Memref sig .tc .vmem S1x256x7168 .fp8e4m3) (harg7 : arg7.IsWhole) (arg8 : Memref sig .tc .vmem S1x2x1x7168 .bf16) (harg8 : arg8.IsWhole) (arg9 : Memref sig .tc .vmem S1x2x1x7168 .bf16) (harg9 : arg9.IsWhole) (arg10 : Memref sig .tc .vmem S1x512x256 .fp8e4m3) (harg10 : arg10.IsWhole) (arg11 : Memref sig .tc .vmem S1x512x16 .f32) (harg11 : arg11.IsWhole) (arg12 : Memref sig .tc .vmem S512x7168 .bf16) (harg12 : arg12.IsWhole) (arg13 : Memref sig .tc .vmem S256x7168 .bf16) (harg13 : arg13.IsWhole) (arg14 : Memref sig .tc .vmem S256x7168 .bf16) (harg14 : arg14.IsWhole) (T : Vec F S4 .i32) (x0 : Vec F S1x512x7168 .fp8e4m3) (x1 : Vec F S1x512x56 .f32) (x2 : Vec F S1x256x7168 .fp8e4m3) (x3 : Vec F S1x256x7168 .fp8e4m3) (x4 : Vec F S1x2x1x7168 .bf16) (x5 : Vec F S1x2x1x7168 .bf16) (hc0 : k0_cond1 i (word0 i arg3 harg3 T) = 1#1) (hc1 : k0_cond2 i = 1#1) (hc2 : ¬k0_cond3 i (word0 i arg3 harg3 T) = 1#1) :
    ∀ y : Shape.Idx S1x512x256, ∃ p ∈ (run0A c i arg3 harg3 arg4 harg4 arg5 harg5 arg6 harg6 arg7 harg7 arg8 harg8 arg9 harg9 arg10 harg10 arg11 harg11 arg12 harg12 arg13 harg13 arg14 harg14 T x0 x1 x2 x3 x4 x5 hc0 hc1 hc2).1, y ∈ p.1.set := fun y => View.cover_of_tiledL
  ((run0A c i arg3 harg3 arg4 harg4 arg5 harg5 arg6 harg6 arg7 harg7 arg8 harg8 arg9 harg9 arg10 harg10 arg11 harg11 arg12 harg12 arg13 harg13 arg14 harg14 T x0 x1 x2 x3 x4 x5 hc0 hc1 hc2).1) S1x512x128.size (by sl_kernel_rfl) y
theorem cover0_A_o1 (c : Dev nD) (i : grid0.Coords) (arg3 : Memref sig .tc .smem S4 .i32) (harg3 : arg3.IsWhole) (arg4 : Memref sig .tc .vmem S1x512x7168 .fp8e4m3) (harg4 : arg4.IsWhole) (arg5 : Memref sig .tc .vmem S1x512x56 .f32) (harg5 : arg5.IsWhole) (arg6 : Memref sig .tc .vmem S1x256x7168 .fp8e4m3) (harg6 : arg6.IsWhole) (arg7 : Memref sig .tc .vmem S1x256x7168 .fp8e4m3) (harg7 : arg7.IsWhole) (arg8 : Memref sig .tc .vmem S1x2x1x7168 .bf16) (harg8 : arg8.IsWhole) (arg9 : Memref sig .tc .vmem S1x2x1x7168 .bf16) (harg9 : arg9.IsWhole) (arg10 : Memref sig .tc .vmem S1x512x256 .fp8e4m3) (harg10 : arg10.IsWhole) (arg11 : Memref sig .tc .vmem S1x512x16 .f32) (harg11 : arg11.IsWhole) (arg12 : Memref sig .tc .vmem S512x7168 .bf16) (harg12 : arg12.IsWhole) (arg13 : Memref sig .tc .vmem S256x7168 .bf16) (harg13 : arg13.IsWhole) (arg14 : Memref sig .tc .vmem S256x7168 .bf16) (harg14 : arg14.IsWhole) (T : Vec F S4 .i32) (x0 : Vec F S1x512x7168 .fp8e4m3) (x1 : Vec F S1x512x56 .f32) (x2 : Vec F S1x256x7168 .fp8e4m3) (x3 : Vec F S1x256x7168 .fp8e4m3) (x4 : Vec F S1x2x1x7168 .bf16) (x5 : Vec F S1x2x1x7168 .bf16) (hc0 : k0_cond1 i (word0 i arg3 harg3 T) = 1#1) (hc1 : k0_cond2 i = 1#1) (hc2 : ¬k0_cond3 i (word0 i arg3 harg3 T) = 1#1) :
    ∀ y : Shape.Idx S1x512x16, ∃ p ∈ (run0A c i arg3 harg3 arg4 harg4 arg5 harg5 arg6 harg6 arg7 harg7 arg8 harg8 arg9 harg9 arg10 harg10 arg11 harg11 arg12 harg12 arg13 harg13 arg14 harg14 T x0 x1 x2 x3 x4 x5 hc0 hc1 hc2).2.1, y ∈ p.1.set := fun y => View.cover_of_tiledL
  ((run0A c i arg3 harg3 arg4 harg4 arg5 harg5 arg6 harg6 arg7 harg7 arg8 harg8 arg9 harg9 arg10 harg10 arg11 harg11 arg12 harg12 arg13 harg13 arg14 harg14 T x0 x1 x2 x3 x4 x5 hc0 hc1 hc2).2.1) S1x512x16.size (by sl_kernel_rfl) y
theorem cover0_A_s0 (c : Dev nD) (i : grid0.Coords) (arg3 : Memref sig .tc .smem S4 .i32) (harg3 : arg3.IsWhole) (arg4 : Memref sig .tc .vmem S1x512x7168 .fp8e4m3) (harg4 : arg4.IsWhole) (arg5 : Memref sig .tc .vmem S1x512x56 .f32) (harg5 : arg5.IsWhole) (arg6 : Memref sig .tc .vmem S1x256x7168 .fp8e4m3) (harg6 : arg6.IsWhole) (arg7 : Memref sig .tc .vmem S1x256x7168 .fp8e4m3) (harg7 : arg7.IsWhole) (arg8 : Memref sig .tc .vmem S1x2x1x7168 .bf16) (harg8 : arg8.IsWhole) (arg9 : Memref sig .tc .vmem S1x2x1x7168 .bf16) (harg9 : arg9.IsWhole) (arg10 : Memref sig .tc .vmem S1x512x256 .fp8e4m3) (harg10 : arg10.IsWhole) (arg11 : Memref sig .tc .vmem S1x512x16 .f32) (harg11 : arg11.IsWhole) (arg12 : Memref sig .tc .vmem S512x7168 .bf16) (harg12 : arg12.IsWhole) (arg13 : Memref sig .tc .vmem S256x7168 .bf16) (harg13 : arg13.IsWhole) (arg14 : Memref sig .tc .vmem S256x7168 .bf16) (harg14 : arg14.IsWhole) (T : Vec F S4 .i32) (x0 : Vec F S1x512x7168 .fp8e4m3) (x1 : Vec F S1x512x56 .f32) (x2 : Vec F S1x256x7168 .fp8e4m3) (x3 : Vec F S1x256x7168 .fp8e4m3) (x4 : Vec F S1x2x1x7168 .bf16) (x5 : Vec F S1x2x1x7168 .bf16) (hc0 : k0_cond1 i (word0 i arg3 harg3 T) = 1#1) (hc1 : k0_cond2 i = 1#1) (hc2 : ¬k0_cond3 i (word0 i arg3 harg3 T) = 1#1) :
    ∀ y : Shape.Idx S512x7168, ∃ p ∈ (run0A c i arg3 harg3 arg4 harg4 arg5 harg5 arg6 harg6 arg7 harg7 arg8 harg8 arg9 harg9 arg10 harg10 arg11 harg11 arg12 harg12 arg13 harg13 arg14 harg14 T x0 x1 x2 x3 x4 x5 hc0 hc1 hc2).2.2.1, y ∈ p.1.set := fun y => View.cover_of_tiledL
  ((run0A c i arg3 harg3 arg4 harg4 arg5 harg5 arg6 harg6 arg7 harg7 arg8 harg8 arg9 harg9 arg10 harg10 arg11 harg11 arg12 harg12 arg13 harg13 arg14 harg14 T x0 x1 x2 x3 x4 x5 hc0 hc1 hc2).2.2.1) S512x128.size (by sl_kernel_rfl) y
theorem cover0_B_o0 (c : Dev nD) (i : grid0.Coords) (arg3 : Memref sig .tc .smem S4 .i32) (harg3 : arg3.IsWhole) (arg4 : Memref sig .tc .vmem S1x512x7168 .fp8e4m3) (harg4 : arg4.IsWhole) (arg5 : Memref sig .tc .vmem S1x512x56 .f32) (harg5 : arg5.IsWhole) (arg6 : Memref sig .tc .vmem S1x256x7168 .fp8e4m3) (harg6 : arg6.IsWhole) (arg7 : Memref sig .tc .vmem S1x256x7168 .fp8e4m3) (harg7 : arg7.IsWhole) (arg8 : Memref sig .tc .vmem S1x2x1x7168 .bf16) (harg8 : arg8.IsWhole) (arg9 : Memref sig .tc .vmem S1x2x1x7168 .bf16) (harg9 : arg9.IsWhole) (arg10 : Memref sig .tc .vmem S1x512x256 .fp8e4m3) (harg10 : arg10.IsWhole) (arg11 : Memref sig .tc .vmem S1x512x16 .f32) (harg11 : arg11.IsWhole) (arg12 : Memref sig .tc .vmem S512x7168 .bf16) (harg12 : arg12.IsWhole) (arg13 : Memref sig .tc .vmem S256x7168 .bf16) (harg13 : arg13.IsWhole) (arg14 : Memref sig .tc .vmem S256x7168 .bf16) (harg14 : arg14.IsWhole) (T : Vec F S4 .i32) (x0 : Vec F S1x512x7168 .fp8e4m3) (x1 : Vec F S1x512x56 .f32) (x2 : Vec F S1x256x7168 .fp8e4m3) (x3 : Vec F S1x256x7168 .fp8e4m3) (x4 : Vec F S1x2x1x7168 .bf16) (x5 : Vec F S1x2x1x7168 .bf16) (h : Vec F S1x512x16 .f32) (s0 : Vec F S512x7168 .bf16) (hc0 : k0_cond1 i (word0 i arg3 harg3 T) = 1#1) (hc1 : ¬k0_cond2 i = 1#1) (hc2 : ¬k0_cond3 i (word0 i arg3 harg3 T) = 1#1) :
    ∀ y : Shape.Idx S1x512x256, ∃ p ∈ (run0B c i arg3 harg3 arg4 harg4 arg5 harg5 arg6 harg6 arg7 harg7 arg8 harg8 arg9 harg9 arg10 harg10 arg11 harg11 arg12 harg12 arg13 harg13 arg14 harg14 T x0 x1 x2 x3 x4 x5 h s0 hc0 hc1 hc2).1, y ∈ p.1.set := fun y => View.cover_of_tiledL
  ((run0B c i arg3 harg3 arg4 harg4 arg5 harg5 arg6 harg6 arg7 harg7 arg8 harg8 arg9 harg9 arg10 harg10 arg11 harg11 arg12 harg12 arg13 harg13 arg14 harg14 T x0 x1 x2 x3 x4 x5 h s0 hc0 hc1 hc2).1) S1x512x128.size (by sl_kernel_rfl) y
theorem cover0_B_o1 (c : Dev nD) (i : grid0.Coords) (arg3 : Memref sig .tc .smem S4 .i32) (harg3 : arg3.IsWhole) (arg4 : Memref sig .tc .vmem S1x512x7168 .fp8e4m3) (harg4 : arg4.IsWhole) (arg5 : Memref sig .tc .vmem S1x512x56 .f32) (harg5 : arg5.IsWhole) (arg6 : Memref sig .tc .vmem S1x256x7168 .fp8e4m3) (harg6 : arg6.IsWhole) (arg7 : Memref sig .tc .vmem S1x256x7168 .fp8e4m3) (harg7 : arg7.IsWhole) (arg8 : Memref sig .tc .vmem S1x2x1x7168 .bf16) (harg8 : arg8.IsWhole) (arg9 : Memref sig .tc .vmem S1x2x1x7168 .bf16) (harg9 : arg9.IsWhole) (arg10 : Memref sig .tc .vmem S1x512x256 .fp8e4m3) (harg10 : arg10.IsWhole) (arg11 : Memref sig .tc .vmem S1x512x16 .f32) (harg11 : arg11.IsWhole) (arg12 : Memref sig .tc .vmem S512x7168 .bf16) (harg12 : arg12.IsWhole) (arg13 : Memref sig .tc .vmem S256x7168 .bf16) (harg13 : arg13.IsWhole) (arg14 : Memref sig .tc .vmem S256x7168 .bf16) (harg14 : arg14.IsWhole) (T : Vec F S4 .i32) (x0 : Vec F S1x512x7168 .fp8e4m3) (x1 : Vec F S1x512x56 .f32) (x2 : Vec F S1x256x7168 .fp8e4m3) (x3 : Vec F S1x256x7168 .fp8e4m3) (x4 : Vec F S1x2x1x7168 .bf16) (x5 : Vec F S1x2x1x7168 .bf16) (h : Vec F S1x512x16 .f32) (s0 : Vec F S512x7168 .bf16) (hc0 : k0_cond1 i (word0 i arg3 harg3 T) = 1#1) (hc1 : ¬k0_cond2 i = 1#1) (hc2 : ¬k0_cond3 i (word0 i arg3 harg3 T) = 1#1) :
    ∀ y : Shape.Idx S1x512x16, ∃ p ∈ (run0B c i arg3 harg3 arg4 harg4 arg5 harg5 arg6 harg6 arg7 harg7 arg8 harg8 arg9 harg9 arg10 harg10 arg11 harg11 arg12 harg12 arg13 harg13 arg14 harg14 T x0 x1 x2 x3 x4 x5 h s0 hc0 hc1 hc2).2.1, y ∈ p.1.set := fun y => View.cover_of_tiledL
  ((run0B c i arg3 harg3 arg4 harg4 arg5 harg5 arg6 harg6 arg7 harg7 arg8 harg8 arg9 harg9 arg10 harg10 arg11 harg11 arg12 harg12 arg13 harg13 arg14 harg14 T x0 x1 x2 x3 x4 x5 h s0 hc0 hc1 hc2).2.1) S1x512x16.size (by sl_kernel_rfl) y
theorem cover0_C_o0 (c : Dev nD) (i : grid0.Coords) (arg3 : Memref sig .tc .smem S4 .i32) (harg3 : arg3.IsWhole) (arg4 : Memref sig .tc .vmem S1x512x7168 .fp8e4m3) (harg4 : arg4.IsWhole) (arg5 : Memref sig .tc .vmem S1x512x56 .f32) (harg5 : arg5.IsWhole) (arg6 : Memref sig .tc .vmem S1x256x7168 .fp8e4m3) (harg6 : arg6.IsWhole) (arg7 : Memref sig .tc .vmem S1x256x7168 .fp8e4m3) (harg7 : arg7.IsWhole) (arg8 : Memref sig .tc .vmem S1x2x1x7168 .bf16) (harg8 : arg8.IsWhole) (arg9 : Memref sig .tc .vmem S1x2x1x7168 .bf16) (harg9 : arg9.IsWhole) (arg10 : Memref sig .tc .vmem S1x512x256 .fp8e4m3) (harg10 : arg10.IsWhole) (arg11 : Memref sig .tc .vmem S1x512x16 .f32) (harg11 : arg11.IsWhole) (arg12 : Memref sig .tc .vmem S512x7168 .bf16) (harg12 : arg12.IsWhole) (arg13 : Memref sig .tc .vmem S256x7168 .bf16) (harg13 : arg13.IsWhole) (arg14 : Memref sig .tc .vmem S256x7168 .bf16) (harg14 : arg14.IsWhole) (T : Vec F S4 .i32) (x0 : Vec F S1x512x7168 .fp8e4m3) (x1 : Vec F S1x512x56 .f32) (x2 : Vec F S1x256x7168 .fp8e4m3) (x3 : Vec F S1x256x7168 .fp8e4m3) (x4 : Vec F S1x2x1x7168 .bf16) (x5 : Vec F S1x2x1x7168 .bf16) (hc0 : ¬k0_cond1 i (word0 i arg3 harg3 T) = 1#1) (hc2 : k0_cond3 i (word0 i arg3 harg3 T) = 1#1) :
    ∀ y : Shape.Idx S1x512x256, ∃ p ∈ (run0C c i arg3 harg3 arg4 harg4 arg5 harg5 arg6 harg6 arg7 harg7 arg8 harg8 arg9 harg9 arg10 harg10 arg11 harg11 arg12 harg12 arg13 harg13 arg14 harg14 T x0 x1 x2 x3 x4 x5 hc0 hc2).1, y ∈ p.1.set := fun y => View.cover_of_tiledL
  ((run0C c i arg3 harg3 arg4 harg4 arg5 harg5 arg6 harg6 arg7 harg7 arg8 harg8 arg9 harg9 arg10 harg10 arg11 harg11 arg12 harg12 arg13 harg13 arg14 harg14 T x0 x1 x2 x3 x4 x5 hc0 hc2).1) S1x512x256.size (by sl_kernel_rfl) y
theorem cover0_C_o1 (c : Dev nD) (i : grid0.Coords) (arg3 : Memref sig .tc .smem S4 .i32) (harg3 : arg3.IsWhole) (arg4 : Memref sig .tc .vmem S1x512x7168 .fp8e4m3) (harg4 : arg4.IsWhole) (arg5 : Memref sig .tc .vmem S1x512x56 .f32) (harg5 : arg5.IsWhole) (arg6 : Memref sig .tc .vmem S1x256x7168 .fp8e4m3) (harg6 : arg6.IsWhole) (arg7 : Memref sig .tc .vmem S1x256x7168 .fp8e4m3) (harg7 : arg7.IsWhole) (arg8 : Memref sig .tc .vmem S1x2x1x7168 .bf16) (harg8 : arg8.IsWhole) (arg9 : Memref sig .tc .vmem S1x2x1x7168 .bf16) (harg9 : arg9.IsWhole) (arg10 : Memref sig .tc .vmem S1x512x256 .fp8e4m3) (harg10 : arg10.IsWhole) (arg11 : Memref sig .tc .vmem S1x512x16 .f32) (harg11 : arg11.IsWhole) (arg12 : Memref sig .tc .vmem S512x7168 .bf16) (harg12 : arg12.IsWhole) (arg13 : Memref sig .tc .vmem S256x7168 .bf16) (harg13 : arg13.IsWhole) (arg14 : Memref sig .tc .vmem S256x7168 .bf16) (harg14 : arg14.IsWhole) (T : Vec F S4 .i32) (x0 : Vec F S1x512x7168 .fp8e4m3) (x1 : Vec F S1x512x56 .f32) (x2 : Vec F S1x256x7168 .fp8e4m3) (x3 : Vec F S1x256x7168 .fp8e4m3) (x4 : Vec F S1x2x1x7168 .bf16) (x5 : Vec F S1x2x1x7168 .bf16) (hc0 : ¬k0_cond1 i (word0 i arg3 harg3 T) = 1#1) (hc2 : k0_cond3 i (word0 i arg3 harg3 T) = 1#1) :
    ∀ y : Shape.Idx S1x512x16, ∃ p ∈ (run0C c i arg3 harg3 arg4 harg4 arg5 harg5 arg6 harg6 arg7 harg7 arg8 harg8 arg9 harg9 arg10 harg10 arg11 harg11 arg12 harg12 arg13 harg13 arg14 harg14 T x0 x1 x2 x3 x4 x5 hc0 hc2).2.1, y ∈ p.1.set := fun y => View.cover_of_tiledL
  ((run0C c i arg3 harg3 arg4 harg4 arg5 harg5 arg6 harg6 arg7 harg7 arg8 harg8 arg9 harg9 arg10 harg10 arg11 harg11 arg12 harg12 arg13 harg13 arg14 harg14 T x0 x1 x2 x3 x4 x5 hc0 hc2).2.1) S1x512x16.size (by sl_kernel_rfl) y

/-! ## What each point leaves: the two outputs' buffers and the carried scratch -/

/-- What the outputs' buffers and the carried scratch hold. -/
abbrev St0 (F : FTy → Type) := Vec F S1x512x256 .fp8e4m3 × Vec F S1x512x16 .f32 × Vec F S512x7168 .bf16

/-- The first column tile of a live block. -/
def stepA0 (c : Dev nD) (t : Fin (cfg0 a).N) (h1 : k0_cond1 (grid0.coords t) (wd0 a t) = 1#1) (h2 : k0_cond2 (grid0.coords t) = 1#1) : St0 F :=
  (VO0_6.read (Elt F) (VO0_6.writes (Elt F) VO0_6.junk (run0A c (grid0.coords t) (Memref.whole main_arg2) (Memref.isWhole_whole _) (ms0_0 a t) (hs0_0 a t) (ms0_1 a t) (hs0_1 a t) (ms0_2 a t) (hs0_2 a t) (ms0_3 a t) (hs0_3 a t) (ms0_4 a t) (hs0_4 a t) (ms0_5 a t) (hs0_5 a t) (ms0_6 a t) (hs0_6 a t) (ms0_7 a t) (hs0_7 a t) (Memref.whole cc0_scratch0) (Memref.isWhole_whole _) (Memref.whole cc0_scratch1) (Memref.isWhole_whole _) (Memref.whole cc0_scratch2) (Memref.isWhole_whole _) (tab0 a) (iblk0 a V c 0 t) (iblk0 a V c 1 t) (iblk0 a V c 2 t) (iblk0 a V c 3 t) (iblk0 a V c 4 t) (iblk0 a V c 5 t) h1 h2 (k0_not_dead _ _ h1)).1),
   VO0_7.read (Elt F) (VO0_7.writes (Elt F) VO0_7.junk (run0A c (grid0.coords t) (Memref.whole main_arg2) (Memref.isWhole_whole _) (ms0_0 a t) (hs0_0 a t) (ms0_1 a t) (hs0_1 a t) (ms0_2 a t) (hs0_2 a t) (ms0_3 a t) (hs0_3 a t) (ms0_4 a t) (hs0_4 a t) (ms0_5 a t) (hs0_5 a t) (ms0_6 a t) (hs0_6 a t) (ms0_7 a t) (hs0_7 a t) (Memref.whole cc0_scratch0) (Memref.isWhole_whole _) (Memref.whole cc0_scratch1) (Memref.isWhole_whole _) (Memref.whole cc0_scratch2) (Memref.isWhole_whole _) (tab0 a) (iblk0 a V c 0 t) (iblk0 a V c 1 t) (iblk0 a V c 2 t) (iblk0 a V c 3 t) (iblk0 a V c 4 t) (iblk0 a V c 5 t) h1 h2 (k0_not_dead _ _ h1)).2.1),
   VS0.read (Elt F) (VS0.writes (Elt F) VS0.junk (run0A c (grid0.coords t) (Memref.whole main_arg2) (Memref.isWhole_whole _) (ms0_0 a t) (hs0_0 a t) (ms0_1 a t) (hs0_1 a t) (ms0_2 a t) (hs0_2 a t) (ms0_3 a t) (hs0_3 a t) (ms0_4 a t) (hs0_4 a t) (ms0_5 a t) (hs0_5 a t) (ms0_6 a t) (hs0_6 a t) (ms0_7 a t) (hs0_7 a t) (Memref.whole cc0_scratch0) (Memref.isWhole_whole _) (Memref.whole cc0_scratch1) (Memref.isWhole_whole _) (Memref.whole cc0_scratch2) (Memref.isWhole_whole _) (tab0 a) (iblk0 a V c 0 t) (iblk0 a V c 1 t) (iblk0 a V c 2 t) (iblk0 a V c 3 t) (iblk0 a V c 4 t) (iblk0 a V c 5 t) h1 h2 (k0_not_dead _ _ h1)).2.2.1))
/-- A later column tile of a live block: the carried scratch stays. -/
def stepB0 (c : Dev nD) (t : Fin (cfg0 a).N) (h1 : k0_cond1 (grid0.coords t) (wd0 a t) = 1#1) (h2 : ¬k0_cond2 (grid0.coords t) = 1#1) (acc : St0 F) : St0 F :=
  (VO0_6.read (Elt F) (VO0_6.writes (Elt F) VO0_6.junk (run0B c (grid0.coords t) (Memref.whole main_arg2) (Memref.isWhole_whole _) (ms0_0 a t) (hs0_0 a t) (ms0_1 a t) (hs0_1 a t) (ms0_2 a t) (hs0_2 a t) (ms0_3 a t) (hs0_3 a t) (ms0_4 a t) (hs0_4 a t) (ms0_5 a t) (hs0_5 a t) (ms0_6 a t) (hs0_6 a t) (ms0_7 a t) (hs0_7 a t) (Memref.whole cc0_scratch0) (Memref.isWhole_whole _) (Memref.whole cc0_scratch1) (Memref.isWhole_whole _) (Memref.whole cc0_scratch2) (Memref.isWhole_whole _) (tab0 a) (iblk0 a V c 0 t) (iblk0 a V c 1 t) (iblk0 a V c 2 t) (iblk0 a V c 3 t) (iblk0 a V c 4 t) (iblk0 a V c 5 t) acc.2.1 acc.2.2 h1 h2 (k0_not_dead _ _ h1)).1),
   VO0_7.read (Elt F) (VO0_7.writes (Elt F) VO0_7.junk (run0B c (grid0.coords t) (Memref.whole main_arg2) (Memref.isWhole_whole _) (ms0_0 a t) (hs0_0 a t) (ms0_1 a t) (hs0_1 a t) (ms0_2 a t) (hs0_2 a t) (ms0_3 a t) (hs0_3 a t) (ms0_4 a t) (hs0_4 a t) (ms0_5 a t) (hs0_5 a t) (ms0_6 a t) (hs0_6 a t) (ms0_7 a t) (hs0_7 a t) (Memref.whole cc0_scratch0) (Memref.isWhole_whole _) (Memref.whole cc0_scratch1) (Memref.isWhole_whole _) (Memref.whole cc0_scratch2) (Memref.isWhole_whole _) (tab0 a) (iblk0 a V c 0 t) (iblk0 a V c 1 t) (iblk0 a V c 2 t) (iblk0 a V c 3 t) (iblk0 a V c 4 t) (iblk0 a V c 5 t) acc.2.1 acc.2.2 h1 h2 (k0_not_dead _ _ h1)).2.1),
   acc.2.2)
/-- A dead block: the carried scratch stays. -/
def stepC0 (c : Dev nD) (t : Fin (cfg0 a).N) (h1 : ¬k0_cond1 (grid0.coords t) (wd0 a t) = 1#1) (acc : St0 F) : St0 F :=
  (VO0_6.read (Elt F) (VO0_6.writes (Elt F) VO0_6.junk (run0C c (grid0.coords t) (Memref.whole main_arg2) (Memref.isWhole_whole _) (ms0_0 a t) (hs0_0 a t) (ms0_1 a t) (hs0_1 a t) (ms0_2 a t) (hs0_2 a t) (ms0_3 a t) (hs0_3 a t) (ms0_4 a t) (hs0_4 a t) (ms0_5 a t) (hs0_5 a t) (ms0_6 a t) (hs0_6 a t) (ms0_7 a t) (hs0_7 a t) (Memref.whole cc0_scratch0) (Memref.isWhole_whole _) (Memref.whole cc0_scratch1) (Memref.isWhole_whole _) (Memref.whole cc0_scratch2) (Memref.isWhole_whole _) (tab0 a) (iblk0 a V c 0 t) (iblk0 a V c 1 t) (iblk0 a V c 2 t) (iblk0 a V c 3 t) (iblk0 a V c 4 t) (iblk0 a V c 5 t) h1 ((k0_live_or_dead _ _).resolve_left h1)).1),
   VO0_7.read (Elt F) (VO0_7.writes (Elt F) VO0_7.junk (run0C c (grid0.coords t) (Memref.whole main_arg2) (Memref.isWhole_whole _) (ms0_0 a t) (hs0_0 a t) (ms0_1 a t) (hs0_1 a t) (ms0_2 a t) (hs0_2 a t) (ms0_3 a t) (hs0_3 a t) (ms0_4 a t) (hs0_4 a t) (ms0_5 a t) (hs0_5 a t) (ms0_6 a t) (hs0_6 a t) (ms0_7 a t) (hs0_7 a t) (Memref.whole cc0_scratch0) (Memref.isWhole_whole _) (Memref.whole cc0_scratch1) (Memref.isWhole_whole _) (Memref.whole cc0_scratch2) (Memref.isWhole_whole _) (tab0 a) (iblk0 a V c 0 t) (iblk0 a V c 1 t) (iblk0 a V c 2 t) (iblk0 a V c 3 t) (iblk0 a V c 4 t) (iblk0 a V c 5 t) h1 ((k0_live_or_dead _ _).resolve_left h1)).2.1),
   acc.2.2)
/-- What point `t` leaves, from what the point before left. -/
def step0 (c : Dev nD) (t : Fin (cfg0 a).N) (acc : St0 F) : St0 F :=
  if h1 : k0_cond1 (grid0.coords t) (wd0 a t) = 1#1 then (if h2 : k0_cond2 (grid0.coords t) = 1#1 then stepA0 a V c t h1 h2 else stepB0 a V c t h1 h2 acc) else stepC0 a V c t h1 acc
/-- Before the first point: contents nothing reads. -/
def st0_0 : St0 F := (VO0_6.read (Elt F) VO0_6.junk, VO0_7.read (Elt F) VO0_7.junk, VS0.read (Elt F) VS0.junk)
/-- The state entering point `n`. -/
def acc0 (c : Dev nD) : (n : ℕ) → n ≤ (cfg0 a).N → St0 F
  | 0, _ => st0_0
  | n + 1, h => step0 a V c ⟨n, h⟩ (acc0 c n (Nat.le_of_succ_le h))
/-- The state point `t` leaves. -/
def outsAt0 (c : Dev nD) (t : Fin (cfg0 a).N) : St0 F := step0 a V c t (acc0 a V c t.val t.isLt.le)

theorem acc0_succ (c : Dev nD) (n : ℕ) (h : n + 1 ≤ (cfg0 a).N) : acc0 a V c (n + 1) h = outsAt0 a V c ⟨n, h⟩ := rfl

/-! ## The region's invariant: the table, the scratch (the carried one at its contents once the first point has run), the other
    scoped buffers, the generator register -/

/-- The scoped buffers the region does not touch. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

theorem scopedRest0_split (c : Dev nD) :
    (Pipeline.scopedRest (Ix := Unit) (Name := ℕ) (U := UR sig nD τ) (Lvl := ℕ) (Val := Elt F) spec0 c : sProp 𝕄)
      = iprop((∃ d, owns (c : Thread nD τ) scM0_0 fullShare d) ∗ (∃ d, owns (c : Thread nD τ) scM0_1 fullShare d) ∗ (∃ d, owns (c : Thread nD τ) scM0_2 fullShare d) ∗ others0 (F := F) c) := by
  unfold others0; simp only [scM0_0, owns_whole]
  exact Pipeline.scopedRest_eq_of_list spec0 c [cc0_scratch0, cc0_scratch1, cc0_scratch2, cc1_stg0_0, cc1_stg0_1, cc1_stg1_0, cc1_stg1_1, cc1_stg2_0, cc1_stg2_1, cc1_stg3_0, cc1_stg3_1, cc1_stg4_0, cc1_stg4_1, cc1_stg5_0, cc1_stg5_1, cc1_scratch0, cc1_scratch1] (by decide) (by decide)

/-- The carried scratch entering point `n`: at a later column tile of a live block, at what the tile before left. -/
def carried0 (c : Dev nD) (n : ℕ) (h : n ≤ (cfg0 a).N) : sProp 𝕄 :=
  iprop(∃ d, owns (c : Thread nD τ) scM0_0 fullShare d
    ∗ ⌜∀ hn : n < (cfg0 a).N, n % 8 ≠ 0 → k0_cond1 (grid0.coords ⟨n, hn⟩) (wd0 a ⟨n, hn⟩) = 1#1 → d = (acc0 a V c n h).2.2⌝)

/-- The invariant entering point `n`. -/
def Phi0 (c : Dev nD) (n : ℕ) (h : n ≤ (cfg0 a).N) : sProp 𝕄 :=
  iprop(owns (c : Thread nD τ) (Memref.whole main_arg2) fullShare (tab0 a) ∗ carried0 a V c n h
    ∗ (∃ d, owns (c : Thread nD τ) scM0_1 fullShare d) ∗ (∃ d, owns (c : Thread nD τ) scM0_2 fullShare d) ∗ others0 (F := F) c ∗ (∃ r, prngReg c r))

/-- The region's proof data. -/
def dat0 (c : Dev nD) : Dat τ (Elt F) Unit ℕ (UR sig nD τ) ℕ (cfg0 a) c where
  A w := V c (Pipeline.arrRef spec0 w)
  after w t := match w with
    | ⟨0, _⟩ => iblk0 a V c 0 t
    | ⟨1, _⟩ => iblk0 a V c 1 t
    | ⟨2, _⟩ => iblk0 a V c 2 t
    | ⟨3, _⟩ => iblk0 a V c 3 t
    | ⟨4, _⟩ => iblk0 a V c 4 t
    | ⟨5, _⟩ => iblk0 a V c 5 t
    | ⟨6, _⟩ => (outsAt0 a V c t).1
    | ⟨7, _⟩ => (outsAt0 a V c t).2.1
  Φ n := Phi0 a V c n.val (Nat.lt_succ_iff.mp n.isLt)
  q w := Pipeline.shareOf spec0 w
  owed _ := 0

theorem A_eq0 (c : Dev nD) (w : Fin (cfg0 a).W) : (dat0 a V c).A w = V c (Pipeline.arrRef spec0 w) := by
  dsimp only [dat0]
theorem after0_0 (c : Dev nD) (t : Fin (cfg0 a).N) : (dat0 a V c).after 0 t = iblk0 a V c 0 t := by dsimp only [dat0]; rfl
theorem after0_1 (c : Dev nD) (t : Fin (cfg0 a).N) : (dat0 a V c).after 1 t = iblk0 a V c 1 t := by dsimp only [dat0]; rfl
theorem after0_2 (c : Dev nD) (t : Fin (cfg0 a).N) : (dat0 a V c).after 2 t = iblk0 a V c 2 t := by dsimp only [dat0]; rfl
theorem after0_3 (c : Dev nD) (t : Fin (cfg0 a).N) : (dat0 a V c).after 3 t = iblk0 a V c 3 t := by dsimp only [dat0]; rfl
theorem after0_4 (c : Dev nD) (t : Fin (cfg0 a).N) : (dat0 a V c).after 4 t = iblk0 a V c 4 t := by dsimp only [dat0]; rfl
theorem after0_5 (c : Dev nD) (t : Fin (cfg0 a).N) : (dat0 a V c).after 5 t = iblk0 a V c 5 t := by dsimp only [dat0]; rfl
theorem after0_6 (c : Dev nD) (t : Fin (cfg0 a).N) : (dat0 a V c).after 6 t = (outsAt0 a V c t).1 := by dsimp only [dat0]; rfl
theorem after0_7 (c : Dev nD) (t : Fin (cfg0 a).N) : (dat0 a V c).after 7 t = (outsAt0 a V c t).2.1 := by dsimp only [dat0]; rfl
theorem before0_0 (c : Dev nD) (t : Fin (cfg0 a).N) (d) : (dat0 a V c).before 0 t d = iblk0 a V c 0 t :=
  before0_0_of a V (dat0 a V c) (A_eq0 a V c 0) (after0_0 a V c) t d
theorem before0_1 (c : Dev nD) (t : Fin (cfg0 a).N) (d) : (dat0 a V c).before 1 t d = iblk0 a V c 1 t :=
  before0_1_of a V (dat0 a V c) (A_eq0 a V c 1) (after0_1 a V c) t d
theorem before0_2 (c : Dev nD) (t : Fin (cfg0 a).N) (d) : (dat0 a V c).before 2 t d = iblk0 a V c 2 t :=
  before0_2_of a V (dat0 a V c) (A_eq0 a V c 2) (after0_2 a V c) t d
theorem before0_3 (c : Dev nD) (t : Fin (cfg0 a).N) (d) : (dat0 a V c).before 3 t d = iblk0 a V c 3 t :=
  before0_3_of a V (dat0 a V c) (A_eq0 a V c 3) (after0_3 a V c) t d
theorem before0_4 (c : Dev nD) (t : Fin (cfg0 a).N) (d) : (dat0 a V c).before 4 t d = iblk0 a V c 4 t :=
  before0_4_of a V (dat0 a V c) (A_eq0 a V c 4) (after0_4 a V c) t d
theorem before0_5 (c : Dev nD) (t : Fin (cfg0 a).N) (d) : (dat0 a V c).before 5 t d = iblk0 a V c 5 t :=
  before0_5_of a V (dat0 a V c) (A_eq0 a V c 5) (after0_5 a V c) t d

end Cert.Kernel.Gen

end
-- ==== Proof.Kernel.Body0.lean ====
module

public import proofs.«01_k».proof.Proof.Kernel.Data0

/-!
# Call 0: the body at every grid point
-/

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfg0 (F := F)).Adm)
variable (V : (c : Dev nD) → (b : Ref sig .tc) → Buf (Elt F) ((c : Thread nD τ).loc b))

theorem outsAt0_A (c : Dev nD) (t : Fin (cfg0 a).N) (h1 : k0_cond1 (grid0.coords t) (wd0 a t) = 1#1) (h2 : k0_cond2 (grid0.coords t) = 1#1) : outsAt0 a V c t = stepA0 a V c t h1 h2 := by
  unfold outsAt0 step0; rw [dif_pos h1, dif_pos h2]
theorem outsAt0_B (c : Dev nD) (t : Fin (cfg0 a).N) (h1 : k0_cond1 (grid0.coords t) (wd0 a t) = 1#1) (h2 : ¬k0_cond2 (grid0.coords t) = 1#1) :
    outsAt0 a V c t = stepB0 a V c t h1 h2 (acc0 a V c t.val t.isLt.le) := by
  unfold outsAt0 step0; rw [dif_pos h1, dif_neg h2]
theorem outsAt0_C (c : Dev nD) (t : Fin (cfg0 a).N) (h1 : ¬k0_cond1 (grid0.coords t) (wd0 a t) = 1#1) : outsAt0 a V c t = stepC0 a V c t h1 (acc0 a V c t.val t.isLt.le) := by
  unfold outsAt0 step0; rw [dif_neg h1]

theorem Phi0_congr (c : Dev nD) (n n' : ℕ) (h : n ≤ (cfg0 a).N) (h' : n' ≤ (cfg0 a).N) (e : n = n') : Phi0 a V c n h = Phi0 a V c n' h' := by
  subst e; rfl
theorem Phi0_succ (c : Dev nD) (t : Fin (cfg0 a).N) : (dat0 a V c).Φ t.succ = Phi0 a V c (t.val + 1) t.isLt := by dsimp only [dat0]; rfl
theorem Phi0_castSucc (c : Dev nD) (t : Fin (cfg0 a).N) : (dat0 a V c).Φ t.castSucc = Phi0 a V c t.val t.isLt.le := by
  dsimp only [dat0]; exact Phi0_congr a V c _ _ _ _ (Fin.val_castSucc t)
theorem owes0_succ (c : Dev nD) (t : Fin (cfg0 a).N) : (dat0 a V c).owesAt () t.succ = (dat0 a V c).owesAt () t.castSucc := by
  unfold Dat.owesAt; rfl

theorem leaves0_in (c : Dev nD) (w : Fin (cfg0 a).W) (t : Fin (cfg0 a).N) (h : ∀ i, (cfg0 a).idle w i = false) :
    (dat0 a V c).leavesExact w t = owns (c : Thread nD τ) (((cfg0 a).win w).stage ((cfg0 a).slots t w)) fullShare ((dat0 a V c).after w t) := by
  unfold Dat.leavesExact; rw [h]

/-- What the second output's buffer holds at a later column tile: what the tile before left. -/
theorem before0_7 (c : Dev nD) (t : Fin (cfg0 a).N) (ht : t.val % 8 ≠ 0) (d) :
    (dat0 a V c).before 7 t d = (acc0 a V c t.val t.isLt.le).2.1 := by
  have hp : 0 < t.val := Nat.pos_of_ne_zero fun h => ht (by rw [h])
  have hfl : ((cfg0 a).win 7).flush ⟨t.val - 1, Nat.lt_of_le_of_lt (Nat.sub_le _ _) t.isLt⟩ = false := by
    rw [Pipeline.Window.flush_eq_flushOf]
    exact (by decide +kernel : ∀ u : Fin grid0.N, u.val % 8 ≠ 7 → Pipeline.Window.flushOf grid0 true cc0_transform_7 u = false) _
      (by show (t.val - 1) % 8 ≠ 7; omega)
  rw [(dat0 a V c).before_out_kept 7 rfl t (Nat.pos_iff_ne_zero.mp hp) hfl (live0_7 a) (fun _ _ => rfl) d, after0_7]
  obtain ⟨n, hn⟩ := t
  cases n with
  | zero => exact absurd hp (Nat.lt_irrefl 0)
  | succ n => rfl

def bodyPre0 (c : Dev nD) (t : Fin (cfg0 a).N) : sProp 𝕄 :=
  iprop((dat0 a V c).Φ t.castSucc ∗ (dat0 a V c).owesAt () t.castSucc
    ∗ (∃ d, owns (c : Thread nD τ) (ms0_0 a t) fullShare ((dat0 a V c).before 0 t d))
    ∗ (∃ d, owns (c : Thread nD τ) (ms0_1 a t) fullShare ((dat0 a V c).before 1 t d))
    ∗ (∃ d, owns (c : Thread nD τ) (ms0_2 a t) fullShare ((dat0 a V c).before 2 t d))
    ∗ (∃ d, owns (c : Thread nD τ) (ms0_3 a t) fullShare ((dat0 a V c).before 3 t d))
    ∗ (∃ d, owns (c : Thread nD τ) (ms0_4 a t) fullShare ((dat0 a V c).before 4 t d))
    ∗ (∃ d, owns (c : Thread nD τ) (ms0_5 a t) fullShare ((dat0 a V c).before 5 t d))
    ∗ (∃ d, owns (c : Thread nD τ) (ms0_6 a t) fullShare ((dat0 a V c).before 6 t d))
    ∗ (∃ d, owns (c : Thread nD τ) (ms0_7 a t) fullShare ((dat0 a V c).before 7 t d)))
def bodyPost0 (c : Dev nD) (t : Fin (cfg0 a).N) : sProp 𝕄 :=
  iprop((dat0 a V c).Φ t.succ ∗ (dat0 a V c).owesAt () t.succ
    ∗ (dat0 a V c).leavesExact 0 t
    ∗ (dat0 a V c).leavesExact 1 t
    ∗ (dat0 a V c).leavesExact 2 t
    ∗ (dat0 a V c).leavesExact 3 t
    ∗ (dat0 a V c).leavesExact 4 t
    ∗ (dat0 a V c).leavesExact 5 t
    ∗ (dat0 a V c).leavesExact 6 t
    ∗ (dat0 a V c).leavesExact 7 t)
/-- The body at point `t`, on what the pipeline calls it with. -/
abbrev bodyAt0 (t : Fin (cfg0 a).N) : Prog (TpuEff nD τ sig (Elt F) Λ₀ .tc) PUnit :=
  cc0_up (grid0.coords t) (Memref.whole main_arg2) (Memref.isWhole_whole _) (ms0_0 a t) (hs0_0 a t) (ms0_1 a t) (hs0_1 a t) (ms0_2 a t) (hs0_2 a t) (ms0_3 a t) (hs0_3 a t) (ms0_4 a t) (hs0_4 a t) (ms0_5 a t) (hs0_5 a t) (ms0_6 a t) (hs0_6 a t) (ms0_7 a t) (hs0_7 a t) (Memref.whole cc0_scratch0) (Memref.isWhole_whole _) (Memref.whole cc0_scratch1) (Memref.isWhole_whole _) (Memref.whole cc0_scratch2) (Memref.isWhole_whole _)

set_option maxHeartbeats 1600000 in
theorem sound0_A (c : Dev nD) (t : Fin (cfg0 a).N) (h1 : k0_cond1 (grid0.coords t) (wd0 a t) = 1#1) (h2 : k0_cond2 (grid0.coords t) = 1#1) :
    bodyPre0 a V c t ⊢ wp frame (wpE (defs₀ (F := F)) Variants.none c none) Set.univ (bodyAt0 a t) (fun _ => bodyPost0 a V c t) := by
  unfold bodyPre0 bodyPost0 bodyAt0
  simp only [before0_0, before0_1, before0_2, before0_3, before0_4, before0_5]
  rw [Phi0_succ, Phi0_castSucc, owes0_succ]
  rw [leaves0_in a V c 0 t (fun _ => rfl), leaves0_in a V c 1 t (fun _ => rfl), leaves0_in a V c 2 t (fun _ => rfl), leaves0_in a V c 3 t (fun _ => rfl), leaves0_in a V c 4 t (fun _ => rfl), leaves0_in a V c 5 t (fun _ => rfl), leaves0_in a V c 6 t (live0_6 a), leaves0_in a V c 7 t (live0_7 a)]
  rw [after0_0, after0_1, after0_2, after0_3, after0_4, after0_5, after0_6, after0_7]
  unfold Phi0 carried0
  rw [acc0_succ, show (⟨t.val, t.isLt⟩ : Fin (cfg0 a).N) = t from rfl, outsAt0_A a V c t h1 h2]
  unfold stepA0; dsimp only
  iintro ⟨⟨HT, ⟨%s0, HS0, %hs0⟩, HS1, HS2, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((run0A c (grid0.coords t) (Memref.whole main_arg2) (Memref.isWhole_whole _) (ms0_0 a t) (hs0_0 a t) (ms0_1 a t) (hs0_1 a t) (ms0_2 a t) (hs0_2 a t) (ms0_3 a t) (hs0_3 a t) (ms0_4 a t) (hs0_4 a t) (ms0_5 a t) (hs0_5 a t) (ms0_6 a t) (hs0_6 a t) (ms0_7 a t) (hs0_7 a t) (Memref.whole cc0_scratch0) (Memref.isWhole_whole _) (Memref.whole cc0_scratch1) (Memref.isWhole_whole _) (Memref.whole cc0_scratch2) (Memref.isWhole_whole _) (tab0 a) (iblk0 a V c 0 t) (iblk0 a V c 1 t) (iblk0 a V c 2 t) (iblk0 a V c 3 t) (iblk0 a V c 4 t) (iblk0 a V c 5 t) h1 h2 (k0_not_dead _ _ h1)).2.2.2.2.2 Set.univ _)
  isplitl [HT]; · iexact HT
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HS0]; · iexists _; iexact HS0
  isplitl [HS1]; · iexact HS1
  isplitl [HS2]; · iexact HS2
  iintro ⟨HT, H0, H1, H2, H3, H4, H5, ⟨%e0, H6⟩, ⟨%e1, H7⟩, ⟨%fT0, HS0⟩, ⟨%fT1, HS1⟩, ⟨%fT2, HS2⟩⟩
  isplitl [HT HS0 HS1 HS2 HR Hg]
  · isplitl [HT]; · iexact HT
    isplitl [HS0]
    · iexists _; isplitl [HS0]
      · unfold owns; iexists _; isplitr
        swap; · iexact HS0
        ipureintro; rfl
      ipureintro; intro _ _ _
      exact View.read_writes_of_cover _ _ _ _ _ (cover0_A_s0 c (grid0.coords t) (Memref.whole main_arg2) (Memref.isWhole_whole _) (ms0_0 a t) (hs0_0 a t) (ms0_1 a t) (hs0_1 a t) (ms0_2 a t) (hs0_2 a t) (ms0_3 a t) (hs0_3 a t) (ms0_4 a t) (hs0_4 a t) (ms0_5 a t) (hs0_5 a t) (ms0_6 a t) (hs0_6 a t) (ms0_7 a t) (hs0_7 a t) (Memref.whole cc0_scratch0) (Memref.isWhole_whole _) (Memref.whole cc0_scratch1) (Memref.isWhole_whole _) (Memref.whole cc0_scratch2) (Memref.isWhole_whole _) (tab0 a) (iblk0 a V c 0 t) (iblk0 a V c 1 t) (iblk0 a V c 2 t) (iblk0 a V c 3 t) (iblk0 a V c 4 t) (iblk0 a V c 5 t) h1 h2 (k0_not_dead _ _ h1))
    isplitl [HS1]
    · iexists _; unfold owns; iexists _; isplitr
      swap; · iexact HS1
      ipureintro; rfl
    isplitl [HS2]
    · iexists _; unfold owns; iexists _; isplitr
      swap; · iexact HS2
      ipureintro; rfl
    isplitl [HR]; · iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_of_cover _ _ _ _ _ (cover0_A_o0 c (grid0.coords t) (Memref.whole main_arg2) (Memref.isWhole_whole _) (ms0_0 a t) (hs0_0 a t) (ms0_1 a t) (hs0_1 a t) (ms0_2 a t) (hs0_2 a t) (ms0_3 a t) (hs0_3 a t) (ms0_4 a t) (hs0_4 a t) (ms0_5 a t) (hs0_5 a t) (ms0_6 a t) (hs0_6 a t) (ms0_7 a t) (hs0_7 a t) (Memref.whole cc0_scratch0) (Memref.isWhole_whole _) (Memref.whole cc0_scratch1) (Memref.isWhole_whole _) (Memref.whole cc0_scratch2) (Memref.isWhole_whole _) (tab0 a) (iblk0 a V c 0 t) (iblk0 a V c 1 t) (iblk0 a V c 2 t) (iblk0 a V c 3 t) (iblk0 a V c 4 t) (iblk0 a V c 5 t) h1 h2 (k0_not_dead _ _ h1))
  unfold owns; iexists _; isplitr
  swap; · iexact H7
  ipureintro; exact View.read_writes_of_cover _ _ _ _ _ (cover0_A_o1 c (grid0.coords t) (Memref.whole main_arg2) (Memref.isWhole_whole _) (ms0_0 a t) (hs0_0 a t) (ms0_1 a t) (hs0_1 a t) (ms0_2 a t) (hs0_2 a t) (ms0_3 a t) (hs0_3 a t) (ms0_4 a t) (hs0_4 a t) (ms0_5 a t) (hs0_5 a t) (ms0_6 a t) (hs0_6 a t) (ms0_7 a t) (hs0_7 a t) (Memref.whole cc0_scratch0) (Memref.isWhole_whole _) (Memref.whole cc0_scratch1) (Memref.isWhole_whole _) (Memref.whole cc0_scratch2) (Memref.isWhole_whole _) (tab0 a) (iblk0 a V c 0 t) (iblk0 a V c 1 t) (iblk0 a V c 2 t) (iblk0 a V c 3 t) (iblk0 a V c 4 t) (iblk0 a V c 5 t) h1 h2 (k0_not_dead _ _ h1))

set_option maxHeartbeats 1600000 in
theorem sound0_B (c : Dev nD) (t : Fin (cfg0 a).N) (h1 : k0_cond1 (grid0.coords t) (wd0 a t) = 1#1) (h2 : ¬k0_cond2 (grid0.coords t) = 1#1) :
    bodyPre0 a V c t ⊢ wp frame (wpE (defs₀ (F := F)) Variants.none c none) Set.univ (bodyAt0 a t) (fun _ => bodyPost0 a V c t) := by
  unfold bodyPre0 bodyPost0 bodyAt0
  simp only [before0_0, before0_1, before0_2, before0_3, before0_4, before0_5]
  rw [Phi0_succ, Phi0_castSucc, owes0_succ]
  rw [leaves0_in a V c 0 t (fun _ => rfl), leaves0_in a V c 1 t (fun _ => rfl), leaves0_in a V c 2 t (fun _ => rfl), leaves0_in a V c 3 t (fun _ => rfl), leaves0_in a V c 4 t (fun _ => rfl), leaves0_in a V c 5 t (fun _ => rfl), leaves0_in a V c 6 t (live0_6 a), leaves0_in a V c 7 t (live0_7 a)]
  rw [after0_0, after0_1, after0_2, after0_3, after0_4, after0_5, after0_6, after0_7]
  unfold Phi0 carried0
  rw [acc0_succ, show (⟨t.val, t.isLt⟩ : Fin (cfg0 a).N) = t from rfl, outsAt0_B a V c t h1 h2]
  have hm : t.val % 8 ≠ 0 := fun h => h2 ((hcond0 a t).mpr h)
  simp only [before0_7 a V c t hm]
  unfold stepB0; dsimp only
  iintro ⟨⟨HT, ⟨%s0, HS0, %hs0⟩, HS1, HS2, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  obtain rfl := hs0 t.isLt hm h1
  iapply ((run0B c (grid0.coords t) (Memref.whole main_arg2) (Memref.isWhole_whole _) (ms0_0 a t) (hs0_0 a t) (ms0_1 a t) (hs0_1 a t) (ms0_2 a t) (hs0_2 a t) (ms0_3 a t) (hs0_3 a t) (ms0_4 a t) (hs0_4 a t) (ms0_5 a t) (hs0_5 a t) (ms0_6 a t) (hs0_6 a t) (ms0_7 a t) (hs0_7 a t) (Memref.whole cc0_scratch0) (Memref.isWhole_whole _) (Memref.whole cc0_scratch1) (Memref.isWhole_whole _) (Memref.whole cc0_scratch2) (Memref.isWhole_whole _) (tab0 a) (iblk0 a V c 0 t) (iblk0 a V c 1 t) (iblk0 a V c 2 t) (iblk0 a V c 3 t) (iblk0 a V c 4 t) (iblk0 a V c 5 t) (acc0 a V c t.val t.isLt.le).2.1 (acc0 a V c t.val t.isLt.le).2.2 h1 h2 (k0_not_dead _ _ h1)).2.2.2.2 Set.univ _)
  isplitl [HT]; · iexact HT
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [HS0]; · iexact HS0
  isplitl [HS1]; · iexact HS1
  isplitl [HS2]; · iexact HS2
  iintro ⟨HT, H0, H1, H2, H3, H4, H5, ⟨%e0, H6⟩, ⟨%e1, H7⟩, HS0, ⟨%fT1, HS1⟩, ⟨%fT2, HS2⟩⟩
  isplitl [HT HS0 HS1 HS2 HR Hg]
  · isplitl [HT]; · iexact HT
    isplitl [HS0]
    · iexists _; isplitl [HS0]; · iexact HS0
      ipureintro; intro _ _ _; rfl
    isplitl [HS1]
    · iexists _; unfold owns; iexists _; isplitr
      swap; · iexact HS1
      ipureintro; rfl
    isplitl [HS2]
    · iexists _; unfold owns; iexists _; isplitr
      swap; · iexact HS2
      ipureintro; rfl
    isplitl [HR]; · iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_of_cover _ _ _ _ _ (cover0_B_o0 c (grid0.coords t) (Memref.whole main_arg2) (Memref.isWhole_whole _) (ms0_0 a t) (hs0_0 a t) (ms0_1 a t) (hs0_1 a t) (ms0_2 a t) (hs0_2 a t) (ms0_3 a t) (hs0_3 a t) (ms0_4 a t) (hs0_4 a t) (ms0_5 a t) (hs0_5 a t) (ms0_6 a t) (hs0_6 a t) (ms0_7 a t) (hs0_7 a t) (Memref.whole cc0_scratch0) (Memref.isWhole_whole _) (Memref.whole cc0_scratch1) (Memref.isWhole_whole _) (Memref.whole cc0_scratch2) (Memref.isWhole_whole _) (tab0 a) (iblk0 a V c 0 t) (iblk0 a V c 1 t) (iblk0 a V c 2 t) (iblk0 a V c 3 t) (iblk0 a V c 4 t) (iblk0 a V c 5 t) (acc0 a V c t.val t.isLt.le).2.1 (acc0 a V c t.val t.isLt.le).2.2 h1 h2 (k0_not_dead _ _ h1))
  unfold owns; iexists _; isplitr
  swap; · iexact H7
  ipureintro; exact View.read_writes_of_cover _ _ _ _ _ (cover0_B_o1 c (grid0.coords t) (Memref.whole main_arg2) (Memref.isWhole_whole _) (ms0_0 a t) (hs0_0 a t) (ms0_1 a t) (hs0_1 a t) (ms0_2 a t) (hs0_2 a t) (ms0_3 a t) (hs0_3 a t) (ms0_4 a t) (hs0_4 a t) (ms0_5 a t) (hs0_5 a t) (ms0_6 a t) (hs0_6 a t) (ms0_7 a t) (hs0_7 a t) (Memref.whole cc0_scratch0) (Memref.isWhole_whole _) (Memref.whole cc0_scratch1) (Memref.isWhole_whole _) (Memref.whole cc0_scratch2) (Memref.isWhole_whole _) (tab0 a) (iblk0 a V c 0 t) (iblk0 a V c 1 t) (iblk0 a V c 2 t) (iblk0 a V c 3 t) (iblk0 a V c 4 t) (iblk0 a V c 5 t) (acc0 a V c t.val t.isLt.le).2.1 (acc0 a V c t.val t.isLt.le).2.2 h1 h2 (k0_not_dead _ _ h1))

set_option maxHeartbeats 1600000 in
theorem sound0_C (c : Dev nD) (t : Fin (cfg0 a).N) (h1 : ¬k0_cond1 (grid0.coords t) (wd0 a t) = 1#1) :
    bodyPre0 a V c t ⊢ wp frame (wpE (defs₀ (F := F)) Variants.none c none) Set.univ (bodyAt0 a t) (fun _ => bodyPost0 a V c t) := by
  unfold bodyPre0 bodyPost0 bodyAt0
  simp only [before0_0, before0_1, before0_2, before0_3, before0_4, before0_5]
  rw [Phi0_succ, Phi0_castSucc, owes0_succ]
  rw [leaves0_in a V c 0 t (fun _ => rfl), leaves0_in a V c 1 t (fun _ => rfl), leaves0_in a V c 2 t (fun _ => rfl), leaves0_in a V c 3 t (fun _ => rfl), leaves0_in a V c 4 t (fun _ => rfl), leaves0_in a V c 5 t (fun _ => rfl), leaves0_in a V c 6 t (live0_6 a), leaves0_in a V c 7 t (live0_7 a)]
  rw [after0_0, after0_1, after0_2, after0_3, after0_4, after0_5, after0_6, after0_7]
  unfold Phi0 carried0
  rw [acc0_succ, show (⟨t.val, t.isLt⟩ : Fin (cfg0 a).N) = t from rfl, outsAt0_C a V c t h1]
  unfold stepC0; dsimp only
  iintro ⟨⟨HT, ⟨%s0, HS0, %hs0⟩, HS1, HS2, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((run0C c (grid0.coords t) (Memref.whole main_arg2) (Memref.isWhole_whole _) (ms0_0 a t) (hs0_0 a t) (ms0_1 a t) (hs0_1 a t) (ms0_2 a t) (hs0_2 a t) (ms0_3 a t) (hs0_3 a t) (ms0_4 a t) (hs0_4 a t) (ms0_5 a t) (hs0_5 a t) (ms0_6 a t) (hs0_6 a t) (ms0_7 a t) (hs0_7 a t) (Memref.whole cc0_scratch0) (Memref.isWhole_whole _) (Memref.whole cc0_scratch1) (Memref.isWhole_whole _) (Memref.whole cc0_scratch2) (Memref.isWhole_whole _) (tab0 a) (iblk0 a V c 0 t) (iblk0 a V c 1 t) (iblk0 a V c 2 t) (iblk0 a V c 3 t) (iblk0 a V c 4 t) (iblk0 a V c 5 t) h1 ((k0_live_or_dead _ _).resolve_left h1)).2.2 Set.univ _)
  isplitl [HT]; · iexact HT
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨HT, H0, H1, H2, H3, H4, H5, ⟨%e0, H6⟩, ⟨%e1, H7⟩⟩
  isplitl [HT HS0 HS1 HS2 HR Hg]
  · isplitl [HT]; · iexact HT
    isplitl [HS0]
    · iexists s0; isplitl [HS0]; · iexact HS0
      ipureintro; intro hn hm' hl; exact absurd (live_pred0 a ⟨t.val + 1, hn⟩ hm' hl) h1
    isplitl [HS1]; · iexact HS1
    isplitl [HS2]; · iexact HS2
    isplitl [HR]; · iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_of_cover _ _ _ _ _ (cover0_C_o0 c (grid0.coords t) (Memref.whole main_arg2) (Memref.isWhole_whole _) (ms0_0 a t) (hs0_0 a t) (ms0_1 a t) (hs0_1 a t) (ms0_2 a t) (hs0_2 a t) (ms0_3 a t) (hs0_3 a t) (ms0_4 a t) (hs0_4 a t) (ms0_5 a t) (hs0_5 a t) (ms0_6 a t) (hs0_6 a t) (ms0_7 a t) (hs0_7 a t) (Memref.whole cc0_scratch0) (Memref.isWhole_whole _) (Memref.whole cc0_scratch1) (Memref.isWhole_whole _) (Memref.whole cc0_scratch2) (Memref.isWhole_whole _) (tab0 a) (iblk0 a V c 0 t) (iblk0 a V c 1 t) (iblk0 a V c 2 t) (iblk0 a V c 3 t) (iblk0 a V c 4 t) (iblk0 a V c 5 t) h1 ((k0_live_or_dead _ _).resolve_left h1))
  unfold owns; iexists _; isplitr
  swap; · iexact H7
  ipureintro; exact View.read_writes_of_cover _ _ _ _ _ (cover0_C_o1 c (grid0.coords t) (Memref.whole main_arg2) (Memref.isWhole_whole _) (ms0_0 a t) (hs0_0 a t) (ms0_1 a t) (hs0_1 a t) (ms0_2 a t) (hs0_2 a t) (ms0_3 a t) (hs0_3 a t) (ms0_4 a t) (hs0_4 a t) (ms0_5 a t) (hs0_5 a t) (ms0_6 a t) (hs0_6 a t) (ms0_7 a t) (hs0_7 a t) (Memref.whole cc0_scratch0) (Memref.isWhole_whole _) (Memref.whole cc0_scratch1) (Memref.isWhole_whole _) (Memref.whole cc0_scratch2) (Memref.isWhole_whole _) (tab0 a) (iblk0 a V c 0 t) (iblk0 a V c 1 t) (iblk0 a V c 2 t) (iblk0 a V c 3 t) (iblk0 a V c 4 t) (iblk0 a V c 5 t) h1 ((k0_live_or_dead _ _).resolve_left h1))

theorem sound_body0 (c : Dev nD) (t : Fin (cfg0 a).N) :
    bodyPre0 a V c t ⊢ wp frame (wpE (defs₀ (F := F)) Variants.none c none) Set.univ (bodyAt0 a t) (fun _ => bodyPost0 a V c t) := by
  by_cases h1 : k0_cond1 (grid0.coords t) (wd0 a t) = 1#1
  · by_cases h2 : k0_cond2 (grid0.coords t) = 1#1
    · exact sound0_A a V c t h1 h2
    · exact sound0_B a V c t h1 h2
  · exact sound0_C a V c t h1

theorem defs₀_row0 (t : Fin (cfg0 a).N) :
    defs₀ (F := F) .tc (cfg0 a).body ((cfg0 a).bodyArgs t ((cfg0 a).slots t)) = bodyAt0 a t := by
  unfold defs₀; rw [Defs.onTc_tc]

/-- The pipeline's body obligation, at every point. -/
theorem body_obligation0 (c : Dev nD) : BodyObligation (dat0 (F := F) a V c) (defs₀ (F := F)) Variants.none () Set.univ := fun t => by
  rw [bigSep_W0, bigSep_W0, defs₀_row0]
  exact triple_restated (sound_body0 a V c t) rfl .rfl fun _ => .rfl

end Cert.Kernel.Gen

end
-- ==== Proof.Kernel.Defs1.lean ====
module

public import proofs.«01_k».proof.Proof.Gen.Kernel.Launch
public import proofs.«01_k».proof.Proof.Gen.Kernel.Skeleton
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-!
# Call 1: the word of the table that a grid point reads
-/

@[expose] public section

noncomputable section

namespace Cert.Kernel.Gen

open Idealize.ShloMosaic Idealize.ShloMosaic.TcCoe

variable {F : FTy → Type} [FloatOps F]

/-- The word a point of call 1 reads from the table of row counts, as the body's load reads it. -/
abbrev word1 (i : grid1.Coords) (arg3 : Memref sig .tc .smem S4 .i32) (harg3 : arg3.IsWhole) (T : Vec F S4 .i32) : Elt F .i32 :=
  arg3.view.readAt (Elt F) (Rect.unit (s := S4) (k1_off1 i) S1.size (k1_off1_inb i)).toLoadRect (harg3.unread T) (Shape.Idx.first (numel1_S1.symm ▸ Nat.one_pos))

theorem word1_congr (i i' : grid1.Coords) (arg3 : Memref sig .tc .smem S4 .i32) (harg3 : arg3.IsWhole) (T : Vec F S4 .i32)
    (h : k1_off1 i = k1_off1 i') : word1 i arg3 harg3 T = word1 i' arg3 harg3 T := by
  unfold word1
  have key : ∀ (o o' : Fin S4.rank → ℕ) (hoo : o = o') (p : ∀ k, o k + S1.size k ≤ S4.size k) (p' : ∀ k, o' k + S1.size k ≤ S4.size k),
      arg3.view.readAt (Elt F) (Rect.unit (s := S4) o S1.size p).toLoadRect (harg3.unread T) (Shape.Idx.first (numel1_S1.symm ▸ Nat.one_pos))
        = arg3.view.readAt (Elt F) (Rect.unit (s := S4) o' S1.size p').toLoadRect (harg3.unread T) (Shape.Idx.first (numel1_S1.symm ▸ Nat.one_pos)) := by
    rintro o _ rfl p p'; rfl
  exact key _ _ h _ _

end Cert.Kernel.Gen

end
-- ==== Proof.Kernel.Run1A.lean ====
module

public import proofs.«01_k».proof.Proof.Kernel.Defs1

/-!
# The body of call 1, first column tile of a live block
-/

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large: the definition's epilogue walks it past the default budget
set_option maxHeartbeats 1600000 in
/-- What `cc1_down` stores in each buffer it writes, as pieces (last first), at a live block's first column tile, with the proof that from whole buffers the
body runs to its end, leaves the table and the inputs as they were and leaves those pieces. The pieces are the witness
the symbolic run finds. -/
noncomputable def run1A (c : Dev nD) (i : grid1.Coords) (arg3 : Memref sig .tc .smem S4 .i32) (harg3 : arg3.IsWhole) (arg4 : Memref sig .tc .vmem S1x512x2048 .fp8e4m3) (harg4 : arg4.IsWhole) (arg5 : Memref sig .tc .vmem S1x512x16 .f32) (harg5 : arg5.IsWhole) (arg6 : Memref sig .tc .vmem S1x512x2048 .fp8e4m3) (harg6 : arg6.IsWhole) (arg7 : Memref sig .tc .vmem S1x4x1x2048 .bf16) (harg7 : arg7.IsWhole) (arg8 : Memref sig .tc .vmem S1x512x512 .fp8e4m3) (harg8 : arg8.IsWhole) (arg9 : Memref sig .tc .vmem S1x512x56 .f32) (harg9 : arg9.IsWhole) (arg10 : Memref sig .tc .vmem S512x2048 .bf16) (harg10 : arg10.IsWhole) (arg11 : Memref sig .tc .vmem S512x2048 .bf16) (harg11 : arg11.IsWhole)
    (T : Vec F S4 .i32) (x0 : Vec F S1x512x2048 .fp8e4m3) (x1 : Vec F S1x512x16 .f32) (x2 : Vec F S1x512x2048 .fp8e4m3) (x3 : Vec F S1x4x1x2048 .bf16) (hc0 : k1_cond1 i (word1 i arg3 harg3 T) = 1#1) (hc1 : k1_cond2 i = 1#1) (hc2 : ¬k1_cond3 i (word1 i arg3 harg3 T) = 1#1) :
    Σ' (L0 : List (View.Piece (Elt F) S1x512x512 .fp8e4m3)), Σ' (L1 : List (View.Piece (Elt F) S1x512x56 .f32)), Σ' (LS0 : List (View.Piece (Elt F) S512x2048 .bf16)), { LS1 : List (View.Piece (Elt F) S512x2048 .bf16) //
      ∀ (E : Set ℕ) (K : PUnit → sProp 𝕄),
        iprop(owns (c : Thread nD τ) arg3 fullShare T ∗ owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare T ∗ owns (c : Thread nD τ) arg4 fullShare x0 ∗ owns (c : Thread nD τ) arg5 fullShare x1 ∗ owns (c : Thread nD τ) arg6 fullShare x2 ∗ owns (c : Thread nD τ) arg7 fullShare x3 ∗ (∃ f, arg8.view.loc (c : Thread nD τ) ↦[arg8.view.set]{fullShare} arg8.view.writes (Elt F) f L0) ∗ (∃ f, arg9.view.loc (c : Thread nD τ) ↦[arg9.view.set]{fullShare} arg9.view.writes (Elt F) f L1) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1_down i arg3 harg3 arg4 harg4 arg5 harg5 arg6 harg6 arg7 harg7 arg8 harg8 arg9 harg9 arg10 harg10 arg11 harg11) K } := by
  refine ⟨?_, ?_, ?_, ?_, fun E K => ?run⟩
  case run =>
    simp only [cc1_down_eq_skeleton]; unfold cc1_down_skel
    simp only [k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton]
    unfold owns
    iintro ⟨⟨%fT, %hfT, HT⟩, ⟨%f0, %hf0, H0⟩, ⟨%f1, %hf1, H1⟩, ⟨%f2, %hf2, H2⟩, ⟨%f3, %hf3, H3⟩, ⟨%dO0, %fO0, -, HO0⟩, ⟨%dO1, %fO1, -, HO1⟩, ⟨%dS0, %fS0, -, HS0⟩, ⟨%dS1, %fS1, -, HS1⟩, Hk⟩
    obtain rfl := harg3.eq_unread hfT; obtain rfl := harg4.eq_unread hf0; obtain rfl := harg5.eq_unread hf1; obtain rfl := harg6.eq_unread hf2; obtain rfl := harg7.eq_unread hf3
    sl_exec (disch := first | sl_exact hc0 | sl_exact hc1 | sl_exact hc2)
    sl_exec (disch := first | sl_exact hc0 | sl_exact hc1 | sl_exact hc2)
    sl_step
    iapply Hk
    isplitl [HT]
    · iexists _; isplitr; · ipureintro; exact harg3.read_unread _
      iexact HT
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [HO0]
    · iexists _; iexact HO0
    isplitl [HO1]
    · iexists _; iexact HO1
    isplitl [HS0]
    · iexists _; iexact HS0
    iexists _; iexact HS1

end Cert.Kernel.Gen

end
-- ==== Proof.Kernel.Run1B.lean ====
module

public import proofs.«01_k».proof.Proof.Kernel.Defs1

/-!
# The body of call 1, later column tiles of a live block
-/

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large: the definition's epilogue walks it past the default budget
set_option maxHeartbeats 1600000 in
/-- What `cc1_down` stores in each buffer it writes, as pieces (last first), at a live block's later column tiles, with the proof that from whole buffers the
body runs to its end, leaves the table and the inputs as they were and leaves those pieces. The pieces are the witness
the symbolic run finds. -/
noncomputable def run1B (c : Dev nD) (i : grid1.Coords) (arg3 : Memref sig .tc .smem S4 .i32) (harg3 : arg3.IsWhole) (arg4 : Memref sig .tc .vmem S1x512x2048 .fp8e4m3) (harg4 : arg4.IsWhole) (arg5 : Memref sig .tc .vmem S1x512x16 .f32) (harg5 : arg5.IsWhole) (arg6 : Memref sig .tc .vmem S1x512x2048 .fp8e4m3) (harg6 : arg6.IsWhole) (arg7 : Memref sig .tc .vmem S1x4x1x2048 .bf16) (harg7 : arg7.IsWhole) (arg8 : Memref sig .tc .vmem S1x512x512 .fp8e4m3) (harg8 : arg8.IsWhole) (arg9 : Memref sig .tc .vmem S1x512x56 .f32) (harg9 : arg9.IsWhole) (arg10 : Memref sig .tc .vmem S512x2048 .bf16) (harg10 : arg10.IsWhole) (arg11 : Memref sig .tc .vmem S512x2048 .bf16) (harg11 : arg11.IsWhole)
    (T : Vec F S4 .i32) (x0 : Vec F S1x512x2048 .fp8e4m3) (x1 : Vec F S1x512x16 .f32) (x2 : Vec F S1x512x2048 .fp8e4m3) (x3 : Vec F S1x4x1x2048 .bf16) (h : Vec F S1x512x56 .f32) (s0 : Vec F S512x2048 .bf16) (hc0 : k1_cond1 i (word1 i arg3 harg3 T) = 1#1) (hc1 : ¬k1_cond2 i = 1#1) (hc2 : ¬k1_cond3 i (word1 i arg3 harg3 T) = 1#1) :
    Σ' (L0 : List (View.Piece (Elt F) S1x512x512 .fp8e4m3)), Σ' (L1 : List (View.Piece (Elt F) S1x512x56 .f32)), { LS1 : List (View.Piece (Elt F) S512x2048 .bf16) //
      ∀ (E : Set ℕ) (K : PUnit → sProp 𝕄),
        iprop(owns (c : Thread nD τ) arg3 fullShare T ∗ owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ owns (c : Thread nD τ) arg9 fullShare h ∗ owns (c : Thread nD τ) arg10 fullShare s0 ∗ (∃ d, owns (c : Thread nD τ) arg11 fullShare d)
            ∗ (iprop(owns (c : Thread nD τ) arg3 fullShare T ∗ owns (c : Thread nD τ) arg4 fullShare x0 ∗ owns (c : Thread nD τ) arg5 fullShare x1 ∗ owns (c : Thread nD τ) arg6 fullShare x2 ∗ owns (c : Thread nD τ) arg7 fullShare x3 ∗ (∃ f, arg8.view.loc (c : Thread nD τ) ↦[arg8.view.set]{fullShare} arg8.view.writes (Elt F) f L0) ∗ (∃ f, arg9.view.loc (c : Thread nD τ) ↦[arg9.view.set]{fullShare} arg9.view.writes (Elt F) f L1) ∗ owns (c : Thread nD τ) arg10 fullShare s0 ∗ (∃ f, arg11.view.loc (c : Thread nD τ) ↦[arg11.view.set]{fullShare} arg11.view.writes (Elt F) f LS1)) -∗ K ⟨⟩))
          ⊢ wp frame (wpE (defs₀ (F := F)) Variants.none c none) E (cc1_down i arg3 harg3 arg4 harg4 arg5 harg5 arg6 harg6 arg7 harg7 arg8 harg8 arg9 harg9 arg10 harg10 arg11 harg11) K } := by
  refine ⟨?_, ?_, ?_, fun E K => ?run⟩
  case run =>
    simp only [cc1_down_eq_skeleton]; unfold cc1_down_skel
    simp only [k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton]
    unfold owns
    iintro ⟨⟨%fT, %hfT, HT⟩, ⟨%f0, %hf0, H0⟩, ⟨%f1, %hf1, H1⟩, ⟨%f2, %hf2, H2⟩, ⟨%f3, %hf3, H3⟩, ⟨%dO0, %fO0, -, HO0⟩, ⟨%fO1, %hfO1, HO1⟩, ⟨%fS0, %hfS0, HS0⟩, ⟨%dS1, %fS1, -, HS1⟩, Hk⟩
    obtain rfl := harg3.eq_unread hfT; obtain rfl := harg4.eq_unread hf0; obtain rfl := harg5.eq_unread hf1; obtain rfl := harg6.eq_unread hf2; obtain rfl := harg7.eq_unread hf3; obtain rfl := harg9.eq_unread hfO1; obtain rfl := harg10.eq_unread hfS0
    sl_exec (disch := first | sl_exact hc0 | sl_exact hc1 | sl_exact hc2)
    sl_step
    iapply Hk
    isplitl [HT]
    · iexists _; isplitr; · ipureintro; exact harg3.read_unread _
      iexact HT
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [HO0]
    · iexists _; iexact HO0
    isplitl [HO1]
    · iexists _; iexact HO1
    isplitl [HS0]
    · iexists _; isplitr; · ipureintro; exact harg10.read_unread _
      iexact HS0
    iexists _; iexact HS1

end Cert.Kernel.Gen

end
-- ==== Proof.Kernel.Run1C.lean ====
module

public import proofs.«01_k».proof.Proof.Kernel.Defs1

/-!
# The body of call 1, dead block
-/

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large: the definition's epilogue walks it past the default budget
set_option maxHeartbeats 1600000 in
/-- What `cc1_down` stores in each buffer it writes, as pieces (last first), at a dead block, with the proof that from whole buffers the
body runs to its end, leaves the table and the inputs as they were and leaves those pieces. The pieces are the witness
the symbolic run finds. -/
noncomputable def run1C (c : Dev nD) (i : grid1.Coords) (arg3 : Memref sig .tc .smem S4 .i32) (harg3 : arg3.IsWhole) (arg4 : Memref sig .tc .vmem S1x512x2048 .fp8e4m3) (harg4 : arg4.IsWhole) (arg5 : Memref sig .tc .vmem S1x512x16 .f32) (harg5 : arg5.IsWhole) (arg6 : Memref sig .tc .vmem S1x512x2048 .fp8e4m3) (harg6 : arg6.IsWhole) (arg7 : Memref sig .tc .vmem S1x4x1x2048 .bf16) (harg7 : arg7.IsWhole) (arg8 : Memref sig .tc .vmem S1x512x512 .fp8e4m3) (harg8 : arg8.IsWhole) (arg9 : Memref sig .tc .vmem S1x512x56 .f32) (harg9 : arg9.IsWhole) (arg10 : Memref sig .tc .vmem S512x2048 .bf16) (harg10 : arg10.IsWhole) (arg11 : Memref sig .tc .vmem S512x2048 .bf16) (harg11 : arg11.IsWhole)
    (T : Vec F S4 .i32) (x0 : Vec F S1x512x2048 .fp8e4m3) (x1 : Vec F S1x512x16 .f32) (x2 : Vec F S1x512x2048 .fp8e4m3) (x3 : Vec F S1x4x1x2048 .bf16) (hc0 : ¬k1_cond1 i (word1 i arg3 harg3 T) = 1#1) (hc2 : k1_cond3 i (word1 i arg3 harg3 T) = 1#1) :
    Σ' (L0 : List (View.Piece (Elt F) S1x512x512 .fp8e4m3)), { L1 : List (View.Piece (Elt F) S1x512x56 .f32) //
      ∀ (E : Set ℕ) (K : PUnit → sProp 𝕄),
        iprop(owns (c : Thread nD τ) arg3 fullShare T ∗ owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ (∃ d, owns (c : Thread nD τ) arg9 fullShare d)
            ∗ (iprop(owns (c : Thread nD τ) arg3 fullShare T ∗ owns (c : Thread nD τ) arg4 fullShare x0 ∗ owns (c : Thread nD τ) arg5 fullShare x1 ∗ owns (c : Thread nD τ) arg6 fullShare x2 ∗ owns (c : Thread nD τ) arg7 fullShare x3 ∗ (∃ f, arg8.view.loc (c : Thread nD τ) ↦[arg8.view.set]{fullShare} arg8.view.writes (Elt F) f L0) ∗ (∃ f, arg9.view.loc (c : Thread nD τ) ↦[arg9.view.set]{fullShare} arg9.view.writes (Elt F) f L1)) -∗ K ⟨⟩))
          ⊢ wp frame (wpE (defs₀ (F := F)) Variants.none c none) E (cc1_down i arg3 harg3 arg4 harg4 arg5 harg5 arg6 harg6 arg7 harg7 arg8 harg8 arg9 harg9 arg10 harg10 arg11 harg11) K } := by
  refine ⟨?_, ?_, fun E K => ?run⟩
  case run =>
    simp only [cc1_down_eq_skeleton]; unfold cc1_down_skel
    simp only [k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton]
    unfold owns
    iintro ⟨⟨%fT, %hfT, HT⟩, ⟨%f0, %hf0, H0⟩, ⟨%f1, %hf1, H1⟩, ⟨%f2, %hf2, H2⟩, ⟨%f3, %hf3, H3⟩, ⟨%dO0, %fO0, -, HO0⟩, ⟨%dO1, %fO1, -, HO1⟩, Hk⟩
    obtain rfl := harg3.eq_unread hfT; obtain rfl := harg4.eq_unread hf0; obtain rfl := harg5.eq_unread hf1; obtain rfl := harg6.eq_unread hf2; obtain rfl := harg7.eq_unread hf3
    sl_exec (disch := first | sl_exact hc0 | sl_exact hc2)
    sl_step
    iapply Hk
    isplitl [HT]
    · iexists _; isplitr; · ipureintro; exact harg3.read_unread _
      iexact HT
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [HO0]
    · iexists _; iexact HO0
    iexists _; iexact HO1

end Cert.Kernel.Gen

end
-- ==== Proof.Kernel.Data1.lean ====
module

public import proofs.«01_k».proof.Proof.Kernel.Run1A
public import proofs.«01_k».proof.Proof.Kernel.Run1B
public import proofs.«01_k».proof.Proof.Kernel.Run1C

/-!
# Call 1: what each grid point leaves
-/

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfg1 (F := F)).Adm)
variable (V : (c : Dev nD) → (b : Ref sig .tc) → Buf (Elt F) ((c : Thread nD τ).loc b))

/-- The table's contents. -/
abbrev tab1 : Vec F S4 .i32 := a.1 0

/-- The word of the table the body reads at point `t`. -/
abbrev wd1 (t : Fin (cfg1 a).N) : Elt F .i32 := word1 (grid1.coords t) (Memref.whole main_arg2) (Memref.isWhole_whole _) (tab1 a)

/-! ## A block is either live or dead -/

theorem k1_live_or_dead (i : grid1.Coords) (w : BitVec 32) : k1_cond1 i w = 1#1 ∨ k1_cond3 i w = 1#1 := by
  unfold k1_cond1 k1_cond3; dsimp only
  generalize Scalar.subi w _ = z
  by_cases h : (0#32).slt z = true
  · left; simp [Scalar.cmpi, IntOp.cmpi, Scalar.extui, h]
  · right; simp [Scalar.cmpi, IntOp.cmpi, Scalar.extui, h, BitVec.sle_eq_not_slt]

theorem k1_not_dead (i : grid1.Coords) (w : BitVec 32) (h1 : k1_cond1 i w = 1#1) : ¬k1_cond3 i w = 1#1 := by
  revert h1; unfold k1_cond1 k1_cond3; dsimp only
  generalize Scalar.subi w _ = z
  by_cases h : (0#32).slt z = true
  · simp [Scalar.cmpi, IntOp.cmpi, Scalar.extui, h, BitVec.sle_eq_not_slt]
  · simp [Scalar.cmpi, IntOp.cmpi, Scalar.extui, h]

/-- No window is ever idle: every point stores both outputs. -/
theorem live1_4 (i : grid1.Coords) : (cfg1 a).idle 4 i = false := by
  change (!(k1_cond1 i _ == 1#1) && !(k1_cond3 i _ == 1#1)) = false
  rcases k1_live_or_dead i (a.1.atD 0 (k1_off1 i)) with h | h <;> simp [h]
theorem live1_5 (i : grid1.Coords) : (cfg1 a).idle 5 i = false := by
  change (!(k1_cond1 i _ == 1#1 && k1_cond2 i == 1#1) && !(k1_cond1 i _ == 1#1) && !(k1_cond3 i _ == 1#1)) = false
  rcases k1_live_or_dead i (a.1.atD 0 (k1_off1 i)) with h | h <;> simp [h]

theorem hcond1 : ∀ t : Fin (cfg1 a).N, k1_cond2 (grid1.coords t) = 1#1 ↔ t.val % 14 = 0 :=
  (by decide +kernel : ∀ t : Fin grid1.N, k1_cond2 (grid1.coords t) = 1#1 ↔ t.val % 14 = 0)

/-- Column tiles of one row block read one word, and so are all live or all dead. -/
theorem live_pred1 (t : Fin (cfg1 a).N) (ht : t.val % 14 ≠ 0) (h : k1_cond1 (grid1.coords t) (wd1 a t) = 1#1) :
    k1_cond1 (grid1.coords ⟨t.val - 1, Nat.lt_of_le_of_lt (Nat.sub_le _ _) t.isLt⟩) (wd1 a ⟨t.val - 1, Nat.lt_of_le_of_lt (Nat.sub_le _ _) t.isLt⟩) = 1#1 := by
  have hc := (by decide +kernel : ∀ u : Fin grid1.N, u.val % 14 ≠ 0 →
    (grid1.coords ⟨u.val - 1, Nat.lt_of_le_of_lt (Nat.sub_le _ _) u.isLt⟩ 0).val = (grid1.coords u 0).val
    ∧ (grid1.coords ⟨u.val - 1, Nat.lt_of_le_of_lt (Nat.sub_le _ _) u.isLt⟩ 1).val = (grid1.coords u 1).val) t ht
  have ho : k1_off1 (grid1.coords ⟨t.val - 1, Nat.lt_of_le_of_lt (Nat.sub_le _ _) t.isLt⟩) = k1_off1 (grid1.coords t) := by
    unfold k1_off1; simp only [hc.1]
  have hw : wd1 a ⟨t.val - 1, Nat.lt_of_le_of_lt (Nat.sub_le _ _) t.isLt⟩ = wd1 a t := word1_congr _ _ _ _ _ ho
  rw [hw]; unfold k1_cond1 at h ⊢; simp only [hc.2]; exact h

/-! ## The windows' blocks and staging buffers -/

/-- Window `w`'s block at point `t`, read off its array as the region finds it (`V`). -/
def iblk1 (c : Dev nD) (w : Fin (cfg1 a).W) (t : Fin (cfg1 a).N) : (((cfg1 a).win w).xblock ((cfg1 a).grid.coords t)).Idx → Elt F ((cfg1 a).win w).elt :=
  (((cfg1 a).win w).blk t).view.read (Elt F) (V c (Pipeline.arrRef spec1 w))

theorem before1_0_of {c : Dev nD} (dat : Dat τ (Elt F) Unit ℕ (UR sig nD τ) ℕ (cfg1 a) c) (hA : dat.A 0 = V c (Pipeline.arrRef spec1 0))
    (hafter : ∀ t, dat.after 0 t = iblk1 a V c 0 t) (t : Fin (cfg1 a).N) (d) : dat.before 0 t d = iblk1 a V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ (cfg1 a) c) (hA : dat.A 1 = V c (Pipeline.arrRef spec1 1))
    (hafter : ∀ t, dat.after 1 t = iblk1 a V c 1 t) (t : Fin (cfg1 a).N) (d) : dat.before 1 t d = iblk1 a V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ (cfg1 a) c) (hA : dat.A 2 = V c (Pipeline.arrRef spec1 2))
    (hafter : ∀ t, dat.after 2 t = iblk1 a V c 2 t) (t : Fin (cfg1 a).N) (d) : dat.before 2 t d = iblk1 a V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ (cfg1 a) c) (hA : dat.A 3 = V c (Pipeline.arrRef spec1 3))
    (hafter : ∀ t, dat.after 3 t = iblk1 a V c 3 t) (t : Fin (cfg1 a).N) (d) : dat.before 3 t d = iblk1 a V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
abbrev ms1_0 (t : Fin (cfg1 a).N) := spec1_0.stage ((cfg1 a).slots t 0)
theorem hs1_0 (t : Fin (cfg1 a).N) : (ms1_0 a t).IsWhole := hstage1_0 (((cfg1 a).slots t 0).cast nbuf1_0)
abbrev ms1_1 (t : Fin (cfg1 a).N) := spec1_1.stage ((cfg1 a).slots t 1)
theorem hs1_1 (t : Fin (cfg1 a).N) : (ms1_1 a t).IsWhole := hstage1_1 (((cfg1 a).slots t 1).cast nbuf1_1)
abbrev ms1_2 (t : Fin (cfg1 a).N) := spec1_2.stage ((cfg1 a).slots t 2)
theorem hs1_2 (t : Fin (cfg1 a).N) : (ms1_2 a t).IsWhole := hstage1_2 (((cfg1 a).slots t 2).cast nbuf1_2)
abbrev ms1_3 (t : Fin (cfg1 a).N) := spec1_3.stage ((cfg1 a).slots t 3)
theorem hs1_3 (t : Fin (cfg1 a).N) : (ms1_3 a t).IsWhole := hstage1_3 (((cfg1 a).slots t 3).cast nbuf1_3)
abbrev ms1_4 (t : Fin (cfg1 a).N) := spec1_4.stage ((cfg1 a).slots t 4)
theorem hs1_4 (t : Fin (cfg1 a).N) : (ms1_4 a t).IsWhole := hstage1_4 (((cfg1 a).slots t 4).cast nbuf1_4)
abbrev ms1_5 (t : Fin (cfg1 a).N) := spec1_5.stage ((cfg1 a).slots t 5)
theorem hs1_5 (t : Fin (cfg1 a).N) : (ms1_5 a t).IsWhole := hstage1_5 (((cfg1 a).slots t 5).cast nbuf1_5)
abbrev scM1_0 := Memref.whole cc1_scratch0
abbrev scM1_1 := Memref.whole cc1_scratch1

/-! ## The stores of each case cover the buffers they go to -/

abbrev VO1_4 := (Memref.whole cc1_stg4_0).view
abbrev VO1_5 := (Memref.whole cc1_stg5_0).view
abbrev VS1 := (Memref.whole cc1_scratch0).view

theorem cover1_A_o0 (c : Dev nD) (i : grid1.Coords) (arg3 : Memref sig .tc .smem S4 .i32) (harg3 : arg3.IsWhole) (arg4 : Memref sig .tc .vmem S1x512x2048 .fp8e4m3) (harg4 : arg4.IsWhole) (arg5 : Memref sig .tc .vmem S1x512x16 .f32) (harg5 : arg5.IsWhole) (arg6 : Memref sig .tc .vmem S1x512x2048 .fp8e4m3) (harg6 : arg6.IsWhole) (arg7 : Memref sig .tc .vmem S1x4x1x2048 .bf16) (harg7 : arg7.IsWhole) (arg8 : Memref sig .tc .vmem S1x512x512 .fp8e4m3) (harg8 : arg8.IsWhole) (arg9 : Memref sig .tc .vmem S1x512x56 .f32) (harg9 : arg9.IsWhole) (arg10 : Memref sig .tc .vmem S512x2048 .bf16) (harg10 : arg10.IsWhole) (arg11 : Memref sig .tc .vmem S512x2048 .bf16) (harg11 : arg11.IsWhole) (T : Vec F S4 .i32) (x0 : Vec F S1x512x2048 .fp8e4m3) (x1 : Vec F S1x512x16 .f32) (x2 : Vec F S1x512x2048 .fp8e4m3) (x3 : Vec F S1x4x1x2048 .bf16) (hc0 : k1_cond1 i (word1 i arg3 harg3 T) = 1#1) (hc1 : k1_cond2 i = 1#1) (hc2 : ¬k1_cond3 i (word1 i arg3 harg3 T) = 1#1) :
    ∀ y : Shape.Idx S1x512x512, ∃ p ∈ (run1A c i arg3 harg3 arg4 harg4 arg5 harg5 arg6 harg6 arg7 harg7 arg8 harg8 arg9 harg9 arg10 harg10 arg11 harg11 T x0 x1 x2 x3 hc0 hc1 hc2).1, y ∈ p.1.set := fun y => View.cover_of_tiledL
  ((run1A c i arg3 harg3 arg4 harg4 arg5 harg5 arg6 harg6 arg7 harg7 arg8 harg8 arg9 harg9 arg10 harg10 arg11 harg11 T x0 x1 x2 x3 hc0 hc1 hc2).1) S1x512x128.size (by sl_kernel_rfl) y
theorem cover1_A_o1 (c : Dev nD) (i : grid1.Coords) (arg3 : Memref sig .tc .smem S4 .i32) (harg3 : arg3.IsWhole) (arg4 : Memref sig .tc .vmem S1x512x2048 .fp8e4m3) (harg4 : arg4.IsWhole) (arg5 : Memref sig .tc .vmem S1x512x16 .f32) (harg5 : arg5.IsWhole) (arg6 : Memref sig .tc .vmem S1x512x2048 .fp8e4m3) (harg6 : arg6.IsWhole) (arg7 : Memref sig .tc .vmem S1x4x1x2048 .bf16) (harg7 : arg7.IsWhole) (arg8 : Memref sig .tc .vmem S1x512x512 .fp8e4m3) (harg8 : arg8.IsWhole) (arg9 : Memref sig .tc .vmem S1x512x56 .f32) (harg9 : arg9.IsWhole) (arg10 : Memref sig .tc .vmem S512x2048 .bf16) (harg10 : arg10.IsWhole) (arg11 : Memref sig .tc .vmem S512x2048 .bf16) (harg11 : arg11.IsWhole) (T : Vec F S4 .i32) (x0 : Vec F S1x512x2048 .fp8e4m3) (x1 : Vec F S1x512x16 .f32) (x2 : Vec F S1x512x2048 .fp8e4m3) (x3 : Vec F S1x4x1x2048 .bf16) (hc0 : k1_cond1 i (word1 i arg3 harg3 T) = 1#1) (hc1 : k1_cond2 i = 1#1) (hc2 : ¬k1_cond3 i (word1 i arg3 harg3 T) = 1#1) :
    ∀ y : Shape.Idx S1x512x56, ∃ p ∈ (run1A c i arg3 harg3 arg4 harg4 arg5 harg5 arg6 harg6 arg7 harg7 arg8 harg8 arg9 harg9 arg10 harg10 arg11 harg11 T x0 x1 x2 x3 hc0 hc1 hc2).2.1, y ∈ p.1.set := fun y => View.cover_of_tiledL
  ((run1A c i arg3 harg3 arg4 harg4 arg5 harg5 arg6 harg6 arg7 harg7 arg8 harg8 arg9 harg9 arg10 harg10 arg11 harg11 T x0 x1 x2 x3 hc0 hc1 hc2).2.1) S1x512x56.size (by sl_kernel_rfl) y
theorem cover1_A_s0 (c : Dev nD) (i : grid1.Coords) (arg3 : Memref sig .tc .smem S4 .i32) (harg3 : arg3.IsWhole) (arg4 : Memref sig .tc .vmem S1x512x2048 .fp8e4m3) (harg4 : arg4.IsWhole) (arg5 : Memref sig .tc .vmem S1x512x16 .f32) (harg5 : arg5.IsWhole) (arg6 : Memref sig .tc .vmem S1x512x2048 .fp8e4m3) (harg6 : arg6.IsWhole) (arg7 : Memref sig .tc .vmem S1x4x1x2048 .bf16) (harg7 : arg7.IsWhole) (arg8 : Memref sig .tc .vmem S1x512x512 .fp8e4m3) (harg8 : arg8.IsWhole) (arg9 : Memref sig .tc .vmem S1x512x56 .f32) (harg9 : arg9.IsWhole) (arg10 : Memref sig .tc .vmem S512x2048 .bf16) (harg10 : arg10.IsWhole) (arg11 : Memref sig .tc .vmem S512x2048 .bf16) (harg11 : arg11.IsWhole) (T : Vec F S4 .i32) (x0 : Vec F S1x512x2048 .fp8e4m3) (x1 : Vec F S1x512x16 .f32) (x2 : Vec F S1x512x2048 .fp8e4m3) (x3 : Vec F S1x4x1x2048 .bf16) (hc0 : k1_cond1 i (word1 i arg3 harg3 T) = 1#1) (hc1 : k1_cond2 i = 1#1) (hc2 : ¬k1_cond3 i (word1 i arg3 harg3 T) = 1#1) :
    ∀ y : Shape.Idx S512x2048, ∃ p ∈ (run1A c i arg3 harg3 arg4 harg4 arg5 harg5 arg6 harg6 arg7 harg7 arg8 harg8 arg9 harg9 arg10 harg10 arg11 harg11 T x0 x1 x2 x3 hc0 hc1 hc2).2.2.1, y ∈ p.1.set := fun y => View.cover_of_tiledL
  ((run1A c i arg3 harg3 arg4 harg4 arg5 harg5 arg6 harg6 arg7 harg7 arg8 harg8 arg9 harg9 arg10 harg10 arg11 harg11 T x0 x1 x2 x3 hc0 hc1 hc2).2.2.1) S512x128.size (by sl_kernel_rfl) y
theorem cover1_B_o0 (c : Dev nD) (i : grid1.Coords) (arg3 : Memref sig .tc .smem S4 .i32) (harg3 : arg3.IsWhole) (arg4 : Memref sig .tc .vmem S1x512x2048 .fp8e4m3) (harg4 : arg4.IsWhole) (arg5 : Memref sig .tc .vmem S1x512x16 .f32) (harg5 : arg5.IsWhole) (arg6 : Memref sig .tc .vmem S1x512x2048 .fp8e4m3) (harg6 : arg6.IsWhole) (arg7 : Memref sig .tc .vmem S1x4x1x2048 .bf16) (harg7 : arg7.IsWhole) (arg8 : Memref sig .tc .vmem S1x512x512 .fp8e4m3) (harg8 : arg8.IsWhole) (arg9 : Memref sig .tc .vmem S1x512x56 .f32) (harg9 : arg9.IsWhole) (arg10 : Memref sig .tc .vmem S512x2048 .bf16) (harg10 : arg10.IsWhole) (arg11 : Memref sig .tc .vmem S512x2048 .bf16) (harg11 : arg11.IsWhole) (T : Vec F S4 .i32) (x0 : Vec F S1x512x2048 .fp8e4m3) (x1 : Vec F S1x512x16 .f32) (x2 : Vec F S1x512x2048 .fp8e4m3) (x3 : Vec F S1x4x1x2048 .bf16) (h : Vec F S1x512x56 .f32) (s0 : Vec F S512x2048 .bf16) (hc0 : k1_cond1 i (word1 i arg3 harg3 T) = 1#1) (hc1 : ¬k1_cond2 i = 1#1) (hc2 : ¬k1_cond3 i (word1 i arg3 harg3 T) = 1#1) :
    ∀ y : Shape.Idx S1x512x512, ∃ p ∈ (run1B c i arg3 harg3 arg4 harg4 arg5 harg5 arg6 harg6 arg7 harg7 arg8 harg8 arg9 harg9 arg10 harg10 arg11 harg11 T x0 x1 x2 x3 h s0 hc0 hc1 hc2).1, y ∈ p.1.set := fun y => View.cover_of_tiledL
  ((run1B c i arg3 harg3 arg4 harg4 arg5 harg5 arg6 harg6 arg7 harg7 arg8 harg8 arg9 harg9 arg10 harg10 arg11 harg11 T x0 x1 x2 x3 h s0 hc0 hc1 hc2).1) S1x512x128.size (by sl_kernel_rfl) y
theorem cover1_B_o1 (c : Dev nD) (i : grid1.Coords) (arg3 : Memref sig .tc .smem S4 .i32) (harg3 : arg3.IsWhole) (arg4 : Memref sig .tc .vmem S1x512x2048 .fp8e4m3) (harg4 : arg4.IsWhole) (arg5 : Memref sig .tc .vmem S1x512x16 .f32) (harg5 : arg5.IsWhole) (arg6 : Memref sig .tc .vmem S1x512x2048 .fp8e4m3) (harg6 : arg6.IsWhole) (arg7 : Memref sig .tc .vmem S1x4x1x2048 .bf16) (harg7 : arg7.IsWhole) (arg8 : Memref sig .tc .vmem S1x512x512 .fp8e4m3) (harg8 : arg8.IsWhole) (arg9 : Memref sig .tc .vmem S1x512x56 .f32) (harg9 : arg9.IsWhole) (arg10 : Memref sig .tc .vmem S512x2048 .bf16) (harg10 : arg10.IsWhole) (arg11 : Memref sig .tc .vmem S512x2048 .bf16) (harg11 : arg11.IsWhole) (T : Vec F S4 .i32) (x0 : Vec F S1x512x2048 .fp8e4m3) (x1 : Vec F S1x512x16 .f32) (x2 : Vec F S1x512x2048 .fp8e4m3) (x3 : Vec F S1x4x1x2048 .bf16) (h : Vec F S1x512x56 .f32) (s0 : Vec F S512x2048 .bf16) (hc0 : k1_cond1 i (word1 i arg3 harg3 T) = 1#1) (hc1 : ¬k1_cond2 i = 1#1) (hc2 : ¬k1_cond3 i (word1 i arg3 harg3 T) = 1#1) :
    ∀ y : Shape.Idx S1x512x56, ∃ p ∈ (run1B c i arg3 harg3 arg4 harg4 arg5 harg5 arg6 harg6 arg7 harg7 arg8 harg8 arg9 harg9 arg10 harg10 arg11 harg11 T x0 x1 x2 x3 h s0 hc0 hc1 hc2).2.1, y ∈ p.1.set := fun y => View.cover_of_tiledL
  ((run1B c i arg3 harg3 arg4 harg4 arg5 harg5 arg6 harg6 arg7 harg7 arg8 harg8 arg9 harg9 arg10 harg10 arg11 harg11 T x0 x1 x2 x3 h s0 hc0 hc1 hc2).2.1) S1x512x56.size (by sl_kernel_rfl) y
theorem cover1_C_o0 (c : Dev nD) (i : grid1.Coords) (arg3 : Memref sig .tc .smem S4 .i32) (harg3 : arg3.IsWhole) (arg4 : Memref sig .tc .vmem S1x512x2048 .fp8e4m3) (harg4 : arg4.IsWhole) (arg5 : Memref sig .tc .vmem S1x512x16 .f32) (harg5 : arg5.IsWhole) (arg6 : Memref sig .tc .vmem S1x512x2048 .fp8e4m3) (harg6 : arg6.IsWhole) (arg7 : Memref sig .tc .vmem S1x4x1x2048 .bf16) (harg7 : arg7.IsWhole) (arg8 : Memref sig .tc .vmem S1x512x512 .fp8e4m3) (harg8 : arg8.IsWhole) (arg9 : Memref sig .tc .vmem S1x512x56 .f32) (harg9 : arg9.IsWhole) (arg10 : Memref sig .tc .vmem S512x2048 .bf16) (harg10 : arg10.IsWhole) (arg11 : Memref sig .tc .vmem S512x2048 .bf16) (harg11 : arg11.IsWhole) (T : Vec F S4 .i32) (x0 : Vec F S1x512x2048 .fp8e4m3) (x1 : Vec F S1x512x16 .f32) (x2 : Vec F S1x512x2048 .fp8e4m3) (x3 : Vec F S1x4x1x2048 .bf16) (hc0 : ¬k1_cond1 i (word1 i arg3 harg3 T) = 1#1) (hc2 : k1_cond3 i (word1 i arg3 harg3 T) = 1#1) :
    ∀ y : Shape.Idx S1x512x512, ∃ p ∈ (run1C c i arg3 harg3 arg4 harg4 arg5 harg5 arg6 harg6 arg7 harg7 arg8 harg8 arg9 harg9 arg10 harg10 arg11 harg11 T x0 x1 x2 x3 hc0 hc2).1, y ∈ p.1.set := fun y => View.cover_of_tiledL
  ((run1C c i arg3 harg3 arg4 harg4 arg5 harg5 arg6 harg6 arg7 harg7 arg8 harg8 arg9 harg9 arg10 harg10 arg11 harg11 T x0 x1 x2 x3 hc0 hc2).1) S1x512x512.size (by sl_kernel_rfl) y
theorem cover1_C_o1 (c : Dev nD) (i : grid1.Coords) (arg3 : Memref sig .tc .smem S4 .i32) (harg3 : arg3.IsWhole) (arg4 : Memref sig .tc .vmem S1x512x2048 .fp8e4m3) (harg4 : arg4.IsWhole) (arg5 : Memref sig .tc .vmem S1x512x16 .f32) (harg5 : arg5.IsWhole) (arg6 : Memref sig .tc .vmem S1x512x2048 .fp8e4m3) (harg6 : arg6.IsWhole) (arg7 : Memref sig .tc .vmem S1x4x1x2048 .bf16) (harg7 : arg7.IsWhole) (arg8 : Memref sig .tc .vmem S1x512x512 .fp8e4m3) (harg8 : arg8.IsWhole) (arg9 : Memref sig .tc .vmem S1x512x56 .f32) (harg9 : arg9.IsWhole) (arg10 : Memref sig .tc .vmem S512x2048 .bf16) (harg10 : arg10.IsWhole) (arg11 : Memref sig .tc .vmem S512x2048 .bf16) (harg11 : arg11.IsWhole) (T : Vec F S4 .i32) (x0 : Vec F S1x512x2048 .fp8e4m3) (x1 : Vec F S1x512x16 .f32) (x2 : Vec F S1x512x2048 .fp8e4m3) (x3 : Vec F S1x4x1x2048 .bf16) (hc0 : ¬k1_cond1 i (word1 i arg3 harg3 T) = 1#1) (hc2 : k1_cond3 i (word1 i arg3 harg3 T) = 1#1) :
    ∀ y : Shape.Idx S1x512x56, ∃ p ∈ (run1C c i arg3 harg3 arg4 harg4 arg5 harg5 arg6 harg6 arg7 harg7 arg8 harg8 arg9 harg9 arg10 harg10 arg11 harg11 T x0 x1 x2 x3 hc0 hc2).2.1, y ∈ p.1.set := fun y => View.cover_of_tiledL
  ((run1C c i arg3 harg3 arg4 harg4 arg5 harg5 arg6 harg6 arg7 harg7 arg8 harg8 arg9 harg9 arg10 harg10 arg11 harg11 T x0 x1 x2 x3 hc0 hc2).2.1) S1x512x56.size (by sl_kernel_rfl) y

/-! ## What each point leaves: the two outputs' buffers and the carried scratch -/

/-- What the outputs' buffers and the carried scratch hold. -/
abbrev St1 (F : FTy → Type) := Vec F S1x512x512 .fp8e4m3 × Vec F S1x512x56 .f32 × Vec F S512x2048 .bf16

/-- The first column tile of a live block. -/
def stepA1 (c : Dev nD) (t : Fin (cfg1 a).N) (h1 : k1_cond1 (grid1.coords t) (wd1 a t) = 1#1) (h2 : k1_cond2 (grid1.coords t) = 1#1) : St1 F :=
  (VO1_4.read (Elt F) (VO1_4.writes (Elt F) VO1_4.junk (run1A c (grid1.coords t) (Memref.whole main_arg2) (Memref.isWhole_whole _) (ms1_0 a t) (hs1_0 a t) (ms1_1 a t) (hs1_1 a t) (ms1_2 a t) (hs1_2 a t) (ms1_3 a t) (hs1_3 a t) (ms1_4 a t) (hs1_4 a t) (ms1_5 a t) (hs1_5 a t) (Memref.whole cc1_scratch0) (Memref.isWhole_whole _) (Memref.whole cc1_scratch1) (Memref.isWhole_whole _) (tab1 a) (iblk1 a V c 0 t) (iblk1 a V c 1 t) (iblk1 a V c 2 t) (iblk1 a V c 3 t) h1 h2 (k1_not_dead _ _ h1)).1),
   VO1_5.read (Elt F) (VO1_5.writes (Elt F) VO1_5.junk (run1A c (grid1.coords t) (Memref.whole main_arg2) (Memref.isWhole_whole _) (ms1_0 a t) (hs1_0 a t) (ms1_1 a t) (hs1_1 a t) (ms1_2 a t) (hs1_2 a t) (ms1_3 a t) (hs1_3 a t) (ms1_4 a t) (hs1_4 a t) (ms1_5 a t) (hs1_5 a t) (Memref.whole cc1_scratch0) (Memref.isWhole_whole _) (Memref.whole cc1_scratch1) (Memref.isWhole_whole _) (tab1 a) (iblk1 a V c 0 t) (iblk1 a V c 1 t) (iblk1 a V c 2 t) (iblk1 a V c 3 t) h1 h2 (k1_not_dead _ _ h1)).2.1),
   VS1.read (Elt F) (VS1.writes (Elt F) VS1.junk (run1A c (grid1.coords t) (Memref.whole main_arg2) (Memref.isWhole_whole _) (ms1_0 a t) (hs1_0 a t) (ms1_1 a t) (hs1_1 a t) (ms1_2 a t) (hs1_2 a t) (ms1_3 a t) (hs1_3 a t) (ms1_4 a t) (hs1_4 a t) (ms1_5 a t) (hs1_5 a t) (Memref.whole cc1_scratch0) (Memref.isWhole_whole _) (Memref.whole cc1_scratch1) (Memref.isWhole_whole _) (tab1 a) (iblk1 a V c 0 t) (iblk1 a V c 1 t) (iblk1 a V c 2 t) (iblk1 a V c 3 t) h1 h2 (k1_not_dead _ _ h1)).2.2.1))
/-- A later column tile of a live block: the carried scratch stays. -/
def stepB1 (c : Dev nD) (t : Fin (cfg1 a).N) (h1 : k1_cond1 (grid1.coords t) (wd1 a t) = 1#1) (h2 : ¬k1_cond2 (grid1.coords t) = 1#1) (acc : St1 F) : St1 F :=
  (VO1_4.read (Elt F) (VO1_4.writes (Elt F) VO1_4.junk (run1B c (grid1.coords t) (Memref.whole main_arg2) (Memref.isWhole_whole _) (ms1_0 a t) (hs1_0 a t) (ms1_1 a t) (hs1_1 a t) (ms1_2 a t) (hs1_2 a t) (ms1_3 a t) (hs1_3 a t) (ms1_4 a t) (hs1_4 a t) (ms1_5 a t) (hs1_5 a t) (Memref.whole cc1_scratch0) (Memref.isWhole_whole _) (Memref.whole cc1_scratch1) (Memref.isWhole_whole _) (tab1 a) (iblk1 a V c 0 t) (iblk1 a V c 1 t) (iblk1 a V c 2 t) (iblk1 a V c 3 t) acc.2.1 acc.2.2 h1 h2 (k1_not_dead _ _ h1)).1),
   VO1_5.read (Elt F) (VO1_5.writes (Elt F) VO1_5.junk (run1B c (grid1.coords t) (Memref.whole main_arg2) (Memref.isWhole_whole _) (ms1_0 a t) (hs1_0 a t) (ms1_1 a t) (hs1_1 a t) (ms1_2 a t) (hs1_2 a t) (ms1_3 a t) (hs1_3 a t) (ms1_4 a t) (hs1_4 a t) (ms1_5 a t) (hs1_5 a t) (Memref.whole cc1_scratch0) (Memref.isWhole_whole _) (Memref.whole cc1_scratch1) (Memref.isWhole_whole _) (tab1 a) (iblk1 a V c 0 t) (iblk1 a V c 1 t) (iblk1 a V c 2 t) (iblk1 a V c 3 t) acc.2.1 acc.2.2 h1 h2 (k1_not_dead _ _ h1)).2.1),
   acc.2.2)
/-- A dead block: the carried scratch stays. -/
def stepC1 (c : Dev nD) (t : Fin (cfg1 a).N) (h1 : ¬k1_cond1 (grid1.coords t) (wd1 a t) = 1#1) (acc : St1 F) : St1 F :=
  (VO1_4.read (Elt F) (VO1_4.writes (Elt F) VO1_4.junk (run1C c (grid1.coords t) (Memref.whole main_arg2) (Memref.isWhole_whole _) (ms1_0 a t) (hs1_0 a t) (ms1_1 a t) (hs1_1 a t) (ms1_2 a t) (hs1_2 a t) (ms1_3 a t) (hs1_3 a t) (ms1_4 a t) (hs1_4 a t) (ms1_5 a t) (hs1_5 a t) (Memref.whole cc1_scratch0) (Memref.isWhole_whole _) (Memref.whole cc1_scratch1) (Memref.isWhole_whole _) (tab1 a) (iblk1 a V c 0 t) (iblk1 a V c 1 t) (iblk1 a V c 2 t) (iblk1 a V c 3 t) h1 ((k1_live_or_dead _ _).resolve_left h1)).1),
   VO1_5.read (Elt F) (VO1_5.writes (Elt F) VO1_5.junk (run1C c (grid1.coords t) (Memref.whole main_arg2) (Memref.isWhole_whole _) (ms1_0 a t) (hs1_0 a t) (ms1_1 a t) (hs1_1 a t) (ms1_2 a t) (hs1_2 a t) (ms1_3 a t) (hs1_3 a t) (ms1_4 a t) (hs1_4 a t) (ms1_5 a t) (hs1_5 a t) (Memref.whole cc1_scratch0) (Memref.isWhole_whole _) (Memref.whole cc1_scratch1) (Memref.isWhole_whole _) (tab1 a) (iblk1 a V c 0 t) (iblk1 a V c 1 t) (iblk1 a V c 2 t) (iblk1 a V c 3 t) h1 ((k1_live_or_dead _ _).resolve_left h1)).2.1),
   acc.2.2)
/-- What point `t` leaves, from what the point before left. -/
def step1 (c : Dev nD) (t : Fin (cfg1 a).N) (acc : St1 F) : St1 F :=
  if h1 : k1_cond1 (grid1.coords t) (wd1 a t) = 1#1 then (if h2 : k1_cond2 (grid1.coords t) = 1#1 then stepA1 a V c t h1 h2 else stepB1 a V c t h1 h2 acc) else stepC1 a V c t h1 acc
/-- Before the first point: contents nothing reads. -/
def st1_0 : St1 F := (VO1_4.read (Elt F) VO1_4.junk, VO1_5.read (Elt F) VO1_5.junk, VS1.read (Elt F) VS1.junk)
/-- The state entering point `n`. -/
def acc1 (c : Dev nD) : (n : ℕ) → n ≤ (cfg1 a).N → St1 F
  | 0, _ => st1_0
  | n + 1, h => step1 a V c ⟨n, h⟩ (acc1 c n (Nat.le_of_succ_le h))
/-- The state point `t` leaves. -/
def outsAt1 (c : Dev nD) (t : Fin (cfg1 a).N) : St1 F := step1 a V c t (acc1 a V c t.val t.isLt.le)

theorem acc1_succ (c : Dev nD) (n : ℕ) (h : n + 1 ≤ (cfg1 a).N) : acc1 a V c (n + 1) h = outsAt1 a V c ⟨n, h⟩ := rfl

/-! ## The region's invariant: the table, the scratch (the carried one at its contents once the first point has run), the other
    scoped buffers, the generator register -/

/-- The scoped buffers the region does not touch. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f))

theorem scopedRest1_split (c : Dev nD) :
    (Pipeline.scopedRest (Ix := Unit) (Name := ℕ) (U := UR sig nD τ) (Lvl := ℕ) (Val := Elt F) spec1 c : sProp 𝕄)
      = iprop((∃ d, owns (c : Thread nD τ) scM1_0 fullShare d) ∗ (∃ d, owns (c : Thread nD τ) scM1_1 fullShare d) ∗ others1 (F := F) c) := by
  unfold others1; simp only [scM1_0, owns_whole]
  exact Pipeline.scopedRest_eq_of_list spec1 c [cc1_scratch0, cc1_scratch1, cc0_stg0_0, cc0_stg0_1, cc0_stg1_0, cc0_stg1_1, cc0_stg2_0, cc0_stg2_1, cc0_stg3_0, cc0_stg3_1, cc0_stg4_0, cc0_stg4_1, cc0_stg5_0, cc0_stg5_1, cc0_stg6_0, cc0_stg6_1, cc0_stg7_0, cc0_stg7_1, cc0_scratch0, cc0_scratch1, cc0_scratch2] (by decide) (by decide)

/-- The carried scratch entering point `n`: at a later column tile of a live block, at what the tile before left. -/
def carried1 (c : Dev nD) (n : ℕ) (h : n ≤ (cfg1 a).N) : sProp 𝕄 :=
  iprop(∃ d, owns (c : Thread nD τ) scM1_0 fullShare d
    ∗ ⌜∀ hn : n < (cfg1 a).N, n % 14 ≠ 0 → k1_cond1 (grid1.coords ⟨n, hn⟩) (wd1 a ⟨n, hn⟩) = 1#1 → d = (acc1 a V c n h).2.2⌝)

/-- The invariant entering point `n`. -/
def Phi1 (c : Dev nD) (n : ℕ) (h : n ≤ (cfg1 a).N) : sProp 𝕄 :=
  iprop(owns (c : Thread nD τ) (Memref.whole main_arg2) fullShare (tab1 a) ∗ carried1 a V c n h
    ∗ (∃ d, owns (c : Thread nD τ) scM1_1 fullShare d) ∗ others1 (F := F) c ∗ (∃ r, prngReg c r))

/-- The region's proof data. -/
def dat1 (c : Dev nD) : Dat τ (Elt F) Unit ℕ (UR sig nD τ) ℕ (cfg1 a) c where
  A w := V c (Pipeline.arrRef spec1 w)
  after w t := match w with
    | ⟨0, _⟩ => iblk1 a V c 0 t
    | ⟨1, _⟩ => iblk1 a V c 1 t
    | ⟨2, _⟩ => iblk1 a V c 2 t
    | ⟨3, _⟩ => iblk1 a V c 3 t
    | ⟨4, _⟩ => (outsAt1 a V c t).1
    | ⟨5, _⟩ => (outsAt1 a V c t).2.1
  Φ n := Phi1 a V c n.val (Nat.lt_succ_iff.mp n.isLt)
  q w := Pipeline.shareOf spec1 w
  owed _ := 0

theorem A_eq1 (c : Dev nD) (w : Fin (cfg1 a).W) : (dat1 a V c).A w = V c (Pipeline.arrRef spec1 w) := by
  dsimp only [dat1]
theorem after1_0 (c : Dev nD) (t : Fin (cfg1 a).N) : (dat1 a V c).after 0 t = iblk1 a V c 0 t := by dsimp only [dat1]; rfl
theorem after1_1 (c : Dev nD) (t : Fin (cfg1 a).N) : (dat1 a V c).after 1 t = iblk1 a V c 1 t := by dsimp only [dat1]; rfl
theorem after1_2 (c : Dev nD) (t : Fin (cfg1 a).N) : (dat1 a V c).after 2 t = iblk1 a V c 2 t := by dsimp only [dat1]; rfl
theorem after1_3 (c : Dev nD) (t : Fin (cfg1 a).N) : (dat1 a V c).after 3 t = iblk1 a V c 3 t := by dsimp only [dat1]; rfl
theorem after1_4 (c : Dev nD) (t : Fin (cfg1 a).N) : (dat1 a V c).after 4 t = (outsAt1 a V c t).1 := by dsimp only [dat1]; rfl
theorem after1_5 (c : Dev nD) (t : Fin (cfg1 a).N) : (dat1 a V c).after 5 t = (outsAt1 a V c t).2.1 := by dsimp only [dat1]; rfl
theorem before1_0 (c : Dev nD) (t : Fin (cfg1 a).N) (d) : (dat1 a V c).before 0 t d = iblk1 a V c 0 t :=
  before1_0_of a V (dat1 a V c) (A_eq1 a V c 0) (after1_0 a V c) t d
theorem before1_1 (c : Dev nD) (t : Fin (cfg1 a).N) (d) : (dat1 a V c).before 1 t d = iblk1 a V c 1 t :=
  before1_1_of a V (dat1 a V c) (A_eq1 a V c 1) (after1_1 a V c) t d
theorem before1_2 (c : Dev nD) (t : Fin (cfg1 a).N) (d) : (dat1 a V c).before 2 t d = iblk1 a V c 2 t :=
  before1_2_of a V (dat1 a V c) (A_eq1 a V c 2) (after1_2 a V c) t d
theorem before1_3 (c : Dev nD) (t : Fin (cfg1 a).N) (d) : (dat1 a V c).before 3 t d = iblk1 a V c 3 t :=
  before1_3_of a V (dat1 a V c) (A_eq1 a V c 3) (after1_3 a V c) t d

end Cert.Kernel.Gen

end
-- ==== Proof.Kernel.Body1.lean ====
module

public import proofs.«01_k».proof.Proof.Kernel.Data1

/-!
# Call 1: the body at every grid point
-/

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfg1 (F := F)).Adm)
variable (V : (c : Dev nD) → (b : Ref sig .tc) → Buf (Elt F) ((c : Thread nD τ).loc b))

theorem outsAt1_A (c : Dev nD) (t : Fin (cfg1 a).N) (h1 : k1_cond1 (grid1.coords t) (wd1 a t) = 1#1) (h2 : k1_cond2 (grid1.coords t) = 1#1) : outsAt1 a V c t = stepA1 a V c t h1 h2 := by
  unfold outsAt1 step1; rw [dif_pos h1, dif_pos h2]
theorem outsAt1_B (c : Dev nD) (t : Fin (cfg1 a).N) (h1 : k1_cond1 (grid1.coords t) (wd1 a t) = 1#1) (h2 : ¬k1_cond2 (grid1.coords t) = 1#1) :
    outsAt1 a V c t = stepB1 a V c t h1 h2 (acc1 a V c t.val t.isLt.le) := by
  unfold outsAt1 step1; rw [dif_pos h1, dif_neg h2]
theorem outsAt1_C (c : Dev nD) (t : Fin (cfg1 a).N) (h1 : ¬k1_cond1 (grid1.coords t) (wd1 a t) = 1#1) : outsAt1 a V c t = stepC1 a V c t h1 (acc1 a V c t.val t.isLt.le) := by
  unfold outsAt1 step1; rw [dif_neg h1]

theorem Phi1_congr (c : Dev nD) (n n' : ℕ) (h : n ≤ (cfg1 a).N) (h' : n' ≤ (cfg1 a).N) (e : n = n') : Phi1 a V c n h = Phi1 a V c n' h' := by
  subst e; rfl
theorem Phi1_succ (c : Dev nD) (t : Fin (cfg1 a).N) : (dat1 a V c).Φ t.succ = Phi1 a V c (t.val + 1) t.isLt := by dsimp only [dat1]; rfl
theorem Phi1_castSucc (c : Dev nD) (t : Fin (cfg1 a).N) : (dat1 a V c).Φ t.castSucc = Phi1 a V c t.val t.isLt.le := by
  dsimp only [dat1]; exact Phi1_congr a V c _ _ _ _ (Fin.val_castSucc t)
theorem owes1_succ (c : Dev nD) (t : Fin (cfg1 a).N) : (dat1 a V c).owesAt () t.succ = (dat1 a V c).owesAt () t.castSucc := by
  unfold Dat.owesAt; rfl

theorem leaves1_in (c : Dev nD) (w : Fin (cfg1 a).W) (t : Fin (cfg1 a).N) (h : ∀ i, (cfg1 a).idle w i = false) :
    (dat1 a V c).leavesExact w t = owns (c : Thread nD τ) (((cfg1 a).win w).stage ((cfg1 a).slots t w)) fullShare ((dat1 a V c).after w t) := by
  unfold Dat.leavesExact; rw [h]

/-- What the second output's buffer holds at a later column tile: what the tile before left. -/
theorem before1_5 (c : Dev nD) (t : Fin (cfg1 a).N) (ht : t.val % 14 ≠ 0) (d) :
    (dat1 a V c).before 5 t d = (acc1 a V c t.val t.isLt.le).2.1 := by
  have hp : 0 < t.val := Nat.pos_of_ne_zero fun h => ht (by rw [h])
  have hfl : ((cfg1 a).win 5).flush ⟨t.val - 1, Nat.lt_of_le_of_lt (Nat.sub_le _ _) t.isLt⟩ = false := by
    rw [Pipeline.Window.flush_eq_flushOf]
    exact (by decide +kernel : ∀ u : Fin grid1.N, u.val % 14 ≠ 13 → Pipeline.Window.flushOf grid1 true cc1_transform_5 u = false) _
      (by show (t.val - 1) % 14 ≠ 13; omega)
  rw [(dat1 a V c).before_out_kept 5 rfl t (Nat.pos_iff_ne_zero.mp hp) hfl (live1_5 a) (fun _ _ => rfl) d, after1_5]
  obtain ⟨n, hn⟩ := t
  cases n with
  | zero => exact absurd hp (Nat.lt_irrefl 0)
  | succ n => rfl

def bodyPre1 (c : Dev nD) (t : Fin (cfg1 a).N) : sProp 𝕄 :=
  iprop((dat1 a V c).Φ t.castSucc ∗ (dat1 a V c).owesAt () t.castSucc
    ∗ (∃ d, owns (c : Thread nD τ) (ms1_0 a t) fullShare ((dat1 a V c).before 0 t d))
    ∗ (∃ d, owns (c : Thread nD τ) (ms1_1 a t) fullShare ((dat1 a V c).before 1 t d))
    ∗ (∃ d, owns (c : Thread nD τ) (ms1_2 a t) fullShare ((dat1 a V c).before 2 t d))
    ∗ (∃ d, owns (c : Thread nD τ) (ms1_3 a t) fullShare ((dat1 a V c).before 3 t d))
    ∗ (∃ d, owns (c : Thread nD τ) (ms1_4 a t) fullShare ((dat1 a V c).before 4 t d))
    ∗ (∃ d, owns (c : Thread nD τ) (ms1_5 a t) fullShare ((dat1 a V c).before 5 t d)))
def bodyPost1 (c : Dev nD) (t : Fin (cfg1 a).N) : sProp 𝕄 :=
  iprop((dat1 a V c).Φ t.succ ∗ (dat1 a V c).owesAt () t.succ
    ∗ (dat1 a V c).leavesExact 0 t
    ∗ (dat1 a V c).leavesExact 1 t
    ∗ (dat1 a V c).leavesExact 2 t
    ∗ (dat1 a V c).leavesExact 3 t
    ∗ (dat1 a V c).leavesExact 4 t
    ∗ (dat1 a V c).leavesExact 5 t)
/-- The body at point `t`, on what the pipeline calls it with. -/
abbrev bodyAt1 (t : Fin (cfg1 a).N) : Prog (TpuEff nD τ sig (Elt F) Λ₀ .tc) PUnit :=
  cc1_down (grid1.coords t) (Memref.whole main_arg2) (Memref.isWhole_whole _) (ms1_0 a t) (hs1_0 a t) (ms1_1 a t) (hs1_1 a t) (ms1_2 a t) (hs1_2 a t) (ms1_3 a t) (hs1_3 a t) (ms1_4 a t) (hs1_4 a t) (ms1_5 a t) (hs1_5 a t) (Memref.whole cc1_scratch0) (Memref.isWhole_whole _) (Memref.whole cc1_scratch1) (Memref.isWhole_whole _)

set_option maxHeartbeats 300000 in
theorem sound1_A (c : Dev nD) (t : Fin (cfg1 a).N) (h1 : k1_cond1 (grid1.coords t) (wd1 a t) = 1#1) (h2 : k1_cond2 (grid1.coords t) = 1#1) :
    bodyPre1 a V c t ⊢ wp frame (wpE (defs₀ (F := F)) Variants.none c none) Set.univ (bodyAt1 a t) (fun _ => bodyPost1 a V c t) := by
  unfold bodyPre1 bodyPost1 bodyAt1
  simp only [before1_0, before1_1, before1_2, before1_3]
  rw [Phi1_succ, Phi1_castSucc, owes1_succ]
  rw [leaves1_in a V c 0 t (fun _ => rfl), leaves1_in a V c 1 t (fun _ => rfl), leaves1_in a V c 2 t (fun _ => rfl), leaves1_in a V c 3 t (fun _ => rfl), leaves1_in a V c 4 t (live1_4 a), leaves1_in a V c 5 t (live1_5 a)]
  rw [after1_0, after1_1, after1_2, after1_3, after1_4, after1_5]
  unfold Phi1 carried1
  rw [acc1_succ, show (⟨t.val, t.isLt⟩ : Fin (cfg1 a).N) = t from rfl, outsAt1_A a V c t h1 h2]
  unfold stepA1; dsimp only
  iintro ⟨⟨HT, ⟨%s0, HS0, %hs0⟩, HS1, HR, Hg⟩, Ho, ⟨%d0, H0⟩, ⟨%d1, H1⟩, ⟨%d2, H2⟩, ⟨%d3, H3⟩, ⟨%d4, H4⟩, ⟨%d5, H5⟩⟩
  iapply ((run1A c (grid1.coords t) (Memref.whole main_arg2) (Memref.isWhole_whole _) (ms1_0 a t) (hs1_0 a t) (ms1_1 a t) (hs1_1 a t) (ms1_2 a t) (hs1_2 a t) (ms1_3 a t) (hs1_3 a t) (ms1_4 a t) (hs1_4 a t) (ms1_5 a t) (hs1_5 a t) (Memref.whole cc1_scratch0) (Memref.isWhole_whole _) (Memref.whole cc1_scratch1) (Memref.isWhole_whole _) (tab1 a) (iblk1 a V c 0 t) (iblk1 a V c 1 t) (iblk1 a V c 2 t) (iblk1 a V c 3 t) h1 h2 (k1_not_dead _ _ h1)).2.2.2.2 Set.univ _)
  isplitl [HT]; · iexact HT
  isplitl [H0]; · iexact H0
  isplitl [H1]; · iexact H1
  isplitl [H2]; · iexact H2
  isplitl [H3]; · iexact H3
  isplitl [H4]; · iexists _; iexact H4
  isplitl [H5]; · iexists _; iexact H5
  isplitl [HS0]; · iexists _; iexact HS0
  isplitl [HS1]; · iexact HS1
  iintro ⟨HT, H0, H1, H2, H3, ⟨%e0, H4⟩, ⟨%e1, H5⟩, ⟨%fT0, HS0⟩, ⟨%fT1, HS1⟩⟩
  isplitl [HT HS0 HS1 HR Hg]
  · isplitl [HT]; · iexact HT
    isplitl [HS0]
    · iexists _; isplitl [HS0]
      · unfold owns; iexists _; isplitr
        swap; · iexact HS0
        ipureintro; rfl
      ipureintro; intro _ _ _
      exact View.read_writes_of_cover _ _ _ _ _ (cover1_A_s0 c (grid1.coords t) (Memref.whole main_arg2) (Memref.isWhole_whole _) (ms1_0 a t) (hs1_0 a t) (ms1_1 a t) (hs1_1 a t) (ms1_2 a t) (hs1_2 a t) (ms1_3 a t) (hs1_3 a t) (ms1_4 a t) (hs1_4 a t) (ms1_5 a t) (hs1_5 a t) (Memref.whole cc1_scratch0) (Memref.isWhole_whole _) (Memref.whole cc1_scratch1) (Memref.isWhole_whole _) (tab1 a) (iblk1 a V c 0 t) (iblk1 a V c 1 t) (iblk1 a V c 2 t) (iblk1 a V c 3 t) h1 h2 (k1_not_dead _ _ h1))
    isplitl [HS1]
    · iexists _; unfold owns; iexists _; isplitr
      swap; · iexact HS1
      ipureintro; rfl
    isplitl [HR]; · iexact HR
    iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover1_A_o0 c (grid1.coords t) (Memref.whole main_arg2) (Memref.isWhole_whole _) (ms1_0 a t) (hs1_0 a t) (ms1_1 a t) (hs1_1 a t) (ms1_2 a t) (hs1_2 a t) (ms1_3 a t) (hs1_3 a t) (ms1_4 a t) (hs1_4 a t) (ms1_5 a t) (hs1_5 a t) (Memref.whole cc1_scratch0) (Memref.isWhole_whole _) (Memref.whole cc1_scratch1) (Memref.isWhole_whole _) (tab1 a) (iblk1 a V c 0 t) (iblk1 a V c 1 t) (iblk1 a V c 2 t) (iblk1 a V c 3 t) h1 h2 (k1_not_dead _ _ h1))
  unfold owns; iexists _; isplitr
  swap; · iexact H5
  ipureintro; exact View.read_writes_of_cover _ _ _ _ _ (cover1_A_o1 c (grid1.coords t) (Memref.whole main_arg2) (Memref.isWhole_whole _) (ms1_0 a t) (hs1_0 a t) (ms1_1 a t) (hs1_1 a t) (ms1_2 a t) (hs1_2 a t) (ms1_3 a t) (hs1_3 a t) (ms1_4 a t) (hs1_4 a t) (ms1_5 a t) (hs1_5 a t) (Memref.whole cc1_scratch0) (Memref.isWhole_whole _) (Memref.whole cc1_scratch1) (Memref.isWhole_whole _) (tab1 a) (iblk1 a V c 0 t) (iblk1 a V c 1 t) (iblk1 a V c 2 t) (iblk1 a V c 3 t) h1 h2 (k1_not_dead _ _ h1))

set_option maxHeartbeats 300000 in
theorem sound1_B (c : Dev nD) (t : Fin (cfg1 a).N) (h1 : k1_cond1 (grid1.coords t) (wd1 a t) = 1#1) (h2 : ¬k1_cond2 (grid1.coords t) = 1#1) :
    bodyPre1 a V c t ⊢ wp frame (wpE (defs₀ (F := F)) Variants.none c none) Set.univ (bodyAt1 a t) (fun _ => bodyPost1 a V c t) := by
  unfold bodyPre1 bodyPost1 bodyAt1
  simp only [before1_0, before1_1, before1_2, before1_3]
  rw [Phi1_succ, Phi1_castSucc, owes1_succ]
  rw [leaves1_in a V c 0 t (fun _ => rfl), leaves1_in a V c 1 t (fun _ => rfl), leaves1_in a V c 2 t (fun _ => rfl), leaves1_in a V c 3 t (fun _ => rfl), leaves1_in a V c 4 t (live1_4 a), leaves1_in a V c 5 t (live1_5 a)]
  rw [after1_0, after1_1, after1_2, after1_3, after1_4, after1_5]
  unfold Phi1 carried1
  rw [acc1_succ, show (⟨t.val, t.isLt⟩ : Fin (cfg1 a).N) = t from rfl, outsAt1_B a V c t h1 h2]
  have hm : t.val % 14 ≠ 0 := fun h => h2 ((hcond1 a t).mpr h)
  simp only [before1_5 a V c t hm]
  unfold stepB1; dsimp only
  iintro ⟨⟨HT, ⟨%s0, HS0, %hs0⟩, HS1, HR, Hg⟩, Ho, ⟨%d0, H0⟩, ⟨%d1, H1⟩, ⟨%d2, H2⟩, ⟨%d3, H3⟩, ⟨%d4, H4⟩, ⟨%d5, H5⟩⟩
  obtain rfl := hs0 t.isLt hm h1
  iapply ((run1B c (grid1.coords t) (Memref.whole main_arg2) (Memref.isWhole_whole _) (ms1_0 a t) (hs1_0 a t) (ms1_1 a t) (hs1_1 a t) (ms1_2 a t) (hs1_2 a t) (ms1_3 a t) (hs1_3 a t) (ms1_4 a t) (hs1_4 a t) (ms1_5 a t) (hs1_5 a t) (Memref.whole cc1_scratch0) (Memref.isWhole_whole _) (Memref.whole cc1_scratch1) (Memref.isWhole_whole _) (tab1 a) (iblk1 a V c 0 t) (iblk1 a V c 1 t) (iblk1 a V c 2 t) (iblk1 a V c 3 t) (acc1 a V c t.val t.isLt.le).2.1 (acc1 a V c t.val t.isLt.le).2.2 h1 h2 (k1_not_dead _ _ h1)).2.2.2 Set.univ _)
  isplitl [HT]; · iexact HT
  isplitl [H0]; · iexact H0
  isplitl [H1]; · iexact H1
  isplitl [H2]; · iexact H2
  isplitl [H3]; · iexact H3
  isplitl [H4]; · iexists _; iexact H4
  isplitl [H5]; · iexact H5
  isplitl [HS0]; · iexact HS0
  isplitl [HS1]; · iexact HS1
  iintro ⟨HT, H0, H1, H2, H3, ⟨%e0, H4⟩, ⟨%e1, H5⟩, HS0, ⟨%fT1, HS1⟩⟩
  isplitl [HT HS0 HS1 HR Hg]
  · isplitl [HT]; · iexact HT
    isplitl [HS0]
    · iexists _; isplitl [HS0]; · iexact HS0
      ipureintro; intro _ _ _; rfl
    isplitl [HS1]
    · iexists _; unfold owns; iexists _; isplitr
      swap; · iexact HS1
      ipureintro; rfl
    isplitl [HR]; · iexact HR
    iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover1_B_o0 c (grid1.coords t) (Memref.whole main_arg2) (Memref.isWhole_whole _) (ms1_0 a t) (hs1_0 a t) (ms1_1 a t) (hs1_1 a t) (ms1_2 a t) (hs1_2 a t) (ms1_3 a t) (hs1_3 a t) (ms1_4 a t) (hs1_4 a t) (ms1_5 a t) (hs1_5 a t) (Memref.whole cc1_scratch0) (Memref.isWhole_whole _) (Memref.whole cc1_scratch1) (Memref.isWhole_whole _) (tab1 a) (iblk1 a V c 0 t) (iblk1 a V c 1 t) (iblk1 a V c 2 t) (iblk1 a V c 3 t) (acc1 a V c t.val t.isLt.le).2.1 (acc1 a V c t.val t.isLt.le).2.2 h1 h2 (k1_not_dead _ _ h1))
  unfold owns; iexists _; isplitr
  swap; · iexact H5
  ipureintro; exact View.read_writes_of_cover _ _ _ _ _ (cover1_B_o1 c (grid1.coords t) (Memref.whole main_arg2) (Memref.isWhole_whole _) (ms1_0 a t) (hs1_0 a t) (ms1_1 a t) (hs1_1 a t) (ms1_2 a t) (hs1_2 a t) (ms1_3 a t) (hs1_3 a t) (ms1_4 a t) (hs1_4 a t) (ms1_5 a t) (hs1_5 a t) (Memref.whole cc1_scratch0) (Memref.isWhole_whole _) (Memref.whole cc1_scratch1) (Memref.isWhole_whole _) (tab1 a) (iblk1 a V c 0 t) (iblk1 a V c 1 t) (iblk1 a V c 2 t) (iblk1 a V c 3 t) (acc1 a V c t.val t.isLt.le).2.1 (acc1 a V c t.val t.isLt.le).2.2 h1 h2 (k1_not_dead _ _ h1))

set_option maxHeartbeats 300000 in
theorem sound1_C (c : Dev nD) (t : Fin (cfg1 a).N) (h1 : ¬k1_cond1 (grid1.coords t) (wd1 a t) = 1#1) :
    bodyPre1 a V c t ⊢ wp frame (wpE (defs₀ (F := F)) Variants.none c none) Set.univ (bodyAt1 a t) (fun _ => bodyPost1 a V c t) := by
  unfold bodyPre1 bodyPost1 bodyAt1
  simp only [before1_0, before1_1, before1_2, before1_3]
  rw [Phi1_succ, Phi1_castSucc, owes1_succ]
  rw [leaves1_in a V c 0 t (fun _ => rfl), leaves1_in a V c 1 t (fun _ => rfl), leaves1_in a V c 2 t (fun _ => rfl), leaves1_in a V c 3 t (fun _ => rfl), leaves1_in a V c 4 t (live1_4 a), leaves1_in a V c 5 t (live1_5 a)]
  rw [after1_0, after1_1, after1_2, after1_3, after1_4, after1_5]
  unfold Phi1 carried1
  rw [acc1_succ, show (⟨t.val, t.isLt⟩ : Fin (cfg1 a).N) = t from rfl, outsAt1_C a V c t h1]
  unfold stepC1; dsimp only
  iintro ⟨⟨HT, ⟨%s0, HS0, %hs0⟩, HS1, HR, Hg⟩, Ho, ⟨%d0, H0⟩, ⟨%d1, H1⟩, ⟨%d2, H2⟩, ⟨%d3, H3⟩, ⟨%d4, H4⟩, ⟨%d5, H5⟩⟩
  iapply ((run1C c (grid1.coords t) (Memref.whole main_arg2) (Memref.isWhole_whole _) (ms1_0 a t) (hs1_0 a t) (ms1_1 a t) (hs1_1 a t) (ms1_2 a t) (hs1_2 a t) (ms1_3 a t) (hs1_3 a t) (ms1_4 a t) (hs1_4 a t) (ms1_5 a t) (hs1_5 a t) (Memref.whole cc1_scratch0) (Memref.isWhole_whole _) (Memref.whole cc1_scratch1) (Memref.isWhole_whole _) (tab1 a) (iblk1 a V c 0 t) (iblk1 a V c 1 t) (iblk1 a V c 2 t) (iblk1 a V c 3 t) h1 ((k1_live_or_dead _ _).resolve_left h1)).2.2 Set.univ _)
  isplitl [HT]; · iexact HT
  isplitl [H0]; · iexact H0
  isplitl [H1]; · iexact H1
  isplitl [H2]; · iexact H2
  isplitl [H3]; · iexact H3
  isplitl [H4]; · iexists _; iexact H4
  isplitl [H5]; · iexists _; iexact H5
  iintro ⟨HT, H0, H1, H2, H3, ⟨%e0, H4⟩, ⟨%e1, H5⟩⟩
  isplitl [HT HS0 HS1 HR Hg]
  · isplitl [HT]; · iexact HT
    isplitl [HS0]
    · iexists s0; isplitl [HS0]; · iexact HS0
      ipureintro; intro hn hm' hl; exact absurd (live_pred1 a ⟨t.val + 1, hn⟩ hm' hl) h1
    isplitl [HS1]; · iexact HS1
    isplitl [HR]; · iexact HR
    iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover1_C_o0 c (grid1.coords t) (Memref.whole main_arg2) (Memref.isWhole_whole _) (ms1_0 a t) (hs1_0 a t) (ms1_1 a t) (hs1_1 a t) (ms1_2 a t) (hs1_2 a t) (ms1_3 a t) (hs1_3 a t) (ms1_4 a t) (hs1_4 a t) (ms1_5 a t) (hs1_5 a t) (Memref.whole cc1_scratch0) (Memref.isWhole_whole _) (Memref.whole cc1_scratch1) (Memref.isWhole_whole _) (tab1 a) (iblk1 a V c 0 t) (iblk1 a V c 1 t) (iblk1 a V c 2 t) (iblk1 a V c 3 t) h1 ((k1_live_or_dead _ _).resolve_left h1))
  unfold owns; iexists _; isplitr
  swap; · iexact H5
  ipureintro; exact View.read_writes_of_cover _ _ _ _ _ (cover1_C_o1 c (grid1.coords t) (Memref.whole main_arg2) (Memref.isWhole_whole _) (ms1_0 a t) (hs1_0 a t) (ms1_1 a t) (hs1_1 a t) (ms1_2 a t) (hs1_2 a t) (ms1_3 a t) (hs1_3 a t) (ms1_4 a t) (hs1_4 a t) (ms1_5 a t) (hs1_5 a t) (Memref.whole cc1_scratch0) (Memref.isWhole_whole _) (Memref.whole cc1_scratch1) (Memref.isWhole_whole _) (tab1 a) (iblk1 a V c 0 t) (iblk1 a V c 1 t) (iblk1 a V c 2 t) (iblk1 a V c 3 t) h1 ((k1_live_or_dead _ _).resolve_left h1))

theorem sound_body1 (c : Dev nD) (t : Fin (cfg1 a).N) :
    bodyPre1 a V c t ⊢ wp frame (wpE (defs₀ (F := F)) Variants.none c none) Set.univ (bodyAt1 a t) (fun _ => bodyPost1 a V c t) := by
  by_cases h1 : k1_cond1 (grid1.coords t) (wd1 a t) = 1#1
  · by_cases h2 : k1_cond2 (grid1.coords t) = 1#1
    · exact sound1_A a V c t h1 h2
    · exact sound1_B a V c t h1 h2
  · exact sound1_C a V c t h1

theorem defs₀_row1 (t : Fin (cfg1 a).N) :
    defs₀ (F := F) .tc (cfg1 a).body ((cfg1 a).bodyArgs t ((cfg1 a).slots t)) = bodyAt1 a t := by
  unfold defs₀; rw [Defs.onTc_tc]

/-- The pipeline's body obligation, at every point. -/
theorem body_obligation1 (c : Dev nD) : BodyObligation (dat1 (F := F) a V c) (defs₀ (F := F)) Variants.none () Set.univ := fun t => by
  rw [bigSep_W1, bigSep_W1, defs₀_row1]
  exact triple_restated (sound_body1 a V c t) rfl .rfl fun _ => .rfl

end Cert.Kernel.Gen

end
-- ==== Proof.Kernel.Frame.lean ====
module

public import proofs.«01_k».proof.Proof.Gen.Kernel.Regions
public import proofs.«01_k».proof.Proof.Kernel.Body0
public import proofs.«01_k».proof.Proof.Kernel.Body1

/-!
# The run: both calls, from the launch to the return
-/

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

namespace Run

variable (m : (ℓ : Loc nD τ sig) → Buf (Elt F) ℓ) (ρ : Dev nD → PrngReg)

/-! # THE RUN: the program's segments from the launch to the return (Lib/Pipeline/Regions.lean `θ_run_regions_kit`) -/

/-- the program's argument arrays, as TensorCore references: what the frame claim reads back. -/
abbrev argRefs : List (Ref sig .tc) := [main_arg0, main_arg1, main_arg2, main_arg3, main_arg4, main_arg5, main_arg6]

/-- `hostOps0` writes none of the argument arrays (checked: each argument against each reference it writes). -/
theorem hostOps0_args : ∀ a ∈ argRefs, a ∉ hostOps0_W := ListAll.forall_mem_of_all_decide (by decide +kernel)

/-- Region 1's launch facts, in the form that lets windows share an array. -/
theorem launch₁ : Pipeline.PLaunchFacts₀ (nD := nD) (τ := τ) (pcfgs (F := F)) 1 := launch1.to₀

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- The table's contents, as launched: what each region's pipeline is given. -/
abbrev adm0 : (pcfg0 (F := F)).Adm := ⟨fun k => W0 m ρ 0 (Proc.devRef .tc (pre0.ref k)), trivial⟩
abbrev adm1 : (pcfg1 (F := F)).Adm := ⟨fun k => W0 m ρ 0 (Proc.devRef .tc (pre1.ref k)), trivial⟩
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`) (region 1's entry). -/
def W2 (c : Dev nD) : Valuation τ sig (Elt F) :=
  Pipeline.withArrays spec0 c (W1 m ρ c) fun w => (dat0 (adm0 m ρ) (V1 m ρ) c).arrAt w grid0.N
theorem W2_arr (c : Dev nD) (w : Fin 8) :
    W2 m ρ c (Proc.devRef .tc (Pipeline.arrRef spec0 w)) = (dat0 (adm0 m ρ) (V1 m ρ) c).arrAt w grid0.N := by
  unfold W2; exact (dat0 (adm0 m ρ) (V1 m ρ) c).withArrays_arrAt (launch₀0 (F := F)).sharedIn _ (A_eq0 (adm0 m ρ) (V1 m ρ) c) w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin 8, Pipeline.arrRef spec0 w = r → (spec0 w).isOut = false) :
    W2 m ρ c (Proc.devRef .tc r) = W1 m ρ c (Proc.devRef .tc r) := by
  by_cases hw : ∃ w : Fin 8, Pipeline.arrRef spec0 w = r
  · obtain ⟨w, rfl⟩ := hw
    exact (W2_arr m ρ c w).trans (((dat0 (adm0 m ρ) (V1 m ρ) c).arrAt_in w (h w rfl) _).trans (A_eq0 (adm0 m ρ) (V1 m ρ) c w))
  · exact W2_of_ne m ρ c r fun w e => hw ⟨w, e⟩
/-- Every argument among region 0's arrays is an input window's (checked: each argument against each window). -/
theorem argsIn0 : ∀ a ∈ argRefs, ∀ w : Fin 8, Pipeline.arrRef spec0 w = a → (spec0 w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays_shared`. -/
theorem hF0 (c : Dev nD) (w : Fin 8) : (dat0 (adm0 m ρ) (V1 m ρ) c).arrAt w grid0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`). -/
def W3 (c : Dev nD) : Valuation τ sig (Elt F) :=
  Pipeline.withArrays spec1 c (W2 m ρ c) fun w => (dat1 (adm1 m ρ) (V2 m ρ) c).arrAt w grid1.N
theorem W3_arr (c : Dev nD) (w : Fin 6) :
    W3 m ρ c (Proc.devRef .tc (Pipeline.arrRef spec1 w)) = (dat1 (adm1 m ρ) (V2 m ρ) c).arrAt w grid1.N := by
  unfold W3; exact (dat1 (adm1 m ρ) (V2 m ρ) c).withArrays_arrAt (launch₁ (F := F)).sharedIn _ (A_eq1 (adm1 m ρ) (V2 m ρ) c) w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin 6, Pipeline.arrRef spec1 w = r → (spec1 w).isOut = false) :
    W3 m ρ c (Proc.devRef .tc r) = W2 m ρ c (Proc.devRef .tc r) := by
  by_cases hw : ∃ w : Fin 6, Pipeline.arrRef spec1 w = r
  · obtain ⟨w, rfl⟩ := hw
    exact (W3_arr m ρ c w).trans (((dat1 (adm1 m ρ) (V2 m ρ) c).arrAt_in w (h w rfl) _).trans (A_eq1 (adm1 m ρ) (V2 m ρ) c w))
  · exact W3_of_ne m ρ c r fun w e => hw ⟨w, e⟩
/-- Every argument among region 1's arrays is an input window's (checked: each argument against each window). -/
theorem argsIn1 : ∀ a ∈ argRefs, ∀ w : Fin 6, Pipeline.arrRef spec1 w = a → (spec1 w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin 6) : (dat1 (adm1 m ρ) (V2 m ρ) c).arrAt w grid1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### The arguments end as launched: no host stretch writes one and no region may change one (a region reads it
    through an input window or bypasses it) -/

theorem W3_main_arg0 (c : Dev nD) : W3 m ρ c (Proc.devRef .tc main_arg0) = m ((c : Thread nD τ).loc main_arg0) :=
  W3_args m ρ c main_arg0 (by decide)
theorem W3_main_arg1 (c : Dev nD) : W3 m ρ c (Proc.devRef .tc main_arg1) = m ((c : Thread nD τ).loc main_arg1) :=
  W3_args m ρ c main_arg1 (by decide)
theorem W3_main_arg2 (c : Dev nD) : W3 m ρ c (Proc.devRef .tc main_arg2) = m ((c : Thread nD τ).loc main_arg2) :=
  W3_args m ρ c main_arg2 (by decide)
theorem W3_main_arg3 (c : Dev nD) : W3 m ρ c (Proc.devRef .tc main_arg3) = m ((c : Thread nD τ).loc main_arg3) :=
  W3_args m ρ c main_arg3 (by decide)
theorem W3_main_arg4 (c : Dev nD) : W3 m ρ c (Proc.devRef .tc main_arg4) = m ((c : Thread nD τ).loc main_arg4) :=
  W3_args m ρ c main_arg4 (by decide)
theorem W3_main_arg5 (c : Dev nD) : W3 m ρ c (Proc.devRef .tc main_arg5) = m ((c : Thread nD τ).loc main_arg5) :=
  W3_args m ρ c main_arg5 (by decide)
theorem W3_main_arg6 (c : Dev nD) : W3 m ρ c (Proc.devRef .tc main_arg6) = m ((c : Thread nD τ).loc main_arg6) :=
  W3_args m ρ c main_arg6 (by decide)

/-! ## The proof data family and the thread state -/

/-- The tables' contents, pipeline by pipeline. -/
abbrev adm : (p : Fin 2) → (pcfgs (F := F) p).Adm
  | ⟨0, _⟩ => adm0 m ρ
  | ⟨1, _⟩ => adm1 m ρ
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) (adm m ρ) p) c
  | ⟨0, _⟩ => fun c => dat0 (adm0 m ρ) (V1 m ρ) c
  | ⟨1, _⟩ => fun c => dat1 (adm1 m ρ) (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W3`, the generator register at some state. -/
abbrev Tₙ (c : Dev nD) : sProp 𝕄 := iprop(StableHlo.held (c : Thread nD τ) (Pipeline.ucRefs τ sig) (W3 m ρ c) ∗ ∃ r, prngReg c r)

/-- The table as the pipeline holds it is the table as the body reads it. -/
theorem pref0_eq (c : Dev nD) (a : (pcfg0 (F := F)).Adm) :
    (Pipeline.prefHeld (Ix := Unit) (Name := ℕ) (U := UR sig nD τ) (Lvl := ℕ) pre0 c (fun _ => fullShare) a.1 : sProp 𝕄)
      = owns (c : Thread nD τ) (Memref.whole main_arg2) fullShare (tab0 a) := by
  unfold Pipeline.prefHeld
  rw [show (Finset.univ : Finset (Fin pre0.K)) = {0} from rfl, BI.bigSep_singleton, owns_whole]; rfl

theorem tab_at0 (c : Dev nD) : (fun k => V1 m ρ c (pre0.ref k)) = (adm0 m ρ).1 := by
  funext k
  have hc : c = 0 := Subsingleton.elim _ _
  subst hc
  have hk : k = 0 := Subsingleton.elim _ _
  subst hk
  exact W1_args m ρ 0 main_arg2 (by decide)

theorem rest_eq0 (c : Dev nD) :
    (Pipeline.unscopedRest (Ix := Unit) (Name := ℕ) (U := UR sig nD τ) (Lvl := ℕ) spec0 c (V1 m ρ c) : sProp 𝕄)
      = iprop(Pipeline.prefHeld pre0 c (fun _ => fullShare) (adm0 m ρ).1 ∗ Pipeline.unscopedRestP pre0 spec0 c (V1 m ρ c)) := by
  rw [Pipeline.unscopedRest_split preFacts0 c (V1 m ρ c), tab_at0]
theorem rest_split0 (c : Dev nD) :
    (Pipeline.unscopedRest (Ix := Unit) (Name := ℕ) (U := UR sig nD τ) (Lvl := ℕ) spec0 c (V1 m ρ c) : sProp 𝕄)
      ⊢ iprop(Pipeline.prefHeld pre0 c (fun _ => fullShare) (adm0 m ρ).1 ∗ Pipeline.unscopedRestP pre0 spec0 c (V1 m ρ c)) := by
  rw [rest_eq0]
theorem rest_join0 (c : Dev nD) :
    iprop(Pipeline.prefHeld pre0 c (fun _ => fullShare) (adm0 m ρ).1 ∗ Pipeline.unscopedRestP pre0 spec0 c (V1 m ρ c))
      ⊢ (Pipeline.unscopedRest (Ix := Unit) (Name := ℕ) (U := UR sig nD τ) (Lvl := ℕ) spec0 c (V1 m ρ c) : sProp 𝕄) := by
  rw [rest_eq0]

theorem phi_in0 (c : Dev nD) :
    iprop((∃ r, prngReg c r) ∗ Pipeline.prefHeld pre0 c (fun _ => fullShare) (adm0 m ρ).1
        ∗ Pipeline.scopedRest (Ix := Unit) (Name := ℕ) (U := UR sig nD τ) (Lvl := ℕ) (Val := Elt F) spec0 c)
      ⊢ (Phi0 (adm0 m ρ) (V1 m ρ) c 0 (Nat.zero_le _) : sProp 𝕄) := by
  rw [pref0_eq, scopedRest0_split]; unfold Phi0 carried0
  iintro ⟨Hg, HT, ⟨%d, HS0⟩, HS1, HS2, HR⟩
  isplitl [HT]; · iexact HT
  isplitl [HS0]
  · iexists d; isplitl [HS0]; · iexact HS0
    ipureintro; intro _ h; exact absurd (Nat.zero_mod _) h
  isplitl [HS1]; · iexact HS1
  isplitl [HS2]; · iexact HS2
  isplitl [HR]; · iexact HR
  iexact Hg
theorem phi_out0 (c : Dev nD) :
    (Phi0 (adm0 m ρ) (V1 m ρ) c grid0.N (Nat.le_refl _) : sProp 𝕄)
      ⊢ iprop(((∃ r, prngReg c r) ∗ Pipeline.prefHeld pre0 c (fun _ => fullShare) (adm0 m ρ).1) ∗ (BI.emp : sProp 𝕄)
        ∗ Pipeline.scopedRest (Ix := Unit) (Name := ℕ) (U := UR sig nD τ) (Lvl := ℕ) (Val := Elt F) spec0 c) := by
  rw [pref0_eq, scopedRest0_split]; unfold Phi0 carried0
  iintro ⟨HT, ⟨%d, HS0, -⟩, HS1, HS2, HR, Hg⟩
  isplitl [Hg HT]
  · isplitl [Hg]; · iexact Hg
    iexact HT
  isplitr; · iempintro
  isplitl [HS0]; · iexists d; iexact HS0
  isplitl [HS1]; · iexact HS1
  isplitl [HS2]; · iexact HS2
  iexact HR

/-- The table as the pipeline holds it is the table as the body reads it. -/
theorem pref1_eq (c : Dev nD) (a : (pcfg1 (F := F)).Adm) :
    (Pipeline.prefHeld (Ix := Unit) (Name := ℕ) (U := UR sig nD τ) (Lvl := ℕ) pre1 c (fun _ => fullShare) a.1 : sProp 𝕄)
      = owns (c : Thread nD τ) (Memref.whole main_arg2) fullShare (tab1 a) := by
  unfold Pipeline.prefHeld
  rw [show (Finset.univ : Finset (Fin pre1.K)) = {0} from rfl, BI.bigSep_singleton, owns_whole]; rfl

theorem tab_at1 (c : Dev nD) : (fun k => V2 m ρ c (pre1.ref k)) = (adm1 m ρ).1 := by
  funext k
  have hc : c = 0 := Subsingleton.elim _ _
  subst hc
  have hk : k = 0 := Subsingleton.elim _ _
  subst hk
  exact W2_args m ρ 0 main_arg2 (by decide)

theorem rest_eq1 (c : Dev nD) :
    (Pipeline.unscopedRest (Ix := Unit) (Name := ℕ) (U := UR sig nD τ) (Lvl := ℕ) spec1 c (V2 m ρ c) : sProp 𝕄)
      = iprop(Pipeline.prefHeld pre1 c (fun _ => fullShare) (adm1 m ρ).1 ∗ Pipeline.unscopedRestP pre1 spec1 c (V2 m ρ c)) := by
  rw [Pipeline.unscopedRest_split preFacts1 c (V2 m ρ c), tab_at1]
theorem rest_split1 (c : Dev nD) :
    (Pipeline.unscopedRest (Ix := Unit) (Name := ℕ) (U := UR sig nD τ) (Lvl := ℕ) spec1 c (V2 m ρ c) : sProp 𝕄)
      ⊢ iprop(Pipeline.prefHeld pre1 c (fun _ => fullShare) (adm1 m ρ).1 ∗ Pipeline.unscopedRestP pre1 spec1 c (V2 m ρ c)) := by
  rw [rest_eq1]
theorem rest_join1 (c : Dev nD) :
    iprop(Pipeline.prefHeld pre1 c (fun _ => fullShare) (adm1 m ρ).1 ∗ Pipeline.unscopedRestP pre1 spec1 c (V2 m ρ c))
      ⊢ (Pipeline.unscopedRest (Ix := Unit) (Name := ℕ) (U := UR sig nD τ) (Lvl := ℕ) spec1 c (V2 m ρ c) : sProp 𝕄) := by
  rw [rest_eq1]

theorem phi_in1 (c : Dev nD) :
    iprop((∃ r, prngReg c r) ∗ Pipeline.prefHeld pre1 c (fun _ => fullShare) (adm1 m ρ).1
        ∗ Pipeline.scopedRest (Ix := Unit) (Name := ℕ) (U := UR sig nD τ) (Lvl := ℕ) (Val := Elt F) spec1 c)
      ⊢ (Phi1 (adm1 m ρ) (V2 m ρ) c 0 (Nat.zero_le _) : sProp 𝕄) := by
  rw [pref1_eq, scopedRest1_split]; unfold Phi1 carried1
  iintro ⟨Hg, HT, ⟨%d, HS0⟩, HS1, HR⟩
  isplitl [HT]; · iexact HT
  isplitl [HS0]
  · iexists d; isplitl [HS0]; · iexact HS0
    ipureintro; intro _ h; exact absurd (Nat.zero_mod _) h
  isplitl [HS1]; · iexact HS1
  isplitl [HR]; · iexact HR
  iexact Hg
theorem phi_out1 (c : Dev nD) :
    (Phi1 (adm1 m ρ) (V2 m ρ) c grid1.N (Nat.le_refl _) : sProp 𝕄)
      ⊢ iprop(((∃ r, prngReg c r) ∗ Pipeline.prefHeld pre1 c (fun _ => fullShare) (adm1 m ρ).1) ∗ (BI.emp : sProp 𝕄)
        ∗ Pipeline.scopedRest (Ix := Unit) (Name := ℕ) (U := UR sig nD τ) (Lvl := ℕ) (Val := Elt F) spec1 c) := by
  rw [pref1_eq, scopedRest1_split]; unfold Phi1 carried1
  iintro ⟨HT, ⟨%d, HS0, -⟩, HS1, HR, Hg⟩
  isplitl [Hg HT]
  · isplitl [Hg]; · iexact Hg
    iexact HT
  isplitr; · iempintro
  isplitl [HS0]; · iexists d; iexact HS0
  isplitl [HS1]; · iexact HS1
  iexact HR

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs_shared`) and put back at the exit contents (`unscopedBufs_of_arrays_shared`; its input windows on one array (`(launch₀0 (F := F)).sharedIn`) each dealt their share of it, `Pipeline.shareOf`, by the proof data); the generator register into the
    class invariant `ΦA` and out; nothing owed; no semaphore of the kernel's own. -/
def reg0 : Pipeline.RegionSeg (pcfgs (F := F)) (adm m ρ) (pdats m ρ) () defs₀ 𝒱₀ L lv 0 where
  win := (launch₀0 (F := F)).win
  block_pos := (launch₀0 (F := F)).block_pos
  stage_whole := (launch₀0 (F := F)).stage_whole
  K := PEmpty
  osem k := k.elim
  ho := Pipeline.OwnSemFacts.none _
  hbody c := (body_obligation0 (adm0 m ρ) (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop((∃ r, prngReg c r) ∗ Pipeline.prefHeld (Ix := Unit) (Name := ℕ) (U := UR sig nD τ) (Lvl := ℕ) (pcfgs (F := F) 0).pre c (fun _ => fullShare) (adm m ρ 0).1)
  Z c := Pipeline.unscopedRestP (Ix := Unit) (Name := ℕ) (U := UR sig nD τ) (Lvl := ℕ) (pcfgs (F := F) 0).pre spec0 c (V1 m ρ c)
  hentry c := by
    rw [Pipeline.ownSems0_none]
    have hsplit := Pipeline.arrays_of_unscopedBufs_shared (p := 0) (pcfgs (F := F)) (adm m ρ) (pdats m ρ) (launch₀0 (F := F)).win (launch₀0 (F := F)).sharedIn (launch₀0 (F := F)).arr_whole c
      (fun _ _ => rfl) (V1 m ρ c) (A_eq0 (adm0 m ρ) (V1 m ρ) c)
    rw [Pipeline.unscopedBufs_held] at hsplit
    iintro ⟨⟨Hub, Hp, HO⟩, -, -⟩
    ihave H := hsplit $$ Hub
    icases H with ⟨Ha, Hrest⟩
    ihave H2 := (rest_split0 m ρ c) $$ Hrest
    icases H2 with ⟨Hpre, Hrest⟩
    imodintro
    isplitl [Ha]; · iexact Ha
    isplitl [Hpre]; · iexact Hpre
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Phi0 (adm0 m ρ) (V1 m ρ) c 0 (Nat.zero_le _) from rfl]
    exact phi_in0 m ρ c
  hout c := by
    rw [Pipeline.ownSems0_none]
    exact phi_out0 m ρ c
  hexit c := by
    have hjoin := Pipeline.unscopedBufs_of_arrays_shared (p := 0) (pcfgs (F := F)) (adm m ρ) (Ix := Unit) (Name := ℕ) (U := UR sig nD τ) (Lvl := ℕ)
      (launch₀0 (F := F)).win (launch₀0 (F := F)).sharedIn (launch₀0 (F := F)).arr_whole c (pdats m ρ) (fun _ _ => rfl)
      (V1 m ρ c) (V2 m ρ c) ((pdats m ρ 0 c).arrAt · grid0.N) (hF0 m ρ c) (hrest0 m ρ c)
    rw [Pipeline.unscopedBufs_held] at hjoin
    iintro ⟨Ha, HO, ⟨HY, Hpre⟩, Hrest⟩
    imodintro
    ihave Hrest := (rest_join0 m ρ c) $$ [Hpre Hrest]
    · isplitl [Hpre] <;> iassumption
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the launch reads at the end). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) (adm m ρ) (pdats m ρ) () defs₀ 𝒱₀ L lv 1 where
  win := (launch₁ (F := F)).win
  block_pos := (launch₁ (F := F)).block_pos
  stage_whole := (launch₁ (F := F)).stage_whole
  K := PEmpty
  osem k := k.elim
  ho := Pipeline.OwnSemFacts.none _
  hbody c := (body_obligation1 (adm1 m ρ) (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop((∃ r, prngReg c r) ∗ Pipeline.prefHeld (Ix := Unit) (Name := ℕ) (U := UR sig nD τ) (Lvl := ℕ) (pcfgs (F := F) 1).pre c (fun _ => fullShare) (adm m ρ 1).1)
  Z c := Pipeline.unscopedRestP (Ix := Unit) (Name := ℕ) (U := UR sig nD τ) (Lvl := ℕ) (pcfgs (F := F) 1).pre spec1 c (V2 m ρ c)
  hentry c := by
    rw [Pipeline.ownSems0_none]
    have hsplit := Pipeline.arrays_of_unscopedBufs_shared (p := 1) (pcfgs (F := F)) (adm m ρ) (pdats m ρ) (launch₁ (F := F)).win (launch₁ (F := F)).sharedIn (launch₁ (F := F)).arr_whole c
      (fun _ _ => rfl) (V2 m ρ c) (A_eq1 (adm1 m ρ) (V2 m ρ) c)
    rw [Pipeline.unscopedBufs_held] at hsplit
    iintro ⟨⟨Hub, Hp, HO⟩, -, -⟩
    ihave H := hsplit $$ Hub
    icases H with ⟨Ha, Hrest⟩
    ihave H2 := (rest_split1 m ρ c) $$ Hrest
    icases H2 with ⟨Hpre, Hrest⟩
    imodintro
    isplitl [Ha]; · iexact Ha
    isplitl [Hpre]; · iexact Hpre
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Phi1 (adm1 m ρ) (V2 m ρ) c 0 (Nat.zero_le _) from rfl]
    exact phi_in1 m ρ c
  hout c := by
    rw [Pipeline.ownSems0_none]
    exact phi_out1 m ρ c
  hexit c := by
    have hjoin := Pipeline.unscopedBufs_of_arrays_shared (p := 1) (pcfgs (F := F)) (adm m ρ) (Ix := Unit) (Name := ℕ) (U := UR sig nD τ) (Lvl := ℕ)
      (launch₁ (F := F)).win (launch₁ (F := F)).sharedIn (launch₁ (F := F)).arr_whole c (pdats m ρ) (fun _ _ => rfl)
      (V2 m ρ c) (V3 m ρ c) ((pdats m ρ 1 c).arrAt · grid1.N) (hF1 m ρ c) (hrest1 m ρ c)
    rw [Pipeline.unscopedBufs_held] at hjoin
    iintro ⟨Ha, HO, ⟨HY, Hpre⟩, Hrest⟩
    imodintro
    ihave Hrest := (rest_join1 m ρ c) $$ [Hpre Hrest]
    · isplitl [Hpre] <;> iassumption
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- the program's 3 segments in order: a host segment per stretch from its boundary's contents, a region per pallas_call. -/
abbrev segs : List (Pipeline.Seg (pcfgs (F := F)) (adm m ρ) (pdats m ρ) () defs₀ 𝒱₀ L lv) :=
  [ .host (hseg hostOps0 hostOps0_sub hostOps0_fresh (W0 m ρ)),
    .region (reg0 m ρ),
    .region (reg1 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The run: it ends, nothing faulting, every semaphore counter at zero, and every unscoped buffer at the last boundary's
    contents. -/
theorem run_all : θ_run defs (onTc (τ := τ) (main (F := F))) ⟨m, fun _ => 0, ρ⟩ (fun r => (∀ c : Dev nD,
      ∀ b ∈ Pipeline.ucRefs τ sig, r.2.mem (((c : Thread nD τ)).1, b) = W3 m ρ c b)
      ∧ r.2.sem = fun _ => 0) :=
  Pipeline.θ_run_regions_kit_sems (pcfgs (F := F)) (adm m ρ) (pdats m ρ) () (cellOf_inj (adm m ρ)) emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm m ρ)) (cellOf_inj (adm m ρ))) (Pipeline.launchToks (Pipeline.pin (pcfgs (F := F)) (adm m ρ)) (cellOf_inj (adm m ρ))))
    (hu₀ := by
      iintro Hu; imodintro
      isplitl [Hu]
      · iapply (show (ownU (initOf (Pipeline.cells (Pipeline.pin (pcfgs (F := F)) (adm m ρ)) (cellOf_inj (adm m ρ))) (Pipeline.launchToks (Pipeline.pin (pcfgs (F := F)) (adm m ρ)) (cellOf_inj (adm m ρ)))) : sProp 𝕄)
            ⊢ BI.own (emb₁ (initOf (Pipeline.cells (Pipeline.pin (pcfgs (F := F)) (adm m ρ)) (cellOf_inj (adm m ρ))) (Pipeline.launchToks (Pipeline.pin (pcfgs (F := F)) (adm m ρ)) (cellOf_inj (adm m ρ))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => ⟨h, funext fun g => hz g (.inr (no_unscoped g.2))⟩)

/-- The frame: the argument arrays end as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c =>
       ⟨(h.1 c _ (mem_uc main_arg0 (by decide))).trans (W3_main_arg0 m ρ c),
       (h.1 c _ (mem_uc main_arg1 (by decide))).trans (W3_main_arg1 m ρ c),
       (h.1 c _ (mem_uc main_arg2 (by decide))).trans (W3_main_arg2 m ρ c),
       (h.1 c _ (mem_uc main_arg3 (by decide))).trans (W3_main_arg3 m ρ c),
       (h.1 c _ (mem_uc main_arg4 (by decide))).trans (W3_main_arg4 m ρ c),
       (h.1 c _ (mem_uc main_arg5 (by decide))).trans (W3_main_arg5 m ρ c),
       (h.1 c _ (mem_uc main_arg6 (by decide))).trans (W3_main_arg6 m ρ c)⟩, h.2⟩) (run_all m ρ)

end Run

end Cert.Kernel.Gen

end
-- ==== Proof.KernelIdeal.Defs0.lean ====
module

public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-!
# Call 0: the word of the table that a grid point reads
-/

@[expose] public section

noncomputable section

namespace Cert.KernelIdeal.Gen

open Idealize.ShloMosaic Idealize.ShloMosaic.TcCoe

variable {F : FTy → Type} [FloatOps F]

/-- The word a point of call 0 reads from the table of row counts, as the body's load reads it. -/
abbrev word0 (i : grid0.Coords) (arg3 : Memref sig .tc .smem S4 .i32) (harg3 : arg3.IsWhole) (T : Vec F S4 .i32) : Elt F .i32 :=
  arg3.view.readAt (Elt F) (Rect.unit (s := S4) (k0_off1 i) S1.size (k0_off1_inb i)).toLoadRect (harg3.unread T) (Shape.Idx.first (numel1_S1.symm ▸ Nat.one_pos))

theorem word0_congr (i i' : grid0.Coords) (arg3 : Memref sig .tc .smem S4 .i32) (harg3 : arg3.IsWhole) (T : Vec F S4 .i32)
    (h : k0_off1 i = k0_off1 i') : word0 i arg3 harg3 T = word0 i' arg3 harg3 T := by
  unfold word0
  have key : ∀ (o o' : Fin S4.rank → ℕ) (hoo : o = o') (p : ∀ k, o k + S1.size k ≤ S4.size k) (p' : ∀ k, o' k + S1.size k ≤ S4.size k),
      arg3.view.readAt (Elt F) (Rect.unit (s := S4) o S1.size p).toLoadRect (harg3.unread T) (Shape.Idx.first (numel1_S1.symm ▸ Nat.one_pos))
        = arg3.view.readAt (Elt F) (Rect.unit (s := S4) o' S1.size p').toLoadRect (harg3.unread T) (Shape.Idx.first (numel1_S1.symm ▸ Nat.one_pos)) := by
    rintro o _ rfl p p'; rfl
  exact key _ _ h _ _

end Cert.KernelIdeal.Gen

end
-- ==== Proof.KernelIdeal.Run0A.lean ====
module

public import proofs.«01_k».proof.Proof.KernelIdeal.Defs0

/-!
# The body of call 0, first column tile of a live block
-/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large: the definition's epilogue walks it past the default budget
set_option maxHeartbeats 1600000 in
/-- What `cc0_up` stores in each buffer it writes, as pieces (last first), at a live block's first column tile, with the proof that from whole buffers the
body runs to its end, leaves the table and the inputs as they were and leaves those pieces. The pieces are the witness
the symbolic run finds. -/
noncomputable def run0A (c : Dev nD) (i : grid0.Coords) (arg3 : Memref sig .tc .smem S4 .i32) (harg3 : arg3.IsWhole) (arg4 : Memref sig .tc .vmem S1x512x7168 .fp8e4m3) (harg4 : arg4.IsWhole) (arg5 : Memref sig .tc .vmem S1x512x56 .f32) (harg5 : arg5.IsWhole) (arg6 : Memref sig .tc .vmem S1x256x7168 .fp8e4m3) (harg6 : arg6.IsWhole) (arg7 : Memref sig .tc .vmem S1x256x7168 .fp8e4m3) (harg7 : arg7.IsWhole) (arg8 : Memref sig .tc .vmem S1x2x1x7168 .bf16) (harg8 : arg8.IsWhole) (arg9 : Memref sig .tc .vmem S1x2x1x7168 .bf16) (harg9 : arg9.IsWhole) (arg10 : Memref sig .tc .vmem S1x512x256 .fp8e4m3) (harg10 : arg10.IsWhole) (arg11 : Memref sig .tc .vmem S1x512x16 .f32) (harg11 : arg11.IsWhole) (arg12 : Memref sig .tc .vmem S512x7168 .bf16) (harg12 : arg12.IsWhole) (arg13 : Memref sig .tc .vmem S256x7168 .bf16) (harg13 : arg13.IsWhole) (arg14 : Memref sig .tc .vmem S256x7168 .bf16) (harg14 : arg14.IsWhole)
    (T : Vec F S4 .i32) (x0 : Vec F S1x512x7168 .fp8e4m3) (x1 : Vec F S1x512x56 .f32) (x2 : Vec F S1x256x7168 .fp8e4m3) (x3 : Vec F S1x256x7168 .fp8e4m3) (x4 : Vec F S1x2x1x7168 .bf16) (x5 : Vec F S1x2x1x7168 .bf16) (hc0 : k0_cond1 i (word0 i arg3 harg3 T) = 1#1) (hc1 : k0_cond2 i = 1#1) (hc2 : ¬k0_cond3 i (word0 i arg3 harg3 T) = 1#1) :
    Σ' (L0 : List (View.Piece (Elt F) S1x512x256 .fp8e4m3)), Σ' (L1 : List (View.Piece (Elt F) S1x512x16 .f32)), Σ' (LS0 : List (View.Piece (Elt F) S512x7168 .bf16)), Σ' (LS1 : List (View.Piece (Elt F) S256x7168 .bf16)), { LS2 : List (View.Piece (Elt F) S256x7168 .bf16) //
      ∀ (E : Set ℕ) (K : PUnit → sProp 𝕄),
        iprop(owns (c : Thread nD τ) arg3 fullShare T ∗ owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg3 fullShare T ∗ owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ (∃ f, arg10.view.loc (c : Thread nD τ) ↦[arg10.view.set]{fullShare} arg10.view.writes (Elt F) f L0) ∗ (∃ f, arg11.view.loc (c : Thread nD τ) ↦[arg11.view.set]{fullShare} arg11.view.writes (Elt F) f L1) ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2)) -∗ K ⟨⟩))
          ⊢ wp frame (wpE (defs₀ (F := F)) Variants.none c none) E (cc0_up i arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, fun E K => ?run⟩
  case run =>
    simp only [cc0_up_eq_skeleton]; unfold cc0_up_skel
    simp only [k0_part20_eq_skeleton, k0_part21_eq_skeleton, k0_part22_eq_skeleton, k0_part23_eq_skeleton, k0_part24_eq_skeleton]
    unfold owns
    iintro ⟨⟨%fT, %hfT, HT⟩, ⟨%f0, %hf0, H0⟩, ⟨%f1, %hf1, H1⟩, ⟨%f2, %hf2, H2⟩, ⟨%f3, %hf3, H3⟩, ⟨%f4, %hf4, H4⟩, ⟨%f5, %hf5, H5⟩, ⟨%dO0, %fO0, -, HO0⟩, ⟨%dO1, %fO1, -, HO1⟩, ⟨%dS0, %fS0, -, HS0⟩, ⟨%dS1, %fS1, -, HS1⟩, ⟨%dS2, %fS2, -, HS2⟩, Hk⟩
    obtain rfl := harg3.eq_unread hfT; obtain rfl := harg4.eq_unread hf0; obtain rfl := harg5.eq_unread hf1; obtain rfl := harg6.eq_unread hf2; obtain rfl := harg7.eq_unread hf3; obtain rfl := harg8.eq_unread hf4; obtain rfl := harg9.eq_unread hf5
    sl_exec (disch := first | sl_exact hc0 | sl_exact hc1 | sl_exact hc2)
    sl_exec (disch := first | sl_exact hc0 | sl_exact hc1 | sl_exact hc2)
    sl_step
    iapply Hk
    isplitl [HT]
    · iexists _; isplitr; · ipureintro; exact harg3.read_unread _
      iexact HT
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [HO0]
    · iexists _; iexact HO0
    isplitl [HO1]
    · iexists _; iexact HO1
    isplitl [HS0]
    · iexists _; iexact HS0
    isplitl [HS1]
    · iexists _; iexact HS1
    iexists _; iexact HS2

end Cert.KernelIdeal.Gen

end
-- ==== Proof.KernelIdeal.Run0B.lean ====
module

public import proofs.«01_k».proof.Proof.KernelIdeal.Defs0

/-!
# The body of call 0, later column tiles of a live block
-/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large: the definition's epilogue walks it past the default budget
set_option maxHeartbeats 1600000 in
/-- What `cc0_up` stores in each buffer it writes, as pieces (last first), at a live block's later column tiles, with the proof that from whole buffers the
body runs to its end, leaves the table and the inputs as they were and leaves those pieces. The pieces are the witness
the symbolic run finds. -/
noncomputable def run0B (c : Dev nD) (i : grid0.Coords) (arg3 : Memref sig .tc .smem S4 .i32) (harg3 : arg3.IsWhole) (arg4 : Memref sig .tc .vmem S1x512x7168 .fp8e4m3) (harg4 : arg4.IsWhole) (arg5 : Memref sig .tc .vmem S1x512x56 .f32) (harg5 : arg5.IsWhole) (arg6 : Memref sig .tc .vmem S1x256x7168 .fp8e4m3) (harg6 : arg6.IsWhole) (arg7 : Memref sig .tc .vmem S1x256x7168 .fp8e4m3) (harg7 : arg7.IsWhole) (arg8 : Memref sig .tc .vmem S1x2x1x7168 .bf16) (harg8 : arg8.IsWhole) (arg9 : Memref sig .tc .vmem S1x2x1x7168 .bf16) (harg9 : arg9.IsWhole) (arg10 : Memref sig .tc .vmem S1x512x256 .fp8e4m3) (harg10 : arg10.IsWhole) (arg11 : Memref sig .tc .vmem S1x512x16 .f32) (harg11 : arg11.IsWhole) (arg12 : Memref sig .tc .vmem S512x7168 .bf16) (harg12 : arg12.IsWhole) (arg13 : Memref sig .tc .vmem S256x7168 .bf16) (harg13 : arg13.IsWhole) (arg14 : Memref sig .tc .vmem S256x7168 .bf16) (harg14 : arg14.IsWhole)
    (T : Vec F S4 .i32) (x0 : Vec F S1x512x7168 .fp8e4m3) (x1 : Vec F S1x512x56 .f32) (x2 : Vec F S1x256x7168 .fp8e4m3) (x3 : Vec F S1x256x7168 .fp8e4m3) (x4 : Vec F S1x2x1x7168 .bf16) (x5 : Vec F S1x2x1x7168 .bf16) (h : Vec F S1x512x16 .f32) (s0 : Vec F S512x7168 .bf16) (hc0 : k0_cond1 i (word0 i arg3 harg3 T) = 1#1) (hc1 : ¬k0_cond2 i = 1#1) (hc2 : ¬k0_cond3 i (word0 i arg3 harg3 T) = 1#1) :
    Σ' (L0 : List (View.Piece (Elt F) S1x512x256 .fp8e4m3)), Σ' (L1 : List (View.Piece (Elt F) S1x512x16 .f32)), Σ' (LS1 : List (View.Piece (Elt F) S256x7168 .bf16)), { LS2 : List (View.Piece (Elt F) S256x7168 .bf16) //
      ∀ (E : Set ℕ) (K : PUnit → sProp 𝕄),
        iprop(owns (c : Thread nD τ) arg3 fullShare T ∗ owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ (∃ d, owns (c : Thread nD τ) arg10 fullShare d) ∗ owns (c : Thread nD τ) arg11 fullShare h ∗ owns (c : Thread nD τ) arg12 fullShare s0 ∗ (∃ d, owns (c : Thread nD τ) arg13 fullShare d) ∗ (∃ d, owns (c : Thread nD τ) arg14 fullShare d)
            ∗ (iprop(owns (c : Thread nD τ) arg3 fullShare T ∗ owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ (∃ f, arg10.view.loc (c : Thread nD τ) ↦[arg10.view.set]{fullShare} arg10.view.writes (Elt F) f L0) ∗ (∃ f, arg11.view.loc (c : Thread nD τ) ↦[arg11.view.set]{fullShare} arg11.view.writes (Elt F) f L1) ∗ owns (c : Thread nD τ) arg12 fullShare s0 ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2)) -∗ K ⟨⟩))
          ⊢ wp frame (wpE (defs₀ (F := F)) Variants.none c none) E (cc0_up i arg3 harg3 arg4 harg4 arg5 harg5 arg6 harg6 arg7 harg7 arg8 harg8 arg9 harg9 arg10 harg10 arg11 harg11 arg12 harg12 arg13 harg13 arg14 harg14) K } := by
  refine ⟨?_, ?_, ?_, ?_, fun E K => ?run⟩
  case run =>
    simp only [cc0_up_eq_skeleton]; unfold cc0_up_skel
    simp only [k0_part20_eq_skeleton, k0_part21_eq_skeleton, k0_part22_eq_skeleton, k0_part23_eq_skeleton, k0_part24_eq_skeleton]
    unfold owns
    iintro ⟨⟨%fT, %hfT, HT⟩, ⟨%f0, %hf0, H0⟩, ⟨%f1, %hf1, H1⟩, ⟨%f2, %hf2, H2⟩, ⟨%f3, %hf3, H3⟩, ⟨%f4, %hf4, H4⟩, ⟨%f5, %hf5, H5⟩, ⟨%dO0, %fO0, -, HO0⟩, ⟨%fO1, %hfO1, HO1⟩, ⟨%fS0, %hfS0, HS0⟩, ⟨%dS1, %fS1, -, HS1⟩, ⟨%dS2, %fS2, -, HS2⟩, Hk⟩
    obtain rfl := harg3.eq_unread hfT; obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg11.eq_unread hfO1; obtain rfl := harg12.eq_unread hfS0
    sl_exec (disch := first | sl_exact hc0 | sl_exact hc1 | sl_exact hc2)
    sl_step
    iapply Hk
    isplitl [HT]
    · iexists _; isplitr; · ipureintro; exact harg3.read_unread _
      iexact HT
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [HO0]
    · iexists _; iexact HO0
    isplitl [HO1]
    · iexists _; iexact HO1
    isplitl [HS0]
    · iexists _; isplitr; · ipureintro; exact harg12.read_unread _
      iexact HS0
    isplitl [HS1]
    · iexists _; iexact HS1
    iexists _; iexact HS2

end Cert.KernelIdeal.Gen

end
-- ==== Proof.KernelIdeal.Run0C.lean ====
module

public import proofs.«01_k».proof.Proof.KernelIdeal.Defs0

/-!
# The body of call 0, dead block
-/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large: the definition's epilogue walks it past the default budget
set_option maxHeartbeats 1600000 in
/-- What `cc0_up` stores in each buffer it writes, as pieces (last first), at a dead block, with the proof that from whole buffers the
body runs to its end, leaves the table and the inputs as they were and leaves those pieces. The pieces are the witness
the symbolic run finds. -/
noncomputable def run0C (c : Dev nD) (i : grid0.Coords) (arg3 : Memref sig .tc .smem S4 .i32) (harg3 : arg3.IsWhole) (arg4 : Memref sig .tc .vmem S1x512x7168 .fp8e4m3) (harg4 : arg4.IsWhole) (arg5 : Memref sig .tc .vmem S1x512x56 .f32) (harg5 : arg5.IsWhole) (arg6 : Memref sig .tc .vmem S1x256x7168 .fp8e4m3) (harg6 : arg6.IsWhole) (arg7 : Memref sig .tc .vmem S1x256x7168 .fp8e4m3) (harg7 : arg7.IsWhole) (arg8 : Memref sig .tc .vmem S1x2x1x7168 .bf16) (harg8 : arg8.IsWhole) (arg9 : Memref sig .tc .vmem S1x2x1x7168 .bf16) (harg9 : arg9.IsWhole) (arg10 : Memref sig .tc .vmem S1x512x256 .fp8e4m3) (harg10 : arg10.IsWhole) (arg11 : Memref sig .tc .vmem S1x512x16 .f32) (harg11 : arg11.IsWhole) (arg12 : Memref sig .tc .vmem S512x7168 .bf16) (harg12 : arg12.IsWhole) (arg13 : Memref sig .tc .vmem S256x7168 .bf16) (harg13 : arg13.IsWhole) (arg14 : Memref sig .tc .vmem S256x7168 .bf16) (harg14 : arg14.IsWhole)
    (T : Vec F S4 .i32) (x0 : Vec F S1x512x7168 .fp8e4m3) (x1 : Vec F S1x512x56 .f32) (x2 : Vec F S1x256x7168 .fp8e4m3) (x3 : Vec F S1x256x7168 .fp8e4m3) (x4 : Vec F S1x2x1x7168 .bf16) (x5 : Vec F S1x2x1x7168 .bf16) (hc0 : ¬k0_cond1 i (word0 i arg3 harg3 T) = 1#1) (hc2 : k0_cond3 i (word0 i arg3 harg3 T) = 1#1) :
    Σ' (L0 : List (View.Piece (Elt F) S1x512x256 .fp8e4m3)), { L1 : List (View.Piece (Elt F) S1x512x16 .f32) //
      ∀ (E : Set ℕ) (K : PUnit → sProp 𝕄),
        iprop(owns (c : Thread nD τ) arg3 fullShare T ∗ owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ (∃ d, owns (c : Thread nD τ) arg10 fullShare d) ∗ (∃ d, owns (c : Thread nD τ) arg11 fullShare d)
            ∗ (iprop(owns (c : Thread nD τ) arg3 fullShare T ∗ owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ (∃ f, arg10.view.loc (c : Thread nD τ) ↦[arg10.view.set]{fullShare} arg10.view.writes (Elt F) f L0) ∗ (∃ f, arg11.view.loc (c : Thread nD τ) ↦[arg11.view.set]{fullShare} arg11.view.writes (Elt F) f L1)) -∗ K ⟨⟩))
          ⊢ wp frame (wpE (defs₀ (F := F)) Variants.none c none) E (cc0_up i arg3 harg3 arg4 harg4 arg5 harg5 arg6 harg6 arg7 harg7 arg8 harg8 arg9 harg9 arg10 harg10 arg11 harg11 arg12 harg12 arg13 harg13 arg14 harg14) K } := by
  refine ⟨?_, ?_, fun E K => ?run⟩
  case run =>
    simp only [cc0_up_eq_skeleton]; unfold cc0_up_skel
    simp only [k0_part20_eq_skeleton, k0_part21_eq_skeleton, k0_part22_eq_skeleton, k0_part23_eq_skeleton, k0_part24_eq_skeleton]
    unfold owns
    iintro ⟨⟨%fT, %hfT, HT⟩, ⟨%f0, %hf0, H0⟩, ⟨%f1, %hf1, H1⟩, ⟨%f2, %hf2, H2⟩, ⟨%f3, %hf3, H3⟩, ⟨%f4, %hf4, H4⟩, ⟨%f5, %hf5, H5⟩, ⟨%dO0, %fO0, -, HO0⟩, ⟨%dO1, %fO1, -, HO1⟩, Hk⟩
    obtain rfl := harg3.eq_unread hfT; obtain rfl := harg4.eq_unread hf0; obtain rfl := harg5.eq_unread hf1; obtain rfl := harg6.eq_unread hf2; obtain rfl := harg7.eq_unread hf3; obtain rfl := harg8.eq_unread hf4; obtain rfl := harg9.eq_unread hf5
    sl_exec (disch := first | sl_exact hc0 | sl_exact hc2)
    sl_step
    iapply Hk
    isplitl [HT]
    · iexists _; isplitr; · ipureintro; exact harg3.read_unread _
      iexact HT
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [HO0]
    · iexists _; iexact HO0
    iexists _; iexact HO1

end Cert.KernelIdeal.Gen

end
-- ==== Proof.KernelIdeal.Data0.lean ====
module

public import proofs.«01_k».proof.Proof.KernelIdeal.Run0A
public import proofs.«01_k».proof.Proof.KernelIdeal.Run0B
public import proofs.«01_k».proof.Proof.KernelIdeal.Run0C

/-!
# Call 0: what each grid point leaves
-/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfg0 (F := F)).Adm)
variable (V : (c : Dev nD) → (b : Ref sig .tc) → Buf (Elt F) ((c : Thread nD τ).loc b))

/-- The table's contents. -/
abbrev tab0 : Vec F S4 .i32 := a.1 0

/-- The word of the table the body reads at point `t`. -/
abbrev wd0 (t : Fin (cfg0 a).N) : Elt F .i32 := word0 (grid0.coords t) (Memref.whole main_arg2) (Memref.isWhole_whole _) (tab0 a)

/-! ## A block is either live or dead -/

theorem k0_live_or_dead (i : grid0.Coords) (w : BitVec 32) : k0_cond1 i w = 1#1 ∨ k0_cond3 i w = 1#1 := by
  unfold k0_cond1 k0_cond3; dsimp only
  generalize Scalar.subi w _ = z
  by_cases h : (0#32).slt z = true
  · left; simp [Scalar.cmpi, IntOp.cmpi, Scalar.extui, h]
  · right; simp [Scalar.cmpi, IntOp.cmpi, Scalar.extui, h, BitVec.sle_eq_not_slt]

theorem k0_not_dead (i : grid0.Coords) (w : BitVec 32) (h1 : k0_cond1 i w = 1#1) : ¬k0_cond3 i w = 1#1 := by
  revert h1; unfold k0_cond1 k0_cond3; dsimp only
  generalize Scalar.subi w _ = z
  by_cases h : (0#32).slt z = true
  · simp [Scalar.cmpi, IntOp.cmpi, Scalar.extui, h, BitVec.sle_eq_not_slt]
  · simp [Scalar.cmpi, IntOp.cmpi, Scalar.extui, h]

/-- No window is ever idle: every point stores both outputs. -/
theorem live0_6 (i : grid0.Coords) : (cfg0 a).idle 6 i = false := by
  change (!(k0_cond1 i _ == 1#1) && !(k0_cond3 i _ == 1#1)) = false
  rcases k0_live_or_dead i (a.1.atD 0 (k0_off1 i)) with h | h <;> simp [h]
theorem live0_7 (i : grid0.Coords) : (cfg0 a).idle 7 i = false := by
  change (!(k0_cond1 i _ == 1#1 && k0_cond2 i == 1#1) && !(k0_cond1 i _ == 1#1) && !(k0_cond3 i _ == 1#1)) = false
  rcases k0_live_or_dead i (a.1.atD 0 (k0_off1 i)) with h | h <;> simp [h]

theorem hcond0 : ∀ t : Fin (cfg0 a).N, k0_cond2 (grid0.coords t) = 1#1 ↔ t.val % 8 = 0 :=
  (by decide +kernel : ∀ t : Fin grid0.N, k0_cond2 (grid0.coords t) = 1#1 ↔ t.val % 8 = 0)

/-- Column tiles of one row block read one word, and so are all live or all dead. -/
theorem live_pred0 (t : Fin (cfg0 a).N) (ht : t.val % 8 ≠ 0) (h : k0_cond1 (grid0.coords t) (wd0 a t) = 1#1) :
    k0_cond1 (grid0.coords ⟨t.val - 1, Nat.lt_of_le_of_lt (Nat.sub_le _ _) t.isLt⟩) (wd0 a ⟨t.val - 1, Nat.lt_of_le_of_lt (Nat.sub_le _ _) t.isLt⟩) = 1#1 := by
  have hc := (by decide +kernel : ∀ u : Fin grid0.N, u.val % 8 ≠ 0 →
    (grid0.coords ⟨u.val - 1, Nat.lt_of_le_of_lt (Nat.sub_le _ _) u.isLt⟩ 0).val = (grid0.coords u 0).val
    ∧ (grid0.coords ⟨u.val - 1, Nat.lt_of_le_of_lt (Nat.sub_le _ _) u.isLt⟩ 1).val = (grid0.coords u 1).val) t ht
  have ho : k0_off1 (grid0.coords ⟨t.val - 1, Nat.lt_of_le_of_lt (Nat.sub_le _ _) t.isLt⟩) = k0_off1 (grid0.coords t) := by
    unfold k0_off1; simp only [hc.1]
  have hw : wd0 a ⟨t.val - 1, Nat.lt_of_le_of_lt (Nat.sub_le _ _) t.isLt⟩ = wd0 a t := word0_congr _ _ _ _ _ ho
  rw [hw]; unfold k0_cond1 at h ⊢; simp only [hc.2]; exact h

/-! ## The windows' blocks and staging buffers -/

/-- Window `w`'s block at point `t`, read off its array as the region finds it (`V`). -/
def iblk0 (c : Dev nD) (w : Fin (cfg0 a).W) (t : Fin (cfg0 a).N) : (((cfg0 a).win w).xblock ((cfg0 a).grid.coords t)).Idx → Elt F ((cfg0 a).win w).elt :=
  (((cfg0 a).win w).blk t).view.read (Elt F) (V c (Pipeline.arrRef spec0 w))

theorem before0_0_of {c : Dev nD} (dat : Dat τ (Elt F) Unit ℕ (UR sig nD τ) ℕ (cfg0 a) c) (hA : dat.A 0 = V c (Pipeline.arrRef spec0 0))
    (hafter : ∀ t, dat.after 0 t = iblk0 a V c 0 t) (t : Fin (cfg0 a).N) (d) : dat.before 0 t d = iblk0 a V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ (cfg0 a) c) (hA : dat.A 1 = V c (Pipeline.arrRef spec0 1))
    (hafter : ∀ t, dat.after 1 t = iblk0 a V c 1 t) (t : Fin (cfg0 a).N) (d) : dat.before 1 t d = iblk0 a V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ (cfg0 a) c) (hA : dat.A 2 = V c (Pipeline.arrRef spec0 2))
    (hafter : ∀ t, dat.after 2 t = iblk0 a V c 2 t) (t : Fin (cfg0 a).N) (d) : dat.before 2 t d = iblk0 a V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ (cfg0 a) c) (hA : dat.A 3 = V c (Pipeline.arrRef spec0 3))
    (hafter : ∀ t, dat.after 3 t = iblk0 a V c 3 t) (t : Fin (cfg0 a).N) (d) : dat.before 3 t d = iblk0 a V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ (cfg0 a) c) (hA : dat.A 4 = V c (Pipeline.arrRef spec0 4))
    (hafter : ∀ t, dat.after 4 t = iblk0 a V c 4 t) (t : Fin (cfg0 a).N) (d) : dat.before 4 t d = iblk0 a V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ (cfg0 a) c) (hA : dat.A 5 = V c (Pipeline.arrRef spec0 5))
    (hafter : ∀ t, dat.after 5 t = iblk0 a V c 5 t) (t : Fin (cfg0 a).N) (d) : dat.before 5 t d = iblk0 a V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
abbrev ms0_0 (t : Fin (cfg0 a).N) := spec0_0.stage ((cfg0 a).slots t 0)
theorem hs0_0 (t : Fin (cfg0 a).N) : (ms0_0 a t).IsWhole := hstage0_0 (((cfg0 a).slots t 0).cast nbuf0_0)
abbrev ms0_1 (t : Fin (cfg0 a).N) := spec0_1.stage ((cfg0 a).slots t 1)
theorem hs0_1 (t : Fin (cfg0 a).N) : (ms0_1 a t).IsWhole := hstage0_1 (((cfg0 a).slots t 1).cast nbuf0_1)
abbrev ms0_2 (t : Fin (cfg0 a).N) := spec0_2.stage ((cfg0 a).slots t 2)
theorem hs0_2 (t : Fin (cfg0 a).N) : (ms0_2 a t).IsWhole := hstage0_2 (((cfg0 a).slots t 2).cast nbuf0_2)
abbrev ms0_3 (t : Fin (cfg0 a).N) := spec0_3.stage ((cfg0 a).slots t 3)
theorem hs0_3 (t : Fin (cfg0 a).N) : (ms0_3 a t).IsWhole := hstage0_3 (((cfg0 a).slots t 3).cast nbuf0_3)
abbrev ms0_4 (t : Fin (cfg0 a).N) := spec0_4.stage ((cfg0 a).slots t 4)
theorem hs0_4 (t : Fin (cfg0 a).N) : (ms0_4 a t).IsWhole := hstage0_4 (((cfg0 a).slots t 4).cast nbuf0_4)
abbrev ms0_5 (t : Fin (cfg0 a).N) := spec0_5.stage ((cfg0 a).slots t 5)
theorem hs0_5 (t : Fin (cfg0 a).N) : (ms0_5 a t).IsWhole := hstage0_5 (((cfg0 a).slots t 5).cast nbuf0_5)
abbrev ms0_6 (t : Fin (cfg0 a).N) := spec0_6.stage ((cfg0 a).slots t 6)
theorem hs0_6 (t : Fin (cfg0 a).N) : (ms0_6 a t).IsWhole := hstage0_6 (((cfg0 a).slots t 6).cast nbuf0_6)
abbrev ms0_7 (t : Fin (cfg0 a).N) := spec0_7.stage ((cfg0 a).slots t 7)
theorem hs0_7 (t : Fin (cfg0 a).N) : (ms0_7 a t).IsWhole := hstage0_7 (((cfg0 a).slots t 7).cast nbuf0_7)
abbrev scM0_0 := Memref.whole cc0_scratch0
abbrev scM0_1 := Memref.whole cc0_scratch1
abbrev scM0_2 := Memref.whole cc0_scratch2

/-! ## The stores of each case cover the buffers they go to -/

abbrev VO0_6 := (Memref.whole cc0_stg6_0).view
abbrev VO0_7 := (Memref.whole cc0_stg7_0).view
abbrev VS0 := (Memref.whole cc0_scratch0).view

theorem cover0_A_o0 (c : Dev nD) (i : grid0.Coords) (arg3 : Memref sig .tc .smem S4 .i32) (harg3 : arg3.IsWhole) (arg4 : Memref sig .tc .vmem S1x512x7168 .fp8e4m3) (harg4 : arg4.IsWhole) (arg5 : Memref sig .tc .vmem S1x512x56 .f32) (harg5 : arg5.IsWhole) (arg6 : Memref sig .tc .vmem S1x256x7168 .fp8e4m3) (harg6 : arg6.IsWhole) (arg7 : Memref sig .tc .vmem S1x256x7168 .fp8e4m3) (harg7 : arg7.IsWhole) (arg8 : Memref sig .tc .vmem S1x2x1x7168 .bf16) (harg8 : arg8.IsWhole) (arg9 : Memref sig .tc .vmem S1x2x1x7168 .bf16) (harg9 : arg9.IsWhole) (arg10 : Memref sig .tc .vmem S1x512x256 .fp8e4m3) (harg10 : arg10.IsWhole) (arg11 : Memref sig .tc .vmem S1x512x16 .f32) (harg11 : arg11.IsWhole) (arg12 : Memref sig .tc .vmem S512x7168 .bf16) (harg12 : arg12.IsWhole) (arg13 : Memref sig .tc .vmem S256x7168 .bf16) (harg13 : arg13.IsWhole) (arg14 : Memref sig .tc .vmem S256x7168 .bf16) (harg14 : arg14.IsWhole) (T : Vec F S4 .i32) (x0 : Vec F S1x512x7168 .fp8e4m3) (x1 : Vec F S1x512x56 .f32) (x2 : Vec F S1x256x7168 .fp8e4m3) (x3 : Vec F S1x256x7168 .fp8e4m3) (x4 : Vec F S1x2x1x7168 .bf16) (x5 : Vec F S1x2x1x7168 .bf16) (hc0 : k0_cond1 i (word0 i arg3 harg3 T) = 1#1) (hc1 : k0_cond2 i = 1#1) (hc2 : ¬k0_cond3 i (word0 i arg3 harg3 T) = 1#1) :
    ∀ y : Shape.Idx S1x512x256, ∃ p ∈ (run0A c i arg3 harg3 arg4 harg4 arg5 harg5 arg6 harg6 arg7 harg7 arg8 harg8 arg9 harg9 arg10 harg10 arg11 harg11 arg12 harg12 arg13 harg13 arg14 harg14 T x0 x1 x2 x3 x4 x5 hc0 hc1 hc2).1, y ∈ p.1.set := fun y => View.cover_of_tiledL
  ((run0A c i arg3 harg3 arg4 harg4 arg5 harg5 arg6 harg6 arg7 harg7 arg8 harg8 arg9 harg9 arg10 harg10 arg11 harg11 arg12 harg12 arg13 harg13 arg14 harg14 T x0 x1 x2 x3 x4 x5 hc0 hc1 hc2).1) S1x512x128.size (by sl_kernel_rfl) y
theorem cover0_A_o1 (c : Dev nD) (i : grid0.Coords) (arg3 : Memref sig .tc .smem S4 .i32) (harg3 : arg3.IsWhole) (arg4 : Memref sig .tc .vmem S1x512x7168 .fp8e4m3) (harg4 : arg4.IsWhole) (arg5 : Memref sig .tc .vmem S1x512x56 .f32) (harg5 : arg5.IsWhole) (arg6 : Memref sig .tc .vmem S1x256x7168 .fp8e4m3) (harg6 : arg6.IsWhole) (arg7 : Memref sig .tc .vmem S1x256x7168 .fp8e4m3) (harg7 : arg7.IsWhole) (arg8 : Memref sig .tc .vmem S1x2x1x7168 .bf16) (harg8 : arg8.IsWhole) (arg9 : Memref sig .tc .vmem S1x2x1x7168 .bf16) (harg9 : arg9.IsWhole) (arg10 : Memref sig .tc .vmem S1x512x256 .fp8e4m3) (harg10 : arg10.IsWhole) (arg11 : Memref sig .tc .vmem S1x512x16 .f32) (harg11 : arg11.IsWhole) (arg12 : Memref sig .tc .vmem S512x7168 .bf16) (harg12 : arg12.IsWhole) (arg13 : Memref sig .tc .vmem S256x7168 .bf16) (harg13 : arg13.IsWhole) (arg14 : Memref sig .tc .vmem S256x7168 .bf16) (harg14 : arg14.IsWhole) (T : Vec F S4 .i32) (x0 : Vec F S1x512x7168 .fp8e4m3) (x1 : Vec F S1x512x56 .f32) (x2 : Vec F S1x256x7168 .fp8e4m3) (x3 : Vec F S1x256x7168 .fp8e4m3) (x4 : Vec F S1x2x1x7168 .bf16) (x5 : Vec F S1x2x1x7168 .bf16) (hc0 : k0_cond1 i (word0 i arg3 harg3 T) = 1#1) (hc1 : k0_cond2 i = 1#1) (hc2 : ¬k0_cond3 i (word0 i arg3 harg3 T) = 1#1) :
    ∀ y : Shape.Idx S1x512x16, ∃ p ∈ (run0A c i arg3 harg3 arg4 harg4 arg5 harg5 arg6 harg6 arg7 harg7 arg8 harg8 arg9 harg9 arg10 harg10 arg11 harg11 arg12 harg12 arg13 harg13 arg14 harg14 T x0 x1 x2 x3 x4 x5 hc0 hc1 hc2).2.1, y ∈ p.1.set := fun y => View.cover_of_tiledL
  ((run0A c i arg3 harg3 arg4 harg4 arg5 harg5 arg6 harg6 arg7 harg7 arg8 harg8 arg9 harg9 arg10 harg10 arg11 harg11 arg12 harg12 arg13 harg13 arg14 harg14 T x0 x1 x2 x3 x4 x5 hc0 hc1 hc2).2.1) S1x512x16.size (by sl_kernel_rfl) y
theorem cover0_A_s0 (c : Dev nD) (i : grid0.Coords) (arg3 : Memref sig .tc .smem S4 .i32) (harg3 : arg3.IsWhole) (arg4 : Memref sig .tc .vmem S1x512x7168 .fp8e4m3) (harg4 : arg4.IsWhole) (arg5 : Memref sig .tc .vmem S1x512x56 .f32) (harg5 : arg5.IsWhole) (arg6 : Memref sig .tc .vmem S1x256x7168 .fp8e4m3) (harg6 : arg6.IsWhole) (arg7 : Memref sig .tc .vmem S1x256x7168 .fp8e4m3) (harg7 : arg7.IsWhole) (arg8 : Memref sig .tc .vmem S1x2x1x7168 .bf16) (harg8 : arg8.IsWhole) (arg9 : Memref sig .tc .vmem S1x2x1x7168 .bf16) (harg9 : arg9.IsWhole) (arg10 : Memref sig .tc .vmem S1x512x256 .fp8e4m3) (harg10 : arg10.IsWhole) (arg11 : Memref sig .tc .vmem S1x512x16 .f32) (harg11 : arg11.IsWhole) (arg12 : Memref sig .tc .vmem S512x7168 .bf16) (harg12 : arg12.IsWhole) (arg13 : Memref sig .tc .vmem S256x7168 .bf16) (harg13 : arg13.IsWhole) (arg14 : Memref sig .tc .vmem S256x7168 .bf16) (harg14 : arg14.IsWhole) (T : Vec F S4 .i32) (x0 : Vec F S1x512x7168 .fp8e4m3) (x1 : Vec F S1x512x56 .f32) (x2 : Vec F S1x256x7168 .fp8e4m3) (x3 : Vec F S1x256x7168 .fp8e4m3) (x4 : Vec F S1x2x1x7168 .bf16) (x5 : Vec F S1x2x1x7168 .bf16) (hc0 : k0_cond1 i (word0 i arg3 harg3 T) = 1#1) (hc1 : k0_cond2 i = 1#1) (hc2 : ¬k0_cond3 i (word0 i arg3 harg3 T) = 1#1) :
    ∀ y : Shape.Idx S512x7168, ∃ p ∈ (run0A c i arg3 harg3 arg4 harg4 arg5 harg5 arg6 harg6 arg7 harg7 arg8 harg8 arg9 harg9 arg10 harg10 arg11 harg11 arg12 harg12 arg13 harg13 arg14 harg14 T x0 x1 x2 x3 x4 x5 hc0 hc1 hc2).2.2.1, y ∈ p.1.set := fun y => View.cover_of_tiledL
  ((run0A c i arg3 harg3 arg4 harg4 arg5 harg5 arg6 harg6 arg7 harg7 arg8 harg8 arg9 harg9 arg10 harg10 arg11 harg11 arg12 harg12 arg13 harg13 arg14 harg14 T x0 x1 x2 x3 x4 x5 hc0 hc1 hc2).2.2.1) S512x128.size (by sl_kernel_rfl) y
theorem cover0_B_o0 (c : Dev nD) (i : grid0.Coords) (arg3 : Memref sig .tc .smem S4 .i32) (harg3 : arg3.IsWhole) (arg4 : Memref sig .tc .vmem S1x512x7168 .fp8e4m3) (harg4 : arg4.IsWhole) (arg5 : Memref sig .tc .vmem S1x512x56 .f32) (harg5 : arg5.IsWhole) (arg6 : Memref sig .tc .vmem S1x256x7168 .fp8e4m3) (harg6 : arg6.IsWhole) (arg7 : Memref sig .tc .vmem S1x256x7168 .fp8e4m3) (harg7 : arg7.IsWhole) (arg8 : Memref sig .tc .vmem S1x2x1x7168 .bf16) (harg8 : arg8.IsWhole) (arg9 : Memref sig .tc .vmem S1x2x1x7168 .bf16) (harg9 : arg9.IsWhole) (arg10 : Memref sig .tc .vmem S1x512x256 .fp8e4m3) (harg10 : arg10.IsWhole) (arg11 : Memref sig .tc .vmem S1x512x16 .f32) (harg11 : arg11.IsWhole) (arg12 : Memref sig .tc .vmem S512x7168 .bf16) (harg12 : arg12.IsWhole) (arg13 : Memref sig .tc .vmem S256x7168 .bf16) (harg13 : arg13.IsWhole) (arg14 : Memref sig .tc .vmem S256x7168 .bf16) (harg14 : arg14.IsWhole) (T : Vec F S4 .i32) (x0 : Vec F S1x512x7168 .fp8e4m3) (x1 : Vec F S1x512x56 .f32) (x2 : Vec F S1x256x7168 .fp8e4m3) (x3 : Vec F S1x256x7168 .fp8e4m3) (x4 : Vec F S1x2x1x7168 .bf16) (x5 : Vec F S1x2x1x7168 .bf16) (h : Vec F S1x512x16 .f32) (s0 : Vec F S512x7168 .bf16) (hc0 : k0_cond1 i (word0 i arg3 harg3 T) = 1#1) (hc1 : ¬k0_cond2 i = 1#1) (hc2 : ¬k0_cond3 i (word0 i arg3 harg3 T) = 1#1) :
    ∀ y : Shape.Idx S1x512x256, ∃ p ∈ (run0B c i arg3 harg3 arg4 harg4 arg5 harg5 arg6 harg6 arg7 harg7 arg8 harg8 arg9 harg9 arg10 harg10 arg11 harg11 arg12 harg12 arg13 harg13 arg14 harg14 T x0 x1 x2 x3 x4 x5 h s0 hc0 hc1 hc2).1, y ∈ p.1.set := fun y => View.cover_of_tiledL
  ((run0B c i arg3 harg3 arg4 harg4 arg5 harg5 arg6 harg6 arg7 harg7 arg8 harg8 arg9 harg9 arg10 harg10 arg11 harg11 arg12 harg12 arg13 harg13 arg14 harg14 T x0 x1 x2 x3 x4 x5 h s0 hc0 hc1 hc2).1) S1x512x128.size (by sl_kernel_rfl) y
theorem cover0_B_o1 (c : Dev nD) (i : grid0.Coords) (arg3 : Memref sig .tc .smem S4 .i32) (harg3 : arg3.IsWhole) (arg4 : Memref sig .tc .vmem S1x512x7168 .fp8e4m3) (harg4 : arg4.IsWhole) (arg5 : Memref sig .tc .vmem S1x512x56 .f32) (harg5 : arg5.IsWhole) (arg6 : Memref sig .tc .vmem S1x256x7168 .fp8e4m3) (harg6 : arg6.IsWhole) (arg7 : Memref sig .tc .vmem S1x256x7168 .fp8e4m3) (harg7 : arg7.IsWhole) (arg8 : Memref sig .tc .vmem S1x2x1x7168 .bf16) (harg8 : arg8.IsWhole) (arg9 : Memref sig .tc .vmem S1x2x1x7168 .bf16) (harg9 : arg9.IsWhole) (arg10 : Memref sig .tc .vmem S1x512x256 .fp8e4m3) (harg10 : arg10.IsWhole) (arg11 : Memref sig .tc .vmem S1x512x16 .f32) (harg11 : arg11.IsWhole) (arg12 : Memref sig .tc .vmem S512x7168 .bf16) (harg12 : arg12.IsWhole) (arg13 : Memref sig .tc .vmem S256x7168 .bf16) (harg13 : arg13.IsWhole) (arg14 : Memref sig .tc .vmem S256x7168 .bf16) (harg14 : arg14.IsWhole) (T : Vec F S4 .i32) (x0 : Vec F S1x512x7168 .fp8e4m3) (x1 : Vec F S1x512x56 .f32) (x2 : Vec F S1x256x7168 .fp8e4m3) (x3 : Vec F S1x256x7168 .fp8e4m3) (x4 : Vec F S1x2x1x7168 .bf16) (x5 : Vec F S1x2x1x7168 .bf16) (h : Vec F S1x512x16 .f32) (s0 : Vec F S512x7168 .bf16) (hc0 : k0_cond1 i (word0 i arg3 harg3 T) = 1#1) (hc1 : ¬k0_cond2 i = 1#1) (hc2 : ¬k0_cond3 i (word0 i arg3 harg3 T) = 1#1) :
    ∀ y : Shape.Idx S1x512x16, ∃ p ∈ (run0B c i arg3 harg3 arg4 harg4 arg5 harg5 arg6 harg6 arg7 harg7 arg8 harg8 arg9 harg9 arg10 harg10 arg11 harg11 arg12 harg12 arg13 harg13 arg14 harg14 T x0 x1 x2 x3 x4 x5 h s0 hc0 hc1 hc2).2.1, y ∈ p.1.set := fun y => View.cover_of_tiledL
  ((run0B c i arg3 harg3 arg4 harg4 arg5 harg5 arg6 harg6 arg7 harg7 arg8 harg8 arg9 harg9 arg10 harg10 arg11 harg11 arg12 harg12 arg13 harg13 arg14 harg14 T x0 x1 x2 x3 x4 x5 h s0 hc0 hc1 hc2).2.1) S1x512x16.size (by sl_kernel_rfl) y
theorem cover0_C_o0 (c : Dev nD) (i : grid0.Coords) (arg3 : Memref sig .tc .smem S4 .i32) (harg3 : arg3.IsWhole) (arg4 : Memref sig .tc .vmem S1x512x7168 .fp8e4m3) (harg4 : arg4.IsWhole) (arg5 : Memref sig .tc .vmem S1x512x56 .f32) (harg5 : arg5.IsWhole) (arg6 : Memref sig .tc .vmem S1x256x7168 .fp8e4m3) (harg6 : arg6.IsWhole) (arg7 : Memref sig .tc .vmem S1x256x7168 .fp8e4m3) (harg7 : arg7.IsWhole) (arg8 : Memref sig .tc .vmem S1x2x1x7168 .bf16) (harg8 : arg8.IsWhole) (arg9 : Memref sig .tc .vmem S1x2x1x7168 .bf16) (harg9 : arg9.IsWhole) (arg10 : Memref sig .tc .vmem S1x512x256 .fp8e4m3) (harg10 : arg10.IsWhole) (arg11 : Memref sig .tc .vmem S1x512x16 .f32) (harg11 : arg11.IsWhole) (arg12 : Memref sig .tc .vmem S512x7168 .bf16) (harg12 : arg12.IsWhole) (arg13 : Memref sig .tc .vmem S256x7168 .bf16) (harg13 : arg13.IsWhole) (arg14 : Memref sig .tc .vmem S256x7168 .bf16) (harg14 : arg14.IsWhole) (T : Vec F S4 .i32) (x0 : Vec F S1x512x7168 .fp8e4m3) (x1 : Vec F S1x512x56 .f32) (x2 : Vec F S1x256x7168 .fp8e4m3) (x3 : Vec F S1x256x7168 .fp8e4m3) (x4 : Vec F S1x2x1x7168 .bf16) (x5 : Vec F S1x2x1x7168 .bf16) (hc0 : ¬k0_cond1 i (word0 i arg3 harg3 T) = 1#1) (hc2 : k0_cond3 i (word0 i arg3 harg3 T) = 1#1) :
    ∀ y : Shape.Idx S1x512x256, ∃ p ∈ (run0C c i arg3 harg3 arg4 harg4 arg5 harg5 arg6 harg6 arg7 harg7 arg8 harg8 arg9 harg9 arg10 harg10 arg11 harg11 arg12 harg12 arg13 harg13 arg14 harg14 T x0 x1 x2 x3 x4 x5 hc0 hc2).1, y ∈ p.1.set := fun y => View.cover_of_tiledL
  ((run0C c i arg3 harg3 arg4 harg4 arg5 harg5 arg6 harg6 arg7 harg7 arg8 harg8 arg9 harg9 arg10 harg10 arg11 harg11 arg12 harg12 arg13 harg13 arg14 harg14 T x0 x1 x2 x3 x4 x5 hc0 hc2).1) S1x512x256.size (by sl_kernel_rfl) y
theorem cover0_C_o1 (c : Dev nD) (i : grid0.Coords) (arg3 : Memref sig .tc .smem S4 .i32) (harg3 : arg3.IsWhole) (arg4 : Memref sig .tc .vmem S1x512x7168 .fp8e4m3) (harg4 : arg4.IsWhole) (arg5 : Memref sig .tc .vmem S1x512x56 .f32) (harg5 : arg5.IsWhole) (arg6 : Memref sig .tc .vmem S1x256x7168 .fp8e4m3) (harg6 : arg6.IsWhole) (arg7 : Memref sig .tc .vmem S1x256x7168 .fp8e4m3) (harg7 : arg7.IsWhole) (arg8 : Memref sig .tc .vmem S1x2x1x7168 .bf16) (harg8 : arg8.IsWhole) (arg9 : Memref sig .tc .vmem S1x2x1x7168 .bf16) (harg9 : arg9.IsWhole) (arg10 : Memref sig .tc .vmem S1x512x256 .fp8e4m3) (harg10 : arg10.IsWhole) (arg11 : Memref sig .tc .vmem S1x512x16 .f32) (harg11 : arg11.IsWhole) (arg12 : Memref sig .tc .vmem S512x7168 .bf16) (harg12 : arg12.IsWhole) (arg13 : Memref sig .tc .vmem S256x7168 .bf16) (harg13 : arg13.IsWhole) (arg14 : Memref sig .tc .vmem S256x7168 .bf16) (harg14 : arg14.IsWhole) (T : Vec F S4 .i32) (x0 : Vec F S1x512x7168 .fp8e4m3) (x1 : Vec F S1x512x56 .f32) (x2 : Vec F S1x256x7168 .fp8e4m3) (x3 : Vec F S1x256x7168 .fp8e4m3) (x4 : Vec F S1x2x1x7168 .bf16) (x5 : Vec F S1x2x1x7168 .bf16) (hc0 : ¬k0_cond1 i (word0 i arg3 harg3 T) = 1#1) (hc2 : k0_cond3 i (word0 i arg3 harg3 T) = 1#1) :
    ∀ y : Shape.Idx S1x512x16, ∃ p ∈ (run0C c i arg3 harg3 arg4 harg4 arg5 harg5 arg6 harg6 arg7 harg7 arg8 harg8 arg9 harg9 arg10 harg10 arg11 harg11 arg12 harg12 arg13 harg13 arg14 harg14 T x0 x1 x2 x3 x4 x5 hc0 hc2).2.1, y ∈ p.1.set := fun y => View.cover_of_tiledL
  ((run0C c i arg3 harg3 arg4 harg4 arg5 harg5 arg6 harg6 arg7 harg7 arg8 harg8 arg9 harg9 arg10 harg10 arg11 harg11 arg12 harg12 arg13 harg13 arg14 harg14 T x0 x1 x2 x3 x4 x5 hc0 hc2).2.1) S1x512x16.size (by sl_kernel_rfl) y

/-! ## What each point leaves: the two outputs' buffers and the carried scratch -/

/-- What the outputs' buffers and the carried scratch hold. -/
abbrev St0 (F : FTy → Type) := Vec F S1x512x256 .fp8e4m3 × Vec F S1x512x16 .f32 × Vec F S512x7168 .bf16

/-- The first column tile of a live block. -/
def stepA0 (c : Dev nD) (t : Fin (cfg0 a).N) (h1 : k0_cond1 (grid0.coords t) (wd0 a t) = 1#1) (h2 : k0_cond2 (grid0.coords t) = 1#1) : St0 F :=
  (VO0_6.read (Elt F) (VO0_6.writes (Elt F) VO0_6.junk (run0A c (grid0.coords t) (Memref.whole main_arg2) (Memref.isWhole_whole _) (ms0_0 a t) (hs0_0 a t) (ms0_1 a t) (hs0_1 a t) (ms0_2 a t) (hs0_2 a t) (ms0_3 a t) (hs0_3 a t) (ms0_4 a t) (hs0_4 a t) (ms0_5 a t) (hs0_5 a t) (ms0_6 a t) (hs0_6 a t) (ms0_7 a t) (hs0_7 a t) (Memref.whole cc0_scratch0) (Memref.isWhole_whole _) (Memref.whole cc0_scratch1) (Memref.isWhole_whole _) (Memref.whole cc0_scratch2) (Memref.isWhole_whole _) (tab0 a) (iblk0 a V c 0 t) (iblk0 a V c 1 t) (iblk0 a V c 2 t) (iblk0 a V c 3 t) (iblk0 a V c 4 t) (iblk0 a V c 5 t) h1 h2 (k0_not_dead _ _ h1)).1),
   VO0_7.read (Elt F) (VO0_7.writes (Elt F) VO0_7.junk (run0A c (grid0.coords t) (Memref.whole main_arg2) (Memref.isWhole_whole _) (ms0_0 a t) (hs0_0 a t) (ms0_1 a t) (hs0_1 a t) (ms0_2 a t) (hs0_2 a t) (ms0_3 a t) (hs0_3 a t) (ms0_4 a t) (hs0_4 a t) (ms0_5 a t) (hs0_5 a t) (ms0_6 a t) (hs0_6 a t) (ms0_7 a t) (hs0_7 a t) (Memref.whole cc0_scratch0) (Memref.isWhole_whole _) (Memref.whole cc0_scratch1) (Memref.isWhole_whole _) (Memref.whole cc0_scratch2) (Memref.isWhole_whole _) (tab0 a) (iblk0 a V c 0 t) (iblk0 a V c 1 t) (iblk0 a V c 2 t) (iblk0 a V c 3 t) (iblk0 a V c 4 t) (iblk0 a V c 5 t) h1 h2 (k0_not_dead _ _ h1)).2.1),
   VS0.read (Elt F) (VS0.writes (Elt F) VS0.junk (run0A c (grid0.coords t) (Memref.whole main_arg2) (Memref.isWhole_whole _) (ms0_0 a t) (hs0_0 a t) (ms0_1 a t) (hs0_1 a t) (ms0_2 a t) (hs0_2 a t) (ms0_3 a t) (hs0_3 a t) (ms0_4 a t) (hs0_4 a t) (ms0_5 a t) (hs0_5 a t) (ms0_6 a t) (hs0_6 a t) (ms0_7 a t) (hs0_7 a t) (Memref.whole cc0_scratch0) (Memref.isWhole_whole _) (Memref.whole cc0_scratch1) (Memref.isWhole_whole _) (Memref.whole cc0_scratch2) (Memref.isWhole_whole _) (tab0 a) (iblk0 a V c 0 t) (iblk0 a V c 1 t) (iblk0 a V c 2 t) (iblk0 a V c 3 t) (iblk0 a V c 4 t) (iblk0 a V c 5 t) h1 h2 (k0_not_dead _ _ h1)).2.2.1))
/-- A later column tile of a live block: the carried scratch stays. -/
def stepB0 (c : Dev nD) (t : Fin (cfg0 a).N) (h1 : k0_cond1 (grid0.coords t) (wd0 a t) = 1#1) (h2 : ¬k0_cond2 (grid0.coords t) = 1#1) (acc : St0 F) : St0 F :=
  (VO0_6.read (Elt F) (VO0_6.writes (Elt F) VO0_6.junk (run0B c (grid0.coords t) (Memref.whole main_arg2) (Memref.isWhole_whole _) (ms0_0 a t) (hs0_0 a t) (ms0_1 a t) (hs0_1 a t) (ms0_2 a t) (hs0_2 a t) (ms0_3 a t) (hs0_3 a t) (ms0_4 a t) (hs0_4 a t) (ms0_5 a t) (hs0_5 a t) (ms0_6 a t) (hs0_6 a t) (ms0_7 a t) (hs0_7 a t) (Memref.whole cc0_scratch0) (Memref.isWhole_whole _) (Memref.whole cc0_scratch1) (Memref.isWhole_whole _) (Memref.whole cc0_scratch2) (Memref.isWhole_whole _) (tab0 a) (iblk0 a V c 0 t) (iblk0 a V c 1 t) (iblk0 a V c 2 t) (iblk0 a V c 3 t) (iblk0 a V c 4 t) (iblk0 a V c 5 t) acc.2.1 acc.2.2 h1 h2 (k0_not_dead _ _ h1)).1),
   VO0_7.read (Elt F) (VO0_7.writes (Elt F) VO0_7.junk (run0B c (grid0.coords t) (Memref.whole main_arg2) (Memref.isWhole_whole _) (ms0_0 a t) (hs0_0 a t) (ms0_1 a t) (hs0_1 a t) (ms0_2 a t) (hs0_2 a t) (ms0_3 a t) (hs0_3 a t) (ms0_4 a t) (hs0_4 a t) (ms0_5 a t) (hs0_5 a t) (ms0_6 a t) (hs0_6 a t) (ms0_7 a t) (hs0_7 a t) (Memref.whole cc0_scratch0) (Memref.isWhole_whole _) (Memref.whole cc0_scratch1) (Memref.isWhole_whole _) (Memref.whole cc0_scratch2) (Memref.isWhole_whole _) (tab0 a) (iblk0 a V c 0 t) (iblk0 a V c 1 t) (iblk0 a V c 2 t) (iblk0 a V c 3 t) (iblk0 a V c 4 t) (iblk0 a V c 5 t) acc.2.1 acc.2.2 h1 h2 (k0_not_dead _ _ h1)).2.1),
   acc.2.2)
/-- A dead block: the carried scratch stays. -/
def stepC0 (c : Dev nD) (t : Fin (cfg0 a).N) (h1 : ¬k0_cond1 (grid0.coords t) (wd0 a t) = 1#1) (acc : St0 F) : St0 F :=
  (VO0_6.read (Elt F) (VO0_6.writes (Elt F) VO0_6.junk (run0C c (grid0.coords t) (Memref.whole main_arg2) (Memref.isWhole_whole _) (ms0_0 a t) (hs0_0 a t) (ms0_1 a t) (hs0_1 a t) (ms0_2 a t) (hs0_2 a t) (ms0_3 a t) (hs0_3 a t) (ms0_4 a t) (hs0_4 a t) (ms0_5 a t) (hs0_5 a t) (ms0_6 a t) (hs0_6 a t) (ms0_7 a t) (hs0_7 a t) (Memref.whole cc0_scratch0) (Memref.isWhole_whole _) (Memref.whole cc0_scratch1) (Memref.isWhole_whole _) (Memref.whole cc0_scratch2) (Memref.isWhole_whole _) (tab0 a) (iblk0 a V c 0 t) (iblk0 a V c 1 t) (iblk0 a V c 2 t) (iblk0 a V c 3 t) (iblk0 a V c 4 t) (iblk0 a V c 5 t) h1 ((k0_live_or_dead _ _).resolve_left h1)).1),
   VO0_7.read (Elt F) (VO0_7.writes (Elt F) VO0_7.junk (run0C c (grid0.coords t) (Memref.whole main_arg2) (Memref.isWhole_whole _) (ms0_0 a t) (hs0_0 a t) (ms0_1 a t) (hs0_1 a t) (ms0_2 a t) (hs0_2 a t) (ms0_3 a t) (hs0_3 a t) (ms0_4 a t) (hs0_4 a t) (ms0_5 a t) (hs0_5 a t) (ms0_6 a t) (hs0_6 a t) (ms0_7 a t) (hs0_7 a t) (Memref.whole cc0_scratch0) (Memref.isWhole_whole _) (Memref.whole cc0_scratch1) (Memref.isWhole_whole _) (Memref.whole cc0_scratch2) (Memref.isWhole_whole _) (tab0 a) (iblk0 a V c 0 t) (iblk0 a V c 1 t) (iblk0 a V c 2 t) (iblk0 a V c 3 t) (iblk0 a V c 4 t) (iblk0 a V c 5 t) h1 ((k0_live_or_dead _ _).resolve_left h1)).2.1),
   acc.2.2)
/-- What point `t` leaves, from what the point before left. -/
def step0 (c : Dev nD) (t : Fin (cfg0 a).N) (acc : St0 F) : St0 F :=
  if h1 : k0_cond1 (grid0.coords t) (wd0 a t) = 1#1 then (if h2 : k0_cond2 (grid0.coords t) = 1#1 then stepA0 a V c t h1 h2 else stepB0 a V c t h1 h2 acc) else stepC0 a V c t h1 acc
/-- Before the first point: contents nothing reads. -/
def st0_0 : St0 F := (VO0_6.read (Elt F) VO0_6.junk, VO0_7.read (Elt F) VO0_7.junk, VS0.read (Elt F) VS0.junk)
/-- The state entering point `n`. -/
def acc0 (c : Dev nD) : (n : ℕ) → n ≤ (cfg0 a).N → St0 F
  | 0, _ => st0_0
  | n + 1, h => step0 a V c ⟨n, h⟩ (acc0 c n (Nat.le_of_succ_le h))
/-- The state point `t` leaves. -/
def outsAt0 (c : Dev nD) (t : Fin (cfg0 a).N) : St0 F := step0 a V c t (acc0 a V c t.val t.isLt.le)

theorem acc0_succ (c : Dev nD) (n : ℕ) (h : n + 1 ≤ (cfg0 a).N) : acc0 a V c (n + 1) h = outsAt0 a V c ⟨n, h⟩ := rfl

/-! ## The region's invariant: the table, the scratch (the carried one at its contents once the first point has run), the other
    scoped buffers, the generator register -/

/-- The scoped buffers the region does not touch. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

theorem scopedRest0_split (c : Dev nD) :
    (Pipeline.scopedRest (Ix := Unit) (Name := ℕ) (U := UR sig nD τ) (Lvl := ℕ) (Val := Elt F) spec0 c : sProp 𝕄)
      = iprop((∃ d, owns (c : Thread nD τ) scM0_0 fullShare d) ∗ (∃ d, owns (c : Thread nD τ) scM0_1 fullShare d) ∗ (∃ d, owns (c : Thread nD τ) scM0_2 fullShare d) ∗ others0 (F := F) c) := by
  unfold others0; simp only [scM0_0, owns_whole]
  exact Pipeline.scopedRest_eq_of_list spec0 c [cc0_scratch0, cc0_scratch1, cc0_scratch2, cc1_stg0_0, cc1_stg0_1, cc1_stg1_0, cc1_stg1_1, cc1_stg2_0, cc1_stg2_1, cc1_stg3_0, cc1_stg3_1, cc1_stg4_0, cc1_stg4_1, cc1_stg5_0, cc1_stg5_1, cc1_scratch0, cc1_scratch1] (by decide) (by decide)

/-- The carried scratch entering point `n`: at a later column tile of a live block, at what the tile before left. -/
def carried0 (c : Dev nD) (n : ℕ) (h : n ≤ (cfg0 a).N) : sProp 𝕄 :=
  iprop(∃ d, owns (c : Thread nD τ) scM0_0 fullShare d
    ∗ ⌜∀ hn : n < (cfg0 a).N, n % 8 ≠ 0 → k0_cond1 (grid0.coords ⟨n, hn⟩) (wd0 a ⟨n, hn⟩) = 1#1 → d = (acc0 a V c n h).2.2⌝)

/-- The invariant entering point `n`. -/
def Phi0 (c : Dev nD) (n : ℕ) (h : n ≤ (cfg0 a).N) : sProp 𝕄 :=
  iprop(owns (c : Thread nD τ) (Memref.whole main_arg2) fullShare (tab0 a) ∗ carried0 a V c n h
    ∗ (∃ d, owns (c : Thread nD τ) scM0_1 fullShare d) ∗ (∃ d, owns (c : Thread nD τ) scM0_2 fullShare d) ∗ others0 (F := F) c ∗ (∃ r, prngReg c r))

/-- The region's proof data. -/
def dat0 (c : Dev nD) : Dat τ (Elt F) Unit ℕ (UR sig nD τ) ℕ (cfg0 a) c where
  A w := V c (Pipeline.arrRef spec0 w)
  after w t := match w with
    | ⟨0, _⟩ => iblk0 a V c 0 t
    | ⟨1, _⟩ => iblk0 a V c 1 t
    | ⟨2, _⟩ => iblk0 a V c 2 t
    | ⟨3, _⟩ => iblk0 a V c 3 t
    | ⟨4, _⟩ => iblk0 a V c 4 t
    | ⟨5, _⟩ => iblk0 a V c 5 t
    | ⟨6, _⟩ => (outsAt0 a V c t).1
    | ⟨7, _⟩ => (outsAt0 a V c t).2.1
  Φ n := Phi0 a V c n.val (Nat.lt_succ_iff.mp n.isLt)
  q w := Pipeline.shareOf spec0 w
  owed _ := 0

theorem A_eq0 (c : Dev nD) (w : Fin (cfg0 a).W) : (dat0 a V c).A w = V c (Pipeline.arrRef spec0 w) := by
  dsimp only [dat0]
theorem after0_0 (c : Dev nD) (t : Fin (cfg0 a).N) : (dat0 a V c).after 0 t = iblk0 a V c 0 t := by dsimp only [dat0]; rfl
theorem after0_1 (c : Dev nD) (t : Fin (cfg0 a).N) : (dat0 a V c).after 1 t = iblk0 a V c 1 t := by dsimp only [dat0]; rfl
theorem after0_2 (c : Dev nD) (t : Fin (cfg0 a).N) : (dat0 a V c).after 2 t = iblk0 a V c 2 t := by dsimp only [dat0]; rfl
theorem after0_3 (c : Dev nD) (t : Fin (cfg0 a).N) : (dat0 a V c).after 3 t = iblk0 a V c 3 t := by dsimp only [dat0]; rfl
theorem after0_4 (c : Dev nD) (t : Fin (cfg0 a).N) : (dat0 a V c).after 4 t = iblk0 a V c 4 t := by dsimp only [dat0]; rfl
theorem after0_5 (c : Dev nD) (t : Fin (cfg0 a).N) : (dat0 a V c).after 5 t = iblk0 a V c 5 t := by dsimp only [dat0]; rfl
theorem after0_6 (c : Dev nD) (t : Fin (cfg0 a).N) : (dat0 a V c).after 6 t = (outsAt0 a V c t).1 := by dsimp only [dat0]; rfl
theorem after0_7 (c : Dev nD) (t : Fin (cfg0 a).N) : (dat0 a V c).after 7 t = (outsAt0 a V c t).2.1 := by dsimp only [dat0]; rfl
theorem before0_0 (c : Dev nD) (t : Fin (cfg0 a).N) (d) : (dat0 a V c).before 0 t d = iblk0 a V c 0 t :=
  before0_0_of a V (dat0 a V c) (A_eq0 a V c 0) (after0_0 a V c) t d
theorem before0_1 (c : Dev nD) (t : Fin (cfg0 a).N) (d) : (dat0 a V c).before 1 t d = iblk0 a V c 1 t :=
  before0_1_of a V (dat0 a V c) (A_eq0 a V c 1) (after0_1 a V c) t d
theorem before0_2 (c : Dev nD) (t : Fin (cfg0 a).N) (d) : (dat0 a V c).before 2 t d = iblk0 a V c 2 t :=
  before0_2_of a V (dat0 a V c) (A_eq0 a V c 2) (after0_2 a V c) t d
theorem before0_3 (c : Dev nD) (t : Fin (cfg0 a).N) (d) : (dat0 a V c).before 3 t d = iblk0 a V c 3 t :=
  before0_3_of a V (dat0 a V c) (A_eq0 a V c 3) (after0_3 a V c) t d
theorem before0_4 (c : Dev nD) (t : Fin (cfg0 a).N) (d) : (dat0 a V c).before 4 t d = iblk0 a V c 4 t :=
  before0_4_of a V (dat0 a V c) (A_eq0 a V c 4) (after0_4 a V c) t d
theorem before0_5 (c : Dev nD) (t : Fin (cfg0 a).N) (d) : (dat0 a V c).before 5 t d = iblk0 a V c 5 t :=
  before0_5_of a V (dat0 a V c) (A_eq0 a V c 5) (after0_5 a V c) t d

end Cert.KernelIdeal.Gen

end
-- ==== Proof.KernelIdeal.Body0.lean ====
module

public import proofs.«01_k».proof.Proof.KernelIdeal.Data0

/-!
# Call 0: the body at every grid point
-/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfg0 (F := F)).Adm)
variable (V : (c : Dev nD) → (b : Ref sig .tc) → Buf (Elt F) ((c : Thread nD τ).loc b))

theorem outsAt0_A (c : Dev nD) (t : Fin (cfg0 a).N) (h1 : k0_cond1 (grid0.coords t) (wd0 a t) = 1#1) (h2 : k0_cond2 (grid0.coords t) = 1#1) : outsAt0 a V c t = stepA0 a V c t h1 h2 := by
  unfold outsAt0 step0; rw [dif_pos h1, dif_pos h2]
theorem outsAt0_B (c : Dev nD) (t : Fin (cfg0 a).N) (h1 : k0_cond1 (grid0.coords t) (wd0 a t) = 1#1) (h2 : ¬k0_cond2 (grid0.coords t) = 1#1) :
    outsAt0 a V c t = stepB0 a V c t h1 h2 (acc0 a V c t.val t.isLt.le) := by
  unfold outsAt0 step0; rw [dif_pos h1, dif_neg h2]
theorem outsAt0_C (c : Dev nD) (t : Fin (cfg0 a).N) (h1 : ¬k0_cond1 (grid0.coords t) (wd0 a t) = 1#1) : outsAt0 a V c t = stepC0 a V c t h1 (acc0 a V c t.val t.isLt.le) := by
  unfold outsAt0 step0; rw [dif_neg h1]

theorem Phi0_congr (c : Dev nD) (n n' : ℕ) (h : n ≤ (cfg0 a).N) (h' : n' ≤ (cfg0 a).N) (e : n = n') : Phi0 a V c n h = Phi0 a V c n' h' := by
  subst e; rfl
theorem Phi0_succ (c : Dev nD) (t : Fin (cfg0 a).N) : (dat0 a V c).Φ t.succ = Phi0 a V c (t.val + 1) t.isLt := by dsimp only [dat0]; rfl
theorem Phi0_castSucc (c : Dev nD) (t : Fin (cfg0 a).N) : (dat0 a V c).Φ t.castSucc = Phi0 a V c t.val t.isLt.le := by
  dsimp only [dat0]; exact Phi0_congr a V c _ _ _ _ (Fin.val_castSucc t)
theorem owes0_succ (c : Dev nD) (t : Fin (cfg0 a).N) : (dat0 a V c).owesAt () t.succ = (dat0 a V c).owesAt () t.castSucc := by
  unfold Dat.owesAt; rfl

theorem leaves0_in (c : Dev nD) (w : Fin (cfg0 a).W) (t : Fin (cfg0 a).N) (h : ∀ i, (cfg0 a).idle w i = false) :
    (dat0 a V c).leavesExact w t = owns (c : Thread nD τ) (((cfg0 a).win w).stage ((cfg0 a).slots t w)) fullShare ((dat0 a V c).after w t) := by
  unfold Dat.leavesExact; rw [h]

/-- What the second output's buffer holds at a later column tile: what the tile before left. -/
theorem before0_7 (c : Dev nD) (t : Fin (cfg0 a).N) (ht : t.val % 8 ≠ 0) (d) :
    (dat0 a V c).before 7 t d = (acc0 a V c t.val t.isLt.le).2.1 := by
  have hp : 0 < t.val := Nat.pos_of_ne_zero fun h => ht (by rw [h])
  have hfl : ((cfg0 a).win 7).flush ⟨t.val - 1, Nat.lt_of_le_of_lt (Nat.sub_le _ _) t.isLt⟩ = false := by
    rw [Pipeline.Window.flush_eq_flushOf]
    exact (by decide +kernel : ∀ u : Fin grid0.N, u.val % 8 ≠ 7 → Pipeline.Window.flushOf grid0 true cc0_transform_7 u = false) _
      (by show (t.val - 1) % 8 ≠ 7; omega)
  rw [(dat0 a V c).before_out_kept 7 rfl t (Nat.pos_iff_ne_zero.mp hp) hfl (live0_7 a) (fun _ _ => rfl) d, after0_7]
  obtain ⟨n, hn⟩ := t
  cases n with
  | zero => exact absurd hp (Nat.lt_irrefl 0)
  | succ n => rfl

def bodyPre0 (c : Dev nD) (t : Fin (cfg0 a).N) : sProp 𝕄 :=
  iprop((dat0 a V c).Φ t.castSucc ∗ (dat0 a V c).owesAt () t.castSucc
    ∗ (∃ d, owns (c : Thread nD τ) (ms0_0 a t) fullShare ((dat0 a V c).before 0 t d))
    ∗ (∃ d, owns (c : Thread nD τ) (ms0_1 a t) fullShare ((dat0 a V c).before 1 t d))
    ∗ (∃ d, owns (c : Thread nD τ) (ms0_2 a t) fullShare ((dat0 a V c).before 2 t d))
    ∗ (∃ d, owns (c : Thread nD τ) (ms0_3 a t) fullShare ((dat0 a V c).before 3 t d))
    ∗ (∃ d, owns (c : Thread nD τ) (ms0_4 a t) fullShare ((dat0 a V c).before 4 t d))
    ∗ (∃ d, owns (c : Thread nD τ) (ms0_5 a t) fullShare ((dat0 a V c).before 5 t d))
    ∗ (∃ d, owns (c : Thread nD τ) (ms0_6 a t) fullShare ((dat0 a V c).before 6 t d))
    ∗ (∃ d, owns (c : Thread nD τ) (ms0_7 a t) fullShare ((dat0 a V c).before 7 t d)))
def bodyPost0 (c : Dev nD) (t : Fin (cfg0 a).N) : sProp 𝕄 :=
  iprop((dat0 a V c).Φ t.succ ∗ (dat0 a V c).owesAt () t.succ
    ∗ (dat0 a V c).leavesExact 0 t
    ∗ (dat0 a V c).leavesExact 1 t
    ∗ (dat0 a V c).leavesExact 2 t
    ∗ (dat0 a V c).leavesExact 3 t
    ∗ (dat0 a V c).leavesExact 4 t
    ∗ (dat0 a V c).leavesExact 5 t
    ∗ (dat0 a V c).leavesExact 6 t
    ∗ (dat0 a V c).leavesExact 7 t)
/-- The body at point `t`, on what the pipeline calls it with. -/
abbrev bodyAt0 (t : Fin (cfg0 a).N) : Prog (TpuEff nD τ sig (Elt F) Λ₀ .tc) PUnit :=
  cc0_up (grid0.coords t) (Memref.whole main_arg2) (Memref.isWhole_whole _) (ms0_0 a t) (hs0_0 a t) (ms0_1 a t) (hs0_1 a t) (ms0_2 a t) (hs0_2 a t) (ms0_3 a t) (hs0_3 a t) (ms0_4 a t) (hs0_4 a t) (ms0_5 a t) (hs0_5 a t) (ms0_6 a t) (hs0_6 a t) (ms0_7 a t) (hs0_7 a t) (Memref.whole cc0_scratch0) (Memref.isWhole_whole _) (Memref.whole cc0_scratch1) (Memref.isWhole_whole _) (Memref.whole cc0_scratch2) (Memref.isWhole_whole _)

set_option maxHeartbeats 1600000 in
theorem sound0_A (c : Dev nD) (t : Fin (cfg0 a).N) (h1 : k0_cond1 (grid0.coords t) (wd0 a t) = 1#1) (h2 : k0_cond2 (grid0.coords t) = 1#1) :
    bodyPre0 a V c t ⊢ wp frame (wpE (defs₀ (F := F)) Variants.none c none) Set.univ (bodyAt0 a t) (fun _ => bodyPost0 a V c t) := by
  unfold bodyPre0 bodyPost0 bodyAt0
  simp only [before0_0, before0_1, before0_2, before0_3, before0_4, before0_5]
  rw [Phi0_succ, Phi0_castSucc, owes0_succ]
  rw [leaves0_in a V c 0 t (fun _ => rfl), leaves0_in a V c 1 t (fun _ => rfl), leaves0_in a V c 2 t (fun _ => rfl), leaves0_in a V c 3 t (fun _ => rfl), leaves0_in a V c 4 t (fun _ => rfl), leaves0_in a V c 5 t (fun _ => rfl), leaves0_in a V c 6 t (live0_6 a), leaves0_in a V c 7 t (live0_7 a)]
  rw [after0_0, after0_1, after0_2, after0_3, after0_4, after0_5, after0_6, after0_7]
  unfold Phi0 carried0
  rw [acc0_succ, show (⟨t.val, t.isLt⟩ : Fin (cfg0 a).N) = t from rfl, outsAt0_A a V c t h1 h2]
  unfold stepA0; dsimp only
  iintro ⟨⟨HT, ⟨%s0, HS0, %hs0⟩, HS1, HS2, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((run0A c (grid0.coords t) (Memref.whole main_arg2) (Memref.isWhole_whole _) (ms0_0 a t) (hs0_0 a t) (ms0_1 a t) (hs0_1 a t) (ms0_2 a t) (hs0_2 a t) (ms0_3 a t) (hs0_3 a t) (ms0_4 a t) (hs0_4 a t) (ms0_5 a t) (hs0_5 a t) (ms0_6 a t) (hs0_6 a t) (ms0_7 a t) (hs0_7 a t) (Memref.whole cc0_scratch0) (Memref.isWhole_whole _) (Memref.whole cc0_scratch1) (Memref.isWhole_whole _) (Memref.whole cc0_scratch2) (Memref.isWhole_whole _) (tab0 a) (iblk0 a V c 0 t) (iblk0 a V c 1 t) (iblk0 a V c 2 t) (iblk0 a V c 3 t) (iblk0 a V c 4 t) (iblk0 a V c 5 t) h1 h2 (k0_not_dead _ _ h1)).2.2.2.2.2 Set.univ _)
  isplitl [HT]; · iexact HT
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HS0]; · iexists _; iexact HS0
  isplitl [HS1]; · iexact HS1
  isplitl [HS2]; · iexact HS2
  iintro ⟨HT, H0, H1, H2, H3, H4, H5, ⟨%e0, H6⟩, ⟨%e1, H7⟩, ⟨%fT0, HS0⟩, ⟨%fT1, HS1⟩, ⟨%fT2, HS2⟩⟩
  isplitl [HT HS0 HS1 HS2 HR Hg]
  · isplitl [HT]; · iexact HT
    isplitl [HS0]
    · iexists _; isplitl [HS0]
      · unfold owns; iexists _; isplitr
        swap; · iexact HS0
        ipureintro; rfl
      ipureintro; intro _ _ _
      exact View.read_writes_of_cover _ _ _ _ _ (cover0_A_s0 c (grid0.coords t) (Memref.whole main_arg2) (Memref.isWhole_whole _) (ms0_0 a t) (hs0_0 a t) (ms0_1 a t) (hs0_1 a t) (ms0_2 a t) (hs0_2 a t) (ms0_3 a t) (hs0_3 a t) (ms0_4 a t) (hs0_4 a t) (ms0_5 a t) (hs0_5 a t) (ms0_6 a t) (hs0_6 a t) (ms0_7 a t) (hs0_7 a t) (Memref.whole cc0_scratch0) (Memref.isWhole_whole _) (Memref.whole cc0_scratch1) (Memref.isWhole_whole _) (Memref.whole cc0_scratch2) (Memref.isWhole_whole _) (tab0 a) (iblk0 a V c 0 t) (iblk0 a V c 1 t) (iblk0 a V c 2 t) (iblk0 a V c 3 t) (iblk0 a V c 4 t) (iblk0 a V c 5 t) h1 h2 (k0_not_dead _ _ h1))
    isplitl [HS1]
    · iexists _; unfold owns; iexists _; isplitr
      swap; · iexact HS1
      ipureintro; rfl
    isplitl [HS2]
    · iexists _; unfold owns; iexists _; isplitr
      swap; · iexact HS2
      ipureintro; rfl
    isplitl [HR]; · iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_of_cover _ _ _ _ _ (cover0_A_o0 c (grid0.coords t) (Memref.whole main_arg2) (Memref.isWhole_whole _) (ms0_0 a t) (hs0_0 a t) (ms0_1 a t) (hs0_1 a t) (ms0_2 a t) (hs0_2 a t) (ms0_3 a t) (hs0_3 a t) (ms0_4 a t) (hs0_4 a t) (ms0_5 a t) (hs0_5 a t) (ms0_6 a t) (hs0_6 a t) (ms0_7 a t) (hs0_7 a t) (Memref.whole cc0_scratch0) (Memref.isWhole_whole _) (Memref.whole cc0_scratch1) (Memref.isWhole_whole _) (Memref.whole cc0_scratch2) (Memref.isWhole_whole _) (tab0 a) (iblk0 a V c 0 t) (iblk0 a V c 1 t) (iblk0 a V c 2 t) (iblk0 a V c 3 t) (iblk0 a V c 4 t) (iblk0 a V c 5 t) h1 h2 (k0_not_dead _ _ h1))
  unfold owns; iexists _; isplitr
  swap; · iexact H7
  ipureintro; exact View.read_writes_of_cover _ _ _ _ _ (cover0_A_o1 c (grid0.coords t) (Memref.whole main_arg2) (Memref.isWhole_whole _) (ms0_0 a t) (hs0_0 a t) (ms0_1 a t) (hs0_1 a t) (ms0_2 a t) (hs0_2 a t) (ms0_3 a t) (hs0_3 a t) (ms0_4 a t) (hs0_4 a t) (ms0_5 a t) (hs0_5 a t) (ms0_6 a t) (hs0_6 a t) (ms0_7 a t) (hs0_7 a t) (Memref.whole cc0_scratch0) (Memref.isWhole_whole _) (Memref.whole cc0_scratch1) (Memref.isWhole_whole _) (Memref.whole cc0_scratch2) (Memref.isWhole_whole _) (tab0 a) (iblk0 a V c 0 t) (iblk0 a V c 1 t) (iblk0 a V c 2 t) (iblk0 a V c 3 t) (iblk0 a V c 4 t) (iblk0 a V c 5 t) h1 h2 (k0_not_dead _ _ h1))

set_option maxHeartbeats 1600000 in
theorem sound0_B (c : Dev nD) (t : Fin (cfg0 a).N) (h1 : k0_cond1 (grid0.coords t) (wd0 a t) = 1#1) (h2 : ¬k0_cond2 (grid0.coords t) = 1#1) :
    bodyPre0 a V c t ⊢ wp frame (wpE (defs₀ (F := F)) Variants.none c none) Set.univ (bodyAt0 a t) (fun _ => bodyPost0 a V c t) := by
  unfold bodyPre0 bodyPost0 bodyAt0
  simp only [before0_0, before0_1, before0_2, before0_3, before0_4, before0_5]
  rw [Phi0_succ, Phi0_castSucc, owes0_succ]
  rw [leaves0_in a V c 0 t (fun _ => rfl), leaves0_in a V c 1 t (fun _ => rfl), leaves0_in a V c 2 t (fun _ => rfl), leaves0_in a V c 3 t (fun _ => rfl), leaves0_in a V c 4 t (fun _ => rfl), leaves0_in a V c 5 t (fun _ => rfl), leaves0_in a V c 6 t (live0_6 a), leaves0_in a V c 7 t (live0_7 a)]
  rw [after0_0, after0_1, after0_2, after0_3, after0_4, after0_5, after0_6, after0_7]
  unfold Phi0 carried0
  rw [acc0_succ, show (⟨t.val, t.isLt⟩ : Fin (cfg0 a).N) = t from rfl, outsAt0_B a V c t h1 h2]
  have hm : t.val % 8 ≠ 0 := fun h => h2 ((hcond0 a t).mpr h)
  simp only [before0_7 a V c t hm]
  unfold stepB0; dsimp only
  iintro ⟨⟨HT, ⟨%s0, HS0, %hs0⟩, HS1, HS2, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  obtain rfl := hs0 t.isLt hm h1
  iapply ((run0B c (grid0.coords t) (Memref.whole main_arg2) (Memref.isWhole_whole _) (ms0_0 a t) (hs0_0 a t) (ms0_1 a t) (hs0_1 a t) (ms0_2 a t) (hs0_2 a t) (ms0_3 a t) (hs0_3 a t) (ms0_4 a t) (hs0_4 a t) (ms0_5 a t) (hs0_5 a t) (ms0_6 a t) (hs0_6 a t) (ms0_7 a t) (hs0_7 a t) (Memref.whole cc0_scratch0) (Memref.isWhole_whole _) (Memref.whole cc0_scratch1) (Memref.isWhole_whole _) (Memref.whole cc0_scratch2) (Memref.isWhole_whole _) (tab0 a) (iblk0 a V c 0 t) (iblk0 a V c 1 t) (iblk0 a V c 2 t) (iblk0 a V c 3 t) (iblk0 a V c 4 t) (iblk0 a V c 5 t) (acc0 a V c t.val t.isLt.le).2.1 (acc0 a V c t.val t.isLt.le).2.2 h1 h2 (k0_not_dead _ _ h1)).2.2.2.2 Set.univ _)
  isplitl [HT]; · iexact HT
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [HS0]; · iexact HS0
  isplitl [HS1]; · iexact HS1
  isplitl [HS2]; · iexact HS2
  iintro ⟨HT, H0, H1, H2, H3, H4, H5, ⟨%e0, H6⟩, ⟨%e1, H7⟩, HS0, ⟨%fT1, HS1⟩, ⟨%fT2, HS2⟩⟩
  isplitl [HT HS0 HS1 HS2 HR Hg]
  · isplitl [HT]; · iexact HT
    isplitl [HS0]
    · iexists _; isplitl [HS0]; · iexact HS0
      ipureintro; intro _ _ _; rfl
    isplitl [HS1]
    · iexists _; unfold owns; iexists _; isplitr
      swap; · iexact HS1
      ipureintro; rfl
    isplitl [HS2]
    · iexists _; unfold owns; iexists _; isplitr
      swap; · iexact HS2
      ipureintro; rfl
    isplitl [HR]; · iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_of_cover _ _ _ _ _ (cover0_B_o0 c (grid0.coords t) (Memref.whole main_arg2) (Memref.isWhole_whole _) (ms0_0 a t) (hs0_0 a t) (ms0_1 a t) (hs0_1 a t) (ms0_2 a t) (hs0_2 a t) (ms0_3 a t) (hs0_3 a t) (ms0_4 a t) (hs0_4 a t) (ms0_5 a t) (hs0_5 a t) (ms0_6 a t) (hs0_6 a t) (ms0_7 a t) (hs0_7 a t) (Memref.whole cc0_scratch0) (Memref.isWhole_whole _) (Memref.whole cc0_scratch1) (Memref.isWhole_whole _) (Memref.whole cc0_scratch2) (Memref.isWhole_whole _) (tab0 a) (iblk0 a V c 0 t) (iblk0 a V c 1 t) (iblk0 a V c 2 t) (iblk0 a V c 3 t) (iblk0 a V c 4 t) (iblk0 a V c 5 t) (acc0 a V c t.val t.isLt.le).2.1 (acc0 a V c t.val t.isLt.le).2.2 h1 h2 (k0_not_dead _ _ h1))
  unfold owns; iexists _; isplitr
  swap; · iexact H7
  ipureintro; exact View.read_writes_of_cover _ _ _ _ _ (cover0_B_o1 c (grid0.coords t) (Memref.whole main_arg2) (Memref.isWhole_whole _) (ms0_0 a t) (hs0_0 a t) (ms0_1 a t) (hs0_1 a t) (ms0_2 a t) (hs0_2 a t) (ms0_3 a t) (hs0_3 a t) (ms0_4 a t) (hs0_4 a t) (ms0_5 a t) (hs0_5 a t) (ms0_6 a t) (hs0_6 a t) (ms0_7 a t) (hs0_7 a t) (Memref.whole cc0_scratch0) (Memref.isWhole_whole _) (Memref.whole cc0_scratch1) (Memref.isWhole_whole _) (Memref.whole cc0_scratch2) (Memref.isWhole_whole _) (tab0 a) (iblk0 a V c 0 t) (iblk0 a V c 1 t) (iblk0 a V c 2 t) (iblk0 a V c 3 t) (iblk0 a V c 4 t) (iblk0 a V c 5 t) (acc0 a V c t.val t.isLt.le).2.1 (acc0 a V c t.val t.isLt.le).2.2 h1 h2 (k0_not_dead _ _ h1))

set_option maxHeartbeats 1600000 in
theorem sound0_C (c : Dev nD) (t : Fin (cfg0 a).N) (h1 : ¬k0_cond1 (grid0.coords t) (wd0 a t) = 1#1) :
    bodyPre0 a V c t ⊢ wp frame (wpE (defs₀ (F := F)) Variants.none c none) Set.univ (bodyAt0 a t) (fun _ => bodyPost0 a V c t) := by
  unfold bodyPre0 bodyPost0 bodyAt0
  simp only [before0_0, before0_1, before0_2, before0_3, before0_4, before0_5]
  rw [Phi0_succ, Phi0_castSucc, owes0_succ]
  rw [leaves0_in a V c 0 t (fun _ => rfl), leaves0_in a V c 1 t (fun _ => rfl), leaves0_in a V c 2 t (fun _ => rfl), leaves0_in a V c 3 t (fun _ => rfl), leaves0_in a V c 4 t (fun _ => rfl), leaves0_in a V c 5 t (fun _ => rfl), leaves0_in a V c 6 t (live0_6 a), leaves0_in a V c 7 t (live0_7 a)]
  rw [after0_0, after0_1, after0_2, after0_3, after0_4, after0_5, after0_6, after0_7]
  unfold Phi0 carried0
  rw [acc0_succ, show (⟨t.val, t.isLt⟩ : Fin (cfg0 a).N) = t from rfl, outsAt0_C a V c t h1]
  unfold stepC0; dsimp only
  iintro ⟨⟨HT, ⟨%s0, HS0, %hs0⟩, HS1, HS2, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((run0C c (grid0.coords t) (Memref.whole main_arg2) (Memref.isWhole_whole _) (ms0_0 a t) (hs0_0 a t) (ms0_1 a t) (hs0_1 a t) (ms0_2 a t) (hs0_2 a t) (ms0_3 a t) (hs0_3 a t) (ms0_4 a t) (hs0_4 a t) (ms0_5 a t) (hs0_5 a t) (ms0_6 a t) (hs0_6 a t) (ms0_7 a t) (hs0_7 a t) (Memref.whole cc0_scratch0) (Memref.isWhole_whole _) (Memref.whole cc0_scratch1) (Memref.isWhole_whole _) (Memref.whole cc0_scratch2) (Memref.isWhole_whole _) (tab0 a) (iblk0 a V c 0 t) (iblk0 a V c 1 t) (iblk0 a V c 2 t) (iblk0 a V c 3 t) (iblk0 a V c 4 t) (iblk0 a V c 5 t) h1 ((k0_live_or_dead _ _).resolve_left h1)).2.2 Set.univ _)
  isplitl [HT]; · iexact HT
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨HT, H0, H1, H2, H3, H4, H5, ⟨%e0, H6⟩, ⟨%e1, H7⟩⟩
  isplitl [HT HS0 HS1 HS2 HR Hg]
  · isplitl [HT]; · iexact HT
    isplitl [HS0]
    · iexists s0; isplitl [HS0]; · iexact HS0
      ipureintro; intro hn hm' hl; exact absurd (live_pred0 a ⟨t.val + 1, hn⟩ hm' hl) h1
    isplitl [HS1]; · iexact HS1
    isplitl [HS2]; · iexact HS2
    isplitl [HR]; · iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_of_cover _ _ _ _ _ (cover0_C_o0 c (grid0.coords t) (Memref.whole main_arg2) (Memref.isWhole_whole _) (ms0_0 a t) (hs0_0 a t) (ms0_1 a t) (hs0_1 a t) (ms0_2 a t) (hs0_2 a t) (ms0_3 a t) (hs0_3 a t) (ms0_4 a t) (hs0_4 a t) (ms0_5 a t) (hs0_5 a t) (ms0_6 a t) (hs0_6 a t) (ms0_7 a t) (hs0_7 a t) (Memref.whole cc0_scratch0) (Memref.isWhole_whole _) (Memref.whole cc0_scratch1) (Memref.isWhole_whole _) (Memref.whole cc0_scratch2) (Memref.isWhole_whole _) (tab0 a) (iblk0 a V c 0 t) (iblk0 a V c 1 t) (iblk0 a V c 2 t) (iblk0 a V c 3 t) (iblk0 a V c 4 t) (iblk0 a V c 5 t) h1 ((k0_live_or_dead _ _).resolve_left h1))
  unfold owns; iexists _; isplitr
  swap; · iexact H7
  ipureintro; exact View.read_writes_of_cover _ _ _ _ _ (cover0_C_o1 c (grid0.coords t) (Memref.whole main_arg2) (Memref.isWhole_whole _) (ms0_0 a t) (hs0_0 a t) (ms0_1 a t) (hs0_1 a t) (ms0_2 a t) (hs0_2 a t) (ms0_3 a t) (hs0_3 a t) (ms0_4 a t) (hs0_4 a t) (ms0_5 a t) (hs0_5 a t) (ms0_6 a t) (hs0_6 a t) (ms0_7 a t) (hs0_7 a t) (Memref.whole cc0_scratch0) (Memref.isWhole_whole _) (Memref.whole cc0_scratch1) (Memref.isWhole_whole _) (Memref.whole cc0_scratch2) (Memref.isWhole_whole _) (tab0 a) (iblk0 a V c 0 t) (iblk0 a V c 1 t) (iblk0 a V c 2 t) (iblk0 a V c 3 t) (iblk0 a V c 4 t) (iblk0 a V c 5 t) h1 ((k0_live_or_dead _ _).resolve_left h1))

theorem sound_body0 (c : Dev nD) (t : Fin (cfg0 a).N) :
    bodyPre0 a V c t ⊢ wp frame (wpE (defs₀ (F := F)) Variants.none c none) Set.univ (bodyAt0 a t) (fun _ => bodyPost0 a V c t) := by
  by_cases h1 : k0_cond1 (grid0.coords t) (wd0 a t) = 1#1
  · by_cases h2 : k0_cond2 (grid0.coords t) = 1#1
    · exact sound0_A a V c t h1 h2
    · exact sound0_B a V c t h1 h2
  · exact sound0_C a V c t h1

theorem defs₀_row0 (t : Fin (cfg0 a).N) :
    defs₀ (F := F) .tc (cfg0 a).body ((cfg0 a).bodyArgs t ((cfg0 a).slots t)) = bodyAt0 a t := by
  unfold defs₀; rw [Defs.onTc_tc]

/-- The pipeline's body obligation, at every point. -/
theorem body_obligation0 (c : Dev nD) : BodyObligation (dat0 (F := F) a V c) (defs₀ (F := F)) Variants.none () Set.univ := fun t => by
  rw [bigSep_W0, bigSep_W0, defs₀_row0]
  exact triple_restated (sound_body0 a V c t) rfl .rfl fun _ => .rfl

end Cert.KernelIdeal.Gen

end
-- ==== Proof.KernelIdeal.Defs1.lean ====
module

public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-!
# Call 1: the word of the table that a grid point reads
-/

@[expose] public section

noncomputable section

namespace Cert.KernelIdeal.Gen

open Idealize.ShloMosaic Idealize.ShloMosaic.TcCoe

variable {F : FTy → Type} [FloatOps F]

/-- The word a point of call 1 reads from the table of row counts, as the body's load reads it. -/
abbrev word1 (i : grid1.Coords) (arg3 : Memref sig .tc .smem S4 .i32) (harg3 : arg3.IsWhole) (T : Vec F S4 .i32) : Elt F .i32 :=
  arg3.view.readAt (Elt F) (Rect.unit (s := S4) (k1_off1 i) S1.size (k1_off1_inb i)).toLoadRect (harg3.unread T) (Shape.Idx.first (numel1_S1.symm ▸ Nat.one_pos))

theorem word1_congr (i i' : grid1.Coords) (arg3 : Memref sig .tc .smem S4 .i32) (harg3 : arg3.IsWhole) (T : Vec F S4 .i32)
    (h : k1_off1 i = k1_off1 i') : word1 i arg3 harg3 T = word1 i' arg3 harg3 T := by
  unfold word1
  have key : ∀ (o o' : Fin S4.rank → ℕ) (hoo : o = o') (p : ∀ k, o k + S1.size k ≤ S4.size k) (p' : ∀ k, o' k + S1.size k ≤ S4.size k),
      arg3.view.readAt (Elt F) (Rect.unit (s := S4) o S1.size p).toLoadRect (harg3.unread T) (Shape.Idx.first (numel1_S1.symm ▸ Nat.one_pos))
        = arg3.view.readAt (Elt F) (Rect.unit (s := S4) o' S1.size p').toLoadRect (harg3.unread T) (Shape.Idx.first (numel1_S1.symm ▸ Nat.one_pos)) := by
    rintro o _ rfl p p'; rfl
  exact key _ _ h _ _

end Cert.KernelIdeal.Gen

end
-- ==== Proof.KernelIdeal.Run1A.lean ====
module

public import proofs.«01_k».proof.Proof.KernelIdeal.Defs1

/-!
# The body of call 1, first column tile of a live block
-/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large: the definition's epilogue walks it past the default budget
set_option maxHeartbeats 1600000 in
/-- What `cc1_down` stores in each buffer it writes, as pieces (last first), at a live block's first column tile, with the proof that from whole buffers the
body runs to its end, leaves the table and the inputs as they were and leaves those pieces. The pieces are the witness
the symbolic run finds. -/
noncomputable def run1A (c : Dev nD) (i : grid1.Coords) (arg3 : Memref sig .tc .smem S4 .i32) (harg3 : arg3.IsWhole) (arg4 : Memref sig .tc .vmem S1x512x2048 .fp8e4m3) (harg4 : arg4.IsWhole) (arg5 : Memref sig .tc .vmem S1x512x16 .f32) (harg5 : arg5.IsWhole) (arg6 : Memref sig .tc .vmem S1x512x2048 .fp8e4m3) (harg6 : arg6.IsWhole) (arg7 : Memref sig .tc .vmem S1x4x1x2048 .bf16) (harg7 : arg7.IsWhole) (arg8 : Memref sig .tc .vmem S1x512x512 .fp8e4m3) (harg8 : arg8.IsWhole) (arg9 : Memref sig .tc .vmem S1x512x56 .f32) (harg9 : arg9.IsWhole) (arg10 : Memref sig .tc .vmem S512x2048 .bf16) (harg10 : arg10.IsWhole) (arg11 : Memref sig .tc .vmem S512x2048 .bf16) (harg11 : arg11.IsWhole)
    (T : Vec F S4 .i32) (x0 : Vec F S1x512x2048 .fp8e4m3) (x1 : Vec F S1x512x16 .f32) (x2 : Vec F S1x512x2048 .fp8e4m3) (x3 : Vec F S1x4x1x2048 .bf16) (hc0 : k1_cond1 i (word1 i arg3 harg3 T) = 1#1) (hc1 : k1_cond2 i = 1#1) (hc2 : ¬k1_cond3 i (word1 i arg3 harg3 T) = 1#1) :
    Σ' (L0 : List (View.Piece (Elt F) S1x512x512 .fp8e4m3)), Σ' (L1 : List (View.Piece (Elt F) S1x512x56 .f32)), Σ' (LS0 : List (View.Piece (Elt F) S512x2048 .bf16)), { LS1 : List (View.Piece (Elt F) S512x2048 .bf16) //
      ∀ (E : Set ℕ) (K : PUnit → sProp 𝕄),
        iprop(owns (c : Thread nD τ) arg3 fullShare T ∗ owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare T ∗ owns (c : Thread nD τ) arg4 fullShare x0 ∗ owns (c : Thread nD τ) arg5 fullShare x1 ∗ owns (c : Thread nD τ) arg6 fullShare x2 ∗ owns (c : Thread nD τ) arg7 fullShare x3 ∗ (∃ f, arg8.view.loc (c : Thread nD τ) ↦[arg8.view.set]{fullShare} arg8.view.writes (Elt F) f L0) ∗ (∃ f, arg9.view.loc (c : Thread nD τ) ↦[arg9.view.set]{fullShare} arg9.view.writes (Elt F) f L1) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1_down i arg3 harg3 arg4 harg4 arg5 harg5 arg6 harg6 arg7 harg7 arg8 harg8 arg9 harg9 arg10 harg10 arg11 harg11) K } := by
  refine ⟨?_, ?_, ?_, ?_, fun E K => ?run⟩
  case run =>
    simp only [cc1_down_eq_skeleton]; unfold cc1_down_skel
    simp only [k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton]
    unfold owns
    iintro ⟨⟨%fT, %hfT, HT⟩, ⟨%f0, %hf0, H0⟩, ⟨%f1, %hf1, H1⟩, ⟨%f2, %hf2, H2⟩, ⟨%f3, %hf3, H3⟩, ⟨%dO0, %fO0, -, HO0⟩, ⟨%dO1, %fO1, -, HO1⟩, ⟨%dS0, %fS0, -, HS0⟩, ⟨%dS1, %fS1, -, HS1⟩, Hk⟩
    obtain rfl := harg3.eq_unread hfT; obtain rfl := harg4.eq_unread hf0; obtain rfl := harg5.eq_unread hf1; obtain rfl := harg6.eq_unread hf2; obtain rfl := harg7.eq_unread hf3
    sl_exec (disch := first | sl_exact hc0 | sl_exact hc1 | sl_exact hc2)
    sl_exec (disch := first | sl_exact hc0 | sl_exact hc1 | sl_exact hc2)
    sl_step
    iapply Hk
    isplitl [HT]
    · iexists _; isplitr; · ipureintro; exact harg3.read_unread _
      iexact HT
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [HO0]
    · iexists _; iexact HO0
    isplitl [HO1]
    · iexists _; iexact HO1
    isplitl [HS0]
    · iexists _; iexact HS0
    iexists _; iexact HS1

end Cert.KernelIdeal.Gen

end
-- ==== Proof.KernelIdeal.Run1B.lean ====
module

public import proofs.«01_k».proof.Proof.KernelIdeal.Defs1

/-!
# The body of call 1, later column tiles of a live block
-/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large: the definition's epilogue walks it past the default budget
set_option maxHeartbeats 1600000 in
/-- What `cc1_down` stores in each buffer it writes, as pieces (last first), at a live block's later column tiles, with the proof that from whole buffers the
body runs to its end, leaves the table and the inputs as they were and leaves those pieces. The pieces are the witness
the symbolic run finds. -/
noncomputable def run1B (c : Dev nD) (i : grid1.Coords) (arg3 : Memref sig .tc .smem S4 .i32) (harg3 : arg3.IsWhole) (arg4 : Memref sig .tc .vmem S1x512x2048 .fp8e4m3) (harg4 : arg4.IsWhole) (arg5 : Memref sig .tc .vmem S1x512x16 .f32) (harg5 : arg5.IsWhole) (arg6 : Memref sig .tc .vmem S1x512x2048 .fp8e4m3) (harg6 : arg6.IsWhole) (arg7 : Memref sig .tc .vmem S1x4x1x2048 .bf16) (harg7 : arg7.IsWhole) (arg8 : Memref sig .tc .vmem S1x512x512 .fp8e4m3) (harg8 : arg8.IsWhole) (arg9 : Memref sig .tc .vmem S1x512x56 .f32) (harg9 : arg9.IsWhole) (arg10 : Memref sig .tc .vmem S512x2048 .bf16) (harg10 : arg10.IsWhole) (arg11 : Memref sig .tc .vmem S512x2048 .bf16) (harg11 : arg11.IsWhole)
    (T : Vec F S4 .i32) (x0 : Vec F S1x512x2048 .fp8e4m3) (x1 : Vec F S1x512x16 .f32) (x2 : Vec F S1x512x2048 .fp8e4m3) (x3 : Vec F S1x4x1x2048 .bf16) (h : Vec F S1x512x56 .f32) (s0 : Vec F S512x2048 .bf16) (hc0 : k1_cond1 i (word1 i arg3 harg3 T) = 1#1) (hc1 : ¬k1_cond2 i = 1#1) (hc2 : ¬k1_cond3 i (word1 i arg3 harg3 T) = 1#1) :
    Σ' (L0 : List (View.Piece (Elt F) S1x512x512 .fp8e4m3)), Σ' (L1 : List (View.Piece (Elt F) S1x512x56 .f32)), { LS1 : List (View.Piece (Elt F) S512x2048 .bf16) //
      ∀ (E : Set ℕ) (K : PUnit → sProp 𝕄),
        iprop(owns (c : Thread nD τ) arg3 fullShare T ∗ owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ owns (c : Thread nD τ) arg9 fullShare h ∗ owns (c : Thread nD τ) arg10 fullShare s0 ∗ (∃ d, owns (c : Thread nD τ) arg11 fullShare d)
            ∗ (iprop(owns (c : Thread nD τ) arg3 fullShare T ∗ owns (c : Thread nD τ) arg4 fullShare x0 ∗ owns (c : Thread nD τ) arg5 fullShare x1 ∗ owns (c : Thread nD τ) arg6 fullShare x2 ∗ owns (c : Thread nD τ) arg7 fullShare x3 ∗ (∃ f, arg8.view.loc (c : Thread nD τ) ↦[arg8.view.set]{fullShare} arg8.view.writes (Elt F) f L0) ∗ (∃ f, arg9.view.loc (c : Thread nD τ) ↦[arg9.view.set]{fullShare} arg9.view.writes (Elt F) f L1) ∗ owns (c : Thread nD τ) arg10 fullShare s0 ∗ (∃ f, arg11.view.loc (c : Thread nD τ) ↦[arg11.view.set]{fullShare} arg11.view.writes (Elt F) f LS1)) -∗ K ⟨⟩))
          ⊢ wp frame (wpE (defs₀ (F := F)) Variants.none c none) E (cc1_down i arg3 harg3 arg4 harg4 arg5 harg5 arg6 harg6 arg7 harg7 arg8 harg8 arg9 harg9 arg10 harg10 arg11 harg11) K } := by
  refine ⟨?_, ?_, ?_, fun E K => ?run⟩
  case run =>
    simp only [cc1_down_eq_skeleton]; unfold cc1_down_skel
    simp only [k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton]
    unfold owns
    iintro ⟨⟨%fT, %hfT, HT⟩, ⟨%f0, %hf0, H0⟩, ⟨%f1, %hf1, H1⟩, ⟨%f2, %hf2, H2⟩, ⟨%f3, %hf3, H3⟩, ⟨%dO0, %fO0, -, HO0⟩, ⟨%fO1, %hfO1, HO1⟩, ⟨%fS0, %hfS0, HS0⟩, ⟨%dS1, %fS1, -, HS1⟩, Hk⟩
    obtain rfl := harg3.eq_unread hfT; obtain rfl := harg4.eq_unread hf0; obtain rfl := harg5.eq_unread hf1; obtain rfl := harg6.eq_unread hf2; obtain rfl := harg7.eq_unread hf3; obtain rfl := harg9.eq_unread hfO1; obtain rfl := harg10.eq_unread hfS0
    sl_exec (disch := first | sl_exact hc0 | sl_exact hc1 | sl_exact hc2)
    sl_step
    iapply Hk
    isplitl [HT]
    · iexists _; isplitr; · ipureintro; exact harg3.read_unread _
      iexact HT
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [HO0]
    · iexists _; iexact HO0
    isplitl [HO1]
    · iexists _; iexact HO1
    isplitl [HS0]
    · iexists _; isplitr; · ipureintro; exact harg10.read_unread _
      iexact HS0
    iexists _; iexact HS1

end Cert.KernelIdeal.Gen

end
-- ==== Proof.KernelIdeal.Run1C.lean ====
module

public import proofs.«01_k».proof.Proof.KernelIdeal.Defs1

/-!
# The body of call 1, dead block
-/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large: the definition's epilogue walks it past the default budget
set_option maxHeartbeats 1600000 in
/-- What `cc1_down` stores in each buffer it writes, as pieces (last first), at a dead block, with the proof that from whole buffers the
body runs to its end, leaves the table and the inputs as they were and leaves those pieces. The pieces are the witness
the symbolic run finds. -/
noncomputable def run1C (c : Dev nD) (i : grid1.Coords) (arg3 : Memref sig .tc .smem S4 .i32) (harg3 : arg3.IsWhole) (arg4 : Memref sig .tc .vmem S1x512x2048 .fp8e4m3) (harg4 : arg4.IsWhole) (arg5 : Memref sig .tc .vmem S1x512x16 .f32) (harg5 : arg5.IsWhole) (arg6 : Memref sig .tc .vmem S1x512x2048 .fp8e4m3) (harg6 : arg6.IsWhole) (arg7 : Memref sig .tc .vmem S1x4x1x2048 .bf16) (harg7 : arg7.IsWhole) (arg8 : Memref sig .tc .vmem S1x512x512 .fp8e4m3) (harg8 : arg8.IsWhole) (arg9 : Memref sig .tc .vmem S1x512x56 .f32) (harg9 : arg9.IsWhole) (arg10 : Memref sig .tc .vmem S512x2048 .bf16) (harg10 : arg10.IsWhole) (arg11 : Memref sig .tc .vmem S512x2048 .bf16) (harg11 : arg11.IsWhole)
    (T : Vec F S4 .i32) (x0 : Vec F S1x512x2048 .fp8e4m3) (x1 : Vec F S1x512x16 .f32) (x2 : Vec F S1x512x2048 .fp8e4m3) (x3 : Vec F S1x4x1x2048 .bf16) (hc0 : ¬k1_cond1 i (word1 i arg3 harg3 T) = 1#1) (hc2 : k1_cond3 i (word1 i arg3 harg3 T) = 1#1) :
    Σ' (L0 : List (View.Piece (Elt F) S1x512x512 .fp8e4m3)), { L1 : List (View.Piece (Elt F) S1x512x56 .f32) //
      ∀ (E : Set ℕ) (K : PUnit → sProp 𝕄),
        iprop(owns (c : Thread nD τ) arg3 fullShare T ∗ owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ (∃ d, owns (c : Thread nD τ) arg9 fullShare d)
            ∗ (iprop(owns (c : Thread nD τ) arg3 fullShare T ∗ owns (c : Thread nD τ) arg4 fullShare x0 ∗ owns (c : Thread nD τ) arg5 fullShare x1 ∗ owns (c : Thread nD τ) arg6 fullShare x2 ∗ owns (c : Thread nD τ) arg7 fullShare x3 ∗ (∃ f, arg8.view.loc (c : Thread nD τ) ↦[arg8.view.set]{fullShare} arg8.view.writes (Elt F) f L0) ∗ (∃ f, arg9.view.loc (c : Thread nD τ) ↦[arg9.view.set]{fullShare} arg9.view.writes (Elt F) f L1)) -∗ K ⟨⟩))
          ⊢ wp frame (wpE (defs₀ (F := F)) Variants.none c none) E (cc1_down i arg3 harg3 arg4 harg4 arg5 harg5 arg6 harg6 arg7 harg7 arg8 harg8 arg9 harg9 arg10 harg10 arg11 harg11) K } := by
  refine ⟨?_, ?_, fun E K => ?run⟩
  case run =>
    simp only [cc1_down_eq_skeleton]; unfold cc1_down_skel
    simp only [k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton]
    unfold owns
    iintro ⟨⟨%fT, %hfT, HT⟩, ⟨%f0, %hf0, H0⟩, ⟨%f1, %hf1, H1⟩, ⟨%f2, %hf2, H2⟩, ⟨%f3, %hf3, H3⟩, ⟨%dO0, %fO0, -, HO0⟩, ⟨%dO1, %fO1, -, HO1⟩, Hk⟩
    obtain rfl := harg3.eq_unread hfT; obtain rfl := harg4.eq_unread hf0; obtain rfl := harg5.eq_unread hf1; obtain rfl := harg6.eq_unread hf2; obtain rfl := harg7.eq_unread hf3
    sl_exec (disch := first | sl_exact hc0 | sl_exact hc2)
    sl_step
    iapply Hk
    isplitl [HT]
    · iexists _; isplitr; · ipureintro; exact harg3.read_unread _
      iexact HT
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [HO0]
    · iexists _; iexact HO0
    iexists _; iexact HO1

end Cert.KernelIdeal.Gen

end
-- ==== Proof.KernelIdeal.Data1.lean ====
module

public import proofs.«01_k».proof.Proof.KernelIdeal.Run1A
public import proofs.«01_k».proof.Proof.KernelIdeal.Run1B
public import proofs.«01_k».proof.Proof.KernelIdeal.Run1C

/-!
# Call 1: what each grid point leaves
-/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfg1 (F := F)).Adm)
variable (V : (c : Dev nD) → (b : Ref sig .tc) → Buf (Elt F) ((c : Thread nD τ).loc b))

/-- The table's contents. -/
abbrev tab1 : Vec F S4 .i32 := a.1 0

/-- The word of the table the body reads at point `t`. -/
abbrev wd1 (t : Fin (cfg1 a).N) : Elt F .i32 := word1 (grid1.coords t) (Memref.whole main_arg2) (Memref.isWhole_whole _) (tab1 a)

/-! ## A block is either live or dead -/

theorem k1_live_or_dead (i : grid1.Coords) (w : BitVec 32) : k1_cond1 i w = 1#1 ∨ k1_cond3 i w = 1#1 := by
  unfold k1_cond1 k1_cond3; dsimp only
  generalize Scalar.subi w _ = z
  by_cases h : (0#32).slt z = true
  · left; simp [Scalar.cmpi, IntOp.cmpi, Scalar.extui, h]
  · right; simp [Scalar.cmpi, IntOp.cmpi, Scalar.extui, h, BitVec.sle_eq_not_slt]

theorem k1_not_dead (i : grid1.Coords) (w : BitVec 32) (h1 : k1_cond1 i w = 1#1) : ¬k1_cond3 i w = 1#1 := by
  revert h1; unfold k1_cond1 k1_cond3; dsimp only
  generalize Scalar.subi w _ = z
  by_cases h : (0#32).slt z = true
  · simp [Scalar.cmpi, IntOp.cmpi, Scalar.extui, h, BitVec.sle_eq_not_slt]
  · simp [Scalar.cmpi, IntOp.cmpi, Scalar.extui, h]

/-- No window is ever idle: every point stores both outputs. -/
theorem live1_4 (i : grid1.Coords) : (cfg1 a).idle 4 i = false := by
  change (!(k1_cond1 i _ == 1#1) && !(k1_cond3 i _ == 1#1)) = false
  rcases k1_live_or_dead i (a.1.atD 0 (k1_off1 i)) with h | h <;> simp [h]
theorem live1_5 (i : grid1.Coords) : (cfg1 a).idle 5 i = false := by
  change (!(k1_cond1 i _ == 1#1 && k1_cond2 i == 1#1) && !(k1_cond1 i _ == 1#1) && !(k1_cond3 i _ == 1#1)) = false
  rcases k1_live_or_dead i (a.1.atD 0 (k1_off1 i)) with h | h <;> simp [h]

theorem hcond1 : ∀ t : Fin (cfg1 a).N, k1_cond2 (grid1.coords t) = 1#1 ↔ t.val % 14 = 0 :=
  (by decide +kernel : ∀ t : Fin grid1.N, k1_cond2 (grid1.coords t) = 1#1 ↔ t.val % 14 = 0)

/-- Column tiles of one row block read one word, and so are all live or all dead. -/
theorem live_pred1 (t : Fin (cfg1 a).N) (ht : t.val % 14 ≠ 0) (h : k1_cond1 (grid1.coords t) (wd1 a t) = 1#1) :
    k1_cond1 (grid1.coords ⟨t.val - 1, Nat.lt_of_le_of_lt (Nat.sub_le _ _) t.isLt⟩) (wd1 a ⟨t.val - 1, Nat.lt_of_le_of_lt (Nat.sub_le _ _) t.isLt⟩) = 1#1 := by
  have hc := (by decide +kernel : ∀ u : Fin grid1.N, u.val % 14 ≠ 0 →
    (grid1.coords ⟨u.val - 1, Nat.lt_of_le_of_lt (Nat.sub_le _ _) u.isLt⟩ 0).val = (grid1.coords u 0).val
    ∧ (grid1.coords ⟨u.val - 1, Nat.lt_of_le_of_lt (Nat.sub_le _ _) u.isLt⟩ 1).val = (grid1.coords u 1).val) t ht
  have ho : k1_off1 (grid1.coords ⟨t.val - 1, Nat.lt_of_le_of_lt (Nat.sub_le _ _) t.isLt⟩) = k1_off1 (grid1.coords t) := by
    unfold k1_off1; simp only [hc.1]
  have hw : wd1 a ⟨t.val - 1, Nat.lt_of_le_of_lt (Nat.sub_le _ _) t.isLt⟩ = wd1 a t := word1_congr _ _ _ _ _ ho
  rw [hw]; unfold k1_cond1 at h ⊢; simp only [hc.2]; exact h

/-! ## The windows' blocks and staging buffers -/

/-- Window `w`'s block at point `t`, read off its array as the region finds it (`V`). -/
def iblk1 (c : Dev nD) (w : Fin (cfg1 a).W) (t : Fin (cfg1 a).N) : (((cfg1 a).win w).xblock ((cfg1 a).grid.coords t)).Idx → Elt F ((cfg1 a).win w).elt :=
  (((cfg1 a).win w).blk t).view.read (Elt F) (V c (Pipeline.arrRef spec1 w))

theorem before1_0_of {c : Dev nD} (dat : Dat τ (Elt F) Unit ℕ (UR sig nD τ) ℕ (cfg1 a) c) (hA : dat.A 0 = V c (Pipeline.arrRef spec1 0))
    (hafter : ∀ t, dat.after 0 t = iblk1 a V c 0 t) (t : Fin (cfg1 a).N) (d) : dat.before 0 t d = iblk1 a V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ (cfg1 a) c) (hA : dat.A 1 = V c (Pipeline.arrRef spec1 1))
    (hafter : ∀ t, dat.after 1 t = iblk1 a V c 1 t) (t : Fin (cfg1 a).N) (d) : dat.before 1 t d = iblk1 a V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ (cfg1 a) c) (hA : dat.A 2 = V c (Pipeline.arrRef spec1 2))
    (hafter : ∀ t, dat.after 2 t = iblk1 a V c 2 t) (t : Fin (cfg1 a).N) (d) : dat.before 2 t d = iblk1 a V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ (cfg1 a) c) (hA : dat.A 3 = V c (Pipeline.arrRef spec1 3))
    (hafter : ∀ t, dat.after 3 t = iblk1 a V c 3 t) (t : Fin (cfg1 a).N) (d) : dat.before 3 t d = iblk1 a V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
abbrev ms1_0 (t : Fin (cfg1 a).N) := spec1_0.stage ((cfg1 a).slots t 0)
theorem hs1_0 (t : Fin (cfg1 a).N) : (ms1_0 a t).IsWhole := hstage1_0 (((cfg1 a).slots t 0).cast nbuf1_0)
abbrev ms1_1 (t : Fin (cfg1 a).N) := spec1_1.stage ((cfg1 a).slots t 1)
theorem hs1_1 (t : Fin (cfg1 a).N) : (ms1_1 a t).IsWhole := hstage1_1 (((cfg1 a).slots t 1).cast nbuf1_1)
abbrev ms1_2 (t : Fin (cfg1 a).N) := spec1_2.stage ((cfg1 a).slots t 2)
theorem hs1_2 (t : Fin (cfg1 a).N) : (ms1_2 a t).IsWhole := hstage1_2 (((cfg1 a).slots t 2).cast nbuf1_2)
abbrev ms1_3 (t : Fin (cfg1 a).N) := spec1_3.stage ((cfg1 a).slots t 3)
theorem hs1_3 (t : Fin (cfg1 a).N) : (ms1_3 a t).IsWhole := hstage1_3 (((cfg1 a).slots t 3).cast nbuf1_3)
abbrev ms1_4 (t : Fin (cfg1 a).N) := spec1_4.stage ((cfg1 a).slots t 4)
theorem hs1_4 (t : Fin (cfg1 a).N) : (ms1_4 a t).IsWhole := hstage1_4 (((cfg1 a).slots t 4).cast nbuf1_4)
abbrev ms1_5 (t : Fin (cfg1 a).N) := spec1_5.stage ((cfg1 a).slots t 5)
theorem hs1_5 (t : Fin (cfg1 a).N) : (ms1_5 a t).IsWhole := hstage1_5 (((cfg1 a).slots t 5).cast nbuf1_5)
abbrev scM1_0 := Memref.whole cc1_scratch0
abbrev scM1_1 := Memref.whole cc1_scratch1

/-! ## The stores of each case cover the buffers they go to -/

abbrev VO1_4 := (Memref.whole cc1_stg4_0).view
abbrev VO1_5 := (Memref.whole cc1_stg5_0).view
abbrev VS1 := (Memref.whole cc1_scratch0).view

theorem cover1_A_o0 (c : Dev nD) (i : grid1.Coords) (arg3 : Memref sig .tc .smem S4 .i32) (harg3 : arg3.IsWhole) (arg4 : Memref sig .tc .vmem S1x512x2048 .fp8e4m3) (harg4 : arg4.IsWhole) (arg5 : Memref sig .tc .vmem S1x512x16 .f32) (harg5 : arg5.IsWhole) (arg6 : Memref sig .tc .vmem S1x512x2048 .fp8e4m3) (harg6 : arg6.IsWhole) (arg7 : Memref sig .tc .vmem S1x4x1x2048 .bf16) (harg7 : arg7.IsWhole) (arg8 : Memref sig .tc .vmem S1x512x512 .fp8e4m3) (harg8 : arg8.IsWhole) (arg9 : Memref sig .tc .vmem S1x512x56 .f32) (harg9 : arg9.IsWhole) (arg10 : Memref sig .tc .vmem S512x2048 .bf16) (harg10 : arg10.IsWhole) (arg11 : Memref sig .tc .vmem S512x2048 .bf16) (harg11 : arg11.IsWhole) (T : Vec F S4 .i32) (x0 : Vec F S1x512x2048 .fp8e4m3) (x1 : Vec F S1x512x16 .f32) (x2 : Vec F S1x512x2048 .fp8e4m3) (x3 : Vec F S1x4x1x2048 .bf16) (hc0 : k1_cond1 i (word1 i arg3 harg3 T) = 1#1) (hc1 : k1_cond2 i = 1#1) (hc2 : ¬k1_cond3 i (word1 i arg3 harg3 T) = 1#1) :
    ∀ y : Shape.Idx S1x512x512, ∃ p ∈ (run1A c i arg3 harg3 arg4 harg4 arg5 harg5 arg6 harg6 arg7 harg7 arg8 harg8 arg9 harg9 arg10 harg10 arg11 harg11 T x0 x1 x2 x3 hc0 hc1 hc2).1, y ∈ p.1.set := fun y => View.cover_of_tiledL
  ((run1A c i arg3 harg3 arg4 harg4 arg5 harg5 arg6 harg6 arg7 harg7 arg8 harg8 arg9 harg9 arg10 harg10 arg11 harg11 T x0 x1 x2 x3 hc0 hc1 hc2).1) S1x512x128.size (by sl_kernel_rfl) y
theorem cover1_A_o1 (c : Dev nD) (i : grid1.Coords) (arg3 : Memref sig .tc .smem S4 .i32) (harg3 : arg3.IsWhole) (arg4 : Memref sig .tc .vmem S1x512x2048 .fp8e4m3) (harg4 : arg4.IsWhole) (arg5 : Memref sig .tc .vmem S1x512x16 .f32) (harg5 : arg5.IsWhole) (arg6 : Memref sig .tc .vmem S1x512x2048 .fp8e4m3) (harg6 : arg6.IsWhole) (arg7 : Memref sig .tc .vmem S1x4x1x2048 .bf16) (harg7 : arg7.IsWhole) (arg8 : Memref sig .tc .vmem S1x512x512 .fp8e4m3) (harg8 : arg8.IsWhole) (arg9 : Memref sig .tc .vmem S1x512x56 .f32) (harg9 : arg9.IsWhole) (arg10 : Memref sig .tc .vmem S512x2048 .bf16) (harg10 : arg10.IsWhole) (arg11 : Memref sig .tc .vmem S512x2048 .bf16) (harg11 : arg11.IsWhole) (T : Vec F S4 .i32) (x0 : Vec F S1x512x2048 .fp8e4m3) (x1 : Vec F S1x512x16 .f32) (x2 : Vec F S1x512x2048 .fp8e4m3) (x3 : Vec F S1x4x1x2048 .bf16) (hc0 : k1_cond1 i (word1 i arg3 harg3 T) = 1#1) (hc1 : k1_cond2 i = 1#1) (hc2 : ¬k1_cond3 i (word1 i arg3 harg3 T) = 1#1) :
    ∀ y : Shape.Idx S1x512x56, ∃ p ∈ (run1A c i arg3 harg3 arg4 harg4 arg5 harg5 arg6 harg6 arg7 harg7 arg8 harg8 arg9 harg9 arg10 harg10 arg11 harg11 T x0 x1 x2 x3 hc0 hc1 hc2).2.1, y ∈ p.1.set := fun y => View.cover_of_tiledL
  ((run1A c i arg3 harg3 arg4 harg4 arg5 harg5 arg6 harg6 arg7 harg7 arg8 harg8 arg9 harg9 arg10 harg10 arg11 harg11 T x0 x1 x2 x3 hc0 hc1 hc2).2.1) S1x512x56.size (by sl_kernel_rfl) y
theorem cover1_A_s0 (c : Dev nD) (i : grid1.Coords) (arg3 : Memref sig .tc .smem S4 .i32) (harg3 : arg3.IsWhole) (arg4 : Memref sig .tc .vmem S1x512x2048 .fp8e4m3) (harg4 : arg4.IsWhole) (arg5 : Memref sig .tc .vmem S1x512x16 .f32) (harg5 : arg5.IsWhole) (arg6 : Memref sig .tc .vmem S1x512x2048 .fp8e4m3) (harg6 : arg6.IsWhole) (arg7 : Memref sig .tc .vmem S1x4x1x2048 .bf16) (harg7 : arg7.IsWhole) (arg8 : Memref sig .tc .vmem S1x512x512 .fp8e4m3) (harg8 : arg8.IsWhole) (arg9 : Memref sig .tc .vmem S1x512x56 .f32) (harg9 : arg9.IsWhole) (arg10 : Memref sig .tc .vmem S512x2048 .bf16) (harg10 : arg10.IsWhole) (arg11 : Memref sig .tc .vmem S512x2048 .bf16) (harg11 : arg11.IsWhole) (T : Vec F S4 .i32) (x0 : Vec F S1x512x2048 .fp8e4m3) (x1 : Vec F S1x512x16 .f32) (x2 : Vec F S1x512x2048 .fp8e4m3) (x3 : Vec F S1x4x1x2048 .bf16) (hc0 : k1_cond1 i (word1 i arg3 harg3 T) = 1#1) (hc1 : k1_cond2 i = 1#1) (hc2 : ¬k1_cond3 i (word1 i arg3 harg3 T) = 1#1) :
    ∀ y : Shape.Idx S512x2048, ∃ p ∈ (run1A c i arg3 harg3 arg4 harg4 arg5 harg5 arg6 harg6 arg7 harg7 arg8 harg8 arg9 harg9 arg10 harg10 arg11 harg11 T x0 x1 x2 x3 hc0 hc1 hc2).2.2.1, y ∈ p.1.set := fun y => View.cover_of_tiledL
  ((run1A c i arg3 harg3 arg4 harg4 arg5 harg5 arg6 harg6 arg7 harg7 arg8 harg8 arg9 harg9 arg10 harg10 arg11 harg11 T x0 x1 x2 x3 hc0 hc1 hc2).2.2.1) S512x128.size (by sl_kernel_rfl) y
theorem cover1_B_o0 (c : Dev nD) (i : grid1.Coords) (arg3 : Memref sig .tc .smem S4 .i32) (harg3 : arg3.IsWhole) (arg4 : Memref sig .tc .vmem S1x512x2048 .fp8e4m3) (harg4 : arg4.IsWhole) (arg5 : Memref sig .tc .vmem S1x512x16 .f32) (harg5 : arg5.IsWhole) (arg6 : Memref sig .tc .vmem S1x512x2048 .fp8e4m3) (harg6 : arg6.IsWhole) (arg7 : Memref sig .tc .vmem S1x4x1x2048 .bf16) (harg7 : arg7.IsWhole) (arg8 : Memref sig .tc .vmem S1x512x512 .fp8e4m3) (harg8 : arg8.IsWhole) (arg9 : Memref sig .tc .vmem S1x512x56 .f32) (harg9 : arg9.IsWhole) (arg10 : Memref sig .tc .vmem S512x2048 .bf16) (harg10 : arg10.IsWhole) (arg11 : Memref sig .tc .vmem S512x2048 .bf16) (harg11 : arg11.IsWhole) (T : Vec F S4 .i32) (x0 : Vec F S1x512x2048 .fp8e4m3) (x1 : Vec F S1x512x16 .f32) (x2 : Vec F S1x512x2048 .fp8e4m3) (x3 : Vec F S1x4x1x2048 .bf16) (h : Vec F S1x512x56 .f32) (s0 : Vec F S512x2048 .bf16) (hc0 : k1_cond1 i (word1 i arg3 harg3 T) = 1#1) (hc1 : ¬k1_cond2 i = 1#1) (hc2 : ¬k1_cond3 i (word1 i arg3 harg3 T) = 1#1) :
    ∀ y : Shape.Idx S1x512x512, ∃ p ∈ (run1B c i arg3 harg3 arg4 harg4 arg5 harg5 arg6 harg6 arg7 harg7 arg8 harg8 arg9 harg9 arg10 harg10 arg11 harg11 T x0 x1 x2 x3 h s0 hc0 hc1 hc2).1, y ∈ p.1.set := fun y => View.cover_of_tiledL
  ((run1B c i arg3 harg3 arg4 harg4 arg5 harg5 arg6 harg6 arg7 harg7 arg8 harg8 arg9 harg9 arg10 harg10 arg11 harg11 T x0 x1 x2 x3 h s0 hc0 hc1 hc2).1) S1x512x128.size (by sl_kernel_rfl) y
theorem cover1_B_o1 (c : Dev nD) (i : grid1.Coords) (arg3 : Memref sig .tc .smem S4 .i32) (harg3 : arg3.IsWhole) (arg4 : Memref sig .tc .vmem S1x512x2048 .fp8e4m3) (harg4 : arg4.IsWhole) (arg5 : Memref sig .tc .vmem S1x512x16 .f32) (harg5 : arg5.IsWhole) (arg6 : Memref sig .tc .vmem S1x512x2048 .fp8e4m3) (harg6 : arg6.IsWhole) (arg7 : Memref sig .tc .vmem S1x4x1x2048 .bf16) (harg7 : arg7.IsWhole) (arg8 : Memref sig .tc .vmem S1x512x512 .fp8e4m3) (harg8 : arg8.IsWhole) (arg9 : Memref sig .tc .vmem S1x512x56 .f32) (harg9 : arg9.IsWhole) (arg10 : Memref sig .tc .vmem S512x2048 .bf16) (harg10 : arg10.IsWhole) (arg11 : Memref sig .tc .vmem S512x2048 .bf16) (harg11 : arg11.IsWhole) (T : Vec F S4 .i32) (x0 : Vec F S1x512x2048 .fp8e4m3) (x1 : Vec F S1x512x16 .f32) (x2 : Vec F S1x512x2048 .fp8e4m3) (x3 : Vec F S1x4x1x2048 .bf16) (h : Vec F S1x512x56 .f32) (s0 : Vec F S512x2048 .bf16) (hc0 : k1_cond1 i (word1 i arg3 harg3 T) = 1#1) (hc1 : ¬k1_cond2 i = 1#1) (hc2 : ¬k1_cond3 i (word1 i arg3 harg3 T) = 1#1) :
    ∀ y : Shape.Idx S1x512x56, ∃ p ∈ (run1B c i arg3 harg3 arg4 harg4 arg5 harg5 arg6 harg6 arg7 harg7 arg8 harg8 arg9 harg9 arg10 harg10 arg11 harg11 T x0 x1 x2 x3 h s0 hc0 hc1 hc2).2.1, y ∈ p.1.set := fun y => View.cover_of_tiledL
  ((run1B c i arg3 harg3 arg4 harg4 arg5 harg5 arg6 harg6 arg7 harg7 arg8 harg8 arg9 harg9 arg10 harg10 arg11 harg11 T x0 x1 x2 x3 h s0 hc0 hc1 hc2).2.1) S1x512x56.size (by sl_kernel_rfl) y
theorem cover1_C_o0 (c : Dev nD) (i : grid1.Coords) (arg3 : Memref sig .tc .smem S4 .i32) (harg3 : arg3.IsWhole) (arg4 : Memref sig .tc .vmem S1x512x2048 .fp8e4m3) (harg4 : arg4.IsWhole) (arg5 : Memref sig .tc .vmem S1x512x16 .f32) (harg5 : arg5.IsWhole) (arg6 : Memref sig .tc .vmem S1x512x2048 .fp8e4m3) (harg6 : arg6.IsWhole) (arg7 : Memref sig .tc .vmem S1x4x1x2048 .bf16) (harg7 : arg7.IsWhole) (arg8 : Memref sig .tc .vmem S1x512x512 .fp8e4m3) (harg8 : arg8.IsWhole) (arg9 : Memref sig .tc .vmem S1x512x56 .f32) (harg9 : arg9.IsWhole) (arg10 : Memref sig .tc .vmem S512x2048 .bf16) (harg10 : arg10.IsWhole) (arg11 : Memref sig .tc .vmem S512x2048 .bf16) (harg11 : arg11.IsWhole) (T : Vec F S4 .i32) (x0 : Vec F S1x512x2048 .fp8e4m3) (x1 : Vec F S1x512x16 .f32) (x2 : Vec F S1x512x2048 .fp8e4m3) (x3 : Vec F S1x4x1x2048 .bf16) (hc0 : ¬k1_cond1 i (word1 i arg3 harg3 T) = 1#1) (hc2 : k1_cond3 i (word1 i arg3 harg3 T) = 1#1) :
    ∀ y : Shape.Idx S1x512x512, ∃ p ∈ (run1C c i arg3 harg3 arg4 harg4 arg5 harg5 arg6 harg6 arg7 harg7 arg8 harg8 arg9 harg9 arg10 harg10 arg11 harg11 T x0 x1 x2 x3 hc0 hc2).1, y ∈ p.1.set := fun y => View.cover_of_tiledL
  ((run1C c i arg3 harg3 arg4 harg4 arg5 harg5 arg6 harg6 arg7 harg7 arg8 harg8 arg9 harg9 arg10 harg10 arg11 harg11 T x0 x1 x2 x3 hc0 hc2).1) S1x512x512.size (by sl_kernel_rfl) y
theorem cover1_C_o1 (c : Dev nD) (i : grid1.Coords) (arg3 : Memref sig .tc .smem S4 .i32) (harg3 : arg3.IsWhole) (arg4 : Memref sig .tc .vmem S1x512x2048 .fp8e4m3) (harg4 : arg4.IsWhole) (arg5 : Memref sig .tc .vmem S1x512x16 .f32) (harg5 : arg5.IsWhole) (arg6 : Memref sig .tc .vmem S1x512x2048 .fp8e4m3) (harg6 : arg6.IsWhole) (arg7 : Memref sig .tc .vmem S1x4x1x2048 .bf16) (harg7 : arg7.IsWhole) (arg8 : Memref sig .tc .vmem S1x512x512 .fp8e4m3) (harg8 : arg8.IsWhole) (arg9 : Memref sig .tc .vmem S1x512x56 .f32) (harg9 : arg9.IsWhole) (arg10 : Memref sig .tc .vmem S512x2048 .bf16) (harg10 : arg10.IsWhole) (arg11 : Memref sig .tc .vmem S512x2048 .bf16) (harg11 : arg11.IsWhole) (T : Vec F S4 .i32) (x0 : Vec F S1x512x2048 .fp8e4m3) (x1 : Vec F S1x512x16 .f32) (x2 : Vec F S1x512x2048 .fp8e4m3) (x3 : Vec F S1x4x1x2048 .bf16) (hc0 : ¬k1_cond1 i (word1 i arg3 harg3 T) = 1#1) (hc2 : k1_cond3 i (word1 i arg3 harg3 T) = 1#1) :
    ∀ y : Shape.Idx S1x512x56, ∃ p ∈ (run1C c i arg3 harg3 arg4 harg4 arg5 harg5 arg6 harg6 arg7 harg7 arg8 harg8 arg9 harg9 arg10 harg10 arg11 harg11 T x0 x1 x2 x3 hc0 hc2).2.1, y ∈ p.1.set := fun y => View.cover_of_tiledL
  ((run1C c i arg3 harg3 arg4 harg4 arg5 harg5 arg6 harg6 arg7 harg7 arg8 harg8 arg9 harg9 arg10 harg10 arg11 harg11 T x0 x1 x2 x3 hc0 hc2).2.1) S1x512x56.size (by sl_kernel_rfl) y

/-! ## What each point leaves: the two outputs' buffers and the carried scratch -/

/-- What the outputs' buffers and the carried scratch hold. -/
abbrev St1 (F : FTy → Type) := Vec F S1x512x512 .fp8e4m3 × Vec F S1x512x56 .f32 × Vec F S512x2048 .bf16

/-- The first column tile of a live block. -/
def stepA1 (c : Dev nD) (t : Fin (cfg1 a).N) (h1 : k1_cond1 (grid1.coords t) (wd1 a t) = 1#1) (h2 : k1_cond2 (grid1.coords t) = 1#1) : St1 F :=
  (VO1_4.read (Elt F) (VO1_4.writes (Elt F) VO1_4.junk (run1A c (grid1.coords t) (Memref.whole main_arg2) (Memref.isWhole_whole _) (ms1_0 a t) (hs1_0 a t) (ms1_1 a t) (hs1_1 a t) (ms1_2 a t) (hs1_2 a t) (ms1_3 a t) (hs1_3 a t) (ms1_4 a t) (hs1_4 a t) (ms1_5 a t) (hs1_5 a t) (Memref.whole cc1_scratch0) (Memref.isWhole_whole _) (Memref.whole cc1_scratch1) (Memref.isWhole_whole _) (tab1 a) (iblk1 a V c 0 t) (iblk1 a V c 1 t) (iblk1 a V c 2 t) (iblk1 a V c 3 t) h1 h2 (k1_not_dead _ _ h1)).1),
   VO1_5.read (Elt F) (VO1_5.writes (Elt F) VO1_5.junk (run1A c (grid1.coords t) (Memref.whole main_arg2) (Memref.isWhole_whole _) (ms1_0 a t) (hs1_0 a t) (ms1_1 a t) (hs1_1 a t) (ms1_2 a t) (hs1_2 a t) (ms1_3 a t) (hs1_3 a t) (ms1_4 a t) (hs1_4 a t) (ms1_5 a t) (hs1_5 a t) (Memref.whole cc1_scratch0) (Memref.isWhole_whole _) (Memref.whole cc1_scratch1) (Memref.isWhole_whole _) (tab1 a) (iblk1 a V c 0 t) (iblk1 a V c 1 t) (iblk1 a V c 2 t) (iblk1 a V c 3 t) h1 h2 (k1_not_dead _ _ h1)).2.1),
   VS1.read (Elt F) (VS1.writes (Elt F) VS1.junk (run1A c (grid1.coords t) (Memref.whole main_arg2) (Memref.isWhole_whole _) (ms1_0 a t) (hs1_0 a t) (ms1_1 a t) (hs1_1 a t) (ms1_2 a t) (hs1_2 a t) (ms1_3 a t) (hs1_3 a t) (ms1_4 a t) (hs1_4 a t) (ms1_5 a t) (hs1_5 a t) (Memref.whole cc1_scratch0) (Memref.isWhole_whole _) (Memref.whole cc1_scratch1) (Memref.isWhole_whole _) (tab1 a) (iblk1 a V c 0 t) (iblk1 a V c 1 t) (iblk1 a V c 2 t) (iblk1 a V c 3 t) h1 h2 (k1_not_dead _ _ h1)).2.2.1))
/-- A later column tile of a live block: the carried scratch stays. -/
def stepB1 (c : Dev nD) (t : Fin (cfg1 a).N) (h1 : k1_cond1 (grid1.coords t) (wd1 a t) = 1#1) (h2 : ¬k1_cond2 (grid1.coords t) = 1#1) (acc : St1 F) : St1 F :=
  (VO1_4.read (Elt F) (VO1_4.writes (Elt F) VO1_4.junk (run1B c (grid1.coords t) (Memref.whole main_arg2) (Memref.isWhole_whole _) (ms1_0 a t) (hs1_0 a t) (ms1_1 a t) (hs1_1 a t) (ms1_2 a t) (hs1_2 a t) (ms1_3 a t) (hs1_3 a t) (ms1_4 a t) (hs1_4 a t) (ms1_5 a t) (hs1_5 a t) (Memref.whole cc1_scratch0) (Memref.isWhole_whole _) (Memref.whole cc1_scratch1) (Memref.isWhole_whole _) (tab1 a) (iblk1 a V c 0 t) (iblk1 a V c 1 t) (iblk1 a V c 2 t) (iblk1 a V c 3 t) acc.2.1 acc.2.2 h1 h2 (k1_not_dead _ _ h1)).1),
   VO1_5.read (Elt F) (VO1_5.writes (Elt F) VO1_5.junk (run1B c (grid1.coords t) (Memref.whole main_arg2) (Memref.isWhole_whole _) (ms1_0 a t) (hs1_0 a t) (ms1_1 a t) (hs1_1 a t) (ms1_2 a t) (hs1_2 a t) (ms1_3 a t) (hs1_3 a t) (ms1_4 a t) (hs1_4 a t) (ms1_5 a t) (hs1_5 a t) (Memref.whole cc1_scratch0) (Memref.isWhole_whole _) (Memref.whole cc1_scratch1) (Memref.isWhole_whole _) (tab1 a) (iblk1 a V c 0 t) (iblk1 a V c 1 t) (iblk1 a V c 2 t) (iblk1 a V c 3 t) acc.2.1 acc.2.2 h1 h2 (k1_not_dead _ _ h1)).2.1),
   acc.2.2)
/-- A dead block: the carried scratch stays. -/
def stepC1 (c : Dev nD) (t : Fin (cfg1 a).N) (h1 : ¬k1_cond1 (grid1.coords t) (wd1 a t) = 1#1) (acc : St1 F) : St1 F :=
  (VO1_4.read (Elt F) (VO1_4.writes (Elt F) VO1_4.junk (run1C c (grid1.coords t) (Memref.whole main_arg2) (Memref.isWhole_whole _) (ms1_0 a t) (hs1_0 a t) (ms1_1 a t) (hs1_1 a t) (ms1_2 a t) (hs1_2 a t) (ms1_3 a t) (hs1_3 a t) (ms1_4 a t) (hs1_4 a t) (ms1_5 a t) (hs1_5 a t) (Memref.whole cc1_scratch0) (Memref.isWhole_whole _) (Memref.whole cc1_scratch1) (Memref.isWhole_whole _) (tab1 a) (iblk1 a V c 0 t) (iblk1 a V c 1 t) (iblk1 a V c 2 t) (iblk1 a V c 3 t) h1 ((k1_live_or_dead _ _).resolve_left h1)).1),
   VO1_5.read (Elt F) (VO1_5.writes (Elt F) VO1_5.junk (run1C c (grid1.coords t) (Memref.whole main_arg2) (Memref.isWhole_whole _) (ms1_0 a t) (hs1_0 a t) (ms1_1 a t) (hs1_1 a t) (ms1_2 a t) (hs1_2 a t) (ms1_3 a t) (hs1_3 a t) (ms1_4 a t) (hs1_4 a t) (ms1_5 a t) (hs1_5 a t) (Memref.whole cc1_scratch0) (Memref.isWhole_whole _) (Memref.whole cc1_scratch1) (Memref.isWhole_whole _) (tab1 a) (iblk1 a V c 0 t) (iblk1 a V c 1 t) (iblk1 a V c 2 t) (iblk1 a V c 3 t) h1 ((k1_live_or_dead _ _).resolve_left h1)).2.1),
   acc.2.2)
/-- What point `t` leaves, from what the point before left. -/
def step1 (c : Dev nD) (t : Fin (cfg1 a).N) (acc : St1 F) : St1 F :=
  if h1 : k1_cond1 (grid1.coords t) (wd1 a t) = 1#1 then (if h2 : k1_cond2 (grid1.coords t) = 1#1 then stepA1 a V c t h1 h2 else stepB1 a V c t h1 h2 acc) else stepC1 a V c t h1 acc
/-- Before the first point: contents nothing reads. -/
def st1_0 : St1 F := (VO1_4.read (Elt F) VO1_4.junk, VO1_5.read (Elt F) VO1_5.junk, VS1.read (Elt F) VS1.junk)
/-- The state entering point `n`. -/
def acc1 (c : Dev nD) : (n : ℕ) → n ≤ (cfg1 a).N → St1 F
  | 0, _ => st1_0
  | n + 1, h => step1 a V c ⟨n, h⟩ (acc1 c n (Nat.le_of_succ_le h))
/-- The state point `t` leaves. -/
def outsAt1 (c : Dev nD) (t : Fin (cfg1 a).N) : St1 F := step1 a V c t (acc1 a V c t.val t.isLt.le)

theorem acc1_succ (c : Dev nD) (n : ℕ) (h : n + 1 ≤ (cfg1 a).N) : acc1 a V c (n + 1) h = outsAt1 a V c ⟨n, h⟩ := rfl

/-! ## The region's invariant: the table, the scratch (the carried one at its contents once the first point has run), the other
    scoped buffers, the generator register -/

/-- The scoped buffers the region does not touch. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f))

theorem scopedRest1_split (c : Dev nD) :
    (Pipeline.scopedRest (Ix := Unit) (Name := ℕ) (U := UR sig nD τ) (Lvl := ℕ) (Val := Elt F) spec1 c : sProp 𝕄)
      = iprop((∃ d, owns (c : Thread nD τ) scM1_0 fullShare d) ∗ (∃ d, owns (c : Thread nD τ) scM1_1 fullShare d) ∗ others1 (F := F) c) := by
  unfold others1; simp only [scM1_0, owns_whole]
  exact Pipeline.scopedRest_eq_of_list spec1 c [cc1_scratch0, cc1_scratch1, cc0_stg0_0, cc0_stg0_1, cc0_stg1_0, cc0_stg1_1, cc0_stg2_0, cc0_stg2_1, cc0_stg3_0, cc0_stg3_1, cc0_stg4_0, cc0_stg4_1, cc0_stg5_0, cc0_stg5_1, cc0_stg6_0, cc0_stg6_1, cc0_stg7_0, cc0_stg7_1, cc0_scratch0, cc0_scratch1, cc0_scratch2] (by decide) (by decide)

/-- The carried scratch entering point `n`: at a later column tile of a live block, at what the tile before left. -/
def carried1 (c : Dev nD) (n : ℕ) (h : n ≤ (cfg1 a).N) : sProp 𝕄 :=
  iprop(∃ d, owns (c : Thread nD τ) scM1_0 fullShare d
    ∗ ⌜∀ hn : n < (cfg1 a).N, n % 14 ≠ 0 → k1_cond1 (grid1.coords ⟨n, hn⟩) (wd1 a ⟨n, hn⟩) = 1#1 → d = (acc1 a V c n h).2.2⌝)

/-- The invariant entering point `n`. -/
def Phi1 (c : Dev nD) (n : ℕ) (h : n ≤ (cfg1 a).N) : sProp 𝕄 :=
  iprop(owns (c : Thread nD τ) (Memref.whole main_arg2) fullShare (tab1 a) ∗ carried1 a V c n h
    ∗ (∃ d, owns (c : Thread nD τ) scM1_1 fullShare d) ∗ others1 (F := F) c ∗ (∃ r, prngReg c r))

/-- The region's proof data. -/
def dat1 (c : Dev nD) : Dat τ (Elt F) Unit ℕ (UR sig nD τ) ℕ (cfg1 a) c where
  A w := V c (Pipeline.arrRef spec1 w)
  after w t := match w with
    | ⟨0, _⟩ => iblk1 a V c 0 t
    | ⟨1, _⟩ => iblk1 a V c 1 t
    | ⟨2, _⟩ => iblk1 a V c 2 t
    | ⟨3, _⟩ => iblk1 a V c 3 t
    | ⟨4, _⟩ => (outsAt1 a V c t).1
    | ⟨5, _⟩ => (outsAt1 a V c t).2.1
  Φ n := Phi1 a V c n.val (Nat.lt_succ_iff.mp n.isLt)
  q w := Pipeline.shareOf spec1 w
  owed _ := 0

theorem A_eq1 (c : Dev nD) (w : Fin (cfg1 a).W) : (dat1 a V c).A w = V c (Pipeline.arrRef spec1 w) := by
  dsimp only [dat1]
theorem after1_0 (c : Dev nD) (t : Fin (cfg1 a).N) : (dat1 a V c).after 0 t = iblk1 a V c 0 t := by dsimp only [dat1]; rfl
theorem after1_1 (c : Dev nD) (t : Fin (cfg1 a).N) : (dat1 a V c).after 1 t = iblk1 a V c 1 t := by dsimp only [dat1]; rfl
theorem after1_2 (c : Dev nD) (t : Fin (cfg1 a).N) : (dat1 a V c).after 2 t = iblk1 a V c 2 t := by dsimp only [dat1]; rfl
theorem after1_3 (c : Dev nD) (t : Fin (cfg1 a).N) : (dat1 a V c).after 3 t = iblk1 a V c 3 t := by dsimp only [dat1]; rfl
theorem after1_4 (c : Dev nD) (t : Fin (cfg1 a).N) : (dat1 a V c).after 4 t = (outsAt1 a V c t).1 := by dsimp only [dat1]; rfl
theorem after1_5 (c : Dev nD) (t : Fin (cfg1 a).N) : (dat1 a V c).after 5 t = (outsAt1 a V c t).2.1 := by dsimp only [dat1]; rfl
theorem before1_0 (c : Dev nD) (t : Fin (cfg1 a).N) (d) : (dat1 a V c).before 0 t d = iblk1 a V c 0 t :=
  before1_0_of a V (dat1 a V c) (A_eq1 a V c 0) (after1_0 a V c) t d
theorem before1_1 (c : Dev nD) (t : Fin (cfg1 a).N) (d) : (dat1 a V c).before 1 t d = iblk1 a V c 1 t :=
  before1_1_of a V (dat1 a V c) (A_eq1 a V c 1) (after1_1 a V c) t d
theorem before1_2 (c : Dev nD) (t : Fin (cfg1 a).N) (d) : (dat1 a V c).before 2 t d = iblk1 a V c 2 t :=
  before1_2_of a V (dat1 a V c) (A_eq1 a V c 2) (after1_2 a V c) t d
theorem before1_3 (c : Dev nD) (t : Fin (cfg1 a).N) (d) : (dat1 a V c).before 3 t d = iblk1 a V c 3 t :=
  before1_3_of a V (dat1 a V c) (A_eq1 a V c 3) (after1_3 a V c) t d

end Cert.KernelIdeal.Gen

end
-- ==== Proof.KernelIdeal.Body1.lean ====
module

public import proofs.«01_k».proof.Proof.KernelIdeal.Data1

/-!
# Call 1: the body at every grid point
-/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfg1 (F := F)).Adm)
variable (V : (c : Dev nD) → (b : Ref sig .tc) → Buf (Elt F) ((c : Thread nD τ).loc b))

theorem outsAt1_A (c : Dev nD) (t : Fin (cfg1 a).N) (h1 : k1_cond1 (grid1.coords t) (wd1 a t) = 1#1) (h2 : k1_cond2 (grid1.coords t) = 1#1) : outsAt1 a V c t = stepA1 a V c t h1 h2 := by
  unfold outsAt1 step1; rw [dif_pos h1, dif_pos h2]
theorem outsAt1_B (c : Dev nD) (t : Fin (cfg1 a).N) (h1 : k1_cond1 (grid1.coords t) (wd1 a t) = 1#1) (h2 : ¬k1_cond2 (grid1.coords t) = 1#1) :
    outsAt1 a V c t = stepB1 a V c t h1 h2 (acc1 a V c t.val t.isLt.le) := by
  unfold outsAt1 step1; rw [dif_pos h1, dif_neg h2]
theorem outsAt1_C (c : Dev nD) (t : Fin (cfg1 a).N) (h1 : ¬k1_cond1 (grid1.coords t) (wd1 a t) = 1#1) : outsAt1 a V c t = stepC1 a V c t h1 (acc1 a V c t.val t.isLt.le) := by
  unfold outsAt1 step1; rw [dif_neg h1]

theorem Phi1_congr (c : Dev nD) (n n' : ℕ) (h : n ≤ (cfg1 a).N) (h' : n' ≤ (cfg1 a).N) (e : n = n') : Phi1 a V c n h = Phi1 a V c n' h' := by
  subst e; rfl
theorem Phi1_succ (c : Dev nD) (t : Fin (cfg1 a).N) : (dat1 a V c).Φ t.succ = Phi1 a V c (t.val + 1) t.isLt := by dsimp only [dat1]; rfl
theorem Phi1_castSucc (c : Dev nD) (t : Fin (cfg1 a).N) : (dat1 a V c).Φ t.castSucc = Phi1 a V c t.val t.isLt.le := by
  dsimp only [dat1]; exact Phi1_congr a V c _ _ _ _ (Fin.val_castSucc t)
theorem owes1_succ (c : Dev nD) (t : Fin (cfg1 a).N) : (dat1 a V c).owesAt () t.succ = (dat1 a V c).owesAt () t.castSucc := by
  unfold Dat.owesAt; rfl

theorem leaves1_in (c : Dev nD) (w : Fin (cfg1 a).W) (t : Fin (cfg1 a).N) (h : ∀ i, (cfg1 a).idle w i = false) :
    (dat1 a V c).leavesExact w t = owns (c : Thread nD τ) (((cfg1 a).win w).stage ((cfg1 a).slots t w)) fullShare ((dat1 a V c).after w t) := by
  unfold Dat.leavesExact; rw [h]

/-- What the second output's buffer holds at a later column tile: what the tile before left. -/
theorem before1_5 (c : Dev nD) (t : Fin (cfg1 a).N) (ht : t.val % 14 ≠ 0) (d) :
    (dat1 a V c).before 5 t d = (acc1 a V c t.val t.isLt.le).2.1 := by
  have hp : 0 < t.val := Nat.pos_of_ne_zero fun h => ht (by rw [h])
  have hfl : ((cfg1 a).win 5).flush ⟨t.val - 1, Nat.lt_of_le_of_lt (Nat.sub_le _ _) t.isLt⟩ = false := by
    rw [Pipeline.Window.flush_eq_flushOf]
    exact (by decide +kernel : ∀ u : Fin grid1.N, u.val % 14 ≠ 13 → Pipeline.Window.flushOf grid1 true cc1_transform_5 u = false) _
      (by show (t.val - 1) % 14 ≠ 13; omega)
  rw [(dat1 a V c).before_out_kept 5 rfl t (Nat.pos_iff_ne_zero.mp hp) hfl (live1_5 a) (fun _ _ => rfl) d, after1_5]
  obtain ⟨n, hn⟩ := t
  cases n with
  | zero => exact absurd hp (Nat.lt_irrefl 0)
  | succ n => rfl

def bodyPre1 (c : Dev nD) (t : Fin (cfg1 a).N) : sProp 𝕄 :=
  iprop((dat1 a V c).Φ t.castSucc ∗ (dat1 a V c).owesAt () t.castSucc
    ∗ (∃ d, owns (c : Thread nD τ) (ms1_0 a t) fullShare ((dat1 a V c).before 0 t d))
    ∗ (∃ d, owns (c : Thread nD τ) (ms1_1 a t) fullShare ((dat1 a V c).before 1 t d))
    ∗ (∃ d, owns (c : Thread nD τ) (ms1_2 a t) fullShare ((dat1 a V c).before 2 t d))
    ∗ (∃ d, owns (c : Thread nD τ) (ms1_3 a t) fullShare ((dat1 a V c).before 3 t d))
    ∗ (∃ d, owns (c : Thread nD τ) (ms1_4 a t) fullShare ((dat1 a V c).before 4 t d))
    ∗ (∃ d, owns (c : Thread nD τ) (ms1_5 a t) fullShare ((dat1 a V c).before 5 t d)))
def bodyPost1 (c : Dev nD) (t : Fin (cfg1 a).N) : sProp 𝕄 :=
  iprop((dat1 a V c).Φ t.succ ∗ (dat1 a V c).owesAt () t.succ
    ∗ (dat1 a V c).leavesExact 0 t
    ∗ (dat1 a V c).leavesExact 1 t
    ∗ (dat1 a V c).leavesExact 2 t
    ∗ (dat1 a V c).leavesExact 3 t
    ∗ (dat1 a V c).leavesExact 4 t
    ∗ (dat1 a V c).leavesExact 5 t)
/-- The body at point `t`, on what the pipeline calls it with. -/
abbrev bodyAt1 (t : Fin (cfg1 a).N) : Prog (TpuEff nD τ sig (Elt F) Λ₀ .tc) PUnit :=
  cc1_down (grid1.coords t) (Memref.whole main_arg2) (Memref.isWhole_whole _) (ms1_0 a t) (hs1_0 a t) (ms1_1 a t) (hs1_1 a t) (ms1_2 a t) (hs1_2 a t) (ms1_3 a t) (hs1_3 a t) (ms1_4 a t) (hs1_4 a t) (ms1_5 a t) (hs1_5 a t) (Memref.whole cc1_scratch0) (Memref.isWhole_whole _) (Memref.whole cc1_scratch1) (Memref.isWhole_whole _)

set_option maxHeartbeats 1600000 in
theorem sound1_A (c : Dev nD) (t : Fin (cfg1 a).N) (h1 : k1_cond1 (grid1.coords t) (wd1 a t) = 1#1) (h2 : k1_cond2 (grid1.coords t) = 1#1) :
    bodyPre1 a V c t ⊢ wp frame (wpE (defs₀ (F := F)) Variants.none c none) Set.univ (bodyAt1 a t) (fun _ => bodyPost1 a V c t) := by
  unfold bodyPre1 bodyPost1 bodyAt1
  simp only [before1_0, before1_1, before1_2, before1_3]
  rw [Phi1_succ, Phi1_castSucc, owes1_succ]
  rw [leaves1_in a V c 0 t (fun _ => rfl), leaves1_in a V c 1 t (fun _ => rfl), leaves1_in a V c 2 t (fun _ => rfl), leaves1_in a V c 3 t (fun _ => rfl), leaves1_in a V c 4 t (live1_4 a), leaves1_in a V c 5 t (live1_5 a)]
  rw [after1_0, after1_1, after1_2, after1_3, after1_4, after1_5]
  unfold Phi1 carried1
  rw [acc1_succ, show (⟨t.val, t.isLt⟩ : Fin (cfg1 a).N) = t from rfl, outsAt1_A a V c t h1 h2]
  unfold stepA1; dsimp only
  iintro ⟨⟨HT, ⟨%s0, HS0, %hs0⟩, HS1, HR, Hg⟩, Ho, ⟨%d0, H0⟩, ⟨%d1, H1⟩, ⟨%d2, H2⟩, ⟨%d3, H3⟩, ⟨%d4, H4⟩, ⟨%d5, H5⟩⟩
  iapply ((run1A c (grid1.coords t) (Memref.whole main_arg2) (Memref.isWhole_whole _) (ms1_0 a t) (hs1_0 a t) (ms1_1 a t) (hs1_1 a t) (ms1_2 a t) (hs1_2 a t) (ms1_3 a t) (hs1_3 a t) (ms1_4 a t) (hs1_4 a t) (ms1_5 a t) (hs1_5 a t) (Memref.whole cc1_scratch0) (Memref.isWhole_whole _) (Memref.whole cc1_scratch1) (Memref.isWhole_whole _) (tab1 a) (iblk1 a V c 0 t) (iblk1 a V c 1 t) (iblk1 a V c 2 t) (iblk1 a V c 3 t) h1 h2 (k1_not_dead _ _ h1)).2.2.2.2 Set.univ _)
  isplitl [HT]; · iexact HT
  isplitl [H0]; · iexact H0
  isplitl [H1]; · iexact H1
  isplitl [H2]; · iexact H2
  isplitl [H3]; · iexact H3
  isplitl [H4]; · iexists _; iexact H4
  isplitl [H5]; · iexists _; iexact H5
  isplitl [HS0]; · iexists _; iexact HS0
  isplitl [HS1]; · iexact HS1
  iintro ⟨HT, H0, H1, H2, H3, ⟨%e0, H4⟩, ⟨%e1, H5⟩, ⟨%fT0, HS0⟩, ⟨%fT1, HS1⟩⟩
  isplitl [HT HS0 HS1 HR Hg]
  · isplitl [HT]; · iexact HT
    isplitl [HS0]
    · iexists _; isplitl [HS0]
      · unfold owns; iexists _; isplitr
        swap; · iexact HS0
        ipureintro; rfl
      ipureintro; intro _ _ _
      exact View.read_writes_of_cover _ _ _ _ _ (cover1_A_s0 c (grid1.coords t) (Memref.whole main_arg2) (Memref.isWhole_whole _) (ms1_0 a t) (hs1_0 a t) (ms1_1 a t) (hs1_1 a t) (ms1_2 a t) (hs1_2 a t) (ms1_3 a t) (hs1_3 a t) (ms1_4 a t) (hs1_4 a t) (ms1_5 a t) (hs1_5 a t) (Memref.whole cc1_scratch0) (Memref.isWhole_whole _) (Memref.whole cc1_scratch1) (Memref.isWhole_whole _) (tab1 a) (iblk1 a V c 0 t) (iblk1 a V c 1 t) (iblk1 a V c 2 t) (iblk1 a V c 3 t) h1 h2 (k1_not_dead _ _ h1))
    isplitl [HS1]
    · iexists _; unfold owns; iexists _; isplitr
      swap; · iexact HS1
      ipureintro; rfl
    isplitl [HR]; · iexact HR
    iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover1_A_o0 c (grid1.coords t) (Memref.whole main_arg2) (Memref.isWhole_whole _) (ms1_0 a t) (hs1_0 a t) (ms1_1 a t) (hs1_1 a t) (ms1_2 a t) (hs1_2 a t) (ms1_3 a t) (hs1_3 a t) (ms1_4 a t) (hs1_4 a t) (ms1_5 a t) (hs1_5 a t) (Memref.whole cc1_scratch0) (Memref.isWhole_whole _) (Memref.whole cc1_scratch1) (Memref.isWhole_whole _) (tab1 a) (iblk1 a V c 0 t) (iblk1 a V c 1 t) (iblk1 a V c 2 t) (iblk1 a V c 3 t) h1 h2 (k1_not_dead _ _ h1))
  unfold owns; iexists _; isplitr
  swap; · iexact H5
  ipureintro; exact View.read_writes_of_cover _ _ _ _ _ (cover1_A_o1 c (grid1.coords t) (Memref.whole main_arg2) (Memref.isWhole_whole _) (ms1_0 a t) (hs1_0 a t) (ms1_1 a t) (hs1_1 a t) (ms1_2 a t) (hs1_2 a t) (ms1_3 a t) (hs1_3 a t) (ms1_4 a t) (hs1_4 a t) (ms1_5 a t) (hs1_5 a t) (Memref.whole cc1_scratch0) (Memref.isWhole_whole _) (Memref.whole cc1_scratch1) (Memref.isWhole_whole _) (tab1 a) (iblk1 a V c 0 t) (iblk1 a V c 1 t) (iblk1 a V c 2 t) (iblk1 a V c 3 t) h1 h2 (k1_not_dead _ _ h1))

set_option maxHeartbeats 1600000 in
theorem sound1_B (c : Dev nD) (t : Fin (cfg1 a).N) (h1 : k1_cond1 (grid1.coords t) (wd1 a t) = 1#1) (h2 : ¬k1_cond2 (grid1.coords t) = 1#1) :
    bodyPre1 a V c t ⊢ wp frame (wpE (defs₀ (F := F)) Variants.none c none) Set.univ (bodyAt1 a t) (fun _ => bodyPost1 a V c t) := by
  unfold bodyPre1 bodyPost1 bodyAt1
  simp only [before1_0, before1_1, before1_2, before1_3]
  rw [Phi1_succ, Phi1_castSucc, owes1_succ]
  rw [leaves1_in a V c 0 t (fun _ => rfl), leaves1_in a V c 1 t (fun _ => rfl), leaves1_in a V c 2 t (fun _ => rfl), leaves1_in a V c 3 t (fun _ => rfl), leaves1_in a V c 4 t (live1_4 a), leaves1_in a V c 5 t (live1_5 a)]
  rw [after1_0, after1_1, after1_2, after1_3, after1_4, after1_5]
  unfold Phi1 carried1
  rw [acc1_succ, show (⟨t.val, t.isLt⟩ : Fin (cfg1 a).N) = t from rfl, outsAt1_B a V c t h1 h2]
  have hm : t.val % 14 ≠ 0 := fun h => h2 ((hcond1 a t).mpr h)
  simp only [before1_5 a V c t hm]
  unfold stepB1; dsimp only
  iintro ⟨⟨HT, ⟨%s0, HS0, %hs0⟩, HS1, HR, Hg⟩, Ho, ⟨%d0, H0⟩, ⟨%d1, H1⟩, ⟨%d2, H2⟩, ⟨%d3, H3⟩, ⟨%d4, H4⟩, ⟨%d5, H5⟩⟩
  obtain rfl := hs0 t.isLt hm h1
  iapply ((run1B c (grid1.coords t) (Memref.whole main_arg2) (Memref.isWhole_whole _) (ms1_0 a t) (hs1_0 a t) (ms1_1 a t) (hs1_1 a t) (ms1_2 a t) (hs1_2 a t) (ms1_3 a t) (hs1_3 a t) (ms1_4 a t) (hs1_4 a t) (ms1_5 a t) (hs1_5 a t) (Memref.whole cc1_scratch0) (Memref.isWhole_whole _) (Memref.whole cc1_scratch1) (Memref.isWhole_whole _) (tab1 a) (iblk1 a V c 0 t) (iblk1 a V c 1 t) (iblk1 a V c 2 t) (iblk1 a V c 3 t) (acc1 a V c t.val t.isLt.le).2.1 (acc1 a V c t.val t.isLt.le).2.2 h1 h2 (k1_not_dead _ _ h1)).2.2.2 Set.univ _)
  isplitl [HT]; · iexact HT
  isplitl [H0]; · iexact H0
  isplitl [H1]; · iexact H1
  isplitl [H2]; · iexact H2
  isplitl [H3]; · iexact H3
  isplitl [H4]; · iexists _; iexact H4
  isplitl [H5]; · iexact H5
  isplitl [HS0]; · iexact HS0
  isplitl [HS1]; · iexact HS1
  iintro ⟨HT, H0, H1, H2, H3, ⟨%e0, H4⟩, ⟨%e1, H5⟩, HS0, ⟨%fT1, HS1⟩⟩
  isplitl [HT HS0 HS1 HR Hg]
  · isplitl [HT]; · iexact HT
    isplitl [HS0]
    · iexists _; isplitl [HS0]; · iexact HS0
      ipureintro; intro _ _ _; rfl
    isplitl [HS1]
    · iexists _; unfold owns; iexists _; isplitr
      swap; · iexact HS1
      ipureintro; rfl
    isplitl [HR]; · iexact HR
    iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover1_B_o0 c (grid1.coords t) (Memref.whole main_arg2) (Memref.isWhole_whole _) (ms1_0 a t) (hs1_0 a t) (ms1_1 a t) (hs1_1 a t) (ms1_2 a t) (hs1_2 a t) (ms1_3 a t) (hs1_3 a t) (ms1_4 a t) (hs1_4 a t) (ms1_5 a t) (hs1_5 a t) (Memref.whole cc1_scratch0) (Memref.isWhole_whole _) (Memref.whole cc1_scratch1) (Memref.isWhole_whole _) (tab1 a) (iblk1 a V c 0 t) (iblk1 a V c 1 t) (iblk1 a V c 2 t) (iblk1 a V c 3 t) (acc1 a V c t.val t.isLt.le).2.1 (acc1 a V c t.val t.isLt.le).2.2 h1 h2 (k1_not_dead _ _ h1))
  unfold owns; iexists _; isplitr
  swap; · iexact H5
  ipureintro; exact View.read_writes_of_cover _ _ _ _ _ (cover1_B_o1 c (grid1.coords t) (Memref.whole main_arg2) (Memref.isWhole_whole _) (ms1_0 a t) (hs1_0 a t) (ms1_1 a t) (hs1_1 a t) (ms1_2 a t) (hs1_2 a t) (ms1_3 a t) (hs1_3 a t) (ms1_4 a t) (hs1_4 a t) (ms1_5 a t) (hs1_5 a t) (Memref.whole cc1_scratch0) (Memref.isWhole_whole _) (Memref.whole cc1_scratch1) (Memref.isWhole_whole _) (tab1 a) (iblk1 a V c 0 t) (iblk1 a V c 1 t) (iblk1 a V c 2 t) (iblk1 a V c 3 t) (acc1 a V c t.val t.isLt.le).2.1 (acc1 a V c t.val t.isLt.le).2.2 h1 h2 (k1_not_dead _ _ h1))

set_option maxHeartbeats 1600000 in
theorem sound1_C (c : Dev nD) (t : Fin (cfg1 a).N) (h1 : ¬k1_cond1 (grid1.coords t) (wd1 a t) = 1#1) :
    bodyPre1 a V c t ⊢ wp frame (wpE (defs₀ (F := F)) Variants.none c none) Set.univ (bodyAt1 a t) (fun _ => bodyPost1 a V c t) := by
  unfold bodyPre1 bodyPost1 bodyAt1
  simp only [before1_0, before1_1, before1_2, before1_3]
  rw [Phi1_succ, Phi1_castSucc, owes1_succ]
  rw [leaves1_in a V c 0 t (fun _ => rfl), leaves1_in a V c 1 t (fun _ => rfl), leaves1_in a V c 2 t (fun _ => rfl), leaves1_in a V c 3 t (fun _ => rfl), leaves1_in a V c 4 t (live1_4 a), leaves1_in a V c 5 t (live1_5 a)]
  rw [after1_0, after1_1, after1_2, after1_3, after1_4, after1_5]
  unfold Phi1 carried1
  rw [acc1_succ, show (⟨t.val, t.isLt⟩ : Fin (cfg1 a).N) = t from rfl, outsAt1_C a V c t h1]
  unfold stepC1; dsimp only
  iintro ⟨⟨HT, ⟨%s0, HS0, %hs0⟩, HS1, HR, Hg⟩, Ho, ⟨%d0, H0⟩, ⟨%d1, H1⟩, ⟨%d2, H2⟩, ⟨%d3, H3⟩, ⟨%d4, H4⟩, ⟨%d5, H5⟩⟩
  iapply ((run1C c (grid1.coords t) (Memref.whole main_arg2) (Memref.isWhole_whole _) (ms1_0 a t) (hs1_0 a t) (ms1_1 a t) (hs1_1 a t) (ms1_2 a t) (hs1_2 a t) (ms1_3 a t) (hs1_3 a t) (ms1_4 a t) (hs1_4 a t) (ms1_5 a t) (hs1_5 a t) (Memref.whole cc1_scratch0) (Memref.isWhole_whole _) (Memref.whole cc1_scratch1) (Memref.isWhole_whole _) (tab1 a) (iblk1 a V c 0 t) (iblk1 a V c 1 t) (iblk1 a V c 2 t) (iblk1 a V c 3 t) h1 ((k1_live_or_dead _ _).resolve_left h1)).2.2 Set.univ _)
  isplitl [HT]; · iexact HT
  isplitl [H0]; · iexact H0
  isplitl [H1]; · iexact H1
  isplitl [H2]; · iexact H2
  isplitl [H3]; · iexact H3
  isplitl [H4]; · iexists _; iexact H4
  isplitl [H5]; · iexists _; iexact H5
  iintro ⟨HT, H0, H1, H2, H3, ⟨%e0, H4⟩, ⟨%e1, H5⟩⟩
  isplitl [HT HS0 HS1 HR Hg]
  · isplitl [HT]; · iexact HT
    isplitl [HS0]
    · iexists s0; isplitl [HS0]; · iexact HS0
      ipureintro; intro hn hm' hl; exact absurd (live_pred1 a ⟨t.val + 1, hn⟩ hm' hl) h1
    isplitl [HS1]; · iexact HS1
    isplitl [HR]; · iexact HR
    iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover1_C_o0 c (grid1.coords t) (Memref.whole main_arg2) (Memref.isWhole_whole _) (ms1_0 a t) (hs1_0 a t) (ms1_1 a t) (hs1_1 a t) (ms1_2 a t) (hs1_2 a t) (ms1_3 a t) (hs1_3 a t) (ms1_4 a t) (hs1_4 a t) (ms1_5 a t) (hs1_5 a t) (Memref.whole cc1_scratch0) (Memref.isWhole_whole _) (Memref.whole cc1_scratch1) (Memref.isWhole_whole _) (tab1 a) (iblk1 a V c 0 t) (iblk1 a V c 1 t) (iblk1 a V c 2 t) (iblk1 a V c 3 t) h1 ((k1_live_or_dead _ _).resolve_left h1))
  unfold owns; iexists _; isplitr
  swap; · iexact H5
  ipureintro; exact View.read_writes_of_cover _ _ _ _ _ (cover1_C_o1 c (grid1.coords t) (Memref.whole main_arg2) (Memref.isWhole_whole _) (ms1_0 a t) (hs1_0 a t) (ms1_1 a t) (hs1_1 a t) (ms1_2 a t) (hs1_2 a t) (ms1_3 a t) (hs1_3 a t) (ms1_4 a t) (hs1_4 a t) (ms1_5 a t) (hs1_5 a t) (Memref.whole cc1_scratch0) (Memref.isWhole_whole _) (Memref.whole cc1_scratch1) (Memref.isWhole_whole _) (tab1 a) (iblk1 a V c 0 t) (iblk1 a V c 1 t) (iblk1 a V c 2 t) (iblk1 a V c 3 t) h1 ((k1_live_or_dead _ _).resolve_left h1))

theorem sound_body1 (c : Dev nD) (t : Fin (cfg1 a).N) :
    bodyPre1 a V c t ⊢ wp frame (wpE (defs₀ (F := F)) Variants.none c none) Set.univ (bodyAt1 a t) (fun _ => bodyPost1 a V c t) := by
  by_cases h1 : k1_cond1 (grid1.coords t) (wd1 a t) = 1#1
  · by_cases h2 : k1_cond2 (grid1.coords t) = 1#1
    · exact sound1_A a V c t h1 h2
    · exact sound1_B a V c t h1 h2
  · exact sound1_C a V c t h1

theorem defs₀_row1 (t : Fin (cfg1 a).N) :
    defs₀ (F := F) .tc (cfg1 a).body ((cfg1 a).bodyArgs t ((cfg1 a).slots t)) = bodyAt1 a t := by
  unfold defs₀; rw [Defs.onTc_tc]

/-- The pipeline's body obligation, at every point. -/
theorem body_obligation1 (c : Dev nD) : BodyObligation (dat1 (F := F) a V c) (defs₀ (F := F)) Variants.none () Set.univ := fun t => by
  rw [bigSep_W1, bigSep_W1, defs₀_row1]
  exact triple_restated (sound_body1 a V c t) rfl .rfl fun _ => .rfl

end Cert.KernelIdeal.Gen

end
-- ==== Proof.KernelIdeal.Frame.lean ====
module

public import proofs.«01_k».proof.Proof.Gen.KernelIdeal.Regions
public import proofs.«01_k».proof.Proof.KernelIdeal.Body0
public import proofs.«01_k».proof.Proof.KernelIdeal.Body1

/-!
# The run: both calls, from the launch to the return
-/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

namespace Run

variable (m : (ℓ : Loc nD τ sig) → Buf (Elt F) ℓ) (ρ : Dev nD → PrngReg)

/-! # THE RUN: the program's segments from the launch to the return (Lib/Pipeline/Regions.lean `θ_run_regions_kit`) -/

/-- the program's argument arrays, as TensorCore references: what the frame claim reads back. -/
abbrev argRefs : List (Ref sig .tc) := [main_arg0, main_arg1, main_arg2, main_arg3, main_arg4, main_arg5, main_arg6]

/-- `hostOps0` writes none of the argument arrays (checked: each argument against each reference it writes). -/
theorem hostOps0_args : ∀ a ∈ argRefs, a ∉ hostOps0_W := ListAll.forall_mem_of_all_decide (by decide +kernel)

/-- Region 1's launch facts, in the form that lets windows share an array. -/
theorem launch₁ : Pipeline.PLaunchFacts₀ (nD := nD) (τ := τ) (pcfgs (F := F)) 1 := launch1.to₀

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- The table's contents, as launched: what each region's pipeline is given. -/
abbrev adm0 : (pcfg0 (F := F)).Adm := ⟨fun k => W0 m ρ 0 (Proc.devRef .tc (pre0.ref k)), trivial⟩
abbrev adm1 : (pcfg1 (F := F)).Adm := ⟨fun k => W0 m ρ 0 (Proc.devRef .tc (pre1.ref k)), trivial⟩
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`) (region 1's entry). -/
def W2 (c : Dev nD) : Valuation τ sig (Elt F) :=
  Pipeline.withArrays spec0 c (W1 m ρ c) fun w => (dat0 (adm0 m ρ) (V1 m ρ) c).arrAt w grid0.N
theorem W2_arr (c : Dev nD) (w : Fin 8) :
    W2 m ρ c (Proc.devRef .tc (Pipeline.arrRef spec0 w)) = (dat0 (adm0 m ρ) (V1 m ρ) c).arrAt w grid0.N := by
  unfold W2; exact (dat0 (adm0 m ρ) (V1 m ρ) c).withArrays_arrAt (launch₀0 (F := F)).sharedIn _ (A_eq0 (adm0 m ρ) (V1 m ρ) c) w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin 8, Pipeline.arrRef spec0 w = r → (spec0 w).isOut = false) :
    W2 m ρ c (Proc.devRef .tc r) = W1 m ρ c (Proc.devRef .tc r) := by
  by_cases hw : ∃ w : Fin 8, Pipeline.arrRef spec0 w = r
  · obtain ⟨w, rfl⟩ := hw
    exact (W2_arr m ρ c w).trans (((dat0 (adm0 m ρ) (V1 m ρ) c).arrAt_in w (h w rfl) _).trans (A_eq0 (adm0 m ρ) (V1 m ρ) c w))
  · exact W2_of_ne m ρ c r fun w e => hw ⟨w, e⟩
/-- Every argument among region 0's arrays is an input window's (checked: each argument against each window). -/
theorem argsIn0 : ∀ a ∈ argRefs, ∀ w : Fin 8, Pipeline.arrRef spec0 w = a → (spec0 w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays_shared`. -/
theorem hF0 (c : Dev nD) (w : Fin 8) : (dat0 (adm0 m ρ) (V1 m ρ) c).arrAt w grid0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`). -/
def W3 (c : Dev nD) : Valuation τ sig (Elt F) :=
  Pipeline.withArrays spec1 c (W2 m ρ c) fun w => (dat1 (adm1 m ρ) (V2 m ρ) c).arrAt w grid1.N
theorem W3_arr (c : Dev nD) (w : Fin 6) :
    W3 m ρ c (Proc.devRef .tc (Pipeline.arrRef spec1 w)) = (dat1 (adm1 m ρ) (V2 m ρ) c).arrAt w grid1.N := by
  unfold W3; exact (dat1 (adm1 m ρ) (V2 m ρ) c).withArrays_arrAt (launch₁ (F := F)).sharedIn _ (A_eq1 (adm1 m ρ) (V2 m ρ) c) w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin 6, Pipeline.arrRef spec1 w = r → (spec1 w).isOut = false) :
    W3 m ρ c (Proc.devRef .tc r) = W2 m ρ c (Proc.devRef .tc r) := by
  by_cases hw : ∃ w : Fin 6, Pipeline.arrRef spec1 w = r
  · obtain ⟨w, rfl⟩ := hw
    exact (W3_arr m ρ c w).trans (((dat1 (adm1 m ρ) (V2 m ρ) c).arrAt_in w (h w rfl) _).trans (A_eq1 (adm1 m ρ) (V2 m ρ) c w))
  · exact W3_of_ne m ρ c r fun w e => hw ⟨w, e⟩
/-- Every argument among region 1's arrays is an input window's (checked: each argument against each window). -/
theorem argsIn1 : ∀ a ∈ argRefs, ∀ w : Fin 6, Pipeline.arrRef spec1 w = a → (spec1 w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin 6) : (dat1 (adm1 m ρ) (V2 m ρ) c).arrAt w grid1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### The arguments end as launched: no host stretch writes one and no region may change one (a region reads it
    through an input window or bypasses it) -/

theorem W3_main_arg0 (c : Dev nD) : W3 m ρ c (Proc.devRef .tc main_arg0) = m ((c : Thread nD τ).loc main_arg0) :=
  W3_args m ρ c main_arg0 (by decide)
theorem W3_main_arg1 (c : Dev nD) : W3 m ρ c (Proc.devRef .tc main_arg1) = m ((c : Thread nD τ).loc main_arg1) :=
  W3_args m ρ c main_arg1 (by decide)
theorem W3_main_arg2 (c : Dev nD) : W3 m ρ c (Proc.devRef .tc main_arg2) = m ((c : Thread nD τ).loc main_arg2) :=
  W3_args m ρ c main_arg2 (by decide)
theorem W3_main_arg3 (c : Dev nD) : W3 m ρ c (Proc.devRef .tc main_arg3) = m ((c : Thread nD τ).loc main_arg3) :=
  W3_args m ρ c main_arg3 (by decide)
theorem W3_main_arg4 (c : Dev nD) : W3 m ρ c (Proc.devRef .tc main_arg4) = m ((c : Thread nD τ).loc main_arg4) :=
  W3_args m ρ c main_arg4 (by decide)
theorem W3_main_arg5 (c : Dev nD) : W3 m ρ c (Proc.devRef .tc main_arg5) = m ((c : Thread nD τ).loc main_arg5) :=
  W3_args m ρ c main_arg5 (by decide)
theorem W3_main_arg6 (c : Dev nD) : W3 m ρ c (Proc.devRef .tc main_arg6) = m ((c : Thread nD τ).loc main_arg6) :=
  W3_args m ρ c main_arg6 (by decide)

/-! ## The proof data family and the thread state -/

/-- The tables' contents, pipeline by pipeline. -/
abbrev adm : (p : Fin 2) → (pcfgs (F := F) p).Adm
  | ⟨0, _⟩ => adm0 m ρ
  | ⟨1, _⟩ => adm1 m ρ
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) (adm m ρ) p) c
  | ⟨0, _⟩ => fun c => dat0 (adm0 m ρ) (V1 m ρ) c
  | ⟨1, _⟩ => fun c => dat1 (adm1 m ρ) (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W3`, the generator register at some state. -/
abbrev Tₙ (c : Dev nD) : sProp 𝕄 := iprop(StableHlo.held (c : Thread nD τ) (Pipeline.ucRefs τ sig) (W3 m ρ c) ∗ ∃ r, prngReg c r)

/-- The table as the pipeline holds it is the table as the body reads it. -/
theorem pref0_eq (c : Dev nD) (a : (pcfg0 (F := F)).Adm) :
    (Pipeline.prefHeld (Ix := Unit) (Name := ℕ) (U := UR sig nD τ) (Lvl := ℕ) pre0 c (fun _ => fullShare) a.1 : sProp 𝕄)
      = owns (c : Thread nD τ) (Memref.whole main_arg2) fullShare (tab0 a) := by
  unfold Pipeline.prefHeld
  rw [show (Finset.univ : Finset (Fin pre0.K)) = {0} from rfl, BI.bigSep_singleton, owns_whole]; rfl

theorem tab_at0 (c : Dev nD) : (fun k => V1 m ρ c (pre0.ref k)) = (adm0 m ρ).1 := by
  funext k
  have hc : c = 0 := Subsingleton.elim _ _
  subst hc
  have hk : k = 0 := Subsingleton.elim _ _
  subst hk
  exact W1_args m ρ 0 main_arg2 (by decide)

theorem rest_eq0 (c : Dev nD) :
    (Pipeline.unscopedRest (Ix := Unit) (Name := ℕ) (U := UR sig nD τ) (Lvl := ℕ) spec0 c (V1 m ρ c) : sProp 𝕄)
      = iprop(Pipeline.prefHeld pre0 c (fun _ => fullShare) (adm0 m ρ).1 ∗ Pipeline.unscopedRestP pre0 spec0 c (V1 m ρ c)) := by
  rw [Pipeline.unscopedRest_split preFacts0 c (V1 m ρ c), tab_at0]
theorem rest_split0 (c : Dev nD) :
    (Pipeline.unscopedRest (Ix := Unit) (Name := ℕ) (U := UR sig nD τ) (Lvl := ℕ) spec0 c (V1 m ρ c) : sProp 𝕄)
      ⊢ iprop(Pipeline.prefHeld pre0 c (fun _ => fullShare) (adm0 m ρ).1 ∗ Pipeline.unscopedRestP pre0 spec0 c (V1 m ρ c)) := by
  rw [rest_eq0]
theorem rest_join0 (c : Dev nD) :
    iprop(Pipeline.prefHeld pre0 c (fun _ => fullShare) (adm0 m ρ).1 ∗ Pipeline.unscopedRestP pre0 spec0 c (V1 m ρ c))
      ⊢ (Pipeline.unscopedRest (Ix := Unit) (Name := ℕ) (U := UR sig nD τ) (Lvl := ℕ) spec0 c (V1 m ρ c) : sProp 𝕄) := by
  rw [rest_eq0]

theorem phi_in0 (c : Dev nD) :
    iprop((∃ r, prngReg c r) ∗ Pipeline.prefHeld pre0 c (fun _ => fullShare) (adm0 m ρ).1
        ∗ Pipeline.scopedRest (Ix := Unit) (Name := ℕ) (U := UR sig nD τ) (Lvl := ℕ) (Val := Elt F) spec0 c)
      ⊢ (Phi0 (adm0 m ρ) (V1 m ρ) c 0 (Nat.zero_le _) : sProp 𝕄) := by
  rw [pref0_eq, scopedRest0_split]; unfold Phi0 carried0
  iintro ⟨Hg, HT, ⟨%d, HS0⟩, HS1, HS2, HR⟩
  isplitl [HT]; · iexact HT
  isplitl [HS0]
  · iexists d; isplitl [HS0]; · iexact HS0
    ipureintro; intro _ h; exact absurd (Nat.zero_mod _) h
  isplitl [HS1]; · iexact HS1
  isplitl [HS2]; · iexact HS2
  isplitl [HR]; · iexact HR
  iexact Hg
theorem phi_out0 (c : Dev nD) :
    (Phi0 (adm0 m ρ) (V1 m ρ) c grid0.N (Nat.le_refl _) : sProp 𝕄)
      ⊢ iprop(((∃ r, prngReg c r) ∗ Pipeline.prefHeld pre0 c (fun _ => fullShare) (adm0 m ρ).1) ∗ (BI.emp : sProp 𝕄)
        ∗ Pipeline.scopedRest (Ix := Unit) (Name := ℕ) (U := UR sig nD τ) (Lvl := ℕ) (Val := Elt F) spec0 c) := by
  rw [pref0_eq, scopedRest0_split]; unfold Phi0 carried0
  iintro ⟨HT, ⟨%d, HS0, -⟩, HS1, HS2, HR, Hg⟩
  isplitl [Hg HT]
  · isplitl [Hg]; · iexact Hg
    iexact HT
  isplitr; · iempintro
  isplitl [HS0]; · iexists d; iexact HS0
  isplitl [HS1]; · iexact HS1
  isplitl [HS2]; · iexact HS2
  iexact HR

/-- The table as the pipeline holds it is the table as the body reads it. -/
theorem pref1_eq (c : Dev nD) (a : (pcfg1 (F := F)).Adm) :
    (Pipeline.prefHeld (Ix := Unit) (Name := ℕ) (U := UR sig nD τ) (Lvl := ℕ) pre1 c (fun _ => fullShare) a.1 : sProp 𝕄)
      = owns (c : Thread nD τ) (Memref.whole main_arg2) fullShare (tab1 a) := by
  unfold Pipeline.prefHeld
  rw [show (Finset.univ : Finset (Fin pre1.K)) = {0} from rfl, BI.bigSep_singleton, owns_whole]; rfl

theorem tab_at1 (c : Dev nD) : (fun k => V2 m ρ c (pre1.ref k)) = (adm1 m ρ).1 := by
  funext k
  have hc : c = 0 := Subsingleton.elim _ _
  subst hc
  have hk : k = 0 := Subsingleton.elim _ _
  subst hk
  exact W2_args m ρ 0 main_arg2 (by decide)

theorem rest_eq1 (c : Dev nD) :
    (Pipeline.unscopedRest (Ix := Unit) (Name := ℕ) (U := UR sig nD τ) (Lvl := ℕ) spec1 c (V2 m ρ c) : sProp 𝕄)
      = iprop(Pipeline.prefHeld pre1 c (fun _ => fullShare) (adm1 m ρ).1 ∗ Pipeline.unscopedRestP pre1 spec1 c (V2 m ρ c)) := by
  rw [Pipeline.unscopedRest_split preFacts1 c (V2 m ρ c), tab_at1]
theorem rest_split1 (c : Dev nD) :
    (Pipeline.unscopedRest (Ix := Unit) (Name := ℕ) (U := UR sig nD τ) (Lvl := ℕ) spec1 c (V2 m ρ c) : sProp 𝕄)
      ⊢ iprop(Pipeline.prefHeld pre1 c (fun _ => fullShare) (adm1 m ρ).1 ∗ Pipeline.unscopedRestP pre1 spec1 c (V2 m ρ c)) := by
  rw [rest_eq1]
theorem rest_join1 (c : Dev nD) :
    iprop(Pipeline.prefHeld pre1 c (fun _ => fullShare) (adm1 m ρ).1 ∗ Pipeline.unscopedRestP pre1 spec1 c (V2 m ρ c))
      ⊢ (Pipeline.unscopedRest (Ix := Unit) (Name := ℕ) (U := UR sig nD τ) (Lvl := ℕ) spec1 c (V2 m ρ c) : sProp 𝕄) := by
  rw [rest_eq1]

theorem phi_in1 (c : Dev nD) :
    iprop((∃ r, prngReg c r) ∗ Pipeline.prefHeld pre1 c (fun _ => fullShare) (adm1 m ρ).1
        ∗ Pipeline.scopedRest (Ix := Unit) (Name := ℕ) (U := UR sig nD τ) (Lvl := ℕ) (Val := Elt F) spec1 c)
      ⊢ (Phi1 (adm1 m ρ) (V2 m ρ) c 0 (Nat.zero_le _) : sProp 𝕄) := by
  rw [pref1_eq, scopedRest1_split]; unfold Phi1 carried1
  iintro ⟨Hg, HT, ⟨%d, HS0⟩, HS1, HR⟩
  isplitl [HT]; · iexact HT
  isplitl [HS0]
  · iexists d; isplitl [HS0]; · iexact HS0
    ipureintro; intro _ h; exact absurd (Nat.zero_mod _) h
  isplitl [HS1]; · iexact HS1
  isplitl [HR]; · iexact HR
  iexact Hg
theorem phi_out1 (c : Dev nD) :
    (Phi1 (adm1 m ρ) (V2 m ρ) c grid1.N (Nat.le_refl _) : sProp 𝕄)
      ⊢ iprop(((∃ r, prngReg c r) ∗ Pipeline.prefHeld pre1 c (fun _ => fullShare) (adm1 m ρ).1) ∗ (BI.emp : sProp 𝕄)
        ∗ Pipeline.scopedRest (Ix := Unit) (Name := ℕ) (U := UR sig nD τ) (Lvl := ℕ) (Val := Elt F) spec1 c) := by
  rw [pref1_eq, scopedRest1_split]; unfold Phi1 carried1
  iintro ⟨HT, ⟨%d, HS0, -⟩, HS1, HR, Hg⟩
  isplitl [Hg HT]
  · isplitl [Hg]; · iexact Hg
    iexact HT
  isplitr; · iempintro
  isplitl [HS0]; · iexists d; iexact HS0
  isplitl [HS1]; · iexact HS1
  iexact HR

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs_shared`) and put back at the exit contents (`unscopedBufs_of_arrays_shared`; its input windows on one array (`(launch₀0 (F := F)).sharedIn`) each dealt their share of it, `Pipeline.shareOf`, by the proof data); the generator register into the
    class invariant `ΦA` and out; nothing owed; no semaphore of the kernel's own. -/
def reg0 : Pipeline.RegionSeg (pcfgs (F := F)) (adm m ρ) (pdats m ρ) () defs₀ 𝒱₀ L lv 0 where
  win := (launch₀0 (F := F)).win
  block_pos := (launch₀0 (F := F)).block_pos
  stage_whole := (launch₀0 (F := F)).stage_whole
  K := PEmpty
  osem k := k.elim
  ho := Pipeline.OwnSemFacts.none _
  hbody c := (body_obligation0 (adm0 m ρ) (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop((∃ r, prngReg c r) ∗ Pipeline.prefHeld (Ix := Unit) (Name := ℕ) (U := UR sig nD τ) (Lvl := ℕ) (pcfgs (F := F) 0).pre c (fun _ => fullShare) (adm m ρ 0).1)
  Z c := Pipeline.unscopedRestP (Ix := Unit) (Name := ℕ) (U := UR sig nD τ) (Lvl := ℕ) (pcfgs (F := F) 0).pre spec0 c (V1 m ρ c)
  hentry c := by
    rw [Pipeline.ownSems0_none]
    have hsplit := Pipeline.arrays_of_unscopedBufs_shared (p := 0) (pcfgs (F := F)) (adm m ρ) (pdats m ρ) (launch₀0 (F := F)).win (launch₀0 (F := F)).sharedIn (launch₀0 (F := F)).arr_whole c
      (fun _ _ => rfl) (V1 m ρ c) (A_eq0 (adm0 m ρ) (V1 m ρ) c)
    rw [Pipeline.unscopedBufs_held] at hsplit
    iintro ⟨⟨Hub, Hp, HO⟩, -, -⟩
    ihave H := hsplit $$ Hub
    icases H with ⟨Ha, Hrest⟩
    ihave H2 := (rest_split0 m ρ c) $$ Hrest
    icases H2 with ⟨Hpre, Hrest⟩
    imodintro
    isplitl [Ha]; · iexact Ha
    isplitl [Hpre]; · iexact Hpre
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Phi0 (adm0 m ρ) (V1 m ρ) c 0 (Nat.zero_le _) from rfl]
    exact phi_in0 m ρ c
  hout c := by
    rw [Pipeline.ownSems0_none]
    exact phi_out0 m ρ c
  hexit c := by
    have hjoin := Pipeline.unscopedBufs_of_arrays_shared (p := 0) (pcfgs (F := F)) (adm m ρ) (Ix := Unit) (Name := ℕ) (U := UR sig nD τ) (Lvl := ℕ)
      (launch₀0 (F := F)).win (launch₀0 (F := F)).sharedIn (launch₀0 (F := F)).arr_whole c (pdats m ρ) (fun _ _ => rfl)
      (V1 m ρ c) (V2 m ρ c) ((pdats m ρ 0 c).arrAt · grid0.N) (hF0 m ρ c) (hrest0 m ρ c)
    rw [Pipeline.unscopedBufs_held] at hjoin
    iintro ⟨Ha, HO, ⟨HY, Hpre⟩, Hrest⟩
    imodintro
    ihave Hrest := (rest_join0 m ρ c) $$ [Hpre Hrest]
    · isplitl [Hpre] <;> iassumption
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the launch reads at the end). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) (adm m ρ) (pdats m ρ) () defs₀ 𝒱₀ L lv 1 where
  win := (launch₁ (F := F)).win
  block_pos := (launch₁ (F := F)).block_pos
  stage_whole := (launch₁ (F := F)).stage_whole
  K := PEmpty
  osem k := k.elim
  ho := Pipeline.OwnSemFacts.none _
  hbody c := (body_obligation1 (adm1 m ρ) (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop((∃ r, prngReg c r) ∗ Pipeline.prefHeld (Ix := Unit) (Name := ℕ) (U := UR sig nD τ) (Lvl := ℕ) (pcfgs (F := F) 1).pre c (fun _ => fullShare) (adm m ρ 1).1)
  Z c := Pipeline.unscopedRestP (Ix := Unit) (Name := ℕ) (U := UR sig nD τ) (Lvl := ℕ) (pcfgs (F := F) 1).pre spec1 c (V2 m ρ c)
  hentry c := by
    rw [Pipeline.ownSems0_none]
    have hsplit := Pipeline.arrays_of_unscopedBufs_shared (p := 1) (pcfgs (F := F)) (adm m ρ) (pdats m ρ) (launch₁ (F := F)).win (launch₁ (F := F)).sharedIn (launch₁ (F := F)).arr_whole c
      (fun _ _ => rfl) (V2 m ρ c) (A_eq1 (adm1 m ρ) (V2 m ρ) c)
    rw [Pipeline.unscopedBufs_held] at hsplit
    iintro ⟨⟨Hub, Hp, HO⟩, -, -⟩
    ihave H := hsplit $$ Hub
    icases H with ⟨Ha, Hrest⟩
    ihave H2 := (rest_split1 m ρ c) $$ Hrest
    icases H2 with ⟨Hpre, Hrest⟩
    imodintro
    isplitl [Ha]; · iexact Ha
    isplitl [Hpre]; · iexact Hpre
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Phi1 (adm1 m ρ) (V2 m ρ) c 0 (Nat.zero_le _) from rfl]
    exact phi_in1 m ρ c
  hout c := by
    rw [Pipeline.ownSems0_none]
    exact phi_out1 m ρ c
  hexit c := by
    have hjoin := Pipeline.unscopedBufs_of_arrays_shared (p := 1) (pcfgs (F := F)) (adm m ρ) (Ix := Unit) (Name := ℕ) (U := UR sig nD τ) (Lvl := ℕ)
      (launch₁ (F := F)).win (launch₁ (F := F)).sharedIn (launch₁ (F := F)).arr_whole c (pdats m ρ) (fun _ _ => rfl)
      (V2 m ρ c) (V3 m ρ c) ((pdats m ρ 1 c).arrAt · grid1.N) (hF1 m ρ c) (hrest1 m ρ c)
    rw [Pipeline.unscopedBufs_held] at hjoin
    iintro ⟨Ha, HO, ⟨HY, Hpre⟩, Hrest⟩
    imodintro
    ihave Hrest := (rest_join1 m ρ c) $$ [Hpre Hrest]
    · isplitl [Hpre] <;> iassumption
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- the program's 3 segments in order: a host segment per stretch from its boundary's contents, a region per pallas_call. -/
abbrev segs : List (Pipeline.Seg (pcfgs (F := F)) (adm m ρ) (pdats m ρ) () defs₀ 𝒱₀ L lv) :=
  [ .host (hseg hostOps0 hostOps0_sub hostOps0_fresh (W0 m ρ)),
    .region (reg0 m ρ),
    .region (reg1 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The run: it ends, nothing faulting, every semaphore counter at zero, and every unscoped buffer at the last boundary's
    contents. -/
theorem run_all : θ_run defs (onTc (τ := τ) (main (F := F))) ⟨m, fun _ => 0, ρ⟩ (fun r => (∀ c : Dev nD,
      ∀ b ∈ Pipeline.ucRefs τ sig, r.2.mem (((c : Thread nD τ)).1, b) = W3 m ρ c b)
      ∧ r.2.sem = fun _ => 0) :=
  Pipeline.θ_run_regions_kit_sems (pcfgs (F := F)) (adm m ρ) (pdats m ρ) () (cellOf_inj (adm m ρ)) emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm m ρ)) (cellOf_inj (adm m ρ))) (Pipeline.launchToks (Pipeline.pin (pcfgs (F := F)) (adm m ρ)) (cellOf_inj (adm m ρ))))
    (hu₀ := by
      iintro Hu; imodintro
      isplitl [Hu]
      · iapply (show (ownU (initOf (Pipeline.cells (Pipeline.pin (pcfgs (F := F)) (adm m ρ)) (cellOf_inj (adm m ρ))) (Pipeline.launchToks (Pipeline.pin (pcfgs (F := F)) (adm m ρ)) (cellOf_inj (adm m ρ)))) : sProp 𝕄)
            ⊢ BI.own (emb₁ (initOf (Pipeline.cells (Pipeline.pin (pcfgs (F := F)) (adm m ρ)) (cellOf_inj (adm m ρ))) (Pipeline.launchToks (Pipeline.pin (pcfgs (F := F)) (adm m ρ)) (cellOf_inj (adm m ρ))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => ⟨h, funext fun g => hz g (.inr (no_unscoped g.2))⟩)

/-- The frame: the argument arrays end as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c =>
       ⟨(h.1 c _ (mem_uc main_arg0 (by decide))).trans (W3_main_arg0 m ρ c),
       (h.1 c _ (mem_uc main_arg1 (by decide))).trans (W3_main_arg1 m ρ c),
       (h.1 c _ (mem_uc main_arg2 (by decide))).trans (W3_main_arg2 m ρ c),
       (h.1 c _ (mem_uc main_arg3 (by decide))).trans (W3_main_arg3 m ρ c),
       (h.1 c _ (mem_uc main_arg4 (by decide))).trans (W3_main_arg4 m ρ c),
       (h.1 c _ (mem_uc main_arg5 (by decide))).trans (W3_main_arg5 m ρ c),
       (h.1 c _ (mem_uc main_arg6 (by decide))).trans (W3_main_arg6 m ρ c)⟩, h.2⟩) (run_all m ρ)

end Run

end Cert.KernelIdeal.Gen

end
-- ==== Proof.Value.RefRun.lean ====
/- The reference's run: what each result array holds, as the write-back of its one window. -/
module

public import proofs.«01_k».proof.Proof.Gen.ReferenceIdeal.Frame
public import Idealize.ShloMosaic.Lib.Pipeline.Value

@[expose] public section

noncomputable section

namespace Cert.ReferenceIdeal.Value

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 8's array: the body's result for that window (`Gen.out0_8`: its stores
    as pieces over the input windows' blocks), read through the window's block. -/
theorem flushed8 (c : Dev nD) (t : Fin cfg0.N) :
    (dats m 0 c).flushed 8 t = (cfg0.win 8).cut (grid0.coords t) (out0_8 (iblk m c 0 t) (iblk m c 1 t) (iblk m c 2 t) (iblk m c 3 t) (iblk m c 4 t) (iblk m c 5 t) (iblk m c 6 t) (iblk m c 7 t)) := by
  show (cfg0.win 8).cut (grid0.coords t) ((dats m 0 c).after 8 t) = _
  rw [after0_8]

/-- The index map sends distinct grid points to distinct block indices (decided over the 1 point). -/
theorem idx_inj8 : ∀ t t' : Fin cfg0.N, win0_8.index t = win0_8.index t' → t = t' :=
  (by decide +kernel : ∀ t t' : Fin grid0.N, win0_8.index t = win0_8.index t' → t = t')

/-- So two flushing points' blocks share no array index (Lib/Pipeline/Cells.lean `Window.disjoint_blk`). -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- BLOCK `t` OF THE FINAL ARRAY, read back through the window, is what point `t` wrote back (`flushed8`), for every
    point that writes back: no other point's block meets it. -/
theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

/-- An index that no flushing point's block covers keeps output window 8's array contents at region entry. -/
theorem entry8 (c : Dev nD) (i : S4x2560x7168.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- WHAT POINT `t` WRITES BACK to output window 9's array: the body's result for that window (`Gen.out0_9`: its stores
    as pieces over the input windows' blocks), read through the window's block. -/
theorem flushed9 (c : Dev nD) (t : Fin cfg0.N) :
    (dats m 0 c).flushed 9 t = (cfg0.win 9).cut (grid0.coords t) (out0_9 (iblk m c 0 t) (iblk m c 1 t) (iblk m c 2 t) (iblk m c 3 t) (iblk m c 4 t) (iblk m c 5 t) (iblk m c 6 t) (iblk m c 7 t)) := by
  show (cfg0.win 9).cut (grid0.coords t) ((dats m 0 c).after 9 t) = _
  rw [after0_9]

/-- The index map sends distinct grid points to distinct block indices (decided over the 1 point). -/
theorem idx_inj9 : ∀ t t' : Fin cfg0.N, win0_9.index t = win0_9.index t' → t = t' :=
  (by decide +kernel : ∀ t t' : Fin grid0.N, win0_9.index t = win0_9.index t' → t = t')

/-- So two flushing points' blocks share no array index (Lib/Pipeline/Cells.lean `Window.disjoint_blk`). -/
theorem disjoint9 : ∀ t t' : Fin cfg0.N, (cfg0.win 9).flush t = true → (cfg0.win 9).flush t' = true → t ≠ t' →
    Disjoint ((cfg0.win 9).blk t).view.set ((cfg0.win 9).blk t').view.set :=
  fun t t' _ _ hne => (cfg0.win 9).disjoint_blk fun h => hne (idx_inj9 t t' h)

/-- BLOCK `t` OF THE FINAL ARRAY, read back through the window, is what point `t` wrote back (`flushed9`), for every
    point that writes back: no other point's block meets it. -/
theorem blocks9 (c : Dev nD) (t : Fin cfg0.N) (hf : (cfg0.win 9).flush t = true) :
    ((cfg0.win 9).blk t).view.read (Elt F) ((dats m 0 c).arrAt 9 cfg0.N) = (dats m 0 c).flushed 9 t :=
  (dats m 0 c).read_blk_arrAt_eq_flushed 9 disjoint9 cfg0.N t t.isLt hf

/-- An index that no flushing point's block covers keeps output window 9's array contents at region entry. -/
theorem entry9 (c : Dev nD) (i : S4x2560x56.Idx) (h : ∀ t : Fin cfg0.N, (cfg0.win 9).flush t = true → i ∉ ((cfg0.win 9).blk t).view.set) :
    (dats m 0 c).arrAt 9 cfg0.N i = V m c (Pipeline.arrRef spec0 9) i := by
  rw [(dats m 0 c).arrAt_apply_of_forall_not_mem 9 cfg0.N i (fun t _ hf => h t hf), A_eq]

/-- WHAT POINT `t` WRITES BACK to output window 10's array: the body's result for that window (`Gen.out0_10`: its stores
    as pieces over the input windows' blocks), read through the window's block. -/
theorem flushed10 (c : Dev nD) (t : Fin cfg0.N) :
    (dats m 0 c).flushed 10 t = (cfg0.win 10).cut (grid0.coords t) (out0_10 (iblk m c 0 t) (iblk m c 1 t) (iblk m c 2 t) (iblk m c 3 t) (iblk m c 4 t) (iblk m c 5 t) (iblk m c 6 t) (iblk m c 7 t)) := by
  show (cfg0.win 10).cut (grid0.coords t) ((dats m 0 c).after 10 t) = _
  rw [after0_10]

/-- The index map sends distinct grid points to distinct block indices (decided over the 1 point). -/
theorem idx_inj10 : ∀ t t' : Fin cfg0.N, win0_10.index t = win0_10.index t' → t = t' :=
  (by decide +kernel : ∀ t t' : Fin grid0.N, win0_10.index t = win0_10.index t' → t = t')

/-- So two flushing points' blocks share no array index (Lib/Pipeline/Cells.lean `Window.disjoint_blk`). -/
theorem disjoint10 : ∀ t t' : Fin cfg0.N, (cfg0.win 10).flush t = true → (cfg0.win 10).flush t' = true → t ≠ t' →
    Disjoint ((cfg0.win 10).blk t).view.set ((cfg0.win 10).blk t').view.set :=
  fun t t' _ _ hne => (cfg0.win 10).disjoint_blk fun h => hne (idx_inj10 t t' h)

/-- BLOCK `t` OF THE FINAL ARRAY, read back through the window, is what point `t` wrote back (`flushed10`), for every
    point that writes back: no other point's block meets it. -/
theorem blocks10 (c : Dev nD) (t : Fin cfg0.N) (hf : (cfg0.win 10).flush t = true) :
    ((cfg0.win 10).blk t).view.read (Elt F) ((dats m 0 c).arrAt 10 cfg0.N) = (dats m 0 c).flushed 10 t :=
  (dats m 0 c).read_blk_arrAt_eq_flushed 10 disjoint10 cfg0.N t t.isLt hf

/-- An index that no flushing point's block covers keeps output window 10's array contents at region entry. -/
theorem entry10 (c : Dev nD) (i : S4x2560x2048.Idx) (h : ∀ t : Fin cfg0.N, (cfg0.win 10).flush t = true → i ∉ ((cfg0.win 10).blk t).view.set) :
    (dats m 0 c).arrAt 10 cfg0.N i = V m c (Pipeline.arrRef spec0 10) i := by
  rw [(dats m 0 c).arrAt_apply_of_forall_not_mem 10 cfg0.N i (fun t _ hf => h t hf), A_eq]

/-- WHAT POINT `t` WRITES BACK to output window 11's array: the body's result for that window (`Gen.out0_11`: its stores
    as pieces over the input windows' blocks), read through the window's block. -/
theorem flushed11 (c : Dev nD) (t : Fin cfg0.N) :
    (dats m 0 c).flushed 11 t = (cfg0.win 11).cut (grid0.coords t) (out0_11 (iblk m c 0 t) (iblk m c 1 t) (iblk m c 2 t) (iblk m c 3 t) (iblk m c 4 t) (iblk m c 5 t) (iblk m c 6 t) (iblk m c 7 t)) := by
  show (cfg0.win 11).cut (grid0.coords t) ((dats m 0 c).after 11 t) = _
  rw [after0_11]

/-- The index map sends distinct grid points to distinct block indices (decided over the 1 point). -/
theorem idx_inj11 : ∀ t t' : Fin cfg0.N, win0_11.index t = win0_11.index t' → t = t' :=
  (by decide +kernel : ∀ t t' : Fin grid0.N, win0_11.index t = win0_11.index t' → t = t')

/-- So two flushing points' blocks share no array index (Lib/Pipeline/Cells.lean `Window.disjoint_blk`). -/
theorem disjoint11 : ∀ t t' : Fin cfg0.N, (cfg0.win 11).flush t = true → (cfg0.win 11).flush t' = true → t ≠ t' →
    Disjoint ((cfg0.win 11).blk t).view.set ((cfg0.win 11).blk t').view.set :=
  fun t t' _ _ hne => (cfg0.win 11).disjoint_blk fun h => hne (idx_inj11 t t' h)

/-- BLOCK `t` OF THE FINAL ARRAY, read back through the window, is what point `t` wrote back (`flushed11`), for every
    point that writes back: no other point's block meets it. -/
theorem blocks11 (c : Dev nD) (t : Fin cfg0.N) (hf : (cfg0.win 11).flush t = true) :
    ((cfg0.win 11).blk t).view.read (Elt F) ((dats m 0 c).arrAt 11 cfg0.N) = (dats m 0 c).flushed 11 t :=
  (dats m 0 c).read_blk_arrAt_eq_flushed 11 disjoint11 cfg0.N t t.isLt hf

/-- An index that no flushing point's block covers keeps output window 11's array contents at region entry. -/
theorem entry11 (c : Dev nD) (i : S4x2560x16.Idx) (h : ∀ t : Fin cfg0.N, (cfg0.win 11).flush t = true → i ∉ ((cfg0.win 11).blk t).view.set) :
    (dats m 0 c).arrAt 11 cfg0.N i = V m c (Pipeline.arrRef spec0 11) i := by
  rw [(dats m 0 c).arrAt_apply_of_forall_not_mem 11 cfg0.N i (fun t _ hf => h t hf), A_eq]

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v20_0) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v20_1) = (dats m 0 c).arrAt 9 cfg0.N :=
  (h c).1 9

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v20_2) = (dats m 0 c).arrAt 10 cfg0.N :=
  (h c).1 10

/-- After the frame run, output window 11's array is `(dats m 0 c).arrAt 11 N`. -/
theorem post11 (r : PUnit × MemSt nD τ sig (Elt F)) (h : Pipeline.FramePost cfgs (dats m) 0 (V m) r) (c : Dev nD) :
    r.2.mem ((c : Thread nD τ).loc main_v20_3) = (dats m 0 c).arrAt 11 cfg0.N :=
  (h c).1 11

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v20_0) = (dats m 0 c).arrAt 8 cfg0.N
      ∧ r.2.mem ((c : Thread nD τ).loc main_v20_1) = (dats m 0 c).arrAt 9 cfg0.N
      ∧ r.2.mem ((c : Thread nD τ).loc main_v20_2) = (dats m 0 c).arrAt 10 cfg0.N
      ∧ r.2.mem ((c : Thread nD τ).loc main_v20_3) = (dats m 0 c).arrAt 11 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨post8 m r h c,
      post9 m r h c,
      post10 m r h c,
      post11 m r h c,
      kept_main_arg0 m r h c,
      kept_main_arg1 m r h c,
      kept_main_arg2 m r h c,
      kept_main_arg3 m r h c,
      kept_main_arg4 m r h c,
      kept_main_arg5 m r h c,
      kept_main_arg6 m r h c⟩)
    (run_main m ρ)

end Cert.ReferenceIdeal.Value
end
-- ==== Proof.Value.Quant.lean ====
module

public import Idealize.ShloMosaic.Lib.Pointwise

/-!
# The quantiser of one block of 128 numbers

The kernel finds the exponent field of a number by eight comparisons with powers of two, the reference by counting the powers of
two that are at most the number. Both scales and both inverse scales are equal.
-/

@[expose] public section

set_option maxRecDepth 16384

noncomputable section

namespace Cert.Q

open Idealize.ShloMosaic

/-- One comparison of the kernel's search. -/
def kq (p : EReal) (e k : BitVec 32) : BitVec 32 := Scalar.select (Ideal.cmp .ole (Ideal.ofBits .f32 (e + k)) p) (e + k) e

/-- The kernel's search for the exponent field. -/
def field (p : EReal) : BitVec 32 :=
  kq p (kq p (kq p (kq p (kq p (kq p (kq p (kq p 0#32 1073741824#32) 536870912#32) 268435456#32) 134217728#32) 67108864#32) 33554432#32)
    16777216#32) 8388608#32

/-- The exponent field the scale is made from: that of 1/2 where the search found none. -/
def expo (p : EReal) : BitVec 32 :=
  Scalar.select (IntOp.cmpi .eq (Scalar.select (Ideal.cmp .one p p) 2139095040#32 (field p)) 0#32) 1056964608#32
    (Scalar.select (Ideal.cmp .one p p) 2139095040#32 (field p))

def scale (p : EReal) : EReal := Ideal.ofBits .f32 (expo p + 8388608#32)
def inv (p : EReal) : EReal := Ideal.ofBits .f32 (2122317824#32 - expo p)
/-- A block's code at one element. -/
def code (v p : EReal) : EReal := min (Ideal.ofBits .f32 0x43E00000#32) (max (Ideal.ofBits .f32 0xC3E00000#32) (v * inv p))

/-- A block's largest magnitude over 448. -/
def peak (h : Fin 128 → EReal) : EReal :=
  (Finset.univ.fold max (Ideal.ofBits .f32 0xFF800000#32) fun k => max (h k) (-h k)) * Ideal.ofBits .f32 0x3B124925#32

/-- The power of two with exponent field `k`. -/
def thr (k : ℕ) : EReal := Ideal.ofBits .f32 (BitVec.ofNat 32 k <<< 23)

theorem thr_parts (k : Fin 256) : ((BitVec.ofNat 32 k.val <<< 23).extractLsb' 31 1 == 1#1) = false
    ∧ ((BitVec.ofNat 32 k.val <<< 23).extractLsb' 23 8).toNat = k.val ∧ ((BitVec.ofNat 32 k.val <<< 23).extractLsb' 0 23).toNat = 0 := by
  have hw : (BitVec.ofNat 32 k.val <<< 23).toNat = k.val * 8388608 := by
    simp only [BitVec.toNat_shiftLeft, BitVec.toNat_ofNat, Nat.shiftLeft_eq]
    omega
  refine ⟨?_, ?_, ?_⟩
  · rw [beq_eq_false_iff_ne]
    intro h
    have := congrArg BitVec.toNat h
    simp only [BitVec.extractLsb'_toNat, hw, Nat.shiftRight_eq_div_pow] at this
    norm_num at this
    omega
  · simp only [BitVec.extractLsb'_toNat, hw, Nat.shiftRight_eq_div_pow]
    omega
  · simp only [BitVec.extractLsb'_toNat, hw, Nat.shiftRight_eq_div_pow]
    omega

theorem thr_eq (k : ℕ) (hk : k < 256) : thr k = if k = 255 then ⊤ else if k = 0 then 0 else (((8388608 : ℝ) * (2 : ℝ) ^ ((k : ℤ) - 150) : ℝ) : EReal) := by
  obtain ⟨h1, h2, h3⟩ := thr_parts ⟨k, hk⟩
  simp only at h1 h2 h3
  unfold thr
  show Ideal.ieee 8 23 _ = _
  unfold Ideal.ieee
  have e : ((k : ℤ) - (2 ^ (8 - 1) - 1) - ((23 : ℕ) : ℤ)) = (k : ℤ) - 150 := by norm_num; ring
  simp only [show (8 + 23 : ℕ) = 31 from rfl, h1, h2, h3, e, Bool.false_eq_true, if_false]
  by_cases a : k = 255
  · subst a; simp
  · by_cases b : k = 0
    · subst b; simp
    · simp only [a, b, if_false, show (2 ^ 8 - 1 : ℕ) = 255 from rfl]
      norm_num

theorem thr_lt {j k : ℕ} (h : j < k) (hk : k < 256) : thr j < thr k := by
  rw [thr_eq j (by omega), thr_eq k hk, if_neg (by omega : ¬j = 255), if_neg (by omega : ¬k = 0)]
  by_cases hk' : k = 255
  · rw [if_pos hk']
    split_ifs
    · exact EReal.zero_lt_top
    · exact EReal.coe_lt_top _
  · rw [if_neg hk']
    split_ifs
    · exact_mod_cast (by positivity : (0 : ℝ) < 8388608 * (2 : ℝ) ^ ((k : ℤ) - 150))
    · rw [EReal.coe_lt_coe_iff]
      have := zpow_lt_zpow_right₀ (by norm_num : (1 : ℝ) < 2) (by omega : (j : ℤ) - 150 < (k : ℤ) - 150)
      linarith

/-- The powers of two that are at most `p` are an initial run. -/
theorem exists_count (p : EReal) : ∃ c : Fin 256, ∀ k, 1 ≤ k → k < 256 → (thr k ≤ p ↔ k ≤ c.val) := by
  classical
  by_cases h : ∃ k, 1 ≤ k ∧ k < 256 ∧ thr k ≤ p
  · let P : ℕ → Prop := fun k => k < 256 ∧ 1 ≤ k ∧ thr k ≤ p
    obtain ⟨k0, h1, h2, h3⟩ := h
    have hg := Nat.findGreatest_spec (P := P) (n := 255) (m := k0) (by omega) ⟨h2, h1, h3⟩
    refine ⟨⟨Nat.findGreatest P 255, hg.1⟩, fun k hk1 hk2 => ⟨fun hle => Nat.le_findGreatest (by omega) ⟨hk2, hk1, hle⟩, fun hle => ?_⟩⟩
    rcases Nat.lt_or_ge k (Nat.findGreatest P 255) with hlt | hge
    · exact (thr_lt hlt hg.1).le.trans hg.2.2
    · have : k = Nat.findGreatest P 255 := le_antisymm hle hge
      rw [this]; exact hg.2.2
  · refine ⟨0, fun k hk1 hk2 => ⟨fun hle => (h ⟨k, hk1, hk2, hle⟩).elim, fun hle => ?_⟩⟩
    have : k ≤ 0 := hle
    omega

/-- One comparison of the search, on the count. -/
def st (c E k : ℕ) : ℕ := if E + k ≤ c then E + k else E

theorem kq_eq {p : EReal} {c : Fin 256} (hc : ∀ k, 1 ≤ k → k < 256 → (thr k ≤ p ↔ k ≤ c.val)) (E k : ℕ) (w : BitVec 32)
    (hw : w = BitVec.ofNat 32 k <<< 23) (hk : 1 ≤ k) (hE : E + k < 256) :
    kq p (BitVec.ofNat 32 E <<< 23) w = BitVec.ofNat 32 (st c.val E k) <<< 23 := by
  have ha : BitVec.ofNat 32 E <<< 23 + BitVec.ofNat 32 k <<< 23 = BitVec.ofNat 32 (E + k) <<< 23 := by
    rw [BitVec.ofNat_add]
    apply BitVec.eq_of_toNat_eq
    simp only [BitVec.toNat_add, BitVec.toNat_shiftLeft, BitVec.toNat_ofNat, Nat.shiftLeft_eq]
    omega
  unfold kq
  rw [hw, ha]
  have := hc (E + k) (by omega) hE
  unfold thr at this
  simp only [Ideal.cmp, this, Scalar.select, st]
  by_cases h : E + k ≤ c.val <;> simp [h]

def fieldN (c : ℕ) : ℕ := st c (st c (st c (st c (st c (st c (st c (st c 0 128) 64) 32) 16) 8) 4) 2) 1

theorem st_bounds {c E k : ℕ} (h : E ≤ c) (h' : c < E + (k + k)) : st c E k ≤ c ∧ c < st c E k + k := by
  unfold st; split_ifs <;> omega

theorem fieldN_eq (c : Fin 256) : fieldN c.val = c.val := by
  have h0 := st_bounds (c := c.val) (E := 0) (k := 128) (by omega) (by omega)
  have h1 := st_bounds (k := 64) h0.1 h0.2
  have h2 := st_bounds (k := 32) h1.1 h1.2
  have h3 := st_bounds (k := 16) h2.1 h2.2
  have h4 := st_bounds (k := 8) h3.1 h3.2
  have h5 := st_bounds (k := 4) h4.1 h4.2
  have h6 := st_bounds (k := 2) h5.1 h5.2
  have h7 := st_bounds (k := 1) h6.1 h6.2
  unfold fieldN
  omega

theorem fieldN_bounds : ∀ c : Fin 256, st c.val 0 128 + 64 < 256 ∧ st c.val (st c.val 0 128) 64 + 32 < 256
    ∧ st c.val (st c.val (st c.val 0 128) 64) 32 + 16 < 256 ∧ st c.val (st c.val (st c.val (st c.val 0 128) 64) 32) 16 + 8 < 256
    ∧ st c.val (st c.val (st c.val (st c.val (st c.val 0 128) 64) 32) 16) 8 + 4 < 256
    ∧ st c.val (st c.val (st c.val (st c.val (st c.val (st c.val 0 128) 64) 32) 16) 8) 4 + 2 < 256
    ∧ st c.val (st c.val (st c.val (st c.val (st c.val (st c.val (st c.val 0 128) 64) 32) 16) 8) 4) 2 + 1 < 256 := by decide +kernel

theorem field_eq {p : EReal} {c : Fin 256} (hc : ∀ k, 1 ≤ k → k < 256 → (thr k ≤ p ↔ k ≤ c.val)) :
    field p = BitVec.ofNat 32 c.val <<< 23 := by
  obtain ⟨b1, b2, b3, b4, b5, b6, b7⟩ := fieldN_bounds c
  unfold field
  rw [show (0#32) = BitVec.ofNat 32 0 <<< 23 from by decide, kq_eq hc 0 128 _ (by decide) (by omega) (by omega), kq_eq hc _ 64 _ (by decide) (by omega) b1,
    kq_eq hc _ 32 _ (by decide) (by omega) b2, kq_eq hc _ 16 _ (by decide) (by omega) b3, kq_eq hc _ 8 _ (by decide) (by omega) b4,
    kq_eq hc _ 4 _ (by decide) (by omega) b5, kq_eq hc _ 2 _ (by decide) (by omega) b6, kq_eq hc _ 1 _ (by decide) (by omega) b7]
  have := fieldN_eq c
  unfold fieldN at this
  rw [this]

def expoN (c : ℕ) : BitVec 32 := if c = 0 then 1056964608#32 else BitVec.ofNat 32 c <<< 23

theorem expoN_sel : ∀ c : Fin 256, Scalar.select (IntOp.cmpi .eq (BitVec.ofNat 32 c.val <<< 23) 0#32) 1056964608#32 (BitVec.ofNat 32 c.val <<< 23) = expoN c.val := by
  decide +kernel

theorem expo_eq {p : EReal} {c : Fin 256} (hc : ∀ k, 1 ≤ k → k < 256 → (thr k ≤ p ↔ k ≤ c.val)) : expo p = expoN c.val := by
  unfold expo
  have : Ideal.cmp .one p p = 0#1 := by simp [Ideal.cmp]
  rw [this, field_eq hc, show ∀ w : BitVec 32, Scalar.select 0#1 2139095040#32 w = w from fun w => if_neg (by decide)]
  exact expoN_sel c

/-! ## The reference's exponent -/

def refCount (p : EReal) : BitVec 32 :=
  Finset.univ.fold IntOp.addi 0#32 fun k : Fin 255 => BitVec.setWidth 32 (Ideal.cmp .ole (Ideal.ofBits .f32 ((BitVec.ofNat 32 k.val + 1#32) <<< 23)) p)

def refExpo (p : EReal) : BitVec 32 :=
  Scalar.select (IntOp.cmpi .eq (refCount p - 126#32) 4294967170#32) 0#32 (refCount p - 126#32)

theorem count_range (c n : ℕ) : (Finset.univ.fold IntOp.addi 0#32 fun k : Fin n => BitVec.setWidth 32 (BitVec.ofBool (decide (k.val + 1 ≤ c)))) = BitVec.ofNat 32 (min n c) := by
  induction n with
  | zero => simp
  | succ n ih =>
    rw [Fin.univ_castSuccEmb, Finset.fold_cons, Finset.fold_map]
    have h : (Finset.univ.fold IntOp.addi 0#32 ((fun k : Fin (n + 1) => BitVec.setWidth 32 (BitVec.ofBool (decide (k.val + 1 ≤ c)))) ∘ ⇑(Fin.castSuccEmb (n := n))))
        = BitVec.ofNat 32 (min n c) := ih
    rw [h]
    unfold IntOp.addi
    by_cases h : n + 1 ≤ c
    · rw [min_eq_left h, min_eq_left (by omega)]
      simp [h, BitVec.ofNat_add, BitVec.add_comm]
    · rw [min_eq_right (by omega : c ≤ n + 1), min_eq_right (by omega)]
      simp [h]

theorem count_eq (c : Fin 256) : (Finset.univ.fold IntOp.addi 0#32 fun k : Fin 255 => BitVec.setWidth 32 (BitVec.ofBool (decide (k.val + 1 ≤ c.val)))) = BitVec.ofNat 32 c.val := by
  rw [count_range, min_eq_right (by omega)]

theorem refCount_eq {p : EReal} {c : Fin 256} (hc : ∀ k, 1 ≤ k → k < 256 → (thr k ≤ p ↔ k ≤ c.val)) : refCount p = BitVec.ofNat 32 c.val := by
  rw [← count_eq c]
  unfold refCount
  congr 1
  funext k
  have := hc (k.val + 1) (by omega) (by omega)
  unfold thr at this
  rw [BitVec.ofNat_add] at this
  simp only [Ideal.cmp, this]

theorem words_scale : ∀ c : Fin 256, IntOp.shli .vector (Scalar.select (IntOp.cmpi .eq (BitVec.ofNat 32 c.val - 126#32) 4294967170#32) 0#32 (BitVec.ofNat 32 c.val - 126#32) + 127#32) 23#32 = expoN c.val + 8388608#32 := by
  decide +kernel
theorem words_inv : ∀ c : Fin 256, IntOp.shli .vector (0#32 - Scalar.select (IntOp.cmpi .eq (BitVec.ofNat 32 c.val - 126#32) 4294967170#32) 0#32 (BitVec.ofNat 32 c.val - 126#32) + 127#32) 23#32 = 2122317824#32 - expoN c.val := by
  decide +kernel

theorem ref_scale (p : EReal) : Ideal.ofBits .f32 (IntOp.shli .vector (refExpo p + 127#32) 23#32) = scale p := by
  obtain ⟨c, hc⟩ := exists_count p
  unfold scale refExpo
  rw [expo_eq hc, refCount_eq hc, words_scale c]

theorem ref_inv (p : EReal) : Ideal.ofBits .f32 (IntOp.shli .vector (0#32 - refExpo p + 127#32) 23#32) = inv p := by
  obtain ⟨c, hc⟩ := exists_count p
  unfold inv refExpo
  rw [expo_eq hc, refCount_eq hc, words_inv c]

/-! ## A block of zeros -/

theorem expo_zero : expo 0 = 1056964608#32 := by
  have hc : ∀ k, 1 ≤ k → k < 256 → (thr k ≤ (0 : EReal) ↔ k ≤ (0 : Fin 256).val) := fun k h1 h2 => by
    have h0 : thr 0 = 0 := by rw [thr_eq 0 (by omega)]; simp
    have := thr_lt (by omega : 0 < k) h2
    rw [h0] at this
    exact ⟨fun h => absurd h (not_le.mpr this), fun h => by have : k ≤ 0 := h; omega⟩
  rw [expo_eq hc]; rfl

theorem scale_zero : scale 0 = 1 := by
  unfold scale; rw [expo_zero]; exact Ideal.ofBits_one_f32

theorem c448_nonneg : (0 : EReal) ≤ Ideal.ofBits .f32 0x43E00000#32 := by
  rw [show Ideal.ofBits .f32 0x43E00000#32 = Ideal.ieee 8 23 (0x43E00000#32) from rfl]
  unfold Ideal.ieee
  simp only [show (8 + 23 : ℕ) = 31 from rfl, show ((0x43E00000#32).extractLsb' 31 1 == 1#1) = false from by decide, show ((0x43E00000#32).extractLsb' 23 8).toNat = 135 from by decide,
    show ((0x43E00000#32).extractLsb' 0 23).toNat = 6291456 from by decide]
  norm_num
theorem c448_neg : Ideal.ofBits .f32 0xC3E00000#32 ≤ (0 : EReal) := by
  rw [show Ideal.ofBits .f32 0xC3E00000#32 = Ideal.ieee 8 23 (0xC3E00000#32) from rfl]
  unfold Ideal.ieee
  simp only [show (8 + 23 : ℕ) = 31 from rfl, show ((0xC3E00000#32).extractLsb' 31 1 == 1#1) = true from by decide, show ((0xC3E00000#32).extractLsb' 23 8).toNat = 135 from by decide,
    show ((0xC3E00000#32).extractLsb' 0 23).toNat = 6291456 from by decide]
  norm_num

theorem code_zero (p : EReal) : code 0 p = 0 := by
  unfold code
  rw [zero_mul, max_eq_right c448_neg, min_eq_right c448_nonneg]

end Cert.Q

end
-- ==== Proof.Value.Spec.lean ====
module

public import proofs.«01_k».proof.KernelIdeal
public import proofs.«01_k».proof.Proof.Value.Quant
public import Idealize.ShloMosaic.Lib.Pipeline.ValueKit

/-!
# The mathematics, index by index
-/

@[expose] public section
noncomputable section
namespace Cert.Spec
open Idealize.ShloMosaic Cert.KernelIdeal

/-- A widened row element: code times its block's scale in a live row, zero in a dead one. -/
def X (ct : Fin 4 → BitVec 32) (xc : S4x2560x7168.Idx → EReal) (xs : S4x2560x56.Idx → EReal) (b : Fin 4) (s : Fin 2560) (d : Fin 7168) : EReal :=
  if (BitVec.ofNat 32 s.val).slt (ct b) = true then xc (ix3 b s d) * xs (ix3 b s ⟨d.val / 128, by omega⟩) else 0

/-- A widened row against a widened weight row of the first layer. -/
def pre (ct : Fin 4 → BitVec 32) (xc : S4x2560x7168.Idx → EReal) (xs : S4x2560x56.Idx → EReal) (w : S4x4096x7168.Idx → EReal) (sw : S4x32x7168.Idx → EReal)
    (b : Fin 4) (s : Fin 2560) (f : Fin 4096) : EReal :=
  ∑ d : Fin 7168, X ct xc xs b s d * (w (ix3 b f d) * sw (ix3 b ⟨f.val / 128, by omega⟩ d))

/-- The gated product of the first layer, from its gate and up columns. -/
def gated (p : Fin 4 → Fin 2560 → Fin 4096 → EReal) (b : Fin 4) (s : Fin 2560) (f : Fin 2048) : EReal :=
  p b s ⟨f.val, by omega⟩ * Ideal.logistic (p b s ⟨f.val, by omega⟩) * p b s ⟨f.val + 2048, by omega⟩

/-- The codes of a wide array whose rows are quantised 128 columns at a time. -/
def codes {n : ℕ} (h : Fin 4 → Fin 2560 → Fin (n * 128) → EReal) (b : Fin 4) (s : Fin 2560) (f : Fin (n * 128)) : EReal :=
  Q.code (h b s f) (Q.peak fun k => h b s ⟨f.val / 128 * 128 + k.val, by omega⟩)

/-- Its scales. -/
def scales {n : ℕ} (h : Fin 4 → Fin 2560 → Fin (n * 128) → EReal) (b : Fin 4) (s : Fin 2560) (g : Fin n) : EReal :=
  Q.scale (Q.peak fun k => h b s ⟨g.val * 128 + k.val, by omega⟩)

/-- The second layer, from the first layer's codes and scales. -/
def second (hc : S4x2560x2048.Idx → EReal) (hs : S4x2560x16.Idx → EReal) (w : S4x7168x2048.Idx → EReal) (sw : S4x56x2048.Idx → EReal)
    (b : Fin 4) (s : Fin 2560) (d : Fin 7168) : EReal :=
  ∑ f : Fin 2048, hc (ix3 b s f) * hs (ix3 b s ⟨f.val / 128, by omega⟩) * (w (ix3 b d f) * sw (ix3 b ⟨d.val / 128, by omega⟩ f))

theorem peak_zero : Q.peak (fun _ => 0) = 0 := by
  unfold Q.peak
  have hb : Ideal.ofBits .f32 0xFF800000#32 ≤ 0 := by simp [Ideal.ofBits, Ideal.ieee]
  have : (Finset.univ.fold max (Ideal.ofBits .f32 0xFF800000#32) fun _ : Fin 128 => max (0 : EReal) (-0)) = 0 := by
    apply le_antisymm
    · rw [Finset.fold_max_le]; exact ⟨hb, fun _ _ => by simp⟩
    · rw [Finset.le_fold_max]; exact Or.inr ⟨0, Finset.mem_univ _, by simp⟩
  rw [this, zero_mul]

theorem codes_dead {n : ℕ} (h : Fin 4 → Fin 2560 → Fin (n * 128) → EReal) (b : Fin 4) (s : Fin 2560) (h0 : ∀ f, h b s f = 0) (f : Fin (n * 128)) :
    codes h b s f = 0 := by
  unfold codes; rw [h0]; exact Q.code_zero _
theorem scales_dead {n : ℕ} (h : Fin 4 → Fin 2560 → Fin (n * 128) → EReal) (b : Fin 4) (s : Fin 2560) (h0 : ∀ f, h b s f = 0) (g : Fin n) :
    scales h b s g = 1 := by
  unfold scales; simp only [h0, peak_zero]; exact Q.scale_zero
theorem pre_dead (ct : Fin 4 → BitVec 32) (xc : S4x2560x7168.Idx → EReal) (xs : S4x2560x56.Idx → EReal) (w : S4x4096x7168.Idx → EReal) (sw : S4x32x7168.Idx → EReal)
    (b : Fin 4) (s : Fin 2560) (f : Fin 4096) (h : ¬(BitVec.ofNat 32 s.val).slt (ct b) = true) : pre ct xc xs w sw b s f = 0 := by
  unfold pre X
  simp [h]
theorem gated_dead (p : Fin 4 → Fin 2560 → Fin 4096 → EReal) (b : Fin 4) (s : Fin 2560) (h : ∀ f, p b s f = 0) (f : Fin 2048) : gated p b s f = 0 := by
  unfold gated; simp [h]
theorem second_dead (hc : S4x2560x2048.Idx → EReal) (hs : S4x2560x16.Idx → EReal) (w : S4x7168x2048.Idx → EReal) (sw : S4x56x2048.Idx → EReal)
    (b : Fin 4) (s : Fin 2560) (h : ∀ f, hc (ix3 b s f) = 0) (d : Fin 7168) : second hc hs w sw b s d = 0 := by
  unfold second; simp [h]

end Cert.Spec
end
-- ==== Proof.Value.RefPay.lean ====
module

public import proofs.«01_k».proof.Proof.Gen.ReferenceIdeal.Skeleton
public import proofs.«01_k».proof.Proof.Value.Spec
public import Idealize.ShloMosaic.Lib.Pointwise

/-!
# What the reference computes, at an index
-/

@[expose] public section
set_option maxRecDepth 16384
noncomputable section
namespace Cert.ReferenceIdeal.Gen
open Idealize.ShloMosaic Idealize.ShloMosaic.TcCoe Idealize.SL.Sem

/-- The powers of two the reference compares with. -/
def IsThr (th : Vec Ideal S255 .f32) : Prop := ∀ k : Fin 255, th (Idealize.ShloMosaic.ix1 k) = Ideal.ofBits .f32 ((BitVec.ofNat 32 k.val + 1#32) <<< 23)

/-! ## The quantiser over 16 groups -/

def maxR16 (h : FVec Ideal S4x2560x16x128 .f32) : FVec Ideal S4x2560x16 .f32 :=
  multiReduction .maximumf [3] S4x2560x16 (absf h) 0xFF800000#32 reduces_S4x2560x16x128_S4x2560x16 (.inl rfl) rfl

def peakR16 (h : FVec Ideal S4x2560x16x128 .f32) : FVec Ideal S4x2560x16 .f32 := mulf (maxR16 h) (broadcast S4x2560x16 (Scalar.ofBits .f32 0x3B124925#32))

def countR16 (p : FVec Ideal S4x2560x16 .f32) (th : Vec Ideal S255 .f32) : IVec S4x2560x16 32 :=
  multiReductionI .add [3] S4x2560x16 (extui 32 (cmpf .ole
    (broadcastTo S4x2560x16x255 (shapeCast S1x1x1x255 (shapeCast S255 th shapeCasts_S255_S255 : FVec Ideal S255 .f32) shapeCasts_S255_S1x1x1x255 : FVec Ideal S1x1x1x255 .f32) broadcasts_S1x1x1x255_S4x2560x16x255 : FVec Ideal S4x2560x16x255 .f32)
    (broadcastTo S4x2560x16x255 (shapeCast S4x2560x16x1 p shapeCasts_S4x2560x16_S4x2560x16x1 : FVec Ideal S4x2560x16x1 .f32) broadcasts_S4x2560x16x1_S4x2560x16x255)) natLt_1_32) 0#32
    reduces_S4x2560x16x255_S4x2560x16 rfl

def expoR16 (v : IVec S4x2560x16 32) : IVec S4x2560x16 32 :=
  select (cmpi .eq (subi v (broadcast S4x2560x16 126#32)) (broadcast S4x2560x16 4294967170#32)) (broadcast S4x2560x16 0#32) (subi v (broadcast S4x2560x16 126#32))

def scaleR16 (e : IVec S4x2560x16 32) : FVec Ideal S4x2560x16 .f32 :=
  bitcastToFloat .f32 (shli (addi e (broadcast S4x2560x16 127#32)) (broadcast S4x2560x16 23#32))

def codeR16 (h : FVec Ideal S4x2560x16x128 .f32) (e : IVec S4x2560x16 32) : FVec Ideal S4x2560x2048 .fp8e4m3 :=
  shapeCast S4x2560x2048 (truncf .fp8e4m3 (minimumf (broadcast S4x2560x16x128 (Scalar.ofBits .f32 0x43E00000#32)) (maximumf (broadcast S4x2560x16x128 (Scalar.ofBits .f32 0xC3E00000#32))
    (mulf h (broadcastTo S4x2560x16x128 (shapeCast S4x2560x16x1 (scaleR16 (subi (broadcast S4x2560x16 0#32) e)) shapeCasts_S4x2560x16_S4x2560x16x1) broadcasts_S4x2560x16x1_S4x2560x16x128)))) bitsLt_fp8e4m3_f32) shapeCasts_S4x2560x16x128_S4x2560x2048

theorem maxR16_apply (h : FVec Ideal S4x2560x16x128 .f32) (b : Fin 4) (s : Fin 2560) (g : Fin 16) :
    maxR16 h (ix3 b s g) = Finset.univ.fold max (Ideal.ofBits .f32 0xFF800000#32) fun k => max (h (ix4 b s g k)) (-h (ix4 b s g k)) := by
  pointwise [maxR16]
  rfl

theorem overR16 (q : FVec Ideal S4x2560x16 .f32) (x : S4x2560x16.Idx) : (mulf q (broadcast S4x2560x16 (Scalar.ofBits .f32 0x3B124925#32))) x = (q x * Ideal.ofBits .f32 0x3B124925#32 : EReal) := rfl

theorem peakR16_apply (h : FVec Ideal S4x2560x16x128 .f32) (b : Fin 4) (s : Fin 2560) (g : Fin 16) : peakR16 h (ix3 b s g) = Cert.Q.peak (fun k => h (ix4 b s g k)) :=
  (overR16 (maxR16 h) (ix3 b s g)).trans (congrArg (fun z : EReal => z * Ideal.ofBits .f32 0x3B124925#32) (maxR16_apply h b s g))

theorem countR16_apply (p : FVec Ideal S4x2560x16 .f32) (th : Vec Ideal S255 .f32) (hth : IsThr th) (b : Fin 4) (s : Fin 2560) (g : Fin 16) :
    countR16 p th (ix3 b s g) = Cert.Q.refCount (p (ix3 b s g)) := by
  unfold Cert.Q.refCount
  simp only [← hth _]
  pointwise [countR16]

theorem expoR16_apply (v : IVec S4x2560x16 32) (x : S4x2560x16.Idx) : expoR16 v x = Scalar.select (IntOp.cmpi .eq (v x - 126#32) 4294967170#32) 0#32 (v x - 126#32) := id rfl

theorem scaleR16_apply (e : IVec S4x2560x16 32) (x : S4x2560x16.Idx) : scaleR16 e x = Ideal.ofBits .f32 (IntOp.shli .vector (e x + 127#32) 23#32) := id rfl

theorem codeR16_apply (h : FVec Ideal S4x2560x16x128 .f32) (e : IVec S4x2560x16 32) (b : Fin 4) (s : Fin 2560) (f : Fin 2048) :
    codeR16 h e (ix3 b s f) = min (Ideal.ofBits .f32 0x43E00000#32) (max (Ideal.ofBits .f32 0xC3E00000#32) (h (ix4 b s ⟨f.val / 128, by omega⟩ ⟨f.val % 128, by omega⟩)
      * Ideal.ofBits .f32 (IntOp.shli .vector (0#32 - e (ix3 b s ⟨f.val / 128, by omega⟩) + 127#32) 23#32))) := by
  have := scaleR16_apply (subi (broadcast S4x2560x16 0#32) e) (ix3 b s ⟨f.val / 128, by omega⟩)
  rw [show subi (broadcast S4x2560x16 0#32) e (ix3 b s ⟨f.val / 128, by omega⟩) = 0#32 - e (ix3 b s ⟨f.val / 128, by omega⟩) from rfl] at this
  rw [← this]
  unfold codeR16
  generalize scaleR16 _ = q
  pointwise

/-- The quantiser's codes and scales of an array. -/
theorem quantR16_codes (h : FVec Ideal S4x2560x16x128 .f32) (H : Fin 4 → Fin 2560 → Fin (16 * 128) → EReal) (th : Vec Ideal S255 .f32) (hth : IsThr th)
    (hH : ∀ b s (g : Fin 16) (k : Fin 128), h (ix4 b s g k) = H b s ⟨g.val * 128 + k.val, by omega⟩) (b : Fin 4) (s : Fin 2560) (f : Fin 2048) :
    codeR16 h (expoR16 (countR16 (peakR16 h) th)) (ix3 b s f) = Cert.Spec.codes (n := 16) H b s f := by
  rw [codeR16_apply, expoR16_apply, countR16_apply _ _ hth, peakR16_apply]
  unfold Cert.Spec.codes Cert.Q.code
  rw [← Cert.Q.ref_inv]
  unfold Cert.Q.refExpo
  simp only [hH]
  rw [show (⟨f.val / 128 * 128 + f.val % 128, by omega⟩ : Fin (16 * 128)) = f from Fin.ext (by show f.val / 128 * 128 + f.val % 128 = f.val; omega)]

theorem quantR16_scales (h : FVec Ideal S4x2560x16x128 .f32) (H : Fin 4 → Fin 2560 → Fin (16 * 128) → EReal) (th : Vec Ideal S255 .f32) (hth : IsThr th)
    (hH : ∀ b s (g : Fin 16) (k : Fin 128), h (ix4 b s g k) = H b s ⟨g.val * 128 + k.val, by omega⟩) (b : Fin 4) (s : Fin 2560) (g : Fin 16) :
    scaleR16 (expoR16 (countR16 (peakR16 h) th)) (ix3 b s g) = Cert.Spec.scales (n := 16) H b s g := by
  rw [scaleR16_apply, expoR16_apply, countR16_apply _ _ hth, peakR16_apply]
  unfold Cert.Spec.scales
  rw [← Cert.Q.ref_scale]
  unfold Cert.Q.refExpo
  simp only [hH]

/-! ## The quantiser over 56 groups -/

def maxR56 (h : FVec Ideal S4x2560x56x128 .f32) : FVec Ideal S4x2560x56 .f32 :=
  multiReduction .maximumf [3] S4x2560x56 (absf h) 0xFF800000#32 reduces_S4x2560x56x128_S4x2560x56 (.inl rfl) rfl

def peakR56 (h : FVec Ideal S4x2560x56x128 .f32) : FVec Ideal S4x2560x56 .f32 := mulf (maxR56 h) (broadcast S4x2560x56 (Scalar.ofBits .f32 0x3B124925#32))

def countR56 (p : FVec Ideal S4x2560x56 .f32) (th : Vec Ideal S255 .f32) : IVec S4x2560x56 32 :=
  multiReductionI .add [3] S4x2560x56 (extui 32 (cmpf .ole
    (broadcastTo S4x2560x56x255 (shapeCast S1x1x1x255 (shapeCast S255 th shapeCasts_S255_S255 : FVec Ideal S255 .f32) shapeCasts_S255_S1x1x1x255 : FVec Ideal S1x1x1x255 .f32) broadcasts_S1x1x1x255_S4x2560x56x255 : FVec Ideal S4x2560x56x255 .f32)
    (broadcastTo S4x2560x56x255 (shapeCast S4x2560x56x1 p shapeCasts_S4x2560x56_S4x2560x56x1 : FVec Ideal S4x2560x56x1 .f32) broadcasts_S4x2560x56x1_S4x2560x56x255)) natLt_1_32) 0#32
    reduces_S4x2560x56x255_S4x2560x56 rfl

def expoR56 (v : IVec S4x2560x56 32) : IVec S4x2560x56 32 :=
  select (cmpi .eq (subi v (broadcast S4x2560x56 126#32)) (broadcast S4x2560x56 4294967170#32)) (broadcast S4x2560x56 0#32) (subi v (broadcast S4x2560x56 126#32))

def scaleR56 (e : IVec S4x2560x56 32) : FVec Ideal S4x2560x56 .f32 :=
  bitcastToFloat .f32 (shli (addi e (broadcast S4x2560x56 127#32)) (broadcast S4x2560x56 23#32))

def codeR56 (h : FVec Ideal S4x2560x56x128 .f32) (e : IVec S4x2560x56 32) : FVec Ideal S4x2560x7168 .fp8e4m3 :=
  shapeCast S4x2560x7168 (truncf .fp8e4m3 (minimumf (broadcast S4x2560x56x128 (Scalar.ofBits .f32 0x43E00000#32)) (maximumf (broadcast S4x2560x56x128 (Scalar.ofBits .f32 0xC3E00000#32))
    (mulf h (broadcastTo S4x2560x56x128 (shapeCast S4x2560x56x1 (scaleR56 (subi (broadcast S4x2560x56 0#32) e)) shapeCasts_S4x2560x56_S4x2560x56x1) broadcasts_S4x2560x56x1_S4x2560x56x128)))) bitsLt_fp8e4m3_f32) shapeCasts_S4x2560x56x128_S4x2560x7168

theorem maxR56_apply (h : FVec Ideal S4x2560x56x128 .f32) (b : Fin 4) (s : Fin 2560) (g : Fin 56) :
    maxR56 h (ix3 b s g) = Finset.univ.fold max (Ideal.ofBits .f32 0xFF800000#32) fun k => max (h (ix4 b s g k)) (-h (ix4 b s g k)) := by
  pointwise [maxR56]
  rfl

theorem overR56 (q : FVec Ideal S4x2560x56 .f32) (x : S4x2560x56.Idx) : (mulf q (broadcast S4x2560x56 (Scalar.ofBits .f32 0x3B124925#32))) x = (q x * Ideal.ofBits .f32 0x3B124925#32 : EReal) := rfl

theorem peakR56_apply (h : FVec Ideal S4x2560x56x128 .f32) (b : Fin 4) (s : Fin 2560) (g : Fin 56) : peakR56 h (ix3 b s g) = Cert.Q.peak (fun k => h (ix4 b s g k)) :=
  (overR56 (maxR56 h) (ix3 b s g)).trans (congrArg (fun z : EReal => z * Ideal.ofBits .f32 0x3B124925#32) (maxR56_apply h b s g))

theorem countR56_apply (p : FVec Ideal S4x2560x56 .f32) (th : Vec Ideal S255 .f32) (hth : IsThr th) (b : Fin 4) (s : Fin 2560) (g : Fin 56) :
    countR56 p th (ix3 b s g) = Cert.Q.refCount (p (ix3 b s g)) := by
  unfold Cert.Q.refCount
  simp only [← hth _]
  pointwise [countR56]

theorem expoR56_apply (v : IVec S4x2560x56 32) (x : S4x2560x56.Idx) : expoR56 v x = Scalar.select (IntOp.cmpi .eq (v x - 126#32) 4294967170#32) 0#32 (v x - 126#32) := id rfl

theorem scaleR56_apply (e : IVec S4x2560x56 32) (x : S4x2560x56.Idx) : scaleR56 e x = Ideal.ofBits .f32 (IntOp.shli .vector (e x + 127#32) 23#32) := id rfl

theorem codeR56_apply (h : FVec Ideal S4x2560x56x128 .f32) (e : IVec S4x2560x56 32) (b : Fin 4) (s : Fin 2560) (f : Fin 7168) :
    codeR56 h e (ix3 b s f) = min (Ideal.ofBits .f32 0x43E00000#32) (max (Ideal.ofBits .f32 0xC3E00000#32) (h (ix4 b s ⟨f.val / 128, by omega⟩ ⟨f.val % 128, by omega⟩)
      * Ideal.ofBits .f32 (IntOp.shli .vector (0#32 - e (ix3 b s ⟨f.val / 128, by omega⟩) + 127#32) 23#32))) := by
  have := scaleR56_apply (subi (broadcast S4x2560x56 0#32) e) (ix3 b s ⟨f.val / 128, by omega⟩)
  rw [show subi (broadcast S4x2560x56 0#32) e (ix3 b s ⟨f.val / 128, by omega⟩) = 0#32 - e (ix3 b s ⟨f.val / 128, by omega⟩) from rfl] at this
  rw [← this]
  unfold codeR56
  generalize scaleR56 _ = q
  pointwise

/-- The quantiser's codes and scales of an array. -/
theorem quantR56_codes (h : FVec Ideal S4x2560x56x128 .f32) (H : Fin 4 → Fin 2560 → Fin (56 * 128) → EReal) (th : Vec Ideal S255 .f32) (hth : IsThr th)
    (hH : ∀ b s (g : Fin 56) (k : Fin 128), h (ix4 b s g k) = H b s ⟨g.val * 128 + k.val, by omega⟩) (b : Fin 4) (s : Fin 2560) (f : Fin 7168) :
    codeR56 h (expoR56 (countR56 (peakR56 h) th)) (ix3 b s f) = Cert.Spec.codes (n := 56) H b s f := by
  rw [codeR56_apply, expoR56_apply, countR56_apply _ _ hth, peakR56_apply]
  unfold Cert.Spec.codes Cert.Q.code
  rw [← Cert.Q.ref_inv]
  unfold Cert.Q.refExpo
  simp only [hH]
  rw [show (⟨f.val / 128 * 128 + f.val % 128, by omega⟩ : Fin (56 * 128)) = f from Fin.ext (by show f.val / 128 * 128 + f.val % 128 = f.val; omega)]

theorem quantR56_scales (h : FVec Ideal S4x2560x56x128 .f32) (H : Fin 4 → Fin 2560 → Fin (56 * 128) → EReal) (th : Vec Ideal S255 .f32) (hth : IsThr th)
    (hH : ∀ b s (g : Fin 56) (k : Fin 128), h (ix4 b s g k) = H b s ⟨g.val * 128 + k.val, by omega⟩) (b : Fin 4) (s : Fin 2560) (g : Fin 56) :
    scaleR56 (expoR56 (countR56 (peakR56 h) th)) (ix3 b s g) = Cert.Spec.scales (n := 56) H b s g := by
  rw [scaleR56_apply, expoR56_apply, countR56_apply _ _ hth, peakR56_apply]
  unfold Cert.Spec.scales
  rw [← Cert.Q.ref_scale]
  unfold Cert.Q.refExpo
  simp only [hH]

/-! ## The payloads -/

theorem pay4_eq (v0 : Vec Ideal S4x2560x1 .i32) (xc : Vec Ideal S4x2560x7168 .fp8e4m3) (xs : Vec Ideal S4x2560x7168 .bf16) (w : Vec Ideal S4x4096x7168 .fp8e4m3) (sw : Vec Ideal S4x32x7168 .bf16) :
    k0_pay4 v0 xc xs w sw = shapeCast S4x2560x16x1 (peakR16 (k0_pay3 v0 xc xs w sw)) shapeCasts_S4x2560x16_S4x2560x16x1 := rfl
theorem pay7_eq (h : FVec Ideal S4x2560x16x128 .f32) (p : FVec Ideal S4x2560x16 .f32) (th : Vec Ideal S255 .f32) :
    k0_pay7 h (shapeCast S4x2560x16x1 p shapeCasts_S4x2560x16_S4x2560x16x1) (k0_pay5 th) = codeR16 h (expoR16 (countR16 p th)) := rfl
theorem pay8_eq (p : FVec Ideal S4x2560x16 .f32) (th : Vec Ideal S255 .f32) :
    k0_pay8 (shapeCast S4x2560x16x1 p shapeCasts_S4x2560x16_S4x2560x16x1) (k0_pay5 th) = scaleR16 (expoR16 (countR16 p th)) := rfl
theorem pay11_eq (v : FVec Ideal S4x2560x2048 .bf16) (w : Vec Ideal S4x7168x2048 .fp8e4m3) (sw : Vec Ideal S4x56x2048 .bf16) (th : Vec Ideal S255 .f32) :
    k0_pay2 (F := Ideal) (k0_pay11 v w sw th) = scaleR56 (expoR56 (countR56 (peakR56 (k0_pay10 v w sw)) th)) := rfl
theorem pay12_eq (v : FVec Ideal S4x2560x2048 .bf16) (w : Vec Ideal S4x7168x2048 .fp8e4m3) (sw : Vec Ideal S4x56x2048 .bf16) (th : Vec Ideal S255 .f32) :
    k0_pay1 (F := Ideal) (Scalar.ofBits .f32 0x43E00000#32) (k0_pay12 v w sw th) = codeR56 (k0_pay10 v w sw) (expoR56 (countR56 (peakR56 (k0_pay10 v w sw)) th)) := rfl

/-- The reference's first-layer product. -/
def preR (v0 : Vec Ideal S4x2560x1 .i32) (xc : Vec Ideal S4x2560x7168 .fp8e4m3) (xs : Vec Ideal S4x2560x7168 .bf16) (w : Vec Ideal S4x4096x7168 .fp8e4m3) (sw : Vec Ideal S4x32x7168 .bf16)
    (b : Fin 4) (s : Fin 2560) (f : Fin 4096) : EReal :=
  ∑ d : Fin 7168, (Scalar.select (IntOp.cmpi .sgt (v0 (ix3 b s 0)) 0#32) ((xc (ix3 b s d) : EReal) * (xs (ix3 b s d) : EReal)) (((0#32).toInt : ℝ) : EReal) : EReal)
    * ((w (ix3 b f d) : EReal) * (sw (ix3 b ⟨f.val / 128, by omega⟩ d) : EReal))

theorem pay3_apply (v0 : Vec Ideal S4x2560x1 .i32) (xc : Vec Ideal S4x2560x7168 .fp8e4m3) (xs : Vec Ideal S4x2560x7168 .bf16) (w : Vec Ideal S4x4096x7168 .fp8e4m3) (sw : Vec Ideal S4x32x7168 .bf16)
    (b : Fin 4) (s : Fin 2560) (g : Fin 16) (k : Fin 128) :
    k0_pay3 v0 xc xs w sw (ix4 b s g k) = Cert.Spec.gated (preR v0 xc xs w sw) b s ⟨g.val * 128 + k.val, by omega⟩ := by
  unfold Cert.Spec.gated preR
  pointwise [k0_pay3]
  have hg : g.val < 16 := g.isLt
  have e1 : (⟨(g.val * 128 + k.val) / 128 * 128 + k.val, by omega⟩ : Fin 4096) = ⟨g.val * 128 + k.val, by omega⟩ := Fin.ext (show (g.val * 128 + k.val) / 128 * 128 + k.val = g.val * 128 + k.val by omega)
  have e2 : (⟨(2048 + (g.val * 128 + k.val)) / 128 * 128 + k.val, by omega⟩ : Fin 4096) = ⟨g.val * 128 + k.val + 2048, by omega⟩ := Fin.ext (show (2048 + (g.val * 128 + k.val)) / 128 * 128 + k.val = g.val * 128 + k.val + 2048 by omega)
  have e3 : (⟨(2048 + (g.val * 128 + k.val)) / 128, by omega⟩ : Fin 32) = ⟨(g.val * 128 + k.val + 2048) / 128, by omega⟩ := Fin.ext (show (2048 + (g.val * 128 + k.val)) / 128 = (g.val * 128 + k.val + 2048) / 128 by omega)
  simp only [e1, e2, e3]

theorem pay9_apply (h : FVec Ideal S4x2560x16x128 .f32) (p : FVec Ideal S4x2560x16x1 .f32) (t : FVec Ideal S4x2560x16x255 .f32) (b : Fin 4) (s : Fin 2560) (f : Fin 2048) :
    k0_pay9 h p t (ix3 b s f) = (k0_pay7 h p t (ix3 b s f) : EReal) * (k0_pay8 p t (ix3 b s ⟨f.val / 128, by omega⟩) : EReal) := by
  unfold k0_pay9
  generalize k0_pay7 h p t = u
  generalize k0_pay8 p t = v
  pointwise

theorem pay10_apply (v : FVec Ideal S4x2560x2048 .bf16) (w : Vec Ideal S4x7168x2048 .fp8e4m3) (sw : Vec Ideal S4x56x2048 .bf16) (b : Fin 4) (s : Fin 2560) (g : Fin 56) (k : Fin 128) :
    k0_pay10 v w sw (ix4 b s g k) = ∑ f : Fin 2048, (v (ix3 b s f) : EReal) * ((w (ix3 b ⟨g.val * 128 + k.val, by omega⟩ f) : EReal) * (sw (ix3 b ⟨(g.val * 128 + k.val) / 128, by omega⟩ f) : EReal)) := by
  pointwise [k0_pay10]
  have e : g = (⟨(g.val * 128 + k.val) / 128, by omega⟩ : Fin 56) := Fin.ext (by show g.val = (g.val * 128 + k.val) / 128; omega)
  exact Finset.sum_congr rfl fun f _ => by rw [← e]

end Cert.ReferenceIdeal.Gen
end
-- ==== Proof.Value.RefVal.lean ====
module

public import proofs.«01_k».proof.Proof.Value.RefRun
public import proofs.«01_k».proof.Proof.Value.RefPay
public import Idealize.ShloMosaic.Lib.Pipeline.ValueKit
public import Idealize.ShloMosaic.Lib.StableHlo.ReadAt

/-!
# What the reference's result arrays hold
-/

@[expose] public section
set_option maxRecDepth 16384
noncomputable section
namespace Cert.ReferenceIdeal.Value
open Cert.ReferenceIdeal Cert.ReferenceIdeal.Gen Idealize.ShloMosaic Idealize.ShloMosaic.TcCoe Idealize.SL.Sem
open Idealize.ShloMosaic.Pipeline (Dat)

variable (m : (ℓ : Loc nD τ sig) → Buf (Elt Ideal) ℓ)

theorem v13_at (c : Dev nD) (b : Fin 4) (s : Fin 2560) (d : Fin 7168) :
    V m c main_v13 (ix3 b s d) = m ((c : Thread nD τ).loc main_arg1) (ix3 b s ⟨d.val / 128, by omega⟩) := by
  unfold V
  after_reads_at

theorem v16_at (c : Dev nD) (b : Fin 4) (s : Fin 32) (d : Fin 7168) :
    V m c main_v16 (ix3 b s d) = m ((c : Thread nD τ).loc main_arg4) (ix3 b s ⟨d.val / 128, by omega⟩) := by
  unfold V
  after_reads_at

theorem v19_at (c : Dev nD) (b : Fin 4) (s : Fin 56) (d : Fin 2048) :
    V m c main_v19 (ix3 b s d) = m ((c : Thread nD τ).loc main_arg6) (ix3 b s ⟨d.val / 128, by omega⟩) := by
  unfold V
  after_reads_at

theorem v4_at (c : Dev nD) (b : Fin 4) (s : Fin 2560) :
    V m c main_v4 (ix3 b s 0) = BitVec.setWidth 32 (IntOp.cmpi .slt (BitVec.ofNat 32 s.val) (m ((c : Thread nD τ).loc main_arg2) (Idealize.ShloMosaic.ix1 b))) := by
  unfold V
  after_reads_at

theorem v10_at (c : Dev nD) : IsThr (V m c main_v10) := by
  intro k
  unfold V
  after_reads_at
  rfl

/-! ## The body's four results, from its eight blocks -/

theorem zero3 : (![0, 0, 0] : Fin 3 → ℕ) = fun _ => 0 := by funext q; fin_cases q <;> rfl
theorem zero1 : (![0] : Fin 1 → ℕ) = fun _ => 0 := by funext q; fin_cases q; rfl

theorem pay13_eq (x0 : Vec Ideal S4x2560x7168 .fp8e4m3) (x1 : Vec Ideal S4x2560x7168 .bf16) (x2 : Vec Ideal S4x2560x1 .i32) (x3 : Vec Ideal S4x4096x7168 .fp8e4m3) (x4 : Vec Ideal S4x32x7168 .bf16) (x5 : Vec Ideal S4x7168x2048 .fp8e4m3) (x6 : Vec Ideal S4x56x2048 .bf16) (x7 : Vec Ideal S255 .f32) : k0_pay13 x0 x1 x2 x3 x4 x5 x6 x7 = k0_pay3 x2 x0 x1 x3 x4 := by
  unfold k0_pay13
  rw [View.ld_unit_zero zero3, View.ld_unit_zero zero3, View.ld_unit_zero zero3, View.ld_unit_zero zero3, View.ld_unit_zero zero3]
theorem pay14_eq (x0 : Vec Ideal S4x2560x7168 .fp8e4m3) (x1 : Vec Ideal S4x2560x7168 .bf16) (x2 : Vec Ideal S4x2560x1 .i32) (x3 : Vec Ideal S4x4096x7168 .fp8e4m3) (x4 : Vec Ideal S4x32x7168 .bf16) (x5 : Vec Ideal S4x7168x2048 .fp8e4m3) (x6 : Vec Ideal S4x56x2048 .bf16) (x7 : Vec Ideal S255 .f32) : k0_pay14 x0 x1 x2 x3 x4 x5 x6 x7 = shapeCast S4x2560x16x1 (peakR16 (k0_pay3 x2 x0 x1 x3 x4)) shapeCasts_S4x2560x16_S4x2560x16x1 := by
  unfold k0_pay14
  rw [View.ld_unit_zero zero3, View.ld_unit_zero zero3, View.ld_unit_zero zero3, View.ld_unit_zero zero3, View.ld_unit_zero zero3, pay4_eq]
theorem pay15_eq (x0 : Vec Ideal S4x2560x7168 .fp8e4m3) (x1 : Vec Ideal S4x2560x7168 .bf16) (x2 : Vec Ideal S4x2560x1 .i32) (x3 : Vec Ideal S4x4096x7168 .fp8e4m3) (x4 : Vec Ideal S4x32x7168 .bf16) (x5 : Vec Ideal S4x7168x2048 .fp8e4m3) (x6 : Vec Ideal S4x56x2048 .bf16) (x7 : Vec Ideal S255 .f32) : k0_pay15 x0 x1 x2 x3 x4 x5 x6 x7 = k0_pay5 x7 := by
  unfold k0_pay15
  rw [View.ld_unit_zero zero1]

/-- The first layer's gated products, from the blocks. -/
def HR (x0 : Vec Ideal S4x2560x7168 .fp8e4m3) (x1 : Vec Ideal S4x2560x7168 .bf16) (x2 : Vec Ideal S4x2560x1 .i32) (x3 : Vec Ideal S4x4096x7168 .fp8e4m3) (x4 : Vec Ideal S4x32x7168 .bf16) : Fin 4 → Fin 2560 → Fin (16 * 128) → EReal := Cert.Spec.gated (preR x2 x0 x1 x3 x4)

theorem pay7_at (x0 : Vec Ideal S4x2560x7168 .fp8e4m3) (x1 : Vec Ideal S4x2560x7168 .bf16) (x2 : Vec Ideal S4x2560x1 .i32) (x3 : Vec Ideal S4x4096x7168 .fp8e4m3) (x4 : Vec Ideal S4x32x7168 .bf16) (x5 : Vec Ideal S4x7168x2048 .fp8e4m3) (x6 : Vec Ideal S4x56x2048 .bf16) (x7 : Vec Ideal S255 .f32) (h : IsThr x7) (b : Fin 4) (s : Fin 2560) (f : Fin 2048) :
    k0_pay7 (k0_pay13 x0 x1 x2 x3 x4 x5 x6 x7) (k0_pay14 x0 x1 x2 x3 x4 x5 x6 x7) (k0_pay15 x0 x1 x2 x3 x4 x5 x6 x7) (ix3 b s f) = Cert.Spec.codes (n := 16) (HR x0 x1 x2 x3 x4) b s f := by
  rw [pay13_eq, pay14_eq, pay15_eq, pay7_eq]
  exact quantR16_codes _ _ x7 h (fun b s g k => pay3_apply x2 x0 x1 x3 x4 b s g k) b s f

theorem pay8_at (x0 : Vec Ideal S4x2560x7168 .fp8e4m3) (x1 : Vec Ideal S4x2560x7168 .bf16) (x2 : Vec Ideal S4x2560x1 .i32) (x3 : Vec Ideal S4x4096x7168 .fp8e4m3) (x4 : Vec Ideal S4x32x7168 .bf16) (x5 : Vec Ideal S4x7168x2048 .fp8e4m3) (x6 : Vec Ideal S4x56x2048 .bf16) (x7 : Vec Ideal S255 .f32) (h : IsThr x7) (b : Fin 4) (s : Fin 2560) (g : Fin 16) :
    k0_pay8 (k0_pay14 x0 x1 x2 x3 x4 x5 x6 x7) (k0_pay15 x0 x1 x2 x3 x4 x5 x6 x7) (ix3 b s g) = Cert.Spec.scales (n := 16) (HR x0 x1 x2 x3 x4) b s g := by
  rw [pay14_eq, pay15_eq, pay8_eq]
  exact quantR16_scales _ _ x7 h (fun b s g k => pay3_apply x2 x0 x1 x3 x4 b s g k) b s g

theorem out10_at (x0 : Vec Ideal S4x2560x7168 .fp8e4m3) (x1 : Vec Ideal S4x2560x7168 .bf16) (x2 : Vec Ideal S4x2560x1 .i32) (x3 : Vec Ideal S4x4096x7168 .fp8e4m3) (x4 : Vec Ideal S4x32x7168 .bf16) (x5 : Vec Ideal S4x7168x2048 .fp8e4m3) (x6 : Vec Ideal S4x56x2048 .bf16) (x7 : Vec Ideal S255 .f32) (h : IsThr x7) (b : Fin 4) (s : Fin 2560) (f : Fin 2048) :
    out0_10 x0 x1 x2 x3 x4 x5 x6 x7 (ix3 b s f) = Cert.Spec.codes (n := 16) (HR x0 x1 x2 x3 x4) b s f := by
  unfold out0_10
  rw [View.canon_cons_unit_zero zero3]
  exact pay7_at x0 x1 x2 x3 x4 x5 x6 x7 h b s f

theorem out11_at (x0 : Vec Ideal S4x2560x7168 .fp8e4m3) (x1 : Vec Ideal S4x2560x7168 .bf16) (x2 : Vec Ideal S4x2560x1 .i32) (x3 : Vec Ideal S4x4096x7168 .fp8e4m3) (x4 : Vec Ideal S4x32x7168 .bf16) (x5 : Vec Ideal S4x7168x2048 .fp8e4m3) (x6 : Vec Ideal S4x56x2048 .bf16) (x7 : Vec Ideal S255 .f32) (h : IsThr x7) (b : Fin 4) (s : Fin 2560) (g : Fin 16) :
    out0_11 x0 x1 x2 x3 x4 x5 x6 x7 (ix3 b s g) = Cert.Spec.scales (n := 16) (HR x0 x1 x2 x3 x4) b s g := by
  unfold out0_11
  rw [View.canon_cons_unit_zero zero3]
  exact pay8_at x0 x1 x2 x3 x4 x5 x6 x7 h b s g

/-- The second layer's products, from the blocks. -/
def YR (x0 : Vec Ideal S4x2560x7168 .fp8e4m3) (x1 : Vec Ideal S4x2560x7168 .bf16) (x2 : Vec Ideal S4x2560x1 .i32) (x3 : Vec Ideal S4x4096x7168 .fp8e4m3) (x4 : Vec Ideal S4x32x7168 .bf16) (x5 : Vec Ideal S4x7168x2048 .fp8e4m3) (x6 : Vec Ideal S4x56x2048 .bf16) (x7 : Vec Ideal S255 .f32) : Fin 4 → Fin 2560 → Fin (56 * 128) → EReal :=
  Cert.Spec.second (fun i => Cert.Spec.codes (n := 16) (HR x0 x1 x2 x3 x4) (i 0) (i 1) (i 2)) (fun i => Cert.Spec.scales (n := 16) (HR x0 x1 x2 x3 x4) (i 0) (i 1) (i 2)) x5 x6

theorem pay10_at (x0 : Vec Ideal S4x2560x7168 .fp8e4m3) (x1 : Vec Ideal S4x2560x7168 .bf16) (x2 : Vec Ideal S4x2560x1 .i32) (x3 : Vec Ideal S4x4096x7168 .fp8e4m3) (x4 : Vec Ideal S4x32x7168 .bf16) (x5 : Vec Ideal S4x7168x2048 .fp8e4m3) (x6 : Vec Ideal S4x56x2048 .bf16) (x7 : Vec Ideal S255 .f32) (h : IsThr x7) (b : Fin 4) (s : Fin 2560) (g : Fin 56) (k : Fin 128) :
    k0_pay10 (k0_pay16 x0 x1 x2 x3 x4 x5 x6 x7) x5 x6 (ix4 b s g k) = YR x0 x1 x2 x3 x4 x5 x6 x7 b s ⟨g.val * 128 + k.val, by omega⟩ := by
  refine (pay10_apply _ x5 x6 b s g k).trans ?_
  unfold YR Cert.Spec.second
  refine Finset.sum_congr rfl fun f _ => congrArg (· * _) ?_
  unfold k0_pay16
  rw [pay9_apply]
  exact congrArg₂ (fun p q : EReal => p * q) (pay7_at x0 x1 x2 x3 x4 x5 x6 x7 h b s f) (pay8_at x0 x1 x2 x3 x4 x5 x6 x7 h b s ⟨f.val / 128, by omega⟩)

theorem out8_at (x0 : Vec Ideal S4x2560x7168 .fp8e4m3) (x1 : Vec Ideal S4x2560x7168 .bf16) (x2 : Vec Ideal S4x2560x1 .i32) (x3 : Vec Ideal S4x4096x7168 .fp8e4m3) (x4 : Vec Ideal S4x32x7168 .bf16) (x5 : Vec Ideal S4x7168x2048 .fp8e4m3) (x6 : Vec Ideal S4x56x2048 .bf16) (x7 : Vec Ideal S255 .f32) (h : IsThr x7) (b : Fin 4) (s : Fin 2560) (f : Fin 7168) :
    out0_8 x0 x1 x2 x3 x4 x5 x6 x7 (ix3 b s f) = Cert.Spec.codes (n := 56) (YR x0 x1 x2 x3 x4 x5 x6 x7) b s f := by
  unfold out0_8
  rw [View.canon_cons_unit_zero zero3, View.ld_unit_zero zero3, View.ld_unit_zero zero3, View.ld_unit_zero zero1, pay12_eq]
  exact quantR56_codes _ _ x7 h (fun b s g k => pay10_at x0 x1 x2 x3 x4 x5 x6 x7 h b s g k) b s f

theorem out9_at (x0 : Vec Ideal S4x2560x7168 .fp8e4m3) (x1 : Vec Ideal S4x2560x7168 .bf16) (x2 : Vec Ideal S4x2560x1 .i32) (x3 : Vec Ideal S4x4096x7168 .fp8e4m3) (x4 : Vec Ideal S4x32x7168 .bf16) (x5 : Vec Ideal S4x7168x2048 .fp8e4m3) (x6 : Vec Ideal S4x56x2048 .bf16) (x7 : Vec Ideal S255 .f32) (h : IsThr x7) (b : Fin 4) (s : Fin 2560) (f : Fin 56) :
    out0_9 x0 x1 x2 x3 x4 x5 x6 x7 (ix3 b s f) = Cert.Spec.scales (n := 56) (YR x0 x1 x2 x3 x4 x5 x6 x7) b s f := by
  unfold out0_9
  rw [View.canon_cons_unit_zero zero3, View.ld_unit_zero zero3, View.ld_unit_zero zero3, View.ld_unit_zero zero1, pay11_eq]
  exact quantR56_scales _ _ x7 h (fun b s g k => pay10_at x0 x1 x2 x3 x4 x5 x6 x7 h b s g k) b s f

/-! ## One point, whole blocks -/

theorem iblk_0 (c : Dev nD) (t : Fin cfg0.N) : iblk m c 0 t = V m c main_arg0 := by
  funext y
  unfold iblk
  blk_simp
  refine congrArg (V m c main_arg0) ?_
  funext q
  apply Fin.ext
  fin_cases q
  · show 0 + 1 * (y 0).val = (y 0).val
    omega
  · show 0 + 1 * (y 1).val = (y 1).val
    omega
  · show 0 + 1 * (y 2).val = (y 2).val
    omega

theorem iblk_1 (c : Dev nD) (t : Fin cfg0.N) : iblk m c 1 t = V m c main_v13 := by
  funext y
  unfold iblk
  blk_simp
  refine congrArg (V m c main_v13) ?_
  funext q
  apply Fin.ext
  fin_cases q
  · show 0 + 1 * (y 0).val = (y 0).val
    omega
  · show 0 + 1 * (y 1).val = (y 1).val
    omega
  · show 0 + 1 * (y 2).val = (y 2).val
    omega

theorem iblk_2 (c : Dev nD) (t : Fin cfg0.N) : iblk m c 2 t = V m c main_v4 := by
  funext y
  unfold iblk
  blk_simp
  refine congrArg (V m c main_v4) ?_
  funext q
  apply Fin.ext
  fin_cases q
  · show 0 + 1 * (y 0).val = (y 0).val
    omega
  · show 0 + 1 * (y 1).val = (y 1).val
    omega
  · show 0 + 1 * (y 2).val = (y 2).val
    omega

theorem iblk_3 (c : Dev nD) (t : Fin cfg0.N) : iblk m c 3 t = V m c main_arg3 := by
  funext y
  unfold iblk
  blk_simp
  refine congrArg (V m c main_arg3) ?_
  funext q
  apply Fin.ext
  fin_cases q
  · show 0 + 1 * (y 0).val = (y 0).val
    omega
  · show 0 + 1 * (y 1).val = (y 1).val
    omega
  · show 0 + 1 * (y 2).val = (y 2).val
    omega

theorem iblk_4 (c : Dev nD) (t : Fin cfg0.N) : iblk m c 4 t = V m c main_v16 := by
  funext y
  unfold iblk
  blk_simp
  refine congrArg (V m c main_v16) ?_
  funext q
  apply Fin.ext
  fin_cases q
  · show 0 + 1 * (y 0).val = (y 0).val
    omega
  · show 0 + 1 * (y 1).val = (y 1).val
    omega
  · show 0 + 1 * (y 2).val = (y 2).val
    omega

theorem iblk_5 (c : Dev nD) (t : Fin cfg0.N) : iblk m c 5 t = V m c main_arg5 := by
  funext y
  unfold iblk
  blk_simp
  refine congrArg (V m c main_arg5) ?_
  funext q
  apply Fin.ext
  fin_cases q
  · show 0 + 1 * (y 0).val = (y 0).val
    omega
  · show 0 + 1 * (y 1).val = (y 1).val
    omega
  · show 0 + 1 * (y 2).val = (y 2).val
    omega

theorem iblk_6 (c : Dev nD) (t : Fin cfg0.N) : iblk m c 6 t = V m c main_v19 := by
  funext y
  unfold iblk
  blk_simp
  refine congrArg (V m c main_v19) ?_
  funext q
  apply Fin.ext
  fin_cases q
  · show 0 + 1 * (y 0).val = (y 0).val
    omega
  · show 0 + 1 * (y 1).val = (y 1).val
    omega
  · show 0 + 1 * (y 2).val = (y 2).val
    omega

theorem iblk_7 (c : Dev nD) (t : Fin cfg0.N) : iblk m c 7 t = V m c main_v10 := by
  funext y
  unfold iblk
  blk_simp
  refine congrArg (V m c main_v10) ?_
  funext q
  apply Fin.ext
  fin_cases q
  · show 0 + 1 * (y 0).val = (y 0).val
    omega

/-- The first layer's gated products, from the arguments. -/
def HV (c : Dev nD) : Fin 4 → Fin 2560 → Fin (16 * 128) → EReal := HR (V m c main_arg0) (V m c main_v13) (V m c main_v4) (V m c main_arg3) (V m c main_v16)
/-- The second layer's products, from the arguments. -/
def YV (c : Dev nD) : Fin 4 → Fin 2560 → Fin (56 * 128) → EReal := YR (V m c main_arg0) (V m c main_v13) (V m c main_v4) (V m c main_arg3) (V m c main_v16) (V m c main_arg5) (V m c main_v19) (V m c main_v10)

theorem arr_8 (c : Dev nD) : (dats m 0 c).arrAt 8 cfg0.N = fun i : S4x2560x7168.Idx => Cert.Spec.codes (n := 56) (YV m c) (i 0) (i 1) (i 2) := by
  refine (dats m 0 c).arrAt_eq_of_covers 8 _ (by decide +kernel) fun t hf y => ?_
  blk_simp
  rw [after0_8, iblk_0, iblk_1, iblk_2, iblk_3, iblk_4, iblk_5, iblk_6, iblk_7]
  have e0 : (win0_8.blk t).view.emb y 0 = (y (0 : Fin 3) : Fin 4) := Fin.ext (by
    show 0 + 1 * (y 0).val = (y 0).val
    omega)
  have e1 : (win0_8.blk t).view.emb y 1 = (y (1 : Fin 3) : Fin 2560) := Fin.ext (by
    show 0 + 1 * (y 1).val = (y 1).val
    omega)
  have e2 : (win0_8.blk t).view.emb y 2 = (y (2 : Fin 3) : Fin 7168) := Fin.ext (by
    show 0 + 1 * (y 2).val = (y 2).val
    omega)
  have ey : y = ix3 (y 0) (y 1) (y 2) := by funext q; fin_cases q <;> rfl
  refine Eq.trans ?_ (congr (congr (congrArg (Cert.Spec.codes (YV m c)) e0.symm) e1.symm) e2.symm)
  exact (congrArg (out0_8 (V m c main_arg0) (V m c main_v13) (V m c main_v4) (V m c main_arg3) (V m c main_v16) (V m c main_arg5) (V m c main_v19) (V m c main_v10)) ey).trans (out8_at (V m c main_arg0) (V m c main_v13) (V m c main_v4) (V m c main_arg3) (V m c main_v16) (V m c main_arg5) (V m c main_v19) (V m c main_v10) (v10_at m c) _ _ _)

theorem arr_9 (c : Dev nD) : (dats m 0 c).arrAt 9 cfg0.N = fun i : S4x2560x56.Idx => Cert.Spec.scales (n := 56) (YV m c) (i 0) (i 1) (i 2) := by
  refine (dats m 0 c).arrAt_eq_of_covers 9 _ (by decide +kernel) fun t hf y => ?_
  blk_simp
  rw [after0_9, iblk_0, iblk_1, iblk_2, iblk_3, iblk_4, iblk_5, iblk_6, iblk_7]
  have e0 : (win0_9.blk t).view.emb y 0 = (y (0 : Fin 3) : Fin 4) := Fin.ext (by
    show 0 + 1 * (y 0).val = (y 0).val
    omega)
  have e1 : (win0_9.blk t).view.emb y 1 = (y (1 : Fin 3) : Fin 2560) := Fin.ext (by
    show 0 + 1 * (y 1).val = (y 1).val
    omega)
  have e2 : (win0_9.blk t).view.emb y 2 = (y (2 : Fin 3) : Fin 56) := Fin.ext (by
    show 0 + 1 * (y 2).val = (y 2).val
    omega)
  have ey : y = ix3 (y 0) (y 1) (y 2) := by funext q; fin_cases q <;> rfl
  refine Eq.trans ?_ (congr (congr (congrArg (Cert.Spec.scales (YV m c)) e0.symm) e1.symm) e2.symm)
  exact (congrArg (out0_9 (V m c main_arg0) (V m c main_v13) (V m c main_v4) (V m c main_arg3) (V m c main_v16) (V m c main_arg5) (V m c main_v19) (V m c main_v10)) ey).trans (out9_at (V m c main_arg0) (V m c main_v13) (V m c main_v4) (V m c main_arg3) (V m c main_v16) (V m c main_arg5) (V m c main_v19) (V m c main_v10) (v10_at m c) _ _ _)

theorem arr_10 (c : Dev nD) : (dats m 0 c).arrAt 10 cfg0.N = fun i : S4x2560x2048.Idx => Cert.Spec.codes (n := 16) (HV m c) (i 0) (i 1) (i 2) := by
  refine (dats m 0 c).arrAt_eq_of_covers 10 _ (by decide +kernel) fun t hf y => ?_
  blk_simp
  rw [after0_10, iblk_0, iblk_1, iblk_2, iblk_3, iblk_4, iblk_5, iblk_6, iblk_7]
  have e0 : (win0_10.blk t).view.emb y 0 = (y (0 : Fin 3) : Fin 4) := Fin.ext (by
    show 0 + 1 * (y 0).val = (y 0).val
    omega)
  have e1 : (win0_10.blk t).view.emb y 1 = (y (1 : Fin 3) : Fin 2560) := Fin.ext (by
    show 0 + 1 * (y 1).val = (y 1).val
    omega)
  have e2 : (win0_10.blk t).view.emb y 2 = (y (2 : Fin 3) : Fin 2048) := Fin.ext (by
    show 0 + 1 * (y 2).val = (y 2).val
    omega)
  have ey : y = ix3 (y 0) (y 1) (y 2) := by funext q; fin_cases q <;> rfl
  refine Eq.trans ?_ (congr (congr (congrArg (Cert.Spec.codes (HV m c)) e0.symm) e1.symm) e2.symm)
  exact (congrArg (out0_10 (V m c main_arg0) (V m c main_v13) (V m c main_v4) (V m c main_arg3) (V m c main_v16) (V m c main_arg5) (V m c main_v19) (V m c main_v10)) ey).trans (out10_at (V m c main_arg0) (V m c main_v13) (V m c main_v4) (V m c main_arg3) (V m c main_v16) (V m c main_arg5) (V m c main_v19) (V m c main_v10) (v10_at m c) _ _ _)

theorem arr_11 (c : Dev nD) : (dats m 0 c).arrAt 11 cfg0.N = fun i : S4x2560x16.Idx => Cert.Spec.scales (n := 16) (HV m c) (i 0) (i 1) (i 2) := by
  refine (dats m 0 c).arrAt_eq_of_covers 11 _ (by decide +kernel) fun t hf y => ?_
  blk_simp
  rw [after0_11, iblk_0, iblk_1, iblk_2, iblk_3, iblk_4, iblk_5, iblk_6, iblk_7]
  have e0 : (win0_11.blk t).view.emb y 0 = (y (0 : Fin 3) : Fin 4) := Fin.ext (by
    show 0 + 1 * (y 0).val = (y 0).val
    omega)
  have e1 : (win0_11.blk t).view.emb y 1 = (y (1 : Fin 3) : Fin 2560) := Fin.ext (by
    show 0 + 1 * (y 1).val = (y 1).val
    omega)
  have e2 : (win0_11.blk t).view.emb y 2 = (y (2 : Fin 3) : Fin 16) := Fin.ext (by
    show 0 + 1 * (y 2).val = (y 2).val
    omega)
  have ey : y = ix3 (y 0) (y 1) (y 2) := by funext q; fin_cases q <;> rfl
  refine Eq.trans ?_ (congr (congr (congrArg (Cert.Spec.scales (HV m c)) e0.symm) e1.symm) e2.symm)
  exact (congrArg (out0_11 (V m c main_arg0) (V m c main_v13) (V m c main_v4) (V m c main_arg3) (V m c main_v16) (V m c main_arg5) (V m c main_v19) (V m c main_v10)) ey).trans (out11_at (V m c main_arg0) (V m c main_v13) (V m c main_v4) (V m c main_arg3) (V m c main_v16) (V m c main_arg5) (V m c main_v19) (V m c main_v10) (v10_at m c) _ _ _)

end Cert.ReferenceIdeal.Value
end
-- ==== Proof.Value.QuantK.lean ====
module

public import proofs.«01_k».proof.Proof.Gen.KernelIdeal.Skeleton
public import proofs.«01_k».proof.Proof.Value.Quant
public import Idealize.ShloMosaic.Lib.Pointwise

/-!
# The quantiser of the kernel, on a tile of 512 rows and 128 columns
-/

@[expose] public section
set_option maxRecDepth 16384
noncomputable section
namespace Cert.KernelIdeal.Gen
open Idealize.ShloMosaic Idealize.ShloMosaic.TcCoe Idealize.SL.Sem

/-- One comparison of the search, on every row. -/
def stepV (p : FVec Ideal S512x1 .f32) (e : IVec S512x1 32) (k : BitVec 32) : IVec S512x1 32 :=
  select (cmpf .ole (bitcastToFloat .f32 (addi e (broadcast S512x1 k))) p) (addi e (broadcast S512x1 k)) e

theorem stepV_apply (p : FVec Ideal S512x1 .f32) (e : IVec S512x1 32) (k : BitVec 32) (x : S512x1.Idx) :
    stepV p e k x = Cert.Q.kq (p x) (e x) k := id rfl

/-- The search. -/
def fieldV (p : FVec Ideal S512x1 .f32) : IVec S512x1 32 :=
  stepV p (stepV p (stepV p (stepV p (stepV p (stepV p (stepV p (stepV p (broadcast S512x1 0#32) 1073741824#32) 536870912#32) 268435456#32) 134217728#32)
    67108864#32) 33554432#32) 16777216#32) 8388608#32

theorem fieldV_apply (p : FVec Ideal S512x1 .f32) (x : S512x1.Idx) : fieldV p x = Cert.Q.field (p x) := by
  unfold fieldV Cert.Q.field
  simp only [stepV_apply]
  rfl

def expoV' (p : FVec Ideal S512x1 .f32) (f : IVec S512x1 32) : IVec S512x1 32 :=
  select (cmpi .eq (select (cmpf .one p p) (broadcast S512x1 2139095040#32) f) (broadcast S512x1 0#32)) (broadcast S512x1 1056964608#32)
    (select (cmpf .one p p) (broadcast S512x1 2139095040#32) f)

theorem expoV'_apply (p : FVec Ideal S512x1 .f32) (f : IVec S512x1 32) (x : S512x1.Idx) :
    expoV' p f x = Scalar.select (IntOp.cmpi .eq (Scalar.select (Ideal.cmp .one (p x) (p x)) 2139095040#32 (f x)) 0#32) 1056964608#32
    (Scalar.select (Ideal.cmp .one (p x) (p x)) 2139095040#32 (f x)) := id rfl

def expoV (p : FVec Ideal S512x1 .f32) : IVec S512x1 32 := expoV' p (fieldV p)

theorem expoV_apply (p : FVec Ideal S512x1 .f32) (x : S512x1.Idx) : expoV p x = Cert.Q.expo (p x) := by
  unfold expoV Cert.Q.expo
  rw [expoV'_apply, fieldV_apply]

/-- A row's largest magnitude over 448. -/
def peakV (h : FVec Ideal S512x128 .f32) : FVec Ideal S512x1 .f32 :=
  mulf (shapeCast S512x1 (multiReduction .maximumf [1] S512 (absf h) 0xFF800000#32 reduces_S512x128_S512 (.inl rfl) rfl) shapeCasts_S512_S512x1)
    (broadcast S512x1 (Scalar.ofBits .f32 0x3B124925#32))

def invV (e : IVec S512x1 32) : FVec Ideal S512x1 .f32 := bitcastToFloat .f32 (subi (broadcast S512x1 2122317824#32) e)
def scaleV (e : IVec S512x1 32) : FVec Ideal S512x1 .f32 := bitcastToFloat .f32 (addi e (broadcast S512x1 8388608#32))

def codeV (h : FVec Ideal S512x128 .f32) (e : IVec S512x1 32) : FVec Ideal S1x512x128 .fp8e4m3 :=
  shapeCast S1x512x128 (truncf .fp8e4m3 (minimumf (broadcast S512x128 (Scalar.ofBits .f32 0x43E00000#32)) (maximumf (broadcast S512x128 (Scalar.ofBits .f32 0xC3E00000#32))
    (mulf h (broadcastTo S512x128 (invV e) broadcasts_S512x1_S512x128)))) bitsLt_fp8e4m3_f32) shapeCasts_S512x128_S1x512x128

theorem peakV_apply (h : FVec Ideal S512x128 .f32) (x : S512x1.Idx) : peakV h x = Cert.Q.peak (fun k => h (ix2 (x 0) k)) := by
  pointwise [peakV]
  rfl
theorem scaleV_apply (p : FVec Ideal S512x1 .f32) (x : S512x1.Idx) : scaleV (expoV p) x = Cert.Q.scale (p x) := by
  unfold scaleV Cert.Q.scale
  rw [← expoV_apply]; rfl
theorem invV_apply (p : FVec Ideal S512x1 .f32) (x : S512x1.Idx) : invV (expoV p) x = Cert.Q.inv (p x) := by
  unfold invV Cert.Q.inv
  rw [← expoV_apply]; rfl
theorem codeV_apply (h : FVec Ideal S512x128 .f32) (p : FVec Ideal S512x1 .f32) (x : S1x512x128.Idx) :
    codeV h (expoV p) x = Cert.Q.code (h (ix2 (x 1) (x 2))) (p (ix2 (x 1) 0)) := by
  unfold codeV Cert.Q.code
  rw [← invV_apply]
  generalize invV (expoV p) = q
  pointwise

/-! ## The two column groups of call 0 -/

def tile0 (G : FVec Ideal S512x256 .f32) : FVec Ideal S512x128 .f32 := extractStridedSlice S512x128 ![0, 0] G slices_S512x256_o0_0_S512x128
def tile1 (G : FVec Ideal S512x256 .f32) : FVec Ideal S512x128 .f32 := extractStridedSlice S512x128 ![0, 128] G slices_S512x256_o0_128_S512x128

theorem pay94_eq (p : FVec Ideal S512x1 .f32) : k0_pay94 (F := Ideal) p k0_pay91 k0_pay92 (k0_pay93 (F := Ideal)) = expoV p := rfl
theorem pay95_eq (p : FVec Ideal S512x1 .f32) : k0_pay95 (F := Ideal) p k0_pay91 k0_pay92 k0_pay93 = scaleV (expoV p) := rfl
theorem pay97_eq (h : FVec Ideal S512x128 .f32) (e : IVec S512x1 32) : k0_pay97 (F := Ideal) h e k0_pay96 = codeV h e := rfl
theorem pay104_eq (G : FVec Ideal S512x256 .f32) : k0_pay104 (F := Ideal) (k0_pay100 G) (k0_pay101 G) (k0_pay102 G) (k0_pay103 G) = expoV (peakV (tile1 G)) := rfl
theorem pay105_eq (G : FVec Ideal S512x256 .f32) : k0_pay105 (F := Ideal) (k0_pay100 G) (k0_pay101 G) (k0_pay102 G) (k0_pay103 G) = scaleV (expoV (peakV (tile1 G))) := rfl

theorem pay1_eq (G : FVec Ideal S512x256 .f32) : k0_pay1 (F := Ideal) (k0_pay106 (k0_pay99 G) (k0_pay100 G) (k0_pay101 G) (k0_pay102 G) (k0_pay103 G)) (Scalar.ofBits .f32 0x43E00000#32) k0_pay107
    = codeV (tile1 G) (expoV (peakV (tile1 G))) := rfl
theorem pay89_eq (x : Vec Ideal S512x7168 .bf16) (w : Vec Ideal S256x7168 .bf16) (y : Vec Ideal S512x7168 .bf16) (u : Vec Ideal S256x7168 .bf16) :
    k0_pay89 x w y u = tile0 (k0_pay88 x w y u) := rfl
theorem pay90_eq (x : Vec Ideal S512x7168 .bf16) (w : Vec Ideal S256x7168 .bf16) (y : Vec Ideal S512x7168 .bf16) (u : Vec Ideal S256x7168 .bf16) :
    k0_pay90 x w y u = peakV (tile0 (k0_pay88 x w y u)) := rfl

end Cert.KernelIdeal.Gen
end
-- ==== Proof.Value.Run0V.lean ====
module

public import proofs.«01_k».proof.Proof.KernelIdeal.Data0
public import proofs.«01_k».proof.Proof.Value.QuantK
public import Idealize.ShloMosaic.Lib.Pipeline.ValueKit
public import Idealize.ShloMosaic.Lib.Pipeline.ReadBack

/-!
# What one point of call 0 leaves, index by index
-/

@[expose] public section
set_option maxRecDepth 16384
noncomputable section
namespace Cert.KernelIdeal.Gen
open Idealize.ShloMosaic Idealize.ShloMosaic.TcCoe Idealize.SL.Sem
open Idealize.ShloMosaic.Pipeline (Dat Cfg Window)

/-- A widened weight tile: each code times its block's scale. -/
def wgt (w : Vec Ideal S1x256x7168 .fp8e4m3) (s : Vec Ideal S1x2x1x7168 .bf16) : Vec Ideal S256x7168 .bf16 :=
  fun y => (w (ix3 0 (y 0) (y 1)) : EReal) * (s (ix4 0 ⟨(y 0).val / 128, by have : (y 0).val < 256 := (y 0).isLt; omega⟩ 0 (y 1)) : EReal)

theorem wgt1_eq (w : Vec Ideal S1x256x7168 .fp8e4m3) (s : Vec Ideal S1x2x1x7168 .bf16) :
    (View.whole cc0_scratch1).readCov (Val := Elt Ideal)
      [⟨Rect.unit ![128, 0] ![128, 7168] inb_S256x7168_S128x7168_128_0,
          k0_pay84 (View.ld w (Rect.unit ![0, 128, 0] ![1, 128, 7168] inb_S1x256x7168_S1x128x7168_0_128_0))
            (View.ld s (Rect.unit ![0, 1, 0, 0] ![1, 1, 1, 7168] inb_S1x2x1x7168_S1x1x1x7168_0_1_0_0))⟩,
        ⟨Rect.unit ![0, 0] ![128, 7168] inb_S256x7168_S128x7168_0_0,
          k0_pay83 (View.ld w (Rect.unit ![0, 0, 0] ![1, 128, 7168] inb_S1x256x7168_S1x128x7168_0_0_0))
            (View.ld s (Rect.unit ![0, 0, 0, 0] ![1, 1, 1, 7168] inb_S1x2x1x7168_S1x1x1x7168_0_0_0_0))⟩]
      (Rect.unit ![0, 0] ![256, 7168] inb_S256x7168_S256x7168_0_0).toLoadRect = wgt w s := by
  rw [View.readCov_eq_canon']
  funext y
  canon_tiles x h
  · pointwise [k0_pay84]
    simp [Rect.idx_unit_val] at h0 h1
    unfold wgt
    congr 1 <;> blk_ext
  · pointwise [k0_pay83]
    simp [Rect.idx_unit_val] at h0 h1
    unfold wgt
    congr 1 <;> blk_ext

theorem wgt2_eq (w : Vec Ideal S1x256x7168 .fp8e4m3) (s : Vec Ideal S1x2x1x7168 .bf16) :
    (View.whole cc0_scratch2).readCov (Val := Elt Ideal)
      [⟨Rect.unit ![128, 0] ![128, 7168] inb_S256x7168_S128x7168_128_0,
          k0_pay87 (View.ld w (Rect.unit ![0, 128, 0] ![1, 128, 7168] inb_S1x256x7168_S1x128x7168_0_128_0))
            (View.ld s (Rect.unit ![0, 1, 0, 0] ![1, 1, 1, 7168] inb_S1x2x1x7168_S1x1x1x7168_0_1_0_0))⟩,
        ⟨Rect.unit ![0, 0] ![128, 7168] inb_S256x7168_S128x7168_0_0,
          k0_pay86 (k0_pay85 (View.ld w (Rect.unit ![0, 0, 0] ![1, 128, 7168] inb_S1x256x7168_S1x128x7168_0_0_0))
            (View.ld s (Rect.unit ![0, 0, 0, 0] ![1, 1, 1, 7168] inb_S1x2x1x7168_S1x1x1x7168_0_0_0_0)))⟩]
      (Rect.unit ![0, 0] ![256, 7168] inb_S256x7168_S256x7168_0_0).toLoadRect = wgt w s := by
  rw [View.readCov_eq_canon']
  funext y
  canon_tiles x h
  · pointwise [k0_pay87]
    simp [Rect.idx_unit_val] at h0 h1
    unfold wgt
    congr 1 <;> blk_ext
  · pointwise [k0_pay86, k0_pay85]
    simp [Rect.idx_unit_val] at h0 h1
    unfold wgt
    congr 1 <;> blk_ext

/-- A tile's codes: 128 columns share a peak. -/
def codes0 (G : FVec Ideal S512x256 .f32) (y : S1x512x256.Idx) : EReal :=
  Cert.Q.code (G (ix2 (y 1) (y 2))) (Cert.Q.peak fun k => G (ix2 (y 1) ⟨(y 2).val / 128 * 128 + k.val, by have : (y 2).val < 256 := (y 2).isLt; omega⟩))

theorem codeV_tile0 (G : FVec Ideal S512x256 .f32) (x : S1x512x128.Idx) (y : S1x512x256.Idx) (h1 : (y 1).val = (x 1).val) (h2 : (y 2).val = (x 2).val) :
    codeV (tile0 G) (expoV (peakV (tile0 G))) x = codes0 G y := by
  have h2' : (x 2).val < 128 := (x 2).isLt
  rw [codeV_apply, peakV_apply]
  unfold codes0 tile0
  congr 1
  · pointwise; blk_ext
  · congr 1; funext k; pointwise; blk_ext

theorem codeV_tile1 (G : FVec Ideal S512x256 .f32) (x : S1x512x128.Idx) (y : S1x512x256.Idx) (h1 : (y 1).val = (x 1).val) (h2 : (y 2).val = 128 + (x 2).val) :
    codeV (tile1 G) (expoV (peakV (tile1 G))) x = codes0 G y := by
  have h2' : (x 2).val < 128 := (x 2).isLt
  rw [codeV_apply, peakV_apply]
  unfold codes0 tile1
  congr 1
  · pointwise; blk_ext
  · congr 1; funext k; pointwise; blk_ext

/-- The codes stored over a widened tile of rows. -/
theorem codes_canon (x : Vec Ideal S512x7168 .bf16) (L R : Vec Ideal S256x7168 .bf16) (y : S1x512x256.Idx) :
    View.canon (Val := Elt Ideal) (e := .fp8e4m3)
      [⟨Rect.unit ![0, 0, 128] ![1, 512, 128] inb_S1x512x256_S1x512x128_0_0_128,
          k0_pay1 (k0_pay106 (k0_pay99 (k0_pay88 x L x R)) (k0_pay100 (k0_pay88 x L x R))
              (k0_pay101 (k0_pay88 x L x R)) (k0_pay102 (k0_pay88 x L x R)) (k0_pay103 (k0_pay88 x L x R)))
            (Scalar.ofBits FTy.f32 0x43E00000#32) k0_pay107⟩,
        ⟨Rect.unit ![0, 0, 0] ![1, 512, 128] inb_S1x512x256_S1x512x128_0_0_0,
          k0_pay97 (k0_pay89 x L x R) (k0_pay94 (k0_pay90 x L x R) k0_pay91 k0_pay92 k0_pay93) k0_pay96⟩] y
      = codes0 (k0_pay88 x L x R) y := by
  rw [pay1_eq, pay89_eq, pay90_eq, pay94_eq, pay97_eq]
  generalize k0_pay88 x L x R = G
  canon_tiles x h
  · exact codeV_tile1 G x y h1 h2
  · exact codeV_tile0 G x y h1 h2

/-- The scale of column group `r` of a tile. -/
def scale0 (G : FVec Ideal S512x256 .f32) (r : Fin 2) (y : Fin 512) : EReal :=
  Cert.Q.scale (Cert.Q.peak fun k => G (ix2 y ⟨r.val * 128 + k.val, by omega⟩))

theorem scaleV_tile0 (G : FVec Ideal S512x256 .f32) (x : S512x1.Idx) : scaleV (expoV (peakV (tile0 G))) x = scale0 G 0 (x 0) := by
  rw [scaleV_apply, peakV_apply]
  unfold scale0 tile0
  congr 2; funext k; pointwise; blk_ext
theorem scaleV_tile1 (G : FVec Ideal S512x256 .f32) (x : S512x1.Idx) : scaleV (expoV (peakV (tile1 G))) x = scale0 G 1 (x 0) := by
  rw [scaleV_apply, peakV_apply]
  unfold scale0 tile1
  congr 2; funext k; pointwise; blk_ext

theorem lane_iff (n r l : ℕ) (hn : n < 8) (hr : r < 2) (hl : l < 16) : BitVec.ofNat 32 l = BitVec.ofNat 32 n * 2#32 + BitVec.ofNat 32 r ↔ l = n * 2 + r := by
  constructor
  · intro h
    have := congrArg BitVec.toNat h
    simp only [BitVec.toNat_add, BitVec.toNat_mul, BitVec.toNat_ofNat] at this
    omega
  · rintro rfl
    apply BitVec.eq_of_toNat_eq
    simp only [BitVec.toNat_add, BitVec.toNat_mul, BitVec.toNat_ofNat]
    omega

theorem sel_eq (p q : BitVec 32) (A B : EReal) : Scalar.select (IntOp.cmpi .eq p q) A B = if p = q then A else B := by
  unfold Scalar.select IntOp.cmpi
  by_cases h : p = q
  · simp [h]
  · have : (p == q) = false := by simpa using h
    simp [this, h]

theorem pay98_apply (n : ℕ) (hn : n < 8) (G : FVec Ideal S512x1 .f32) (s : Vec Ideal S1x512x16 .f32) (y : S1x512x16.Idx) :
    k0_pay98 (F := Ideal) (BitVec.ofNat 32 n) (iota Kind.tc S512x16 32 [1] iota_S512x16_d1_w32) G s y
      = if (y 2).val = n * 2 + 0 then G (ix2 (y 1) 0) else s y := by
  have h2 : (y 2).val < 16 := (y 2).isLt
  pointwise [k0_pay98]
  refine (sel_eq _ _ _ _).trans ?_
  have := lane_iff n 0 (y 2).val hn (by omega) h2
  exact if_congr this rfl (by congr 1; blk_ext)

theorem pay2_apply (i : grid0.Coords) (G : FVec Ideal S512x1 .f32) (s : Vec Ideal S1x512x16 .f32) (y : S1x512x16.Idx) :
    k0_pay2 (F := Ideal) i (iota Kind.tc S512x16 32 [1] iota_S512x16_d1_w32) G s y
      = if (y 2).val = (i 2).val * 2 + 1 then G (ix2 (y 1) 0) else s y := by
  have h2 : (y 2).val < 16 := (y 2).isLt
  pointwise [k0_pay2]
  refine (sel_eq _ _ _ _).trans ?_
  have := lane_iff (i 2).val 1 (y 2).val (i 2).isLt (by omega) h2
  exact if_congr this rfl (by congr 1; blk_ext)

/-- A row of a tile times a row of the widened weights. -/
def dot0 (x : Vec Ideal S512x7168 .bf16) (L : Vec Ideal S256x7168 .bf16) (r : Fin 512) (j : Fin 256) : EReal :=
  ∑ k : Fin 7168, (x (ix2 r k) : EReal) * (L (ix2 j k) : EReal)

theorem pay88_apply (x : Vec Ideal S512x7168 .bf16) (L R : Vec Ideal S256x7168 .bf16) (r : Fin 512) (j : Fin 256) :
    k0_pay88 x L x R (ix2 r j) = dot0 x L r j * Ideal.logistic (dot0 x L r j) * dot0 x R r j := by
  pointwise [k0_pay88]
  rfl

variable (a : (pcfg0 (F := Ideal)).Adm)
variable (V : (c : Dev nD) → (b : Ref sig .tc) → Buf (Elt Ideal) ((c : Thread nD τ).loc b))

/-- The gated products of the tile at point `t`, from the widened rows. -/
def tileG (c : Dev nD) (t : Fin (cfg0 a).N) (x : Vec Ideal S512x7168 .bf16) : FVec Ideal S512x256 .f32 :=
  k0_pay88 x (wgt (iblk0 a V c 2 t) (iblk0 a V c 4 t)) x (wgt (iblk0 a V c 3 t) (iblk0 a V c 5 t))

/-- The two scratches of widened weights, read whole. -/
theorem wgt1_of {w' w : Vec Ideal S1x256x7168 .fp8e4m3} {s' s : Vec Ideal S1x2x1x7168 .bf16} (hw : w' = w) (hs : s' = s) :
    (View.whole cc0_scratch1).readCov (Val := Elt Ideal)
      [⟨Rect.unit ![128, 0] ![128, 7168] inb_S256x7168_S128x7168_128_0,
          k0_pay84 (View.ld w' (Rect.unit ![0, 128, 0] ![1, 128, 7168] inb_S1x256x7168_S1x128x7168_0_128_0))
            (View.ld s' (Rect.unit ![0, 1, 0, 0] ![1, 1, 1, 7168] inb_S1x2x1x7168_S1x1x1x7168_0_1_0_0))⟩,
        ⟨Rect.unit ![0, 0] ![128, 7168] inb_S256x7168_S128x7168_0_0,
          k0_pay83 (View.ld w' (Rect.unit ![0, 0, 0] ![1, 128, 7168] inb_S1x256x7168_S1x128x7168_0_0_0))
            (View.ld s' (Rect.unit ![0, 0, 0, 0] ![1, 1, 1, 7168] inb_S1x2x1x7168_S1x1x1x7168_0_0_0_0))⟩]
      (Rect.unit ![0, 0] ![256, 7168] inb_S256x7168_S256x7168_0_0).toLoadRect = wgt w s := by
  subst hw hs; exact wgt1_eq _ _
theorem wgt2_of {w' w : Vec Ideal S1x256x7168 .fp8e4m3} {s' s : Vec Ideal S1x2x1x7168 .bf16} (hw : w' = w) (hs : s' = s) :
    (View.whole cc0_scratch2).readCov (Val := Elt Ideal)
      [⟨Rect.unit ![128, 0] ![128, 7168] inb_S256x7168_S128x7168_128_0,
          k0_pay87 (View.ld w' (Rect.unit ![0, 128, 0] ![1, 128, 7168] inb_S1x256x7168_S1x128x7168_0_128_0))
            (View.ld s' (Rect.unit ![0, 1, 0, 0] ![1, 1, 1, 7168] inb_S1x2x1x7168_S1x1x1x7168_0_1_0_0))⟩,
        ⟨Rect.unit ![0, 0] ![128, 7168] inb_S256x7168_S128x7168_0_0,
          k0_pay86 (k0_pay85 (View.ld w' (Rect.unit ![0, 0, 0] ![1, 128, 7168] inb_S1x256x7168_S1x128x7168_0_0_0))
            (View.ld s' (Rect.unit ![0, 0, 0, 0] ![1, 1, 1, 7168] inb_S1x2x1x7168_S1x1x1x7168_0_0_0_0)))⟩]
      (Rect.unit ![0, 0] ![256, 7168] inb_S256x7168_S256x7168_0_0).toLoadRect = wgt w s := by
  subst hw hs; exact wgt2_eq _ _

/-- The scales stored over a widened tile of rows: two lanes are replaced. -/
theorem scales_canon (i : grid0.Coords) (G : FVec Ideal S512x256 .f32) (s : Vec Ideal S1x512x16 .f32) (A : FVec Ideal S512x1 .f32) (hA : ∀ r, A (ix2 r 0) = scale0 G 0 r)
    (B : FVec Ideal S512x1 .f32) (hB : ∀ r, B (ix2 r 0) = scale0 G 1 r) (y : S1x512x16.Idx) (l : List ((rect : Rect S1x512x16) × Vec Ideal rect.shape .f32)) :
    View.canon (Val := Elt Ideal) (e := .f32)
      (⟨Rect.unit ![0, 0, 0] ![1, 512, 16] inb_S1x512x16_S1x512x16_0_0_0, k0_pay2 i (iota Kind.tc S512x16 32 [1] iota_S512x16_d1_w32) B
          (k0_pay98 (BitVec.ofNat 32 (i 2).val) (iota Kind.tc S512x16 32 [1] iota_S512x16_d1_w32) A s)⟩ :: l) y
      = if (y 2).val = (i 2).val * 2 + 1 then scale0 G 1 (y 1) else if (y 2).val = (i 2).val * 2 + 0 then scale0 G 0 (y 1) else s y := by
  rw [View.canon_cons_unit_zero (by funext q; fin_cases q <;> rfl)]
  refine (pay2_apply i B _ y).trans ?_
  rw [pay98_apply _ (i 2).isLt A s y]
  exact if_congr Iff.rfl (hB _) (if_congr Iff.rfl (hA _) rfl)

set_option maxHeartbeats 1000000 in
theorem stepB0_codes (c : Dev nD) (t : Fin (cfg0 a).N) (h1 : k0_cond1 (grid0.coords t) (wd0 a t) = 1#1) (h2 : ¬k0_cond2 (grid0.coords t) = 1#1) (acc : St0 Ideal) (y : S1x512x256.Idx) :
   (stepB0 a V c t h1 h2 acc).1 y = codes0 (tileG a V c t acc.2.2) y := by
  unfold stepB0
  dsimp only
  frame_open
  simp (disch := decide) only [↓ View.readCov_skip, ↓ View.readCov_cons_toLoadRect, ↓ View.readCov_fill]
  frame_out
  simp only [read_unread_whole]
  generalize hL : (View.whole cc0_scratch1).readCov (Val := Elt Ideal) _ _ = L
  generalize hR : (View.whole cc0_scratch2).readCov (Val := Elt Ideal) _ _ = R
  have hL' := hL.symm.trans (wgt1_of ((hs0_2 a t).read_unread _) ((hs0_4 a t).read_unread _))
  have hR' := hR.symm.trans (wgt2_of ((hs0_3 a t).read_unread _) ((hs0_5 a t).read_unread _))
  refine (codes_canon _ _ _ y).trans ?_
  rw [hL', hR']
  rfl

set_option maxHeartbeats 1000000 in
theorem stepB0_scales (c : Dev nD) (t : Fin (cfg0 a).N) (h1 : k0_cond1 (grid0.coords t) (wd0 a t) = 1#1) (h2 : ¬k0_cond2 (grid0.coords t) = 1#1) (acc : St0 Ideal) (y : S1x512x16.Idx) :
   (stepB0 a V c t h1 h2 acc).2.1 y = if (y 2).val = (grid0.coords t 2).val * 2 + 1 then scale0 (tileG a V c t acc.2.2) 1 (y 1)
     else if (y 2).val = (grid0.coords t 2).val * 2 + 0 then scale0 (tileG a V c t acc.2.2) 0 (y 1) else acc.2.1 y := by
  unfold stepB0
  dsimp only
  frame_open
  simp (disch := decide) only [↓ View.readCov_skip, ↓ View.readCov_cons_toLoadRect, ↓ View.readCov_fill]
  frame_out
  simp only [read_unread_whole]
  generalize hL : (View.whole cc0_scratch1).readCov (Val := Elt Ideal) _ _ = L
  generalize hR : (View.whole cc0_scratch2).readCov (Val := Elt Ideal) _ _ = R
  have hL' := hL.symm.trans (wgt1_of ((hs0_2 a t).read_unread _) ((hs0_4 a t).read_unread _))
  have hR' := hR.symm.trans (wgt2_of ((hs0_3 a t).read_unread _) ((hs0_5 a t).read_unread _))
  clear hL hR
  subst hL' hR'
  refine (scales_canon _ (tileG a V c t acc.2.2) _ _ (fun r => ?_) _ (fun r => ?_) y _)
  · rw [pay90_eq, pay95_eq]; exact scaleV_tile0 _ _
  · rw [pay105_eq]; exact scaleV_tile1 _ _

end Cert.KernelIdeal.Gen
end
-- ==== Proof.Value.Run0X.lean ====
module

public import proofs.«01_k».proof.Proof.Value.Run0V

/-!
# The widened rows, and the three kinds of point of call 0
-/

@[expose] public section
set_option maxRecDepth 16384
noncomputable section
namespace Cert.KernelIdeal.Gen
open Idealize.ShloMosaic Idealize.ShloMosaic.TcCoe Idealize.SL.Sem
open Idealize.ShloMosaic.Pipeline (Dat Cfg Window)

/-- A widened tile of rows: each code of a live row times its block's scale, zero in a dead row. -/
def rows0 (v : BitVec 32) (x : Vec Ideal S1x512x7168 .fp8e4m3) (s : Vec Ideal S1x512x56 .f32) : Vec Ideal S512x7168 .bf16 :=
  fun y => if (BitVec.ofNat 32 (y 0).val).slt v = true then (x (ix3 0 (y 0) (y 1)) : EReal) * (s (ix3 0 (y 0) ⟨(y 1).val / 128, by have : (y 1).val < 7168 := (y 1).isLt; omega⟩) : EReal) else 0

theorem sel_slt (p q : BitVec 32) (A B A' B' : EReal) (hA : A = A') (hB : B = B') : Scalar.select (IntOp.cmpi .slt p q) A B = if p.slt q = true then A' else B' := by
  subst hA hB
  unfold Scalar.select IntOp.cmpi
  cases h : p.slt q <;> simp

/-- The stored pieces of a widened tile of rows, last first. -/
def pieces0 (v : BitVec 32) (x : Vec Ideal S1x512x7168 .fp8e4m3) (s : Vec Ideal S1x512x56 .f32) : List (View.Piece (Elt Ideal) S512x7168 .bf16) :=
  ⟨Rect.unit ![0, 7040] ![512, 128] inb_S512x7168_S512x128_0_7040, k0_pay81 (k0_pay80 (k0_pay5 v) (k0_pay6 s) (View.ld x (Rect.unit ![0, 0, 7040] ![1, 512, 128] inb_S1x512x7168_S1x512x128_0_0_7040)))⟩ ::
        ⟨Rect.unit ![0, 6912] ![512, 128] inb_S512x7168_S512x128_0_6912, k0_pay79 (k0_pay5 v) (k0_pay6 s) (View.ld x (Rect.unit ![0, 0, 6912] ![1, 512, 128] inb_S1x512x7168_S1x512x128_0_0_6912))⟩ ::
        ⟨Rect.unit ![0, 6784] ![512, 128] inb_S512x7168_S512x128_0_6784, k0_pay78 (k0_pay5 v) (k0_pay77 (k0_pay6 s) (View.ld x (Rect.unit ![0, 0, 6784] ![1, 512, 128] inb_S1x512x7168_S1x512x128_0_0_6784))) (Scalar.ofBits FTy.bf16 0x0000#16)⟩ ::
        ⟨Rect.unit ![0, 6656] ![512, 128] inb_S512x7168_S512x128_0_6656, k0_pay76 (k0_pay5 v) (k0_pay6 s) (View.ld x (Rect.unit ![0, 0, 6656] ![1, 512, 128] inb_S1x512x7168_S1x512x128_0_0_6656))⟩ ::
        ⟨Rect.unit ![0, 6528] ![512, 128] inb_S512x7168_S512x128_0_6528, k0_pay75 (k0_pay5 v) (k0_pay6 s) (View.ld x (Rect.unit ![0, 0, 6528] ![1, 512, 128] inb_S1x512x7168_S1x512x128_0_0_6528))⟩ ::
        ⟨Rect.unit ![0, 6400] ![512, 128] inb_S512x7168_S512x128_0_6400, k0_pay74 (k0_pay5 v) (k0_pay73 (k0_pay6 s) (View.ld x (Rect.unit ![0, 0, 6400] ![1, 512, 128] inb_S1x512x7168_S1x512x128_0_0_6400))) (Scalar.ofBits FTy.bf16 0x0000#16)⟩ ::
        ⟨Rect.unit ![0, 6272] ![512, 128] inb_S512x7168_S512x128_0_6272, k0_pay72 (k0_pay5 v) (k0_pay6 s) (View.ld x (Rect.unit ![0, 0, 6272] ![1, 512, 128] inb_S1x512x7168_S1x512x128_0_0_6272))⟩ ::
        ⟨Rect.unit ![0, 6144] ![512, 128] inb_S512x7168_S512x128_0_6144, k0_pay71 (k0_pay5 v) (k0_pay6 s) (View.ld x (Rect.unit ![0, 0, 6144] ![1, 512, 128] inb_S1x512x7168_S1x512x128_0_0_6144))⟩ ::
        ⟨Rect.unit ![0, 6016] ![512, 128] inb_S512x7168_S512x128_0_6016, k0_pay70 (k0_pay5 v) (k0_pay69 (k0_pay6 s) (View.ld x (Rect.unit ![0, 0, 6016] ![1, 512, 128] inb_S1x512x7168_S1x512x128_0_0_6016))) (Scalar.ofBits FTy.bf16 0x0000#16)⟩ ::
        ⟨Rect.unit ![0, 5888] ![512, 128] inb_S512x7168_S512x128_0_5888, k0_pay68 (k0_pay5 v) (k0_pay6 s) (View.ld x (Rect.unit ![0, 0, 5888] ![1, 512, 128] inb_S1x512x7168_S1x512x128_0_0_5888))⟩ ::
        ⟨Rect.unit ![0, 5760] ![512, 128] inb_S512x7168_S512x128_0_5760, k0_pay67 (k0_pay5 v) (k0_pay6 s) (View.ld x (Rect.unit ![0, 0, 5760] ![1, 512, 128] inb_S1x512x7168_S1x512x128_0_0_5760))⟩ ::
        ⟨Rect.unit ![0, 5632] ![512, 128] inb_S512x7168_S512x128_0_5632, k0_pay66 (k0_pay5 v) (k0_pay65 (k0_pay6 s) (View.ld x (Rect.unit ![0, 0, 5632] ![1, 512, 128] inb_S1x512x7168_S1x512x128_0_0_5632))) (Scalar.ofBits FTy.bf16 0x0000#16)⟩ ::
        ⟨Rect.unit ![0, 5504] ![512, 128] inb_S512x7168_S512x128_0_5504, k0_pay64 (k0_pay5 v) (k0_pay6 s) (View.ld x (Rect.unit ![0, 0, 5504] ![1, 512, 128] inb_S1x512x7168_S1x512x128_0_0_5504))⟩ ::
        ⟨Rect.unit ![0, 5376] ![512, 128] inb_S512x7168_S512x128_0_5376, k0_pay63 (k0_pay5 v) (k0_pay6 s) (View.ld x (Rect.unit ![0, 0, 5376] ![1, 512, 128] inb_S1x512x7168_S1x512x128_0_0_5376))⟩ ::
        ⟨Rect.unit ![0, 5248] ![512, 128] inb_S512x7168_S512x128_0_5248, k0_pay62 (k0_pay5 v) (k0_pay61 (k0_pay6 s) (View.ld x (Rect.unit ![0, 0, 5248] ![1, 512, 128] inb_S1x512x7168_S1x512x128_0_0_5248))) (Scalar.ofBits FTy.bf16 0x0000#16)⟩ ::
        ⟨Rect.unit ![0, 5120] ![512, 128] inb_S512x7168_S512x128_0_5120, k0_pay60 (k0_pay5 v) (k0_pay6 s) (View.ld x (Rect.unit ![0, 0, 5120] ![1, 512, 128] inb_S1x512x7168_S1x512x128_0_0_5120))⟩ ::
        ⟨Rect.unit ![0, 4992] ![512, 128] inb_S512x7168_S512x128_0_4992, k0_pay59 (k0_pay5 v) (k0_pay6 s) (View.ld x (Rect.unit ![0, 0, 4992] ![1, 512, 128] inb_S1x512x7168_S1x512x128_0_0_4992))⟩ ::
        ⟨Rect.unit ![0, 4864] ![512, 128] inb_S512x7168_S512x128_0_4864, k0_pay58 (k0_pay5 v) (k0_pay57 (k0_pay6 s) (View.ld x (Rect.unit ![0, 0, 4864] ![1, 512, 128] inb_S1x512x7168_S1x512x128_0_0_4864))) (Scalar.ofBits FTy.bf16 0x0000#16)⟩ ::
        ⟨Rect.unit ![0, 4736] ![512, 128] inb_S512x7168_S512x128_0_4736, k0_pay56 (k0_pay5 v) (k0_pay6 s) (View.ld x (Rect.unit ![0, 0, 4736] ![1, 512, 128] inb_S1x512x7168_S1x512x128_0_0_4736))⟩ ::
        ⟨Rect.unit ![0, 4608] ![512, 128] inb_S512x7168_S512x128_0_4608, k0_pay55 (k0_pay5 v) (k0_pay6 s) (View.ld x (Rect.unit ![0, 0, 4608] ![1, 512, 128] inb_S1x512x7168_S1x512x128_0_0_4608))⟩ ::
        ⟨Rect.unit ![0, 4480] ![512, 128] inb_S512x7168_S512x128_0_4480, k0_pay54 (k0_pay5 v) (k0_pay53 (k0_pay6 s) (View.ld x (Rect.unit ![0, 0, 4480] ![1, 512, 128] inb_S1x512x7168_S1x512x128_0_0_4480))) (Scalar.ofBits FTy.bf16 0x0000#16)⟩ ::
        ⟨Rect.unit ![0, 4352] ![512, 128] inb_S512x7168_S512x128_0_4352, k0_pay52 (k0_pay5 v) (k0_pay6 s) (View.ld x (Rect.unit ![0, 0, 4352] ![1, 512, 128] inb_S1x512x7168_S1x512x128_0_0_4352))⟩ ::
        ⟨Rect.unit ![0, 4224] ![512, 128] inb_S512x7168_S512x128_0_4224, k0_pay51 (k0_pay5 v) (k0_pay6 s) (View.ld x (Rect.unit ![0, 0, 4224] ![1, 512, 128] inb_S1x512x7168_S1x512x128_0_0_4224))⟩ ::
        ⟨Rect.unit ![0, 4096] ![512, 128] inb_S512x7168_S512x128_0_4096, k0_pay50 (k0_pay5 v) (k0_pay49 (k0_pay6 s) (View.ld x (Rect.unit ![0, 0, 4096] ![1, 512, 128] inb_S1x512x7168_S1x512x128_0_0_4096))) (Scalar.ofBits FTy.bf16 0x0000#16)⟩ ::
        ⟨Rect.unit ![0, 3968] ![512, 128] inb_S512x7168_S512x128_0_3968, k0_pay48 (k0_pay5 v) (k0_pay6 s) (View.ld x (Rect.unit ![0, 0, 3968] ![1, 512, 128] inb_S1x512x7168_S1x512x128_0_0_3968))⟩ ::
        ⟨Rect.unit ![0, 3840] ![512, 128] inb_S512x7168_S512x128_0_3840, k0_pay47 (k0_pay5 v) (k0_pay6 s) (View.ld x (Rect.unit ![0, 0, 3840] ![1, 512, 128] inb_S1x512x7168_S1x512x128_0_0_3840))⟩ ::
        ⟨Rect.unit ![0, 3712] ![512, 128] inb_S512x7168_S512x128_0_3712, k0_pay46 (k0_pay5 v) (k0_pay45 (k0_pay6 s) (View.ld x (Rect.unit ![0, 0, 3712] ![1, 512, 128] inb_S1x512x7168_S1x512x128_0_0_3712))) (Scalar.ofBits FTy.bf16 0x0000#16)⟩ ::
        ⟨Rect.unit ![0, 3584] ![512, 128] inb_S512x7168_S512x128_0_3584, k0_pay44 (k0_pay5 v) (k0_pay6 s) (View.ld x (Rect.unit ![0, 0, 3584] ![1, 512, 128] inb_S1x512x7168_S1x512x128_0_0_3584))⟩ ::
        ⟨Rect.unit ![0, 3456] ![512, 128] inb_S512x7168_S512x128_0_3456, k0_pay43 (k0_pay5 v) (k0_pay6 s) (View.ld x (Rect.unit ![0, 0, 3456] ![1, 512, 128] inb_S1x512x7168_S1x512x128_0_0_3456))⟩ ::
        ⟨Rect.unit ![0, 3328] ![512, 128] inb_S512x7168_S512x128_0_3328, k0_pay42 (k0_pay5 v) (k0_pay41 (k0_pay6 s) (View.ld x (Rect.unit ![0, 0, 3328] ![1, 512, 128] inb_S1x512x7168_S1x512x128_0_0_3328))) (Scalar.ofBits FTy.bf16 0x0000#16)⟩ ::
        ⟨Rect.unit ![0, 3200] ![512, 128] inb_S512x7168_S512x128_0_3200, k0_pay40 (k0_pay5 v) (k0_pay6 s) (View.ld x (Rect.unit ![0, 0, 3200] ![1, 512, 128] inb_S1x512x7168_S1x512x128_0_0_3200))⟩ ::
        ⟨Rect.unit ![0, 3072] ![512, 128] inb_S512x7168_S512x128_0_3072, k0_pay39 (k0_pay5 v) (k0_pay6 s) (View.ld x (Rect.unit ![0, 0, 3072] ![1, 512, 128] inb_S1x512x7168_S1x512x128_0_0_3072))⟩ ::
        ⟨Rect.unit ![0, 2944] ![512, 128] inb_S512x7168_S512x128_0_2944, k0_pay38 (k0_pay5 v) (k0_pay37 (k0_pay6 s) (View.ld x (Rect.unit ![0, 0, 2944] ![1, 512, 128] inb_S1x512x7168_S1x512x128_0_0_2944))) (Scalar.ofBits FTy.bf16 0x0000#16)⟩ ::
        ⟨Rect.unit ![0, 2816] ![512, 128] inb_S512x7168_S512x128_0_2816, k0_pay36 (k0_pay5 v) (k0_pay6 s) (View.ld x (Rect.unit ![0, 0, 2816] ![1, 512, 128] inb_S1x512x7168_S1x512x128_0_0_2816))⟩ ::
        ⟨Rect.unit ![0, 2688] ![512, 128] inb_S512x7168_S512x128_0_2688, k0_pay35 (k0_pay5 v) (k0_pay6 s) (View.ld x (Rect.unit ![0, 0, 2688] ![1, 512, 128] inb_S1x512x7168_S1x512x128_0_0_2688))⟩ ::
        ⟨Rect.unit ![0, 2560] ![512, 128] inb_S512x7168_S512x128_0_2560, k0_pay34 (k0_pay5 v) (k0_pay33 (k0_pay6 s) (View.ld x (Rect.unit ![0, 0, 2560] ![1, 512, 128] inb_S1x512x7168_S1x512x128_0_0_2560))) (Scalar.ofBits FTy.bf16 0x0000#16)⟩ ::
        ⟨Rect.unit ![0, 2432] ![512, 128] inb_S512x7168_S512x128_0_2432, k0_pay32 (k0_pay5 v) (k0_pay6 s) (View.ld x (Rect.unit ![0, 0, 2432] ![1, 512, 128] inb_S1x512x7168_S1x512x128_0_0_2432))⟩ ::
        ⟨Rect.unit ![0, 2304] ![512, 128] inb_S512x7168_S512x128_0_2304, k0_pay31 (k0_pay5 v) (k0_pay6 s) (View.ld x (Rect.unit ![0, 0, 2304] ![1, 512, 128] inb_S1x512x7168_S1x512x128_0_0_2304))⟩ ::
        ⟨Rect.unit ![0, 2176] ![512, 128] inb_S512x7168_S512x128_0_2176, k0_pay30 (k0_pay5 v) (k0_pay29 (k0_pay6 s) (View.ld x (Rect.unit ![0, 0, 2176] ![1, 512, 128] inb_S1x512x7168_S1x512x128_0_0_2176))) (Scalar.ofBits FTy.bf16 0x0000#16)⟩ ::
        ⟨Rect.unit ![0, 2048] ![512, 128] inb_S512x7168_S512x128_0_2048, k0_pay28 (k0_pay5 v) (k0_pay6 s) (View.ld x (Rect.unit ![0, 0, 2048] ![1, 512, 128] inb_S1x512x7168_S1x512x128_0_0_2048))⟩ ::
        ⟨Rect.unit ![0, 1920] ![512, 128] inb_S512x7168_S512x128_0_1920, k0_pay27 (k0_pay5 v) (k0_pay6 s) (View.ld x (Rect.unit ![0, 0, 1920] ![1, 512, 128] inb_S1x512x7168_S1x512x128_0_0_1920))⟩ ::
        ⟨Rect.unit ![0, 1792] ![512, 128] inb_S512x7168_S512x128_0_1792, k0_pay26 (k0_pay5 v) (k0_pay25 (k0_pay6 s) (View.ld x (Rect.unit ![0, 0, 1792] ![1, 512, 128] inb_S1x512x7168_S1x512x128_0_0_1792))) (Scalar.ofBits FTy.bf16 0x0000#16)⟩ ::
        ⟨Rect.unit ![0, 1664] ![512, 128] inb_S512x7168_S512x128_0_1664, k0_pay24 (k0_pay5 v) (k0_pay6 s) (View.ld x (Rect.unit ![0, 0, 1664] ![1, 512, 128] inb_S1x512x7168_S1x512x128_0_0_1664))⟩ ::
        ⟨Rect.unit ![0, 1536] ![512, 128] inb_S512x7168_S512x128_0_1536, k0_pay23 (k0_pay5 v) (k0_pay6 s) (View.ld x (Rect.unit ![0, 0, 1536] ![1, 512, 128] inb_S1x512x7168_S1x512x128_0_0_1536))⟩ ::
        ⟨Rect.unit ![0, 1408] ![512, 128] inb_S512x7168_S512x128_0_1408, k0_pay22 (k0_pay5 v) (k0_pay21 (k0_pay6 s) (View.ld x (Rect.unit ![0, 0, 1408] ![1, 512, 128] inb_S1x512x7168_S1x512x128_0_0_1408))) (Scalar.ofBits FTy.bf16 0x0000#16)⟩ ::
        ⟨Rect.unit ![0, 1280] ![512, 128] inb_S512x7168_S512x128_0_1280, k0_pay20 (k0_pay5 v) (k0_pay6 s) (View.ld x (Rect.unit ![0, 0, 1280] ![1, 512, 128] inb_S1x512x7168_S1x512x128_0_0_1280))⟩ ::
        ⟨Rect.unit ![0, 1152] ![512, 128] inb_S512x7168_S512x128_0_1152, k0_pay19 (k0_pay5 v) (k0_pay6 s) (View.ld x (Rect.unit ![0, 0, 1152] ![1, 512, 128] inb_S1x512x7168_S1x512x128_0_0_1152))⟩ ::
        ⟨Rect.unit ![0, 1024] ![512, 128] inb_S512x7168_S512x128_0_1024, k0_pay18 (k0_pay5 v) (k0_pay17 (k0_pay6 s) (View.ld x (Rect.unit ![0, 0, 1024] ![1, 512, 128] inb_S1x512x7168_S1x512x128_0_0_1024))) (Scalar.ofBits FTy.bf16 0x0000#16)⟩ ::
        ⟨Rect.unit ![0, 896] ![512, 128] inb_S512x7168_S512x128_0_896, k0_pay16 (k0_pay5 v) (k0_pay6 s) (View.ld x (Rect.unit ![0, 0, 896] ![1, 512, 128] inb_S1x512x7168_S1x512x128_0_0_896))⟩ ::
        ⟨Rect.unit ![0, 768] ![512, 128] inb_S512x7168_S512x128_0_768, k0_pay15 (k0_pay5 v) (k0_pay6 s) (View.ld x (Rect.unit ![0, 0, 768] ![1, 512, 128] inb_S1x512x7168_S1x512x128_0_0_768))⟩ ::
        ⟨Rect.unit ![0, 640] ![512, 128] inb_S512x7168_S512x128_0_640, k0_pay14 (k0_pay5 v) (k0_pay13 (k0_pay6 s) (View.ld x (Rect.unit ![0, 0, 640] ![1, 512, 128] inb_S1x512x7168_S1x512x128_0_0_640))) (Scalar.ofBits FTy.bf16 0x0000#16)⟩ ::
        ⟨Rect.unit ![0, 512] ![512, 128] inb_S512x7168_S512x128_0_512, k0_pay12 (k0_pay5 v) (k0_pay6 s) (View.ld x (Rect.unit ![0, 0, 512] ![1, 512, 128] inb_S1x512x7168_S1x512x128_0_0_512))⟩ ::
        ⟨Rect.unit ![0, 384] ![512, 128] inb_S512x7168_S512x128_0_384, k0_pay11 (k0_pay5 v) (k0_pay6 s) (View.ld x (Rect.unit ![0, 0, 384] ![1, 512, 128] inb_S1x512x7168_S1x512x128_0_0_384))⟩ ::
        ⟨Rect.unit ![0, 256] ![512, 128] inb_S512x7168_S512x128_0_256, k0_pay10 (k0_pay5 v) (k0_pay9 s (View.ld x (Rect.unit ![0, 0, 256] ![1, 512, 128] inb_S1x512x7168_S1x512x128_0_0_256))) (Scalar.ofBits FTy.bf16 0x0000#16)⟩ ::
        ⟨Rect.unit ![0, 128] ![512, 128] inb_S512x7168_S512x128_0_128, k0_pay8 v s (View.ld x (Rect.unit ![0, 0, 128] ![1, 512, 128] inb_S1x512x7168_S1x512x128_0_0_128))⟩ ::
        ⟨Rect.unit ![0, 0] ![512, 128] inb_S512x7168_S512x128_0_0, k0_pay7 v s (View.ld x (Rect.unit ![0, 0, 0] ![1, 512, 128] inb_S1x512x7168_S1x512x128_0_0_0))⟩ :: []

set_option maxHeartbeats 2000000 in
theorem rows0_canon (v : BitVec 32) (x : Vec Ideal S1x512x7168 .fp8e4m3) (s : Vec Ideal S1x512x56 .f32) (y : S512x7168.Idx) :
    View.canon (Val := Elt Ideal) (e := .bf16)
      (pieces0 v x s) y = rows0 v x s y := by
  unfold pieces0
  canon_tiles z h
  all_goals
    pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81]
    simp [Rect.idx_unit_val] at h0 h1
    unfold rows0
    rw [h0]
    exact sel_slt _ _ _ _ _ _ (congrArg₂ (· * ·) (congrArg x (by blk_ext)) (congrArg s (by blk_ext))) rfl

set_option maxHeartbeats 2000000 in
/-- The scratch of widened rows, read whole. -/
theorem rows0_of {v' v : BitVec 32} {x' x : Vec Ideal S1x512x7168 .fp8e4m3} {s' s : Vec Ideal S1x512x56 .f32} (hv : v' = v) (hx : x' = x) (hs : s' = s) :
    (View.whole cc0_scratch0).readCov (Val := Elt Ideal)
      (pieces0 v' x' s') (Rect.unit ![0, 0] ![512, 7168] inb_S512x7168_S512x7168_0_0).toLoadRect = rows0 v x s := by
  subst hv hx hs
  rw [View.readCov_eq_canon']
  funext y
  refine (rows0_canon v' x' s' _).trans (congrArg (rows0 v' x' s') ?_)
  funext q
  apply Fin.ext
  fin_cases q
  · show 0 + 1 * (y 0).val = (y 0).val; omega
  · show 0 + 1 * (y 1).val = (y 1).val; omega

set_option maxHeartbeats 2000000 in
theorem rows0_canon_of {v' v : BitVec 32} {x' x : Vec Ideal S1x512x7168 .fp8e4m3} {s' s : Vec Ideal S1x512x56 .f32} (hv : v' = v) (hx : x' = x) (hs : s' = s) (y : S512x7168.Idx) :
    View.canon (Val := Elt Ideal) (e := .bf16)
      (pieces0 v' x' s') y = rows0 v x s y := by
  subst hv hx hs
  exact rows0_canon _ _ _ y

variable (a : (pcfg0 (F := Ideal)).Adm)
variable (V : (c : Dev nD) → (b : Ref sig .tc) → Buf (Elt Ideal) ((c : Thread nD τ).loc b))

/-- How many rows are live from the first row of point `t`'s block on. -/
def liveN0 (t : Fin (cfg0 a).N) : BitVec 32 := tab0 a (Idealize.ShloMosaic.ix1 (grid0.coords t 0)) - BitVec.ofNat 32 (grid0.coords t 1).val * 512#32

theorem wd0_eq (t : Fin (cfg0 a).N) : wd0 a t = tab0 a (Idealize.ShloMosaic.ix1 (grid0.coords t 0)) := by
  have h : View.read (Elt Ideal) (View.whole main_arg2) ((Memref.isWhole_whole main_arg2).unread (tab0 a)) = tab0 a := read_unread_whole _ _ _
  unfold wd0 word0
  rw [View.readAt_apply, h]
  refine congrArg (tab0 a) ?_
  have ho := (by decide +kernel : ∀ u : Fin grid0.N, k0_off1 (grid0.coords u) 0 = (grid0.coords u 0).val) t
  funext q
  apply Fin.ext
  fin_cases q
  refine Eq.trans ?_ ho
  show k0_off1 (grid0.coords t) 0 + 1 * 0 = _
  omega

theorem hlive0 (t : Fin (cfg0 a).N) : Scalar.subi (wd0 a t) (Scalar.muli (BitVec.ofNat 32 (grid0.coords t 1).val) 512#32) = liveN0 a t := by
  rw [wd0_eq]; rfl

/-- The widened rows of point `t`'s block. -/
def rowsAt0 (c : Dev nD) (t : Fin (cfg0 a).N) : Vec Ideal S512x7168 .bf16 := rows0 (liveN0 a t) (iblk0 a V c 0 t) (iblk0 a V c 1 t)

set_option maxHeartbeats 2000000 in
theorem stepA0_rows (c : Dev nD) (t : Fin (cfg0 a).N) (h1 : k0_cond1 (grid0.coords t) (wd0 a t) = 1#1) (h2 : k0_cond2 (grid0.coords t) = 1#1) :
    (stepA0 a V c t h1 h2).2.2 = rowsAt0 a V c t := by
  funext y
  unfold stepA0
  dsimp only
  frame_open
  simp (disch := decide) only [↓ View.readCov_skip, ↓ View.readCov_cons_toLoadRect, ↓ View.readCov_fill]
  frame_out
  exact rows0_canon_of (hlive0 a t) ((hs0_0 a t).read_unread _) ((hs0_1 a t).read_unread _) y

set_option maxHeartbeats 2000000 in
theorem stepA0_codes (c : Dev nD) (t : Fin (cfg0 a).N) (h1 : k0_cond1 (grid0.coords t) (wd0 a t) = 1#1) (h2 : k0_cond2 (grid0.coords t) = 1#1) (y : S1x512x256.Idx) :
    (stepA0 a V c t h1 h2).1 y = codes0 (tileG a V c t (rowsAt0 a V c t)) y := by
  unfold stepA0
  dsimp only
  frame_open
  simp (disch := decide) only [↓ View.readCov_skip, ↓ View.readCov_cons_toLoadRect, ↓ View.readCov_fill]
  frame_out
  generalize hL : (View.whole cc0_scratch1).readCov (Val := Elt Ideal) _ _ = L
  generalize hR : (View.whole cc0_scratch2).readCov (Val := Elt Ideal) _ _ = R
  generalize hX : (View.whole cc0_scratch0).readCov (Val := Elt Ideal) _ _ = X
  have hL' := hL.symm.trans (wgt1_of ((hs0_2 a t).read_unread _) ((hs0_4 a t).read_unread _))
  have hR' := hR.symm.trans (wgt2_of ((hs0_3 a t).read_unread _) ((hs0_5 a t).read_unread _))
  have hX' := hX.symm.trans (rows0_of (hlive0 a t) ((hs0_0 a t).read_unread _) ((hs0_1 a t).read_unread _))
  clear hL hR hX
  subst hL' hR' hX'
  exact codes_canon _ _ _ y

theorem pay82_apply (y : S1x512x16.Idx) : k0_pay82 (F := Ideal) y = (0 : EReal) := by
  pointwise [k0_pay82]

set_option maxHeartbeats 2000000 in
theorem stepA0_scales (c : Dev nD) (t : Fin (cfg0 a).N) (h1 : k0_cond1 (grid0.coords t) (wd0 a t) = 1#1) (h2 : k0_cond2 (grid0.coords t) = 1#1) (y : S1x512x16.Idx) :
    (stepA0 a V c t h1 h2).2.1 y = if (y 2).val = (grid0.coords t 2).val * 2 + 1 then scale0 (tileG a V c t (rowsAt0 a V c t)) 1 (y 1)
      else if (y 2).val = (grid0.coords t 2).val * 2 + 0 then scale0 (tileG a V c t (rowsAt0 a V c t)) 0 (y 1) else (0 : EReal) := by
  unfold stepA0
  dsimp only
  frame_open
  simp (disch := decide) only [↓ View.readCov_skip, ↓ View.readCov_cons_toLoadRect, ↓ View.readCov_fill]
  frame_out
  generalize hL : (View.whole cc0_scratch1).readCov (Val := Elt Ideal) _ _ = L
  generalize hR : (View.whole cc0_scratch2).readCov (Val := Elt Ideal) _ _ = R
  generalize hX : (View.whole cc0_scratch0).readCov (Val := Elt Ideal) _ _ = X
  have hL' := hL.symm.trans (wgt1_of ((hs0_2 a t).read_unread _) ((hs0_4 a t).read_unread _))
  have hR' := hR.symm.trans (wgt2_of ((hs0_3 a t).read_unread _) ((hs0_5 a t).read_unread _))
  have hX' := hX.symm.trans (rows0_of (hlive0 a t) ((hs0_0 a t).read_unread _) ((hs0_1 a t).read_unread _))
  clear hL hR hX
  subst hL' hR' hX'
  refine (scales_canon _ (tileG a V c t (rowsAt0 a V c t)) _ _ (fun r => ?_) _ (fun r => ?_) y _).trans ?_
  · rw [pay90_eq, pay95_eq]; exact scaleV_tile0 _ _
  · rw [pay105_eq]; exact scaleV_tile1 _ _
  · exact if_congr Iff.rfl rfl (if_congr Iff.rfl rfl (pay82_apply y))

theorem stepC0_codes (c : Dev nD) (t : Fin (cfg0 a).N) (h1 : ¬k0_cond1 (grid0.coords t) (wd0 a t) = 1#1) (acc : St0 Ideal) (y : S1x512x256.Idx) :
    (stepC0 a V c t h1 acc).1 y = (0 : EReal) := by
  unfold stepC0
  dsimp only
  frame_open
  frame_out
  refine (congrFun (View.canon_cons_unit_zero (S := S1x512x256) (off := ![0, 0, 0]) (by funext q; fin_cases q <;> rfl) _ _ _) y).trans ?_
  pointwise [k0_pay3]
  exact Ideal.ofBits_zero .fp8e4m3

theorem stepC0_scales (c : Dev nD) (t : Fin (cfg0 a).N) (h1 : ¬k0_cond1 (grid0.coords t) (wd0 a t) = 1#1) (acc : St0 Ideal) (y : S1x512x16.Idx) :
    (stepC0 a V c t h1 acc).2.1 y = (1 : EReal) := by
  unfold stepC0
  dsimp only
  frame_open
  frame_out
  refine (congrFun (View.canon_cons_unit_zero (S := S1x512x16) (off := ![0, 0, 0]) (by funext q; fin_cases q <;> rfl) _ _ _) y).trans ?_
  pointwise [k0_pay4]
end Cert.KernelIdeal.Gen
end
-- ==== Proof.Value.Run1V.lean ====
module

public import proofs.«01_k».proof.Proof.KernelIdeal.Data1
public import proofs.«01_k».proof.Proof.Value.QuantK
public import proofs.«01_k».proof.Proof.Value.Run0X
public import Idealize.ShloMosaic.Lib.Pipeline.ValueKit
public import Idealize.ShloMosaic.Lib.Pipeline.ReadBack

/-!
# What one point of call 1 leaves, index by index
-/

@[expose] public section
set_option maxRecDepth 16384
noncomputable section
namespace Cert.KernelIdeal.Gen
open Idealize.ShloMosaic Idealize.ShloMosaic.TcCoe Idealize.SL.Sem
open Idealize.ShloMosaic.Pipeline (Dat Cfg Window)

/-! ## The four column groups -/

def tileD0 (G : FVec Ideal S512x512 .f32) : FVec Ideal S512x128 .f32 := extractStridedSlice S512x128 ![0, 0] G slices_S512x512_o0_0_S512x128
def tileD1 (G : FVec Ideal S512x512 .f32) : FVec Ideal S512x128 .f32 := extractStridedSlice S512x128 ![0, 128] G slices_S512x512_o0_128_S512x128
def tileD2 (G : FVec Ideal S512x512 .f32) : FVec Ideal S512x128 .f32 := extractStridedSlice S512x128 ![0, 256] G slices_S512x512_o0_256_S512x128
def tileD3 (G : FVec Ideal S512x512 .f32) : FVec Ideal S512x128 .f32 := extractStridedSlice S512x128 ![0, 384] G slices_S512x512_o0_384_S512x128

/-- One lane replaced: column `n * 4 + r` takes the scales `A`. -/
def laneV (n : BitVec 32) (r : BitVec 32) (A : FVec Ideal S512x1 .f32) (s : Vec Ideal S1x512x56 .f32) : FVec Ideal S1x512x56 .f32 :=
  shapeCast S1x512x56 (select (cmpi .eq (iota Kind.tc S512x56 32 [1] iota_S512x56_d1_w32) (broadcast S512x56 (Scalar.addi (Scalar.muli n 4#32) r)))
    (broadcastTo S512x56 (shapeCast S512x1 A shapeCasts_S512x1_S512x1) broadcasts_S512x1_S512x56) (shapeCast S512x56 s shapeCasts_S1x512x56_S512x56)) shapeCasts_S512x56_S1x512x56

theorem lane1_iff (n r l : ℕ) (hn : n < 14) (hr : r < 4) (hl : l < 56) : BitVec.ofNat 32 l = BitVec.ofNat 32 n * 4#32 + BitVec.ofNat 32 r ↔ l = n * 4 + r := by
  constructor
  · intro h
    have := congrArg BitVec.toNat h
    simp only [BitVec.toNat_add, BitVec.toNat_mul, BitVec.toNat_ofNat] at this
    omega
  · rintro rfl
    apply BitVec.eq_of_toNat_eq
    simp only [BitVec.toNat_add, BitVec.toNat_mul, BitVec.toNat_ofNat]
    omega

theorem laneV_apply (n r : ℕ) (hn : n < 14) (hr : r < 4) (A : FVec Ideal S512x1 .f32) (s : Vec Ideal S1x512x56 .f32) (y : S1x512x56.Idx) :
    laneV (BitVec.ofNat 32 n) (BitVec.ofNat 32 r) A s y = if (y 2).val = n * 4 + r then A (ix2 (y 1) 0) else s y := by
  have h2 : (y 2).val < 56 := (y 2).isLt
  pointwise [laneV]
  refine (sel_eq _ _ _ _).trans ?_
  have := lane1_iff n r (y 2).val hn hr h2
  exact if_congr this rfl (by congr 1; blk_ext)

theorem k1code0_eq (x : Vec Ideal S512x2048 .bf16) (L : Vec Ideal S512x2048 .bf16) : k1_pay39 (F := Ideal) (k1_pay38 (k1_pay32 x L) (k1_pay33 x L) (k1_pay34 x L) (k1_pay35 x L)) = codeV (tileD0 (k1_pay31 x L)) (expoV (peakV (tileD0 (k1_pay31 x L)))) := rfl
theorem k1scale0_eq (x : Vec Ideal S512x2048 .bf16) (L : Vec Ideal S512x2048 .bf16) : k1_pay37 (F := Ideal) (k1_pay33 x L) (k1_pay34 x L) (k1_pay35 x L) = scaleV (expoV (peakV (tileD0 (k1_pay31 x L)))) := rfl
theorem k1code1_eq (G : FVec Ideal S512x512 .f32) : k1_pay48 (F := Ideal) (k1_pay41 G) (k1_pay42 G) (k1_pay43 G) (k1_pay44 G) (k1_pay45 G) = codeV (tileD1 G) (expoV (peakV (tileD1 G))) := rfl
theorem k1scale1_eq (G : FVec Ideal S512x512 .f32) : k1_pay47 (F := Ideal) (k1_pay42 G) (k1_pay43 G) (k1_pay44 G) (k1_pay45 G) = scaleV (expoV (peakV (tileD1 G))) := rfl
theorem k1code2_eq (G : FVec Ideal S512x512 .f32) : k1_pay57 (F := Ideal) (k1_pay50 G) (k1_pay51 G) (k1_pay52 G) (k1_pay53 G) (k1_pay54 G) = codeV (tileD2 G) (expoV (peakV (tileD2 G))) := rfl
theorem k1scale2_eq (G : FVec Ideal S512x512 .f32) : k1_pay56 (F := Ideal) (k1_pay51 G) (k1_pay52 G) (k1_pay53 G) (k1_pay54 G) = scaleV (expoV (peakV (tileD2 G))) := rfl
theorem k1code3_eq (G : FVec Ideal S512x512 .f32) : k1_pay64 (F := Ideal) (k1_pay60 G) (k1_pay61 G) (k1_pay62 G) = codeV (tileD3 G) (expoV (peakV (tileD3 G))) := rfl
theorem k1lane0_eq (n : BitVec 32) (A : FVec Ideal S512x1 .f32) (s : Vec Ideal S1x512x56 .f32) : k1_pay40 n (iota Kind.tc S512x56 32 [1] iota_S512x56_d1_w32) A s = laneV n 0#32 A s := rfl
theorem k1lane1_eq (n : BitVec 32) (A : FVec Ideal S512x1 .f32) (s : Vec Ideal S1x512x56 .f32) : k1_pay49 n (iota Kind.tc S512x56 32 [1] iota_S512x56_d1_w32) A s = laneV n 1#32 A s := rfl
theorem k1lane2_eq (n : BitVec 32) (A : FVec Ideal S512x1 .f32) (s : Vec Ideal S1x512x56 .f32) : k1_pay59 A (k1_pay58 n (iota Kind.tc S512x56 32 [1] iota_S512x56_d1_w32)) s = laneV n 2#32 A s := rfl
theorem k1lane3_eq (n : BitVec 32) (G : FVec Ideal S512x512 .f32) (s : Vec Ideal S1x512x56 .f32) :
    k1_pay1 (k1_pay65 n (iota Kind.tc S512x56 32 [1] iota_S512x56_d1_w32) (k1_pay61 G) (k1_pay62 G) s) = laneV n 3#32 (scaleV (expoV (peakV (tileD3 G)))) s := rfl

/-! ## A tile's codes and scales -/

/-- A tile's codes: 128 columns share a peak. -/
def codes1 (G : FVec Ideal S512x512 .f32) (y : S1x512x512.Idx) : EReal :=
  Cert.Q.code (G (ix2 (y 1) (y 2))) (Cert.Q.peak fun k => G (ix2 (y 1) ⟨(y 2).val / 128 * 128 + k.val, by have : (y 2).val < 512 := (y 2).isLt; omega⟩))

/-- The scale of column group `r` of a tile. -/
def scale1 (G : FVec Ideal S512x512 .f32) (r : Fin 4) (y : Fin 512) : EReal :=
  Cert.Q.scale (Cert.Q.peak fun k => G (ix2 y ⟨r.val * 128 + k.val, by omega⟩))

theorem codeV_tileD0 (G : FVec Ideal S512x512 .f32) (x : S1x512x128.Idx) (y : S1x512x512.Idx) (h1 : (y 1).val = (x 1).val) (h2 : (y 2).val = (x 2).val) :
    codeV (tileD0 G) (expoV (peakV (tileD0 G))) x = codes1 G y := by
  have h2' : (x 2).val < 128 := (x 2).isLt
  rw [codeV_apply, peakV_apply]
  unfold codes1 tileD0
  congr 1
  · pointwise; blk_ext
  · congr 1; funext k; pointwise; blk_ext

theorem scaleV_tileD0 (G : FVec Ideal S512x512 .f32) (x : S512x1.Idx) : scaleV (expoV (peakV (tileD0 G))) x = scale1 G 0 (x 0) := by
  rw [scaleV_apply, peakV_apply]
  unfold scale1 tileD0
  congr 2; funext k; pointwise; blk_ext

theorem codeV_tileD1 (G : FVec Ideal S512x512 .f32) (x : S1x512x128.Idx) (y : S1x512x512.Idx) (h1 : (y 1).val = (x 1).val) (h2 : (y 2).val = 128 + (x 2).val) :
    codeV (tileD1 G) (expoV (peakV (tileD1 G))) x = codes1 G y := by
  have h2' : (x 2).val < 128 := (x 2).isLt
  rw [codeV_apply, peakV_apply]
  unfold codes1 tileD1
  congr 1
  · pointwise; blk_ext
  · congr 1; funext k; pointwise; blk_ext

theorem scaleV_tileD1 (G : FVec Ideal S512x512 .f32) (x : S512x1.Idx) : scaleV (expoV (peakV (tileD1 G))) x = scale1 G 1 (x 0) := by
  rw [scaleV_apply, peakV_apply]
  unfold scale1 tileD1
  congr 2; funext k; pointwise; blk_ext

theorem codeV_tileD2 (G : FVec Ideal S512x512 .f32) (x : S1x512x128.Idx) (y : S1x512x512.Idx) (h1 : (y 1).val = (x 1).val) (h2 : (y 2).val = 256 + (x 2).val) :
    codeV (tileD2 G) (expoV (peakV (tileD2 G))) x = codes1 G y := by
  have h2' : (x 2).val < 128 := (x 2).isLt
  rw [codeV_apply, peakV_apply]
  unfold codes1 tileD2
  congr 1
  · pointwise; blk_ext
  · congr 1; funext k; pointwise; blk_ext

theorem scaleV_tileD2 (G : FVec Ideal S512x512 .f32) (x : S512x1.Idx) : scaleV (expoV (peakV (tileD2 G))) x = scale1 G 2 (x 0) := by
  rw [scaleV_apply, peakV_apply]
  unfold scale1 tileD2
  congr 2; funext k; pointwise; blk_ext

theorem codeV_tileD3 (G : FVec Ideal S512x512 .f32) (x : S1x512x128.Idx) (y : S1x512x512.Idx) (h1 : (y 1).val = (x 1).val) (h2 : (y 2).val = 384 + (x 2).val) :
    codeV (tileD3 G) (expoV (peakV (tileD3 G))) x = codes1 G y := by
  have h2' : (x 2).val < 128 := (x 2).isLt
  rw [codeV_apply, peakV_apply]
  unfold codes1 tileD3
  congr 1
  · pointwise; blk_ext
  · congr 1; funext k; pointwise; blk_ext

theorem scaleV_tileD3 (G : FVec Ideal S512x512 .f32) (x : S512x1.Idx) : scaleV (expoV (peakV (tileD3 G))) x = scale1 G 3 (x 0) := by
  rw [scaleV_apply, peakV_apply]
  unfold scale1 tileD3
  congr 2; funext k; pointwise; blk_ext

/-- The codes stored over a widened tile of rows. -/
theorem codes1_canon (x : Vec Ideal S512x2048 .bf16) (L : Vec Ideal S512x2048 .bf16) (y : S1x512x512.Idx) :
    View.canon (Val := Elt Ideal) (e := .fp8e4m3)
      [⟨Rect.unit ![0, 0, 384] ![1, 512, 128] inb_S1x512x512_S1x512x128_0_0_384,
          k1_pay64 (k1_pay60 (k1_pay31 x L)) (k1_pay61 (k1_pay31 x L)) (k1_pay62 (k1_pay31 x L))⟩,
        ⟨Rect.unit ![0, 0, 256] ![1, 512, 128] inb_S1x512x512_S1x512x128_0_0_256,
          k1_pay57 (k1_pay50 (k1_pay31 x L)) (k1_pay51 (k1_pay31 x L)) (k1_pay52 (k1_pay31 x L))
            (k1_pay53 (k1_pay31 x L)) (k1_pay54 (k1_pay31 x L))⟩,
        ⟨Rect.unit ![0, 0, 128] ![1, 512, 128] inb_S1x512x512_S1x512x128_0_0_128,
          k1_pay48 (k1_pay41 (k1_pay31 x L)) (k1_pay42 (k1_pay31 x L)) (k1_pay43 (k1_pay31 x L))
            (k1_pay44 (k1_pay31 x L)) (k1_pay45 (k1_pay31 x L))⟩,
        ⟨Rect.unit ![0, 0, 0] ![1, 512, 128] inb_S1x512x512_S1x512x128_0_0_0,
          k1_pay39 (k1_pay38 (k1_pay32 x L) (k1_pay33 x L) (k1_pay34 x L) (k1_pay35 x L))⟩] y
      = codes1 (k1_pay31 x L) y := by
  rw [k1code0_eq, k1code1_eq, k1code2_eq, k1code3_eq]
  generalize k1_pay31 x L = G
  canon_tiles z h
  · exact codeV_tileD3 G z y h1 h2
  · exact codeV_tileD2 G z y h1 h2
  · exact codeV_tileD1 G z y h1 h2
  · exact codeV_tileD0 G z y h1 h2

/-- The scales of a tile over what the buffer held. -/
def lanes1 (n : ℕ) (G : FVec Ideal S512x512 .f32) (s : Vec Ideal S1x512x56 .f32) (y : S1x512x56.Idx) : EReal :=
  if (y 2).val = n * 4 + 3 then scale1 G 3 (y 1) else if (y 2).val = n * 4 + 2 then scale1 G 2 (y 1) else if (y 2).val = n * 4 + 1 then scale1 G 1 (y 1)
    else if (y 2).val = n * 4 + 0 then scale1 G 0 (y 1) else s y

theorem scales1_canon (n : ℕ) (hn : n < 14) (x : Vec Ideal S512x2048 .bf16) (L : Vec Ideal S512x2048 .bf16) (s : Vec Ideal S1x512x56 .f32) (y : S1x512x56.Idx) (l : List ((rect : Rect S1x512x56) × Vec Ideal rect.shape .f32)) :
    View.canon (Val := Elt Ideal) (e := .f32)
      (⟨Rect.unit ![0, 0, 0] ![1, 512, 56] inb_S1x512x56_S1x512x56_0_0_0,
          k1_pay1
            (k1_pay65 (BitVec.ofNat 32 n) (iota Kind.tc S512x56 32 [1] iota_S512x56_d1_w32)
              (k1_pay61 (k1_pay31 x L)) (k1_pay62 (k1_pay31 x L))
              (k1_pay59
                (k1_pay56 (k1_pay51 (k1_pay31 x L)) (k1_pay52 (k1_pay31 x L))
                  (k1_pay53 (k1_pay31 x L)) (k1_pay54 (k1_pay31 x L)))
                (k1_pay58 (BitVec.ofNat 32 n) (iota Kind.tc S512x56 32 [1] iota_S512x56_d1_w32))
                (k1_pay49 (BitVec.ofNat 32 n) (iota Kind.tc S512x56 32 [1] iota_S512x56_d1_w32)
                  (k1_pay47 (k1_pay42 (k1_pay31 x L)) (k1_pay43 (k1_pay31 x L))
                    (k1_pay44 (k1_pay31 x L)) (k1_pay45 (k1_pay31 x L)))
                  (k1_pay40 (BitVec.ofNat 32 n) (iota Kind.tc S512x56 32 [1] iota_S512x56_d1_w32)
                    (k1_pay37 (k1_pay33 x L) (k1_pay34 x L) (k1_pay35 x L)) s))))⟩ :: l) y
      = lanes1 n (k1_pay31 x L) s y := by
  rw [View.canon_cons_unit_zero (by funext q; fin_cases q <;> rfl)]
  rw [k1lane3_eq, k1lane2_eq, k1lane1_eq, k1lane0_eq, k1scale0_eq, k1scale1_eq, k1scale2_eq]
  generalize k1_pay31 x L = G
  unfold lanes1
  refine (laneV_apply n 3 hn (by omega) _ _ y).trans (if_congr Iff.rfl (scaleV_tileD3 G _) ?_)
  refine (laneV_apply n 2 hn (by omega) _ _ y).trans (if_congr Iff.rfl (scaleV_tileD2 G _) ?_)
  refine (laneV_apply n 1 hn (by omega) _ _ y).trans (if_congr Iff.rfl (scaleV_tileD1 G _) ?_)
  exact (laneV_apply n 0 hn (by omega) _ _ y).trans (if_congr Iff.rfl (scaleV_tileD0 G _) rfl)

/-! ## The widened weights and rows -/

/-- A widened weight tile: each code times its block's scale. -/
def wgtD (w : Vec Ideal S1x512x2048 .fp8e4m3) (s : Vec Ideal S1x4x1x2048 .bf16) : Vec Ideal S512x2048 .bf16 :=
  fun y => (w (ix3 0 (y 0) (y 1)) : EReal) * (s (ix4 0 ⟨(y 0).val / 128, by have : (y 0).val < 512 := (y 0).isLt; omega⟩ 0 (y 1)) : EReal)

theorem wgtD_of {w' w : Vec Ideal S1x512x2048 .fp8e4m3} {s' s : Vec Ideal S1x4x1x2048 .bf16} (hw : w' = w) (hs : s' = s) :
    (View.whole cc1_scratch1).readCov (Val := Elt Ideal)
      [⟨Rect.unit ![384, 0] ![128, 2048] inb_S512x2048_S128x2048_384_0,
          k1_pay30 (View.ld w' (Rect.unit ![0, 384, 0] ![1, 128, 2048] inb_S1x512x2048_S1x128x2048_0_384_0))
            (View.ld s' (Rect.unit ![0, 3, 0, 0] ![1, 1, 1, 2048] inb_S1x4x1x2048_S1x1x1x2048_0_3_0_0))⟩,
        ⟨Rect.unit ![256, 0] ![128, 2048] inb_S512x2048_S128x2048_256_0,
          k1_pay29 (k1_pay28 (View.ld w' (Rect.unit ![0, 256, 0] ![1, 128, 2048] inb_S1x512x2048_S1x128x2048_0_256_0))
              (View.ld s' (Rect.unit ![0, 2, 0, 0] ![1, 1, 1, 2048] inb_S1x4x1x2048_S1x1x1x2048_0_2_0_0)))⟩,
        ⟨Rect.unit ![128, 0] ![128, 2048] inb_S512x2048_S128x2048_128_0,
          k1_pay27 (View.ld w' (Rect.unit ![0, 128, 0] ![1, 128, 2048] inb_S1x512x2048_S1x128x2048_0_128_0))
            (View.ld s' (Rect.unit ![0, 1, 0, 0] ![1, 1, 1, 2048] inb_S1x4x1x2048_S1x1x1x2048_0_1_0_0))⟩,
        ⟨Rect.unit ![0, 0] ![128, 2048] inb_S512x2048_S128x2048_0_0,
          k1_pay26 (View.ld w' (Rect.unit ![0, 0, 0] ![1, 128, 2048] inb_S1x512x2048_S1x128x2048_0_0_0))
            (View.ld s' (Rect.unit ![0, 0, 0, 0] ![1, 1, 1, 2048] inb_S1x4x1x2048_S1x1x1x2048_0_0_0_0))⟩]
      (Rect.unit ![0, 0] ![512, 2048] inb_S512x2048_S512x2048_0_0).toLoadRect = wgtD w s := by
  subst hw hs
  rw [View.readCov_eq_canon']
  funext y
  canon_tiles x h
  all_goals
    pointwise [k1_pay26, k1_pay27, k1_pay28, k1_pay29, k1_pay30]
    simp [Rect.idx_unit_val] at h0 h1
    unfold wgtD
    congr 1 <;> blk_ext

/-- A widened tile of rows: each code times its block's scale. -/
def rows1 (x : Vec Ideal S1x512x2048 .fp8e4m3) (s : Vec Ideal S1x512x16 .f32) : Vec Ideal S512x2048 .bf16 :=
  fun y => (x (ix3 0 (y 0) (y 1)) : EReal) * (s (ix3 0 (y 0) ⟨(y 1).val / 128, by have : (y 1).val < 2048 := (y 1).isLt; omega⟩) : EReal)

/-- The stored pieces of a widened tile of rows, last first. -/
def pieces1 (x : Vec Ideal S1x512x2048 .fp8e4m3) (s : Vec Ideal S1x512x16 .f32) : List (View.Piece (Elt Ideal) S512x2048 .bf16) :=
  ⟨Rect.unit ![0, 1920] ![512, 128] inb_S512x2048_S512x128_0_1920, k1_pay24 (k1_pay4 s) (View.ld x (Rect.unit ![0, 0, 1920] ![1, 512, 128] inb_S1x512x2048_S1x512x128_0_0_1920))⟩ ::
    ⟨Rect.unit ![0, 1792] ![512, 128] inb_S512x2048_S512x128_0_1792, k1_pay23 (k1_pay4 s) (View.ld x (Rect.unit ![0, 0, 1792] ![1, 512, 128] inb_S1x512x2048_S1x512x128_0_0_1792))⟩ ::
    ⟨Rect.unit ![0, 1664] ![512, 128] inb_S512x2048_S512x128_0_1664, k1_pay22 (k1_pay21 (k1_pay4 s) (View.ld x (Rect.unit ![0, 0, 1664] ![1, 512, 128] inb_S1x512x2048_S1x512x128_0_0_1664)))⟩ ::
    ⟨Rect.unit ![0, 1536] ![512, 128] inb_S512x2048_S512x128_0_1536, k1_pay20 (k1_pay4 s) (View.ld x (Rect.unit ![0, 0, 1536] ![1, 512, 128] inb_S1x512x2048_S1x512x128_0_0_1536))⟩ ::
    ⟨Rect.unit ![0, 1408] ![512, 128] inb_S512x2048_S512x128_0_1408, k1_pay19 (k1_pay4 s) (View.ld x (Rect.unit ![0, 0, 1408] ![1, 512, 128] inb_S1x512x2048_S1x512x128_0_0_1408))⟩ ::
    ⟨Rect.unit ![0, 1280] ![512, 128] inb_S512x2048_S512x128_0_1280, k1_pay18 (k1_pay17 (k1_pay4 s)) (View.ld x (Rect.unit ![0, 0, 1280] ![1, 512, 128] inb_S1x512x2048_S1x512x128_0_0_1280))⟩ ::
    ⟨Rect.unit ![0, 1152] ![512, 128] inb_S512x2048_S512x128_0_1152, k1_pay16 (k1_pay4 s) (View.ld x (Rect.unit ![0, 0, 1152] ![1, 512, 128] inb_S1x512x2048_S1x512x128_0_0_1152))⟩ ::
    ⟨Rect.unit ![0, 1024] ![512, 128] inb_S512x2048_S512x128_0_1024, k1_pay15 (k1_pay4 s) (View.ld x (Rect.unit ![0, 0, 1024] ![1, 512, 128] inb_S1x512x2048_S1x512x128_0_0_1024))⟩ ::
    ⟨Rect.unit ![0, 896] ![512, 128] inb_S512x2048_S512x128_0_896, k1_pay14 (k1_pay4 s) (View.ld x (Rect.unit ![0, 0, 896] ![1, 512, 128] inb_S1x512x2048_S1x512x128_0_0_896))⟩ ::
    ⟨Rect.unit ![0, 768] ![512, 128] inb_S512x2048_S512x128_0_768, k1_pay13 (k1_pay12 (k1_pay4 s) (View.ld x (Rect.unit ![0, 0, 768] ![1, 512, 128] inb_S1x512x2048_S1x512x128_0_0_768)))⟩ ::
    ⟨Rect.unit ![0, 640] ![512, 128] inb_S512x2048_S512x128_0_640, k1_pay11 (k1_pay4 s) (View.ld x (Rect.unit ![0, 0, 640] ![1, 512, 128] inb_S1x512x2048_S1x512x128_0_0_640))⟩ ::
    ⟨Rect.unit ![0, 512] ![512, 128] inb_S512x2048_S512x128_0_512, k1_pay10 (k1_pay4 s) (View.ld x (Rect.unit ![0, 0, 512] ![1, 512, 128] inb_S1x512x2048_S1x512x128_0_0_512))⟩ ::
    ⟨Rect.unit ![0, 384] ![512, 128] inb_S512x2048_S512x128_0_384, k1_pay9 (k1_pay8 s) (View.ld x (Rect.unit ![0, 0, 384] ![1, 512, 128] inb_S1x512x2048_S1x512x128_0_0_384))⟩ ::
    ⟨Rect.unit ![0, 256] ![512, 128] inb_S512x2048_S512x128_0_256, k1_pay7 s (View.ld x (Rect.unit ![0, 0, 256] ![1, 512, 128] inb_S1x512x2048_S1x512x128_0_0_256))⟩ ::
    ⟨Rect.unit ![0, 128] ![512, 128] inb_S512x2048_S512x128_0_128, k1_pay6 s (View.ld x (Rect.unit ![0, 0, 128] ![1, 512, 128] inb_S1x512x2048_S1x512x128_0_0_128))⟩ ::
    ⟨Rect.unit ![0, 0] ![512, 128] inb_S512x2048_S512x128_0_0, k1_pay5 s (View.ld x (Rect.unit ![0, 0, 0] ![1, 512, 128] inb_S1x512x2048_S1x512x128_0_0_0))⟩ :: []

set_option maxHeartbeats 1000000 in
theorem rows1_canon (x : Vec Ideal S1x512x2048 .fp8e4m3) (s : Vec Ideal S1x512x16 .f32) (y : S512x2048.Idx) :
    View.canon (Val := Elt Ideal) (e := .bf16) (pieces1 x s) y = rows1 x s y := by
  unfold pieces1
  canon_tiles z h
  all_goals
    pointwise [k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24]
    simp [Rect.idx_unit_val] at h0 h1
    unfold rows1
    exact congrArg₂ (· * ·) (congrArg x (by blk_ext)) (congrArg s (by blk_ext))

/-- The scratch of widened rows, read whole. -/
theorem rows1_of {x' x : Vec Ideal S1x512x2048 .fp8e4m3} {s' s : Vec Ideal S1x512x16 .f32} (hx : x' = x) (hs : s' = s) :
    (View.whole cc1_scratch0).readCov (Val := Elt Ideal)
      (pieces1 x' s') (Rect.unit ![0, 0] ![512, 2048] inb_S512x2048_S512x2048_0_0).toLoadRect = rows1 x s := by
  subst hx hs
  rw [View.readCov_eq_canon']
  funext y
  refine (rows1_canon x' s' _).trans (congrArg (rows1 x' s') ?_)
  funext q
  apply Fin.ext
  fin_cases q
  · show 0 + 1 * (y 0).val = (y 0).val; omega
  · show 0 + 1 * (y 1).val = (y 1).val; omega

theorem rows1_canon_of {x' x : Vec Ideal S1x512x2048 .fp8e4m3} {s' s : Vec Ideal S1x512x16 .f32} (hx : x' = x) (hs : s' = s) (y : S512x2048.Idx) :
    View.canon (Val := Elt Ideal) (e := .bf16) (pieces1 x' s') y = rows1 x s y := by
  subst hx hs
  exact rows1_canon _ _ y

/-- A row of a tile times a row of the widened weights. -/
theorem k1_pay31_apply (x : Vec Ideal S512x2048 .bf16) (L : Vec Ideal S512x2048 .bf16) (r : Fin 512) (j : Fin 512) :
    k1_pay31 x L (ix2 r j) = ∑ k : Fin 2048, (x (ix2 r k) : EReal) * (L (ix2 j k) : EReal) := by
  pointwise [k1_pay31]

end Cert.KernelIdeal.Gen
end
-- ==== Proof.Value.Run1X.lean ====
module

public import proofs.«01_k».proof.Proof.Value.Run1V
public import Idealize.ShloMosaic.Lib.Pipeline.ValueKit
public import Idealize.ShloMosaic.Lib.Pipeline.ReadBack

/-!
# The three kinds of point of call 1
-/

@[expose] public section
set_option maxRecDepth 16384
noncomputable section
namespace Cert.KernelIdeal.Gen
open Idealize.ShloMosaic Idealize.ShloMosaic.TcCoe Idealize.SL.Sem
open Idealize.ShloMosaic.Pipeline (Dat Cfg Window)

variable (a : (pcfg1 (F := Ideal)).Adm)
variable (V : (c : Dev nD) → (b : Ref sig .tc) → Buf (Elt Ideal) ((c : Thread nD τ).loc b))

/-- How many rows are live from the first row of point `t`'s block on. -/
def liveN1 (t : Fin (cfg1 a).N) : BitVec 32 := tab1 a (Idealize.ShloMosaic.ix1 (grid1.coords t 0)) - BitVec.ofNat 32 (grid1.coords t 1).val * 512#32

theorem wd1_eq (t : Fin (cfg1 a).N) : wd1 a t = tab1 a (Idealize.ShloMosaic.ix1 (grid1.coords t 0)) := by
  have h : View.read (Elt Ideal) (View.whole main_arg2) ((Memref.isWhole_whole main_arg2).unread (tab1 a)) = tab1 a := read_unread_whole _ _ _
  unfold wd1 word1
  rw [View.readAt_apply, h]
  refine congrArg (tab1 a) ?_
  have ho := (by decide +kernel : ∀ u : Fin grid1.N, k1_off1 (grid1.coords u) 0 = (grid1.coords u 0).val) t
  funext q
  apply Fin.ext
  fin_cases q
  refine Eq.trans ?_ ho
  show k1_off1 (grid1.coords t) 0 + 1 * 0 = _
  omega

/-- The widened rows of point `t`'s block. -/
def rowsAt1 (c : Dev nD) (t : Fin (cfg1 a).N) : Vec Ideal S512x2048 .bf16 := rows1 (iblk1 a V c 0 t) (iblk1 a V c 1 t)

/-- The products of the tile at point `t`, from the widened rows. -/
def tileY (c : Dev nD) (t : Fin (cfg1 a).N) (x : Vec Ideal S512x2048 .bf16) : FVec Ideal S512x512 .f32 :=
  k1_pay31 x (wgtD (iblk1 a V c 2 t) (iblk1 a V c 3 t))

set_option maxHeartbeats 2000000 in
theorem stepA1_rows (c : Dev nD) (t : Fin (cfg1 a).N) (h1 : k1_cond1 (grid1.coords t) (wd1 a t) = 1#1) (h2 : k1_cond2 (grid1.coords t) = 1#1) :
    (stepA1 a V c t h1 h2).2.2 = rowsAt1 a V c t := by
  funext y
  unfold stepA1
  dsimp only
  frame_open
  simp (disch := decide) only [↓ View.readCov_skip, ↓ View.readCov_cons_toLoadRect, ↓ View.readCov_fill]
  frame_out
  exact rows1_canon_of ((hs1_0 a t).read_unread _) ((hs1_1 a t).read_unread _) y

set_option maxHeartbeats 2000000 in
theorem stepA1_codes (c : Dev nD) (t : Fin (cfg1 a).N) (h1 : k1_cond1 (grid1.coords t) (wd1 a t) = 1#1) (h2 : k1_cond2 (grid1.coords t) = 1#1) (y : S1x512x512.Idx) :
    (stepA1 a V c t h1 h2).1 y = codes1 (tileY a V c t (rowsAt1 a V c t)) y := by
  unfold stepA1
  dsimp only
  frame_open
  simp (disch := decide) only [↓ View.readCov_skip, ↓ View.readCov_cons_toLoadRect, ↓ View.readCov_fill]
  frame_out
  generalize hL : (View.whole cc1_scratch1).readCov (Val := Elt Ideal) _ _ = L
  generalize hX : (View.whole cc1_scratch0).readCov (Val := Elt Ideal) _ _ = X
  have hL' := hL.symm.trans (wgtD_of ((hs1_2 a t).read_unread _) ((hs1_3 a t).read_unread _))
  have hX' := hX.symm.trans (rows1_of ((hs1_0 a t).read_unread _) ((hs1_1 a t).read_unread _))
  clear hL hX
  subst hL' hX'
  exact codes1_canon _ _ y

theorem k1_pay25_apply (y : S1x512x56.Idx) : k1_pay25 (F := Ideal) y = (0 : EReal) := by
  pointwise [k1_pay25]

set_option maxHeartbeats 2000000 in
theorem stepA1_scales (c : Dev nD) (t : Fin (cfg1 a).N) (h1 : k1_cond1 (grid1.coords t) (wd1 a t) = 1#1) (h2 : k1_cond2 (grid1.coords t) = 1#1) (y : S1x512x56.Idx) :
    (stepA1 a V c t h1 h2).2.1 y = lanes1 (grid1.coords t 2).val (tileY a V c t (rowsAt1 a V c t)) (k1_pay25 (F := Ideal)) y := by
  unfold stepA1
  dsimp only
  frame_open
  simp (disch := decide) only [↓ View.readCov_skip, ↓ View.readCov_cons_toLoadRect, ↓ View.readCov_fill]
  frame_out
  generalize hL : (View.whole cc1_scratch1).readCov (Val := Elt Ideal) _ _ = L
  generalize hX : (View.whole cc1_scratch0).readCov (Val := Elt Ideal) _ _ = X
  have hL' := hL.symm.trans (wgtD_of ((hs1_2 a t).read_unread _) ((hs1_3 a t).read_unread _))
  have hX' := hX.symm.trans (rows1_of ((hs1_0 a t).read_unread _) ((hs1_1 a t).read_unread _))
  clear hL hX
  subst hL' hX'
  exact scales1_canon _ (grid1.coords t 2).isLt _ _ _ y _

set_option maxHeartbeats 2000000 in
theorem stepB1_codes (c : Dev nD) (t : Fin (cfg1 a).N) (h1 : k1_cond1 (grid1.coords t) (wd1 a t) = 1#1) (h2 : ¬k1_cond2 (grid1.coords t) = 1#1) (acc : St1 Ideal) (y : S1x512x512.Idx) :
    (stepB1 a V c t h1 h2 acc).1 y = codes1 (tileY a V c t acc.2.2) y := by
  unfold stepB1
  dsimp only
  frame_open
  simp (disch := decide) only [↓ View.readCov_skip, ↓ View.readCov_cons_toLoadRect, ↓ View.readCov_fill]
  frame_out
  simp only [read_unread_whole]
  generalize hL : (View.whole cc1_scratch1).readCov (Val := Elt Ideal) _ _ = L
  have hL' := hL.symm.trans (wgtD_of ((hs1_2 a t).read_unread _) ((hs1_3 a t).read_unread _))
  clear hL
  subst hL'
  exact codes1_canon _ _ y

set_option maxHeartbeats 2000000 in
theorem stepB1_scales (c : Dev nD) (t : Fin (cfg1 a).N) (h1 : k1_cond1 (grid1.coords t) (wd1 a t) = 1#1) (h2 : ¬k1_cond2 (grid1.coords t) = 1#1) (acc : St1 Ideal) (y : S1x512x56.Idx) :
    (stepB1 a V c t h1 h2 acc).2.1 y = lanes1 (grid1.coords t 2).val (tileY a V c t acc.2.2) acc.2.1 y := by
  unfold stepB1
  dsimp only
  frame_open
  simp (disch := decide) only [↓ View.readCov_skip, ↓ View.readCov_cons_toLoadRect, ↓ View.readCov_fill]
  frame_out
  simp only [read_unread_whole]
  generalize hL : (View.whole cc1_scratch1).readCov (Val := Elt Ideal) _ _ = L
  have hL' := hL.symm.trans (wgtD_of ((hs1_2 a t).read_unread _) ((hs1_3 a t).read_unread _))
  clear hL
  subst hL'
  exact scales1_canon _ (grid1.coords t 2).isLt _ _ _ y _

theorem stepC1_codes (c : Dev nD) (t : Fin (cfg1 a).N) (h1 : ¬k1_cond1 (grid1.coords t) (wd1 a t) = 1#1) (acc : St1 Ideal) (y : S1x512x512.Idx) :
    (stepC1 a V c t h1 acc).1 y = (0 : EReal) := by
  unfold stepC1
  dsimp only
  frame_open
  frame_out
  refine (congrFun (View.canon_cons_unit_zero (S := S1x512x512) (off := ![0, 0, 0]) (by funext q; fin_cases q <;> rfl) _ _ _) y).trans ?_
  pointwise [k1_pay2]
  exact Ideal.ofBits_zero .fp8e4m3

theorem stepC1_scales (c : Dev nD) (t : Fin (cfg1 a).N) (h1 : ¬k1_cond1 (grid1.coords t) (wd1 a t) = 1#1) (acc : St1 Ideal) (y : S1x512x56.Idx) :
    (stepC1 a V c t h1 acc).2.1 y = (1 : EReal) := by
  unfold stepC1
  dsimp only
  frame_open
  frame_out
  refine (congrFun (View.canon_cons_unit_zero (S := S1x512x56) (off := ![0, 0, 0]) (by funext q; fin_cases q <;> rfl) _ _ _) y).trans ?_
  pointwise [k1_pay3]

end Cert.KernelIdeal.Gen
end
-- ==== Proof.Value.Inv0.lean ====
module

public import proofs.«01_k».proof.Proof.Value.Run0X
public import proofs.«01_k».proof.Proof.Value.Spec
public import Idealize.ShloMosaic.Lib.Pipeline.Covers

/-!
# What call 0 leaves in its two result arrays
-/

@[expose] public section
set_option maxRecDepth 16384
noncomputable section
namespace Cert.KernelIdeal.Gen
open Idealize.ShloMosaic Idealize.ShloMosaic.TcCoe Idealize.SL.Sem
open Idealize.ShloMosaic.Pipeline (Dat Cfg Window)

variable (a : (pcfg0 (F := Ideal)).Adm)
variable (V : (c : Dev nD) → (b : Ref sig .tc) → Buf (Elt Ideal) ((c : Thread nD τ).loc b))

theorem pt0 : ∀ t : Fin grid0.N, (grid0.coords t 0).val = t.val / 40 ∧ (grid0.coords t 1).val = t.val / 8 % 5 ∧ (grid0.coords t 2).val = t.val % 8 := by
  decide +kernel

theorem idx0 : ∀ t : Fin grid0.N, cc0_transform_0 (grid0.coords t) = ![t.val / 40, t.val / 8 % 5, 0] ∧ cc0_transform_1 (grid0.coords t) = ![t.val / 40, t.val / 8 % 5, 0]
    ∧ cc0_transform_2 (grid0.coords t) = ![t.val / 40, t.val % 8, 0] ∧ cc0_transform_3 (grid0.coords t) = ![t.val / 40, t.val % 8 + 8, 0]
    ∧ cc0_transform_4 (grid0.coords t) = ![t.val / 40, t.val % 8, 0, 0] ∧ cc0_transform_5 (grid0.coords t) = ![t.val / 40, t.val % 8 + 8, 0, 0]
    ∧ cc0_transform_6 (grid0.coords t) = ![t.val / 40, t.val / 8 % 5, t.val % 8] ∧ cc0_transform_7 (grid0.coords t) = ![t.val / 40, t.val / 8 % 5, 0] := by
  decide +kernel

theorem blk0_0 (c : Dev nD) (t : Fin (cfg0 a).N) (r : Fin 512) (d : Fin 7168) (b : Fin 4) (s : Fin 2560) (hb : b.val = t.val / 40) (hs : s.val = t.val / 8 % 5 * 512 + r.val) :
    iblk0 a V c 0 t (ix3 0 r d) = V c (Pipeline.arrRef spec0 0) (ix3 b s d) := by
  have h : ((cfg0 a).win 0).index t = _ := (idx0 t).1
  unfold iblk0
  refine congrArg (V c (Pipeline.arrRef spec0 0)) ?_
  funext q
  apply Fin.ext
  blk_simp
  rw [h]
  fin_cases q
  · show t.val / 40 * 1 + 0 = b.val; omega
  · show t.val / 8 % 5 * 512 + r.val = s.val; omega
  · show 0 * 7168 + d.val = d.val; omega

theorem blk0_1 (c : Dev nD) (t : Fin (cfg0 a).N) (r : Fin 512) (d : Fin 56) (b : Fin 4) (s : Fin 2560) (hb : b.val = t.val / 40) (hs : s.val = t.val / 8 % 5 * 512 + r.val) :
    iblk0 a V c 1 t (ix3 0 r d) = V c (Pipeline.arrRef spec0 1) (ix3 b s d) := by
  have h : ((cfg0 a).win 1).index t = _ := (idx0 t).2.1
  unfold iblk0
  refine congrArg (V c (Pipeline.arrRef spec0 1)) ?_
  funext q
  apply Fin.ext
  blk_simp
  rw [h]
  fin_cases q
  · show t.val / 40 * 1 + 0 = b.val; omega
  · show t.val / 8 % 5 * 512 + r.val = s.val; omega
  · show 0 * 56 + d.val = d.val; omega

theorem blk0_2 (c : Dev nD) (t : Fin (cfg0 a).N) (r : Fin 256) (d : Fin 7168) (b : Fin 4) (f : Fin 4096) (hb : b.val = t.val / 40) (hf : f.val = (t.val % 8) * 256 + r.val) :
    iblk0 a V c 2 t (ix3 0 r d) = V c (Pipeline.arrRef spec0 2) (ix3 b f d) := by
  have h : ((cfg0 a).win 2).index t = _ := (idx0 t).2.2.1
  unfold iblk0
  refine congrArg (V c (Pipeline.arrRef spec0 2)) ?_
  funext q
  apply Fin.ext
  blk_simp
  rw [h]
  fin_cases q
  · show t.val / 40 * 1 + 0 = b.val; omega
  · show (t.val % 8) * 256 + r.val = f.val; omega
  · show 0 * 7168 + d.val = d.val; omega

theorem blk0_3 (c : Dev nD) (t : Fin (cfg0 a).N) (r : Fin 256) (d : Fin 7168) (b : Fin 4) (f : Fin 4096) (hb : b.val = t.val / 40) (hf : f.val = (t.val % 8 + 8) * 256 + r.val) :
    iblk0 a V c 3 t (ix3 0 r d) = V c (Pipeline.arrRef spec0 3) (ix3 b f d) := by
  have h : ((cfg0 a).win 3).index t = _ := (idx0 t).2.2.2.1
  unfold iblk0
  refine congrArg (V c (Pipeline.arrRef spec0 3)) ?_
  funext q
  apply Fin.ext
  blk_simp
  rw [h]
  fin_cases q
  · show t.val / 40 * 1 + 0 = b.val; omega
  · show (t.val % 8 + 8) * 256 + r.val = f.val; omega
  · show 0 * 7168 + d.val = d.val; omega

theorem blk0_4 (c : Dev nD) (t : Fin (cfg0 a).N) (r : Fin 2) (d : Fin 7168) (b : Fin 4) (f : Fin 32) (hb : b.val = t.val / 40) (hf : f.val = (t.val % 8) * 2 + r.val) :
    iblk0 a V c 4 t (ix4 0 r 0 d) = V c (Pipeline.arrRef spec0 4) (ix4 b f 0 d) := by
  have h : ((cfg0 a).win 4).index t = _ := (idx0 t).2.2.2.2.1
  unfold iblk0
  refine congrArg (V c (Pipeline.arrRef spec0 4)) ?_
  funext q
  apply Fin.ext
  blk_simp
  rw [h]
  fin_cases q
  · show t.val / 40 * 1 + 0 = b.val; omega
  · show (t.val % 8) * 2 + r.val = f.val; omega
  · show 0 * 1 + 0 = 0; omega
  · show 0 * 7168 + d.val = d.val; omega

theorem blk0_5 (c : Dev nD) (t : Fin (cfg0 a).N) (r : Fin 2) (d : Fin 7168) (b : Fin 4) (f : Fin 32) (hb : b.val = t.val / 40) (hf : f.val = (t.val % 8 + 8) * 2 + r.val) :
    iblk0 a V c 5 t (ix4 0 r 0 d) = V c (Pipeline.arrRef spec0 5) (ix4 b f 0 d) := by
  have h : ((cfg0 a).win 5).index t = _ := (idx0 t).2.2.2.2.2.1
  unfold iblk0
  refine congrArg (V c (Pipeline.arrRef spec0 5)) ?_
  funext q
  apply Fin.ext
  blk_simp
  rw [h]
  fin_cases q
  · show t.val / 40 * 1 + 0 = b.val; omega
  · show (t.val % 8 + 8) * 2 + r.val = f.val; omega
  · show 0 * 1 + 0 = 0; omega
  · show 0 * 7168 + d.val = d.val; omega

theorem toInt_small (n : ℕ) (h : n < 2147483648) : (BitVec.ofNat 32 n).toInt = n := by
  rw [BitVec.toInt_eq_toNat_of_lt (by rw [BitVec.toNat_ofNat]; omega), BitVec.toNat_ofNat]; omega

/-- Where the count is not within 2048 of the least word, subtracting a block's first row does not wrap. -/
theorem sub_toInt (x : BitVec 32) (i : ℕ) (hi : i < 5) (hx : -2147481600 ≤ x.toInt) : (x - BitVec.ofNat 32 i * 512#32).toInt = x.toInt - i * 512 := by
  have e : BitVec.ofNat 32 i * 512#32 = BitVec.ofNat 32 (i * 512) := by rw [BitVec.ofNat_mul]
  have h1 := BitVec.toInt_lt (x := x)
  rw [e, BitVec.toInt_sub, toInt_small _ (by omega)]
  rw [Int.bmod_eq_of_le] <;> omega

theorem live_iff (x : BitVec 32) (i r : ℕ) (hi : i < 5) (hr : r < 512) (hx : -2147481600 ≤ x.toInt) :
    (BitVec.ofNat 32 r).slt (x - BitVec.ofNat 32 i * 512#32) = (BitVec.ofNat 32 (i * 512 + r)).slt x := by
  unfold BitVec.slt
  rw [sub_toInt x i hi hx, toInt_small _ (by omega), toInt_small _ (by omega)]
  congr 1
  apply propext
  omega

/-- A dead block's rows are all dead. -/
theorem dead_row (x : BitVec 32) (i r : ℕ) (hi : i < 5) (hr : r < 512) (hx : -2147481600 ≤ x.toInt) (h : ¬(0#32).slt (x - BitVec.ofNat 32 i * 512#32) = true) :
    ¬(BitVec.ofNat 32 (i * 512 + r)).slt x = true := by
  revert h
  unfold BitVec.slt
  rw [sub_toInt x i hi hx, toInt_small (i * 512 + r) (by omega)]
  simp only [decide_eq_true_eq]
  have : (0#32).toInt = 0 := by decide
  omega

theorem cond1_iff (i : grid0.Coords) (w : BitVec 32) : k0_cond1 i w = 1#1 ↔ (0#32).slt (w - BitVec.ofNat 32 (i 1).val * 512#32) = true := by
  unfold k0_cond1; dsimp only
  show _ ↔ (0#32).slt (Scalar.subi w (Scalar.muli (BitVec.ofNat 32 (i 1).val) 512#32)) = true
  generalize Scalar.subi w _ = z
  by_cases h : (0#32).slt z = true <;> simp [Scalar.cmpi, IntOp.cmpi, Scalar.extui, h]

/-! ## The whole array's mathematics -/

/-- The row counts. -/
abbrev ct0 (b : Fin 4) : BitVec 32 := tab0 a (Idealize.ShloMosaic.ix1 b)

/-- The weight scales, a lane to an element. -/
def sw0 (c : Dev nD) : S4x32x7168.Idx → EReal := fun i => V c (Pipeline.arrRef spec0 4) (ix4 (i 0) (i 1) 0 (i 2))

/-- The weight codes. -/
def w130 (c : Dev nD) : S4x4096x7168.Idx → EReal := V c (Pipeline.arrRef spec0 2)

/-- The first layer's products. -/
def preK (c : Dev nD) : Fin 4 → Fin 2560 → Fin 4096 → EReal :=
  Cert.Spec.pre (ct0 a) (V c (Pipeline.arrRef spec0 0)) (V c (Pipeline.arrRef spec0 1)) (w130 V c) (sw0 V c)
/-- The first layer, gated. -/
def H0 (c : Dev nD) : Fin 4 → Fin 2560 → Fin (16 * 128) → EReal := Cert.Spec.gated (preK a V c)

variable (hw : ∀ b, -2147481600 ≤ (ct0 a b).toInt)
include hw

theorem liveN0_slt (t : Fin (cfg0 a).N) (b : Fin 4) (hb : b.val = t.val / 40) (r : Fin 512) (s : Fin 2560) (hs : s.val = t.val / 8 % 5 * 512 + r.val) :
    (BitVec.ofNat 32 r.val).slt (liveN0 a t) = (BitVec.ofNat 32 s.val).slt (ct0 a b) := by
  have hp := pt0 t
  have e : grid0.coords t 0 = b := Fin.ext (by omega)
  unfold liveN0
  rw [e, hp.2.1, live_iff _ _ _ (by omega) r.isLt (hw b), hs]

theorem rowsAt0_apply (c : Dev nD) (t : Fin (cfg0 a).N) (r : Fin 512) (d : Fin 7168) (b : Fin 4) (hb : b.val = t.val / 40) (s : Fin 2560) (hs : s.val = t.val / 8 % 5 * 512 + r.val) :
    rowsAt0 a V c t (ix2 r d) = Cert.Spec.X (ct0 a) (V c (Pipeline.arrRef spec0 0)) (V c (Pipeline.arrRef spec0 1)) b s d := by
  unfold rowsAt0 rows0 Cert.Spec.X
  refine if_congr (by rw [← liveN0_slt a hw t b hb r s hs]; rfl) (congrArg₂ (· * ·) ?_ ?_) rfl
  · exact blk0_0 a V c t r d b s hb hs
  · exact blk0_1 a V c t r _ b s hb hs

theorem rowsAt0_congr (c : Dev nD) (t t' : Fin (cfg0 a).N) (h : t.val / 8 = t'.val / 8) : rowsAt0 a V c t = rowsAt0 a V c t' := by
  have hN : t.val < 160 := t.isLt
  have hN' : t'.val < 160 := t'.isLt
  funext y
  obtain ⟨r, d, rfl⟩ : ∃ (r : Fin 512) (d : Fin 7168), y = ix2 r d := ⟨y 0, y 1, by funext q; fin_cases q <;> rfl⟩
  rw [rowsAt0_apply a V hw c t r d ⟨t.val / 40, by omega⟩ rfl ⟨t.val / 8 % 5 * 512 + r.val, by omega⟩ rfl,
    rowsAt0_apply a V hw c t' r d ⟨t.val / 40, by omega⟩ (by show t.val / 40 = _; omega) ⟨t.val / 8 % 5 * 512 + r.val, by omega⟩ (by show t.val / 8 % 5 * 512 + r.val = _; omega)]

omit hw in
theorem wgtL_apply (c : Dev nD) (t : Fin (cfg0 a).N) (j : Fin 256) (d : Fin 7168) (b : Fin 4) (hb : b.val = t.val / 40) (f : Fin 4096) (hf : f.val = t.val % 8 * 256 + j.val) :
    wgt (iblk0 a V c 2 t) (iblk0 a V c 4 t) (ix2 j d) = w130 V c (ix3 b f d) * sw0 V c (ix3 b ⟨f.val / 128, by omega⟩ d) := by
  unfold wgt sw0 w130
  refine congrArg₂ (· * ·) ?_ ?_
  · exact blk0_2 a V c t j d b f hb hf
  · exact blk0_4 a V c t ⟨j.val / 128, by omega⟩ d b ⟨f.val / 128, by omega⟩ hb (by show f.val / 128 = _ + j.val / 128; omega)

omit hw in
theorem wgtR_apply (c : Dev nD) (t : Fin (cfg0 a).N) (j : Fin 256) (d : Fin 7168) (b : Fin 4) (hb : b.val = t.val / 40) (f : Fin 4096) (hf : f.val = t.val % 8 * 256 + j.val + 2048) :
    wgt (iblk0 a V c 3 t) (iblk0 a V c 5 t) (ix2 j d) = w130 V c (ix3 b f d) * sw0 V c (ix3 b ⟨f.val / 128, by omega⟩ d) := by
  unfold wgt sw0 w130
  refine congrArg₂ (· * ·) ?_ ?_
  · exact blk0_3 a V c t j d b f hb (by omega)
  · exact blk0_5 a V c t ⟨j.val / 128, by omega⟩ d b ⟨f.val / 128, by omega⟩ hb (by show f.val / 128 = _ + j.val / 128; omega)

theorem tileG_apply (c : Dev nD) (t : Fin (cfg0 a).N) (r : Fin 512) (j : Fin 256) (b : Fin 4) (hb : b.val = t.val / 40) (s : Fin 2560) (hs : s.val = t.val / 8 % 5 * 512 + r.val)
    (f : Fin 2048) (hf : f.val = t.val % 8 * 256 + j.val) :
    tileG a V c t (rowsAt0 a V c t) (ix2 r j) = H0 a V c b s f := by
  unfold tileG H0 Cert.Spec.gated
  have hL : dot0 (rowsAt0 a V c t) (wgt (iblk0 a V c 2 t) (iblk0 a V c 4 t)) r j = preK a V c b s ⟨f.val, by omega⟩ := by
    unfold preK Cert.Spec.pre dot0
    refine Finset.sum_congr rfl fun d _ => ?_
    rw [rowsAt0_apply a V hw c t r d b hb s hs, wgtL_apply a V c t j d b hb ⟨f.val, by omega⟩ hf]
  have hR : dot0 (rowsAt0 a V c t) (wgt (iblk0 a V c 3 t) (iblk0 a V c 5 t)) r j = preK a V c b s ⟨f.val + 2048, by omega⟩ := by
    unfold preK Cert.Spec.pre dot0
    refine Finset.sum_congr rfl fun d _ => ?_
    rw [rowsAt0_apply a V hw c t r d b hb s hs, wgtR_apply a V c t j d b hb ⟨f.val + 2048, by omega⟩ (by show f.val + 2048 = _; omega)]
  refine (pay88_apply _ _ _ r j).trans ?_
  rw [hL, hR]

theorem codes0_tileG (c : Dev nD) (t : Fin (cfg0 a).N) (y : S1x512x256.Idx) (b : Fin 4) (hb : b.val = t.val / 40) (s : Fin 2560) (hs : s.val = t.val / 8 % 5 * 512 + (y 1).val)
    (f : Fin 2048) (hf : f.val = t.val % 8 * 256 + (y 2).val) :
    codes0 (tileG a V c t (rowsAt0 a V c t)) y = Cert.Spec.codes (H0 a V c) b s f := by
  have hy : (y 2).val < 256 := (y 2).isLt
  unfold codes0 Cert.Spec.codes
  refine congrArg₂ Cert.Q.code (tileG_apply a V hw c t _ _ b hb s hs f hf) (congrArg Cert.Q.peak (funext fun k => ?_))
  exact tileG_apply a V hw c t _ _ b hb s hs _ (by show f.val / 128 * 128 + k.val = _ + ((y 2).val / 128 * 128 + k.val); omega)

theorem scale0_tileG (c : Dev nD) (t : Fin (cfg0 a).N) (r : Fin 2) (y : Fin 512) (b : Fin 4) (hb : b.val = t.val / 40) (s : Fin 2560) (hs : s.val = t.val / 8 % 5 * 512 + y.val)
    (g : Fin 16) (hg : g.val = t.val % 8 * 2 + r.val) :
    scale0 (tileG a V c t (rowsAt0 a V c t)) r y = Cert.Spec.scales (H0 a V c) b s g := by
  unfold scale0 Cert.Spec.scales
  refine congrArg Cert.Q.scale (congrArg Cert.Q.peak (funext fun k => ?_))
  exact tileG_apply a V hw c t _ _ b hb s hs _ (by show g.val * 128 + k.val = _ + (r.val * 128 + k.val); omega)

omit hw in
theorem live0_iff (t : Fin (cfg0 a).N) : k0_cond1 (grid0.coords t) (wd0 a t) = 1#1 ↔ (0#32).slt (liveN0 a t) = true := by
  rw [cond1_iff, wd0_eq]; rfl

set_option maxHeartbeats 1000000 in
/-- What a point of a live block leaves. -/
theorem live_point0 (c : Dev nD) : ∀ (n : ℕ) (hn : n < (cfg0 a).N), k0_cond1 (grid0.coords ⟨n, hn⟩) (wd0 a ⟨n, hn⟩) = 1#1 →
    (outsAt0 a V c ⟨n, hn⟩).2.2 = rowsAt0 a V c ⟨n, hn⟩
    ∧ (∀ y : S1x512x256.Idx, (outsAt0 a V c ⟨n, hn⟩).1 y = codes0 (tileG a V c ⟨n, hn⟩ (rowsAt0 a V c ⟨n, hn⟩)) y)
    ∧ (∀ (y : S1x512x16.Idx) (b : Fin 4) (hb : b.val = n / 40) (s : Fin 2560) (hs : s.val = n / 8 % 5 * 512 + (y 1).val), (y 2).val < (n % 8 + 1) * 2 →
        (outsAt0 a V c ⟨n, hn⟩).2.1 y = Cert.Spec.scales (H0 a V c) b s (y 2)) := by
  intro n
  induction n using Nat.strong_induction_on with
  | _ n ih =>
    intro hn h1
    have hp := (pt0 ⟨n, hn⟩).2.2
    by_cases h2 : k0_cond2 (grid0.coords ⟨n, hn⟩) = 1#1
    · have h0 := (hcond0 a ⟨n, hn⟩).mp h2
      have e : outsAt0 a V c ⟨n, hn⟩ = stepA0 a V c ⟨n, hn⟩ h1 h2 := by unfold outsAt0 step0; rw [dif_pos h1, dif_pos h2]
      rw [e]
      refine ⟨stepA0_rows a V c _ h1 h2, fun y => stepA0_codes a V c _ h1 h2 y, fun y b hb s hs hl => ?_⟩
      refine (stepA0_scales a V c _ h1 h2 y).trans ?_
      dsimp only at h0 hp
      split_ifs with g1 g2
      · exact scale0_tileG a V hw c ⟨n, hn⟩ (1 : Fin 2) (y 1) b hb s hs (y 2) (by show (y 2).val = n % 8 * 2 + 1; omega)
      · exact scale0_tileG a V hw c ⟨n, hn⟩ (0 : Fin 2) (y 1) b hb s hs (y 2) (by show (y 2).val = n % 8 * 2 + 0; omega)
      · omega
    · have h0 : n % 8 ≠ 0 := fun h => h2 ((hcond0 a ⟨n, hn⟩).mpr h)
      have e : outsAt0 a V c ⟨n, hn⟩ = stepB0 a V c ⟨n, hn⟩ h1 h2 (acc0 a V c n hn.le) := by unfold outsAt0 step0; rw [dif_pos h1, dif_neg h2]
      have hn1 : n - 1 < (cfg0 a).N := Nat.lt_of_le_of_lt (Nat.sub_le _ _) hn
      have ea : acc0 a V c n hn.le = outsAt0 a V c ⟨n - 1, hn1⟩ := by
        obtain ⟨k, rfl⟩ : ∃ k, n = k + 1 := ⟨n - 1, by omega⟩
        rfl
      obtain ⟨i1, i2, i3⟩ := ih (n - 1) (by omega) hn1 (live_pred0 a ⟨n, hn⟩ h0 h1)
      have er : rowsAt0 a V c ⟨n - 1, hn1⟩ = rowsAt0 a V c ⟨n, hn⟩ := rowsAt0_congr a V hw c _ _ (by show (n - 1) / 8 = n / 8; omega)
      rw [e, ea]
      rw [er] at i1
      refine ⟨i1, fun y => ?_, fun y b hb s hs hl => ?_⟩
      · rw [stepB0_codes, i1]
      · refine (stepB0_scales a V c _ h1 h2 _ y).trans ?_
        rw [i1]
        dsimp only at h0 hp
        split_ifs with g1 g2
        · exact scale0_tileG a V hw c ⟨n, hn⟩ (1 : Fin 2) (y 1) b hb s hs (y 2) (by show (y 2).val = n % 8 * 2 + 1; omega)
        · exact scale0_tileG a V hw c ⟨n, hn⟩ (0 : Fin 2) (y 1) b hb s hs (y 2) (by show (y 2).val = n % 8 * 2 + 0; omega)
        · exact i3 y b (by omega) s (by rw [hs]; omega) (by omega)

theorem dead0 (c : Dev nD) (t : Fin (cfg0 a).N) (h1 : ¬k0_cond1 (grid0.coords t) (wd0 a t) = 1#1) (b : Fin 4) (hb : b.val = t.val / 40) (s : Fin 2560) (r : Fin 512) (hs : s.val = t.val / 8 % 5 * 512 + r.val)
    (f : Fin 2048) : H0 a V c b s f = 0 := by
  refine Cert.Spec.gated_dead _ b s (fun f => Cert.Spec.pre_dead _ _ _ _ _ b s f ?_) f
  rw [live0_iff] at h1
  have hp := pt0 t
  have e : grid0.coords t 0 = b := Fin.ext (by omega)
  unfold liveN0 at h1
  rw [e, hp.2.1] at h1
  rw [hs]
  exact dead_row _ _ _ (by omega) r.isLt (hw b) h1

theorem point_codes0 (c : Dev nD) (t : Fin (cfg0 a).N) (y : S1x512x256.Idx) (b : Fin 4) (hb : b.val = t.val / 40) (s : Fin 2560) (hs : s.val = t.val / 8 % 5 * 512 + (y 1).val)
    (f : Fin 2048) (hf : f.val = t.val % 8 * 256 + (y 2).val) : (outsAt0 a V c t).1 y = Cert.Spec.codes (H0 a V c) b s f := by
  by_cases h1 : k0_cond1 (grid0.coords t) (wd0 a t) = 1#1
  · exact ((live_point0 a V hw c t.val t.isLt h1).2.1 y).trans (codes0_tileG a V hw c t y b hb s hs f hf)
  · have e : outsAt0 a V c t = stepC0 a V c t h1 (acc0 a V c t.val t.isLt.le) := by unfold outsAt0 step0; rw [dif_neg h1]
    rw [e]
    exact (stepC0_codes a V c t h1 _ y).trans (Cert.Spec.codes_dead (n := 16) (H0 a V c) b s (dead0 a V hw c t h1 b hb s (y 1) hs) f).symm

theorem point_scales0 (c : Dev nD) (t : Fin (cfg0 a).N) (ht : t.val % 8 = 7) (y : S1x512x16.Idx) (b : Fin 4) (hb : b.val = t.val / 40) (s : Fin 2560) (hs : s.val = t.val / 8 % 5 * 512 + (y 1).val) :
    (outsAt0 a V c t).2.1 y = Cert.Spec.scales (H0 a V c) b s (y 2) := by
  have hy : (y 2).val < 16 := (y 2).isLt
  by_cases h1 : k0_cond1 (grid0.coords t) (wd0 a t) = 1#1
  · exact (live_point0 a V hw c t.val t.isLt h1).2.2 y b hb s hs (by omega)
  · have e : outsAt0 a V c t = stepC0 a V c t h1 (acc0 a V c t.val t.isLt.le) := by unfold outsAt0 step0; rw [dif_neg h1]
    rw [e]
    exact (stepC0_scales a V c t h1 _ y).trans (Cert.Spec.scales_dead (n := 16) (H0 a V c) b s (dead0 a V hw c t h1 b hb s (y 1) hs) _).symm

theorem arr0_codes (c : Dev nD) : (dat0 a V c).arrAt 6 (cfg0 a).N = fun i : S4x2560x2048.Idx => Cert.Spec.codes (H0 a V c) (i 0) (i 1) (i 2) := by
  refine (dat0 a V c).arrAt_eq_of_covers 6 _ (((cfg0 a).win 6).covers_of_indexMap_surj rfl (by intro q; fin_cases q; (show 0 < 1; decide); (show 0 < 512; decide); (show 0 < 256; decide)) fun β => ?_) fun t hf y => ?_
  · have b0 : (β (0 : Fin 3)).val < (4 + 1 - 1) / 1 := (β (0 : Fin 3)).isLt
    have b1 : (β (1 : Fin 3)).val < (2560 + 512 - 1) / 512 := (β (1 : Fin 3)).isLt
    have b2 : (β (2 : Fin 3)).val < (2048 + 256 - 1) / 256 := (β (2 : Fin 3)).isLt
    have h := (idx0 ⟨(β (0 : Fin 3)).val * 40 + (β (1 : Fin 3)).val * 8 + (β (2 : Fin 3)).val, by show _ < 160; omega⟩).2.2.2.2.2.2.1
    refine ⟨grid0.coords ⟨(β (0 : Fin 3)).val * 40 + (β (1 : Fin 3)).val * 8 + (β (2 : Fin 3)).val, by show _ < 160; omega⟩, fun q => (congrFun h q).trans ?_⟩
    fin_cases q
    · show ((β (0 : Fin 3)).val * 40 + (β (1 : Fin 3)).val * 8 + (β (2 : Fin 3)).val) / 40 = (β (0 : Fin 3)).val; omega
    · show ((β (0 : Fin 3)).val * 40 + (β (1 : Fin 3)).val * 8 + (β (2 : Fin 3)).val) / 8 % 5 = (β (1 : Fin 3)).val; omega
    · show ((β (0 : Fin 3)).val * 40 + (β (1 : Fin 3)).val * 8 + (β (2 : Fin 3)).val) % 8 = (β (2 : Fin 3)).val; omega
  · have h : ((cfg0 a).win 6).index t = _ := (idx0 t).2.2.2.2.2.2.1
    have y0 : (y (0 : Fin 3)).val < 1 := (y (0 : Fin 3)).isLt
    blk_simp
    rw [after0_6]
    refine point_codes0 a V hw c t y _ ?_ _ ?_ _ ?_
    · blk_simp; rw [h]; show t.val / 40 = t.val / 40; rfl
    · blk_simp; rw [h]; rfl
    · blk_simp; rw [h]; rfl

theorem arr0_scales (c : Dev nD) : (dat0 a V c).arrAt 7 (cfg0 a).N = fun i : S4x2560x16.Idx => Cert.Spec.scales (H0 a V c) (i 0) (i 1) (i 2) := by
  refine (dat0 a V c).arrAt_eq_of_covers 7 _ (((cfg0 a).win 7).covers_of_indexMap_surj rfl (by intro q; fin_cases q; (show 0 < 1; decide); (show 0 < 512; decide); (show 0 < 16; decide)) fun β => ?_) fun t hf y => ?_
  · have b0 : (β (0 : Fin 3)).val < (4 + 1 - 1) / 1 := (β (0 : Fin 3)).isLt
    have b1 : (β (1 : Fin 3)).val < (2560 + 512 - 1) / 512 := (β (1 : Fin 3)).isLt
    have b2 : (β (2 : Fin 3)).val < (16 + 16 - 1) / 16 := (β (2 : Fin 3)).isLt
    have h := (idx0 ⟨(β (0 : Fin 3)).val * 40 + (β (1 : Fin 3)).val * 8 + (β (2 : Fin 3)).val, by show _ < 160; omega⟩).2.2.2.2.2.2.2
    refine ⟨grid0.coords ⟨(β (0 : Fin 3)).val * 40 + (β (1 : Fin 3)).val * 8 + (β (2 : Fin 3)).val, by show _ < 160; omega⟩, fun q => (congrFun h q).trans ?_⟩
    fin_cases q
    · show ((β (0 : Fin 3)).val * 40 + (β (1 : Fin 3)).val * 8 + (β (2 : Fin 3)).val) / 40 = (β (0 : Fin 3)).val; omega
    · show ((β (0 : Fin 3)).val * 40 + (β (1 : Fin 3)).val * 8 + (β (2 : Fin 3)).val) / 8 % 5 = (β (1 : Fin 3)).val; omega
    · show 0 = (β (2 : Fin 3)).val; omega
  · have h : ((cfg0 a).win 7).index t = _ := (idx0 t).2.2.2.2.2.2.2
    have y0 : (y (0 : Fin 3)).val < 1 := (y (0 : Fin 3)).isLt
    have e2 : (((cfg0 a).win 7).blk t).view.emb y (2 : Fin 3) = (y (2 : Fin 3) : Fin 16) := by
      apply Fin.ext; blk_simp; rw [h]; show 0 * 16 + (y (2 : Fin 3)).val = (y (2 : Fin 3)).val; omega
    blk_simp
    rw [after0_7]
    refine (point_scales0 a V hw c t ?_ y _ ?_ _ ?_).trans (congrArg _ e2.symm)
    · by_contra h7
      rw [Pipeline.Window.flush_eq_flushOf] at hf
      have := (by decide +kernel : ∀ u : Fin grid0.N, u.val % 8 ≠ 7 → Pipeline.Window.flushOf grid0 true cc0_transform_7 u = false) t h7
      exact absurd (hf.symm.trans this) (by decide)
    · blk_simp; rw [h]; show t.val / 40 = t.val / 40; rfl
    · blk_simp; rw [h]; rfl

end Cert.KernelIdeal.Gen
end
-- ==== Proof.Value.Inv1.lean ====
module

public import proofs.«01_k».proof.Proof.Value.Run1X
public import proofs.«01_k».proof.Proof.Value.Inv0

/-!
# What call 1 leaves in its two result arrays
-/

@[expose] public section
set_option maxRecDepth 16384
noncomputable section
namespace Cert.KernelIdeal.Gen
open Idealize.ShloMosaic Idealize.ShloMosaic.TcCoe Idealize.SL.Sem
open Idealize.ShloMosaic.Pipeline (Dat Cfg Window)

variable (a : (pcfg1 (F := Ideal)).Adm)
variable (V : (c : Dev nD) → (b : Ref sig .tc) → Buf (Elt Ideal) ((c : Thread nD τ).loc b))

theorem pt1 : ∀ t : Fin grid1.N, (grid1.coords t 0).val = t.val / 70 ∧ (grid1.coords t 1).val = t.val / 14 % 5 ∧ (grid1.coords t 2).val = t.val % 14 := by
  decide +kernel

theorem idx1 : ∀ t : Fin grid1.N, cc1_transform_0 (grid1.coords t) = ![t.val / 70, t.val / 14 % 5, 0] ∧ cc1_transform_1 (grid1.coords t) = ![t.val / 70, t.val / 14 % 5, 0]
    ∧ cc1_transform_2 (grid1.coords t) = ![t.val / 70, t.val % 14, 0] ∧ cc1_transform_3 (grid1.coords t) = ![t.val / 70, t.val % 14, 0, 0]
    ∧ cc1_transform_4 (grid1.coords t) = ![t.val / 70, t.val / 14 % 5, t.val % 14] ∧ cc1_transform_5 (grid1.coords t) = ![t.val / 70, t.val / 14 % 5, 0] := by
  decide +kernel

theorem blk1_0 (c : Dev nD) (t : Fin (cfg1 a).N) (r : Fin 512) (d : Fin 2048) (b : Fin 4) (s : Fin 2560) (hb : b.val = t.val / 70) (hs : s.val = t.val / 14 % 5 * 512 + r.val) :
    iblk1 a V c 0 t (ix3 0 r d) = V c (Pipeline.arrRef spec1 0) (ix3 b s d) := by
  have h : ((cfg1 a).win 0).index t = _ := (idx1 t).1
  unfold iblk1
  refine congrArg (V c (Pipeline.arrRef spec1 0)) ?_
  funext q
  apply Fin.ext
  blk_simp
  rw [h]
  fin_cases q
  · show t.val / 70 * 1 + 0 = b.val; omega
  · show t.val / 14 % 5 * 512 + r.val = s.val; omega
  · show 0 * 2048 + d.val = d.val; omega

theorem blk1_1 (c : Dev nD) (t : Fin (cfg1 a).N) (r : Fin 512) (d : Fin 16) (b : Fin 4) (s : Fin 2560) (hb : b.val = t.val / 70) (hs : s.val = t.val / 14 % 5 * 512 + r.val) :
    iblk1 a V c 1 t (ix3 0 r d) = V c (Pipeline.arrRef spec1 1) (ix3 b s d) := by
  have h : ((cfg1 a).win 1).index t = _ := (idx1 t).2.1
  unfold iblk1
  refine congrArg (V c (Pipeline.arrRef spec1 1)) ?_
  funext q
  apply Fin.ext
  blk_simp
  rw [h]
  fin_cases q
  · show t.val / 70 * 1 + 0 = b.val; omega
  · show t.val / 14 % 5 * 512 + r.val = s.val; omega
  · show 0 * 16 + d.val = d.val; omega

theorem blk1_2 (c : Dev nD) (t : Fin (cfg1 a).N) (r : Fin 512) (d : Fin 2048) (b : Fin 4) (f : Fin 7168) (hb : b.val = t.val / 70) (hf : f.val = t.val % 14 * 512 + r.val) :
    iblk1 a V c 2 t (ix3 0 r d) = V c (Pipeline.arrRef spec1 2) (ix3 b f d) := by
  have h : ((cfg1 a).win 2).index t = _ := (idx1 t).2.2.1
  unfold iblk1
  refine congrArg (V c (Pipeline.arrRef spec1 2)) ?_
  funext q
  apply Fin.ext
  blk_simp
  rw [h]
  fin_cases q
  · show t.val / 70 * 1 + 0 = b.val; omega
  · show t.val % 14 * 512 + r.val = f.val; omega
  · show 0 * 2048 + d.val = d.val; omega

theorem blk1_3 (c : Dev nD) (t : Fin (cfg1 a).N) (r : Fin 4) (d : Fin 2048) (b : Fin 4) (f : Fin 56) (hb : b.val = t.val / 70) (hf : f.val = t.val % 14 * 4 + r.val) :
    iblk1 a V c 3 t (ix4 0 r 0 d) = V c (Pipeline.arrRef spec1 3) (ix4 b f 0 d) := by
  have h : ((cfg1 a).win 3).index t = _ := (idx1 t).2.2.2.1
  unfold iblk1
  refine congrArg (V c (Pipeline.arrRef spec1 3)) ?_
  funext q
  apply Fin.ext
  blk_simp
  rw [h]
  fin_cases q
  · show t.val / 70 * 1 + 0 = b.val; omega
  · show t.val % 14 * 4 + r.val = f.val; omega
  · show 0 * 1 + 0 = 0; omega
  · show 0 * 2048 + d.val = d.val; omega

theorem k1_cond1_iff (i : grid1.Coords) (w : BitVec 32) : k1_cond1 i w = 1#1 ↔ (0#32).slt (w - BitVec.ofNat 32 (i 1).val * 512#32) = true := by
  unfold k1_cond1; dsimp only
  show _ ↔ (0#32).slt (Scalar.subi w (Scalar.muli (BitVec.ofNat 32 (i 1).val) 512#32)) = true
  generalize Scalar.subi w _ = z
  by_cases h : (0#32).slt z = true <;> simp [Scalar.cmpi, IntOp.cmpi, Scalar.extui, h]

/-! ## The whole array's mathematics -/

/-- The row counts. -/
abbrev ct1 (b : Fin 4) : BitVec 32 := tab1 a (Idealize.ShloMosaic.ix1 b)

/-- The codes and scales of the first layer, as the call finds them. -/
def hc1 (c : Dev nD) : S4x2560x2048.Idx → EReal := V c (Pipeline.arrRef spec1 0)
def hs1 (c : Dev nD) : S4x2560x16.Idx → EReal := V c (Pipeline.arrRef spec1 1)

/-- The weight codes. -/
def w2 (c : Dev nD) : S4x7168x2048.Idx → EReal := V c (Pipeline.arrRef spec1 2)

/-- The weight scales, a lane to an element. -/
def sw1 (c : Dev nD) : S4x56x2048.Idx → EReal := fun i => V c (Pipeline.arrRef spec1 3) (ix4 (i 0) (i 1) 0 (i 2))

/-- The second layer. -/
def Y1 (c : Dev nD) : Fin 4 → Fin 2560 → Fin (56 * 128) → EReal := Cert.Spec.second (hc1 V c) (hs1 V c) (w2 V c) (sw1 V c)

theorem rowsAt1_apply (c : Dev nD) (t : Fin (cfg1 a).N) (r : Fin 512) (d : Fin 2048) (b : Fin 4) (hb : b.val = t.val / 70) (s : Fin 2560) (hs : s.val = t.val / 14 % 5 * 512 + r.val) :
    rowsAt1 a V c t (ix2 r d) = hc1 V c (ix3 b s d) * hs1 V c (ix3 b s ⟨d.val / 128, by omega⟩) := by
  unfold rowsAt1 rows1 hc1 hs1
  refine congrArg₂ (· * ·) ?_ ?_
  · exact blk1_0 a V c t r d b s hb hs
  · exact blk1_1 a V c t r _ b s hb hs

theorem rowsAt1_congr (c : Dev nD) (t t' : Fin (cfg1 a).N) (h : t.val / 14 = t'.val / 14) : rowsAt1 a V c t = rowsAt1 a V c t' := by
  have hN : t.val < 280 := t.isLt
  have hN' : t'.val < 280 := t'.isLt
  funext y
  obtain ⟨r, d, rfl⟩ : ∃ (r : Fin 512) (d : Fin 2048), y = ix2 r d := ⟨y 0, y 1, by funext q; fin_cases q <;> rfl⟩
  rw [rowsAt1_apply a V c t r d ⟨t.val / 70, by omega⟩ rfl ⟨t.val / 14 % 5 * 512 + r.val, by omega⟩ rfl,
    rowsAt1_apply a V c t' r d ⟨t.val / 70, by omega⟩ (by show t.val / 70 = _; omega) ⟨t.val / 14 % 5 * 512 + r.val, by omega⟩ (by show t.val / 14 % 5 * 512 + r.val = _; omega)]

theorem wgtD_apply (c : Dev nD) (t : Fin (cfg1 a).N) (j : Fin 512) (d : Fin 2048) (b : Fin 4) (hb : b.val = t.val / 70) (f : Fin 7168) (hf : f.val = t.val % 14 * 512 + j.val) :
    wgtD (iblk1 a V c 2 t) (iblk1 a V c 3 t) (ix2 j d) = w2 V c (ix3 b f d) * sw1 V c (ix3 b ⟨f.val / 128, by omega⟩ d) := by
  unfold wgtD sw1 w2
  refine congrArg₂ (· * ·) ?_ ?_
  · exact blk1_2 a V c t j d b f hb hf
  · exact blk1_3 a V c t ⟨j.val / 128, by omega⟩ d b ⟨f.val / 128, by omega⟩ hb (by show f.val / 128 = _ + j.val / 128; omega)

theorem tileY_apply (c : Dev nD) (t : Fin (cfg1 a).N) (r : Fin 512) (j : Fin 512) (b : Fin 4) (hb : b.val = t.val / 70) (s : Fin 2560) (hs : s.val = t.val / 14 % 5 * 512 + r.val)
    (f : Fin 7168) (hf : f.val = t.val % 14 * 512 + j.val) :
    tileY a V c t (rowsAt1 a V c t) (ix2 r j) = Y1 V c b s f := by
  unfold tileY Y1 Cert.Spec.second
  refine (k1_pay31_apply _ _ r j).trans ?_
  refine Finset.sum_congr rfl fun d _ => ?_
  rw [rowsAt1_apply a V c t r d b hb s hs, wgtD_apply a V c t j d b hb f hf]

theorem codes1_tileY (c : Dev nD) (t : Fin (cfg1 a).N) (y : S1x512x512.Idx) (b : Fin 4) (hb : b.val = t.val / 70) (s : Fin 2560) (hs : s.val = t.val / 14 % 5 * 512 + (y 1).val)
    (f : Fin 7168) (hf : f.val = t.val % 14 * 512 + (y 2).val) :
    codes1 (tileY a V c t (rowsAt1 a V c t)) y = Cert.Spec.codes (Y1 V c) b s f := by
  have hy : (y 2).val < 512 := (y 2).isLt
  unfold codes1 Cert.Spec.codes
  refine congrArg₂ Cert.Q.code (tileY_apply a V c t _ _ b hb s hs f hf) (congrArg Cert.Q.peak (funext fun k => ?_))
  exact tileY_apply a V c t _ _ b hb s hs _ (by show f.val / 128 * 128 + k.val = _ + ((y 2).val / 128 * 128 + k.val); omega)

theorem scale1_tileY (c : Dev nD) (t : Fin (cfg1 a).N) (r : Fin 4) (y : Fin 512) (b : Fin 4) (hb : b.val = t.val / 70) (s : Fin 2560) (hs : s.val = t.val / 14 % 5 * 512 + y.val)
    (g : Fin 56) (hg : g.val = t.val % 14 * 4 + r.val) :
    scale1 (tileY a V c t (rowsAt1 a V c t)) r y = Cert.Spec.scales (Y1 V c) b s g := by
  unfold scale1 Cert.Spec.scales
  refine congrArg Cert.Q.scale (congrArg Cert.Q.peak (funext fun k => ?_))
  exact tileY_apply a V c t _ _ b hb s hs _ (by show g.val * 128 + k.val = _ + (r.val * 128 + k.val); omega)

/-- The lanes of a tile: its own four columns are its scales, an earlier one is what the buffer held. -/
theorem lanes1_tileY (c : Dev nD) (t : Fin (cfg1 a).N) (p : Vec Ideal S1x512x56 .f32) (y : S1x512x56.Idx) (b : Fin 4) (hb : b.val = t.val / 70) (s : Fin 2560) (hs : s.val = t.val / 14 % 5 * 512 + (y 1).val)
    (hl : (y 2).val < (t.val % 14 + 1) * 4) (hp : (y 2).val < t.val % 14 * 4 → p y = Cert.Spec.scales (Y1 V c) b s (y 2)) :
    lanes1 (grid1.coords t 2).val (tileY a V c t (rowsAt1 a V c t)) p y = Cert.Spec.scales (Y1 V c) b s (y 2) := by
  unfold lanes1
  rw [(pt1 t).2.2]
  split_ifs with g3 g2 g1 g0
  · exact scale1_tileY a V c t (3 : Fin 4) (y 1) b hb s hs (y 2) (by show (y 2).val = t.val % 14 * 4 + 3; omega)
  · exact scale1_tileY a V c t (2 : Fin 4) (y 1) b hb s hs (y 2) (by show (y 2).val = t.val % 14 * 4 + 2; omega)
  · exact scale1_tileY a V c t (1 : Fin 4) (y 1) b hb s hs (y 2) (by show (y 2).val = t.val % 14 * 4 + 1; omega)
  · exact scale1_tileY a V c t (0 : Fin 4) (y 1) b hb s hs (y 2) (by show (y 2).val = t.val % 14 * 4 + 0; omega)
  · exact hp (by omega)

theorem live1_iff (t : Fin (cfg1 a).N) : k1_cond1 (grid1.coords t) (wd1 a t) = 1#1 ↔ (0#32).slt (liveN1 a t) = true := by
  rw [k1_cond1_iff, wd1_eq]; rfl

set_option maxHeartbeats 1000000 in
/-- What a point of a live block leaves. -/
theorem live_point1 (c : Dev nD) : ∀ (n : ℕ) (hn : n < (cfg1 a).N), k1_cond1 (grid1.coords ⟨n, hn⟩) (wd1 a ⟨n, hn⟩) = 1#1 →
    (outsAt1 a V c ⟨n, hn⟩).2.2 = rowsAt1 a V c ⟨n, hn⟩
    ∧ (∀ y : S1x512x512.Idx, (outsAt1 a V c ⟨n, hn⟩).1 y = codes1 (tileY a V c ⟨n, hn⟩ (rowsAt1 a V c ⟨n, hn⟩)) y)
    ∧ (∀ (y : S1x512x56.Idx) (b : Fin 4) (hb : b.val = n / 70) (s : Fin 2560) (hs : s.val = n / 14 % 5 * 512 + (y 1).val), (y 2).val < (n % 14 + 1) * 4 →
        (outsAt1 a V c ⟨n, hn⟩).2.1 y = Cert.Spec.scales (Y1 V c) b s (y 2)) := by
  intro n
  induction n using Nat.strong_induction_on with
  | _ n ih =>
    intro hn h1
    by_cases h2 : k1_cond2 (grid1.coords ⟨n, hn⟩) = 1#1
    · have h0 := (hcond1 a ⟨n, hn⟩).mp h2
      have e : outsAt1 a V c ⟨n, hn⟩ = stepA1 a V c ⟨n, hn⟩ h1 h2 := by unfold outsAt1 step1; rw [dif_pos h1, dif_pos h2]
      rw [e]
      refine ⟨stepA1_rows a V c _ h1 h2, fun y => stepA1_codes a V c _ h1 h2 y, fun y b hb s hs hl => ?_⟩
      dsimp only at h0
      exact (stepA1_scales a V c _ h1 h2 y).trans (lanes1_tileY a V c ⟨n, hn⟩ _ y b hb s hs hl (fun h => absurd h (by show ¬(y 2).val < n % 14 * 4; omega)))
    · have h0 : n % 14 ≠ 0 := fun h => h2 ((hcond1 a ⟨n, hn⟩).mpr h)
      have e : outsAt1 a V c ⟨n, hn⟩ = stepB1 a V c ⟨n, hn⟩ h1 h2 (acc1 a V c n hn.le) := by unfold outsAt1 step1; rw [dif_pos h1, dif_neg h2]
      have hn1 : n - 1 < (cfg1 a).N := Nat.lt_of_le_of_lt (Nat.sub_le _ _) hn
      have ea : acc1 a V c n hn.le = outsAt1 a V c ⟨n - 1, hn1⟩ := by
        obtain ⟨k, rfl⟩ : ∃ k, n = k + 1 := ⟨n - 1, by omega⟩
        rfl
      obtain ⟨i1, i2, i3⟩ := ih (n - 1) (by omega) hn1 (live_pred1 a ⟨n, hn⟩ h0 h1)
      have er : rowsAt1 a V c ⟨n - 1, hn1⟩ = rowsAt1 a V c ⟨n, hn⟩ := rowsAt1_congr a V c _ _ (by show (n - 1) / 14 = n / 14; omega)
      rw [e, ea]
      rw [er] at i1
      refine ⟨i1, fun y => ?_, fun y b hb s hs hl => ?_⟩
      · rw [stepB1_codes, i1]
      · refine (stepB1_scales a V c _ h1 h2 _ y).trans ?_
        rw [i1]
        exact lanes1_tileY a V c ⟨n, hn⟩ _ y b hb s hs hl (fun h => i3 y b (by omega) s (by rw [hs]; omega) (by have h' : (y 2).val < n % 14 * 4 := h; omega))

variable (hw : ∀ b, -2147481600 ≤ (ct1 a b).toInt) (c : Dev nD)
  (hd : ∀ (b : Fin 4) (s : Fin 2560), ¬(BitVec.ofNat 32 s.val).slt (ct1 a b) = true → ∀ f, hc1 V c (ix3 b s f) = 0)
include hw hd

theorem dead1 (t : Fin (cfg1 a).N) (h1 : ¬k1_cond1 (grid1.coords t) (wd1 a t) = 1#1) (b : Fin 4) (hb : b.val = t.val / 70) (s : Fin 2560) (r : Fin 512) (hs : s.val = t.val / 14 % 5 * 512 + r.val)
    (f : Fin 7168) : Y1 V c b s f = 0 := by
  refine Cert.Spec.second_dead _ _ _ _ b s (hd b s ?_) f
  rw [live1_iff] at h1
  have hp := pt1 t
  have e : grid1.coords t 0 = b := Fin.ext (by omega)
  unfold liveN1 at h1
  rw [e, hp.2.1] at h1
  rw [hs]
  exact dead_row _ _ _ (by omega) r.isLt (hw b) h1

theorem point_codes1 (t : Fin (cfg1 a).N) (y : S1x512x512.Idx) (b : Fin 4) (hb : b.val = t.val / 70) (s : Fin 2560) (hs : s.val = t.val / 14 % 5 * 512 + (y 1).val)
    (f : Fin 7168) (hf : f.val = t.val % 14 * 512 + (y 2).val) : (outsAt1 a V c t).1 y = Cert.Spec.codes (Y1 V c) b s f := by
  by_cases h1 : k1_cond1 (grid1.coords t) (wd1 a t) = 1#1
  · exact ((live_point1 a V c t.val t.isLt h1).2.1 y).trans (codes1_tileY a V c t y b hb s hs f hf)
  · have e : outsAt1 a V c t = stepC1 a V c t h1 (acc1 a V c t.val t.isLt.le) := by unfold outsAt1 step1; rw [dif_neg h1]
    rw [e]
    exact (stepC1_codes a V c t h1 _ y).trans (Cert.Spec.codes_dead (n := 56) (Y1 V c) b s (dead1 a V hw c hd t h1 b hb s (y 1) hs) f).symm

theorem point_scales1 (t : Fin (cfg1 a).N) (ht : t.val % 14 = 13) (y : S1x512x56.Idx) (b : Fin 4) (hb : b.val = t.val / 70) (s : Fin 2560) (hs : s.val = t.val / 14 % 5 * 512 + (y 1).val) :
    (outsAt1 a V c t).2.1 y = Cert.Spec.scales (Y1 V c) b s (y 2) := by
  have hy : (y 2).val < 56 := (y 2).isLt
  by_cases h1 : k1_cond1 (grid1.coords t) (wd1 a t) = 1#1
  · exact (live_point1 a V c t.val t.isLt h1).2.2 y b hb s hs (by omega)
  · have e : outsAt1 a V c t = stepC1 a V c t h1 (acc1 a V c t.val t.isLt.le) := by unfold outsAt1 step1; rw [dif_neg h1]
    rw [e]
    exact (stepC1_scales a V c t h1 _ y).trans (Cert.Spec.scales_dead (n := 56) (Y1 V c) b s (dead1 a V hw c hd t h1 b hb s (y 1) hs) _).symm

theorem arr1_codes : (dat1 a V c).arrAt 4 (cfg1 a).N = fun i : S4x2560x7168.Idx => Cert.Spec.codes (Y1 V c) (i 0) (i 1) (i 2) := by
  refine (dat1 a V c).arrAt_eq_of_covers 4 _ (((cfg1 a).win 4).covers_of_indexMap_surj rfl (by intro q; fin_cases q; (show 0 < 1; decide); (show 0 < 512; decide); (show 0 < 512; decide)) fun β => ?_) fun t hf y => ?_
  · have b0 : (β (0 : Fin 3)).val < (4 + 1 - 1) / 1 := (β (0 : Fin 3)).isLt
    have b1 : (β (1 : Fin 3)).val < (2560 + 512 - 1) / 512 := (β (1 : Fin 3)).isLt
    have b2 : (β (2 : Fin 3)).val < (7168 + 512 - 1) / 512 := (β (2 : Fin 3)).isLt
    have h := (idx1 ⟨(β (0 : Fin 3)).val * 70 + (β (1 : Fin 3)).val * 14 + (β (2 : Fin 3)).val, by show _ < 280; omega⟩).2.2.2.2.1
    refine ⟨grid1.coords ⟨(β (0 : Fin 3)).val * 70 + (β (1 : Fin 3)).val * 14 + (β (2 : Fin 3)).val, by show _ < 280; omega⟩, fun q => (congrFun h q).trans ?_⟩
    fin_cases q
    · show ((β (0 : Fin 3)).val * 70 + (β (1 : Fin 3)).val * 14 + (β (2 : Fin 3)).val) / 70 = (β (0 : Fin 3)).val; omega
    · show ((β (0 : Fin 3)).val * 70 + (β (1 : Fin 3)).val * 14 + (β (2 : Fin 3)).val) / 14 % 5 = (β (1 : Fin 3)).val; omega
    · show ((β (0 : Fin 3)).val * 70 + (β (1 : Fin 3)).val * 14 + (β (2 : Fin 3)).val) % 14 = (β (2 : Fin 3)).val; omega
  · have h : ((cfg1 a).win 4).index t = _ := (idx1 t).2.2.2.2.1
    have y0 : (y (0 : Fin 3)).val < 1 := (y (0 : Fin 3)).isLt
    blk_simp
    rw [after1_4]
    refine point_codes1 a V hw c hd t y _ ?_ _ ?_ _ ?_
    · blk_simp; rw [h]; show t.val / 70 = t.val / 70; rfl
    · blk_simp; rw [h]; rfl
    · blk_simp; rw [h]; rfl

theorem arr1_scales : (dat1 a V c).arrAt 5 (cfg1 a).N = fun i : S4x2560x56.Idx => Cert.Spec.scales (Y1 V c) (i 0) (i 1) (i 2) := by
  refine (dat1 a V c).arrAt_eq_of_covers 5 _ (((cfg1 a).win 5).covers_of_indexMap_surj rfl (by intro q; fin_cases q; (show 0 < 1; decide); (show 0 < 512; decide); (show 0 < 56; decide)) fun β => ?_) fun t hf y => ?_
  · have b0 : (β (0 : Fin 3)).val < (4 + 1 - 1) / 1 := (β (0 : Fin 3)).isLt
    have b1 : (β (1 : Fin 3)).val < (2560 + 512 - 1) / 512 := (β (1 : Fin 3)).isLt
    have b2 : (β (2 : Fin 3)).val < (56 + 56 - 1) / 56 := (β (2 : Fin 3)).isLt
    have h := (idx1 ⟨(β (0 : Fin 3)).val * 70 + (β (1 : Fin 3)).val * 14 + (β (2 : Fin 3)).val, by show _ < 280; omega⟩).2.2.2.2.2
    refine ⟨grid1.coords ⟨(β (0 : Fin 3)).val * 70 + (β (1 : Fin 3)).val * 14 + (β (2 : Fin 3)).val, by show _ < 280; omega⟩, fun q => (congrFun h q).trans ?_⟩
    fin_cases q
    · show ((β (0 : Fin 3)).val * 70 + (β (1 : Fin 3)).val * 14 + (β (2 : Fin 3)).val) / 70 = (β (0 : Fin 3)).val; omega
    · show ((β (0 : Fin 3)).val * 70 + (β (1 : Fin 3)).val * 14 + (β (2 : Fin 3)).val) / 14 % 5 = (β (1 : Fin 3)).val; omega
    · show 0 = (β (2 : Fin 3)).val; omega
  · have h : ((cfg1 a).win 5).index t = _ := (idx1 t).2.2.2.2.2
    have y0 : (y (0 : Fin 3)).val < 1 := (y (0 : Fin 3)).isLt
    have e2 : (((cfg1 a).win 5).blk t).view.emb y (2 : Fin 3) = (y (2 : Fin 3) : Fin 56) := by
      apply Fin.ext; blk_simp; rw [h]; show 0 * 56 + (y (2 : Fin 3)).val = (y (2 : Fin 3)).val; omega
    blk_simp
    rw [after1_5]
    refine (point_scales1 a V hw c hd t ?_ y _ ?_ _ ?_).trans (congrArg _ e2.symm)
    · by_contra h13
      rw [Pipeline.Window.flush_eq_flushOf] at hf
      have := (by decide +kernel : ∀ u : Fin grid1.N, u.val % 14 ≠ 13 → Pipeline.Window.flushOf grid1 true cc1_transform_5 u = false) t h13
      exact absurd (hf.symm.trans this) (by decide)
    · blk_simp; rw [h]; show t.val / 70 = t.val / 70; rfl
    · blk_simp; rw [h]; rfl

end Cert.KernelIdeal.Gen
end
-- ==== Proof.Value.AlgK.lean ====
module

public import proofs.«01_k».proof.Proof.Value.Inv1
public import proofs.«01_k».proof.Proof.KernelIdeal.Frame
public import Idealize.ShloMosaic.Lib.StableHlo.ReadAt

/-!
# The kernel's four results, from its arguments
-/

@[expose] public section
set_option maxRecDepth 16384
noncomputable section
namespace Cert.Spec
open Idealize.ShloMosaic Cert.KernelIdeal

/-- A weight scale for every element of its row: the scale of the element's block of 128. -/
def lane {n k : ℕ} (s : (⟨3, ![4, n, k]⟩ : Shape).Idx → EReal) : (⟨3, ![4, n, k * 128]⟩ : Shape).Idx → EReal :=
  fun i => s (ix3 (i 0) (i 1) ⟨(i 2).val / 128, by have h : (i 2).val < k * 128 := (i 2).isLt; omega⟩)

/-- The first layer's gated products, from the arguments. -/
def layer1 (ct : S4.Idx → BitVec 32) (xc : S4x2560x7168.Idx → EReal) (xs : S4x2560x56.Idx → EReal) (w : S4x4096x7168.Idx → EReal) (s : S4x32x56.Idx → EReal) :
    Fin 4 → Fin 2560 → Fin (16 * 128) → EReal :=
  gated (pre (fun b => ct (Idealize.ShloMosaic.ix1 b)) xc xs w (lane s))

/-- The second layer, from the first layer's quantised products. -/
def layer2 (h : Fin 4 → Fin 2560 → Fin (16 * 128) → EReal) (w : S4x7168x2048.Idx → EReal) (s : S4x56x16.Idx → EReal) : Fin 4 → Fin 2560 → Fin (56 * 128) → EReal :=
  second (fun i => codes (n := 16) h (i 0) (i 1) (i 2)) (fun i => scales (n := 16) h (i 0) (i 1) (i 2)) w (lane s)

/-- A dead row of the first layer is zero. -/
theorem layer1_dead (ct : S4.Idx → BitVec 32) (xc : S4x2560x7168.Idx → EReal) (xs : S4x2560x56.Idx → EReal) (w : S4x4096x7168.Idx → EReal) (s : S4x32x56.Idx → EReal)
    (b : Fin 4) (r : Fin 2560) (h : ¬(BitVec.ofNat 32 r.val).slt (ct (Idealize.ShloMosaic.ix1 b)) = true) (f : Fin (16 * 128)) : layer1 ct xc xs w s b r f = 0 :=
  gated_dead _ b r (fun f => pre_dead _ _ _ _ _ b r f h) f

end Cert.Spec

namespace Cert.KernelIdeal.Gen.Run
open Idealize.ShloMosaic Idealize.ShloMosaic.TcCoe Idealize.SL.Sem

variable (m : (ℓ : Loc nD τ sig) → Buf (Elt Ideal) ℓ) (ρ : Dev nD → PrngReg)

/-- The first layer of the launch's arguments. -/
def Hm (c : Dev nD) : Fin 4 → Fin 2560 → Fin (16 * 128) → EReal :=
  Cert.Spec.layer1 (m ((c : Thread nD τ).loc main_arg2)) (m ((c : Thread nD τ).loc main_arg0)) (m ((c : Thread nD τ).loc main_arg1)) (m ((c : Thread nD τ).loc main_arg3)) (m ((c : Thread nD τ).loc main_arg4))

/-- The second layer of the launch's arguments. -/
def Ym (c : Dev nD) : Fin 4 → Fin 2560 → Fin (56 * 128) → EReal :=
  Cert.Spec.layer2 (Hm m c) (m ((c : Thread nD τ).loc main_arg5)) (m ((c : Thread nD τ).loc main_arg6))

theorem v3_at (c : Dev nD) (b : Fin 4) (s : Fin 32) (d : Fin 7168) :
    W1 m ρ c (Proc.devRef .tc main_v3) (ix4 b s 0 d) = m ((c : Thread nD τ).loc main_arg4) (ix3 b s ⟨d.val / 128, by omega⟩) := by
  unfold W1
  after_reads_at

theorem v7_at (c : Dev nD) (b : Fin 4) (s : Fin 56) (d : Fin 2048) :
    W1 m ρ c (Proc.devRef .tc main_v7) (ix4 b s 0 d) = m ((c : Thread nD τ).loc main_arg6) (ix3 b s ⟨d.val / 128, by omega⟩) := by
  unfold W1
  after_reads_at

theorem ct0_eq (c : Dev nD) (b : Fin 4) : ct0 (adm0 m ρ) b = m ((c : Thread nD τ).loc main_arg2) (Idealize.ShloMosaic.ix1 b) := by
  obtain rfl : c = 0 := Subsingleton.elim _ _
  rfl

theorem ct1_eq (c : Dev nD) (b : Fin 4) : ct1 (adm1 m ρ) b = m ((c : Thread nD τ).loc main_arg2) (Idealize.ShloMosaic.ix1 b) := by
  obtain rfl : c = 0 := Subsingleton.elim _ _
  rfl

theorem sw0_eq (c : Dev nD) : sw0 (V1 m ρ) c = Cert.Spec.lane (m ((c : Thread nD τ).loc main_arg4)) := by
  funext i
  exact v3_at m ρ c (i 0) (i 1) (i 2)

theorem H0_eq (c : Dev nD) : H0 (adm0 m ρ) (V1 m ρ) c = Hm m c := by
  unfold H0 Hm Cert.Spec.layer1 preK
  rw [sw0_eq, show (ct0 (adm0 m ρ)) = _ from funext (ct0_eq m ρ c)]
  have e0 : V1 m ρ c (Pipeline.arrRef spec0 0) = m ((c : Thread nD τ).loc main_arg0) := W1_args m ρ c main_arg0 (by decide)
  have e1 : V1 m ρ c (Pipeline.arrRef spec0 1) = m ((c : Thread nD τ).loc main_arg1) := W1_args m ρ c main_arg1 (by decide)
  have e2 : w130 (V1 m ρ) c = m ((c : Thread nD τ).loc main_arg3) := W1_args m ρ c main_arg3 (by decide)
  rw [e0, e1, e2]

variable (hw : ∀ (c : Dev nD) (b : Fin 4), -2147481600 ≤ (m ((c : Thread nD τ).loc main_arg2) (Idealize.ShloMosaic.ix1 b) : BitVec 32).toInt)
include hw

theorem hc_eq (c : Dev nD) : W2 m ρ c (Proc.devRef .tc main_v8_0) = fun i : S4x2560x2048.Idx => Cert.Spec.codes (n := 16) (Hm m c) (i 0) (i 1) (i 2) := by
  refine (W2_arr m ρ c 6).trans ((arr0_codes (adm0 m ρ) (V1 m ρ) (fun b => by rw [ct0_eq m ρ c]; exact hw c b) c).trans ?_)
  rw [H0_eq]

theorem hs_eq (c : Dev nD) : W2 m ρ c (Proc.devRef .tc main_v8_1) = fun i : S4x2560x16.Idx => Cert.Spec.scales (n := 16) (Hm m c) (i 0) (i 1) (i 2) := by
  refine (W2_arr m ρ c 7).trans ((arr0_scales (adm0 m ρ) (V1 m ρ) (fun b => by rw [ct0_eq m ρ c]; exact hw c b) c).trans ?_)
  rw [H0_eq]

theorem sw1_eq (c : Dev nD) : sw1 (V2 m ρ) c = Cert.Spec.lane (m ((c : Thread nD τ).loc main_arg6)) := by
  funext i
  refine (congrFun (W2_of m ρ c main_v7 (by decide +kernel)) _).trans ?_
  exact v7_at m ρ c (i 0) (i 1) (i 2)

theorem Y1_eq (c : Dev nD) : Y1 (V2 m ρ) c = Ym m c := by
  unfold Y1 Ym Cert.Spec.layer2
  rw [sw1_eq m ρ hw]
  have e0 : hc1 (V2 m ρ) c = _ := hc_eq m ρ hw c
  have e1 : hs1 (V2 m ρ) c = _ := hs_eq m ρ hw c
  have e2 : w2 (V2 m ρ) c = m ((c : Thread nD τ).loc main_arg5) := W2_args m ρ c main_arg5 (by decide)
  rw [e0, e1, e2]

theorem hdead (c : Dev nD) (b : Fin 4) (s : Fin 2560) (h : ¬(BitVec.ofNat 32 s.val).slt (ct1 (adm1 m ρ) b) = true) (f : Fin 2048) : hc1 (V2 m ρ) c (ix3 b s f) = 0 := by
  have e0 : hc1 (V2 m ρ) c = _ := hc_eq m ρ hw c
  rw [e0]
  rw [ct1_eq m ρ c] at h
  exact Cert.Spec.codes_dead (n := 16) _ b s (fun f => Cert.Spec.layer1_dead _ _ _ _ _ b s h f) f

theorem yc_eq (c : Dev nD) : W3 m ρ c (Proc.devRef .tc main_v9_0) = fun i : S4x2560x7168.Idx => Cert.Spec.codes (n := 56) (Ym m c) (i 0) (i 1) (i 2) := by
  refine (W3_arr m ρ c 4).trans ((arr1_codes (adm1 m ρ) (V2 m ρ) (fun b => by rw [ct1_eq m ρ c]; exact hw c b) c (hdead m ρ hw c)).trans ?_)
  rw [Y1_eq m ρ hw]

theorem ys_eq (c : Dev nD) : W3 m ρ c (Proc.devRef .tc main_v9_1) = fun i : S4x2560x56.Idx => Cert.Spec.scales (n := 56) (Ym m c) (i 0) (i 1) (i 2) := by
  refine (W3_arr m ρ c 5).trans ((arr1_scales (adm1 m ρ) (V2 m ρ) (fun b => by rw [ct1_eq m ρ c]; exact hw c b) c (hdead m ρ hw c)).trans ?_)
  rw [Y1_eq m ρ hw]

theorem hc3_eq (c : Dev nD) : W3 m ρ c (Proc.devRef .tc main_v8_0) = fun i : S4x2560x2048.Idx => Cert.Spec.codes (n := 16) (Hm m c) (i 0) (i 1) (i 2) :=
  (W3_of m ρ c main_v8_0 (by decide +kernel)).trans (hc_eq m ρ hw c)

theorem hs3_eq (c : Dev nD) : W3 m ρ c (Proc.devRef .tc main_v8_1) = fun i : S4x2560x16.Idx => Cert.Spec.scales (n := 16) (Hm m c) (i 0) (i 1) (i 2) :=
  (W3_of m ρ c main_v8_1 (by decide +kernel)).trans (hs_eq m ρ hw c)

end Cert.KernelIdeal.Gen.Run
end
-- ==== Proof.Value.AlgR.lean ====
module

public import proofs.«01_k».proof.Proof.Value.RefVal
public import proofs.«01_k».proof.Proof.Value.AlgK

/-!
# The reference's four results, from its arguments
-/

@[expose] public section
set_option maxRecDepth 16384
noncomputable section
namespace Cert.ReferenceIdeal.Value
open Cert.ReferenceIdeal Cert.ReferenceIdeal.Gen Idealize.ShloMosaic Idealize.ShloMosaic.TcCoe Idealize.SL.Sem

variable (m : (ℓ : Loc nD τ sig) → Buf (Elt Ideal) ℓ)

theorem live_word (x y : BitVec 32) : IntOp.cmpi .sgt (BitVec.setWidth 32 (IntOp.cmpi .slt x y)) 0#32 = IntOp.cmpi .slt x y := by
  by_cases h : x.slt y = true <;> simp [IntOp.cmpi, h]

theorem lane16 (c : Dev nD) : V m c main_v16 = Cert.Spec.lane (n := 32) (k := 56) (m ((c : Thread nD τ).loc main_arg4)) := by
  funext i
  refine (congrArg (V m c main_v16) ?_).trans (v16_at m c (i 0) (i 1) (i 2))
  funext q; fin_cases q <;> rfl

theorem lane19 (c : Dev nD) : V m c main_v19 = Cert.Spec.lane (n := 56) (k := 16) (m ((c : Thread nD τ).loc main_arg6)) := by
  funext i
  refine (congrArg (V m c main_v19) ?_).trans (v19_at m c (i 0) (i 1) (i 2))
  funext q; fin_cases q <;> rfl

theorem preR_eq (c : Dev nD) (xc : Vec Ideal S4x2560x7168 .fp8e4m3) (w : Vec Ideal S4x4096x7168 .fp8e4m3) (sw : Vec Ideal S4x32x7168 .bf16) (b : Fin 4) (s : Fin 2560) (f : Fin 4096) :
    preR (V m c main_v4) xc (V m c main_v13) w sw b s f
      = Cert.Spec.pre (fun b => m ((c : Thread nD τ).loc main_arg2) (Idealize.ShloMosaic.ix1 b)) xc (m ((c : Thread nD τ).loc main_arg1)) w sw b s f := by
  unfold preR Cert.Spec.pre Cert.Spec.X
  refine Finset.sum_congr rfl fun d _ => congrArg₂ (· * ·) ?_ rfl
  rw [v4_at, v13_at, live_word]
  by_cases h : (BitVec.ofNat 32 s.val).slt (m ((c : Thread nD τ).loc main_arg2) (Idealize.ShloMosaic.ix1 b)) = true
  · simp [IntOp.cmpi, h, select, Scalar.select]
  · simp [IntOp.cmpi, h, select, Scalar.select]

/-- The first layer of the arguments. -/
theorem HV_eq (c : Dev nD) : HV m c = Cert.Spec.layer1 (m ((c : Thread nD τ).loc main_arg2)) (m ((c : Thread nD τ).loc main_arg0)) (m ((c : Thread nD τ).loc main_arg1))
    (m ((c : Thread nD τ).loc main_arg3)) (m ((c : Thread nD τ).loc main_arg4)) := by
  unfold HV HR Cert.Spec.layer1
  refine congrArg Cert.Spec.gated ?_
  funext b s f
  rw [preR_eq, V_main_arg0, V_main_arg3, lane16]

/-- The second layer of the arguments. -/
theorem YV_eq (c : Dev nD) : YV m c = Cert.Spec.layer2 (HV m c) (m ((c : Thread nD τ).loc main_arg5)) (m ((c : Thread nD τ).loc main_arg6)) := by
  unfold YV YR Cert.Spec.layer2
  rw [V_main_arg5, lane19]
  rfl

end Cert.ReferenceIdeal.Value
end
-- ==== Proof.Value.Alg.lean ====
module

public import proofs.«01_k».proof.Defs
public import proofs.«01_k».proof.Proof.Value.AlgR

/-!
# The two programs compute the same four arrays
-/

@[expose] public section
set_option maxRecDepth 16384
noncomputable section
namespace Cert.Alg
open Idealize.ShloMosaic Idealize.ShloMosaic.TcCoe Idealize.SL.Sem

/-- The side condition of the precondition: a scalar spreads over the four counts. -/
instance preFacts : Cert.Pre_no_wrap.Facts where
  bcast_S_S4 := by decide

/-- What the precondition says of a count. -/
theorem count_of_pre (m : (ℓ : Loc Cert.KernelIdeal.nD Cert.KernelIdeal.τ Cert.KernelIdeal.sig) → Buf (Elt Ideal) ℓ) (h : Cert.Pre_KernelIdeal_no_wrap m)
    (c : Dev Cert.KernelIdeal.nD) (b : Fin 4) :
    -2147481600 ≤ (m ((c : Thread Cert.KernelIdeal.nD Cert.KernelIdeal.τ).loc Cert.KernelIdeal.main_arg2) (Idealize.ShloMosaic.ix1 b) : BitVec 32).toInt := by
  have h1 := congrFun (h c) (Idealize.ShloMosaic.ix1 b)
  have h2 : IntOp.cmpi .sge (m ((c : Thread Cert.KernelIdeal.nD Cert.KernelIdeal.τ).loc Cert.KernelIdeal.main_arg2) (Idealize.ShloMosaic.ix1 b)) 2147485696#32 = 1#1 := h1
  generalize m ((c : Thread Cert.KernelIdeal.nD Cert.KernelIdeal.τ).loc Cert.KernelIdeal.main_arg2) (Idealize.ShloMosaic.ix1 b) = x at h2 ⊢
  have e : (2147485696#32 : BitVec 32).toInt = -2147481600 := by decide
  rw [← e]
  by_contra hn
  have : BitVec.sle 2147485696#32 x = false := by
    rw [BitVec.sle_eq_decide]; exact decide_eq_false hn
  simp [IntOp.cmpi, this] at h2

theorem algebraic : Cert.algebraic_KernelIdeal_ReferenceIdeal_pre_no_wrap := by
  intro m g m' g' hp ha
  have hw := count_of_pre m hp
  refine ⟨fun c => fun i : Cert.KernelIdeal.S4x2560x7168.Idx => Cert.Spec.codes (n := 56) (Cert.KernelIdeal.Gen.Run.Ym m c) (i 0) (i 1) (i 2),
    fun c => fun i : Cert.KernelIdeal.S4x2560x56.Idx => Cert.Spec.scales (n := 56) (Cert.KernelIdeal.Gen.Run.Ym m c) (i 0) (i 1) (i 2),
    fun c => fun i : Cert.KernelIdeal.S4x2560x2048.Idx => Cert.Spec.codes (n := 16) (Cert.KernelIdeal.Gen.Run.Hm m c) (i 0) (i 1) (i 2),
    fun c => fun i : Cert.KernelIdeal.S4x2560x16.Idx => Cert.Spec.scales (n := 16) (Cert.KernelIdeal.Gen.Run.Hm m c) (i 0) (i 1) (i 2), ?_, ?_⟩
  · exact (θ_run _ _ _).mono (fun _ h c =>
      ⟨(h.1 c _ (Cert.KernelIdeal.Gen.Run.mem_uc Cert.KernelIdeal.main_v9_0 (by decide))).trans (Cert.KernelIdeal.Gen.Run.yc_eq m g hw c),
       (h.1 c _ (Cert.KernelIdeal.Gen.Run.mem_uc Cert.KernelIdeal.main_v9_1 (by decide))).trans (Cert.KernelIdeal.Gen.Run.ys_eq m g hw c),
       (h.1 c _ (Cert.KernelIdeal.Gen.Run.mem_uc Cert.KernelIdeal.main_v8_0 (by decide))).trans (Cert.KernelIdeal.Gen.Run.hc3_eq m g hw c),
       (h.1 c _ (Cert.KernelIdeal.Gen.Run.mem_uc Cert.KernelIdeal.main_v8_1 (by decide))).trans (Cert.KernelIdeal.Gen.Run.hs3_eq m g hw c),
       (h.1 c _ (Cert.KernelIdeal.Gen.Run.mem_uc Cert.KernelIdeal.main_arg0 (by decide))).trans (Cert.KernelIdeal.Gen.Run.W3_main_arg0 m g c),
       (h.1 c _ (Cert.KernelIdeal.Gen.Run.mem_uc Cert.KernelIdeal.main_arg1 (by decide))).trans (Cert.KernelIdeal.Gen.Run.W3_main_arg1 m g c),
       (h.1 c _ (Cert.KernelIdeal.Gen.Run.mem_uc Cert.KernelIdeal.main_arg2 (by decide))).trans (Cert.KernelIdeal.Gen.Run.W3_main_arg2 m g c),
       (h.1 c _ (Cert.KernelIdeal.Gen.Run.mem_uc Cert.KernelIdeal.main_arg3 (by decide))).trans (Cert.KernelIdeal.Gen.Run.W3_main_arg3 m g c),
       (h.1 c _ (Cert.KernelIdeal.Gen.Run.mem_uc Cert.KernelIdeal.main_arg4 (by decide))).trans (Cert.KernelIdeal.Gen.Run.W3_main_arg4 m g c),
       (h.1 c _ (Cert.KernelIdeal.Gen.Run.mem_uc Cert.KernelIdeal.main_arg5 (by decide))).trans (Cert.KernelIdeal.Gen.Run.W3_main_arg5 m g c),
       (h.1 c _ (Cert.KernelIdeal.Gen.Run.mem_uc Cert.KernelIdeal.main_arg6 (by decide))).trans (Cert.KernelIdeal.Gen.Run.W3_main_arg6 m g c)⟩)
      (Cert.KernelIdeal.Gen.Run.run_all m g)
  · have eH : ∀ c : Dev Cert.KernelIdeal.nD, Cert.ReferenceIdeal.Value.HV m' c = Cert.KernelIdeal.Gen.Run.Hm m c := fun c => by
      obtain ⟨a0, a1, a2, a3, a4, a5, a6⟩ := ha c
      rw [Cert.ReferenceIdeal.Value.HV_eq]
      unfold Cert.KernelIdeal.Gen.Run.Hm
      rw [a0, a1, a2, a3, a4]
    have eY : ∀ c : Dev Cert.KernelIdeal.nD, Cert.ReferenceIdeal.Value.YV m' c = Cert.KernelIdeal.Gen.Run.Ym m c := fun c => by
      obtain ⟨a0, a1, a2, a3, a4, a5, a6⟩ := ha c
      rw [Cert.ReferenceIdeal.Value.YV_eq, eH c]
      unfold Cert.KernelIdeal.Gen.Run.Ym
      rw [a5, a6]
    refine (θ_run _ _ _).mono (fun _ h c => ?_) (Cert.ReferenceIdeal.Value.run_blocks m' g')
    obtain ⟨h0, h1, h2, h3, hr⟩ := h c
    refine ⟨h0.trans ((Cert.ReferenceIdeal.Value.arr_8 m' c).trans ?_), h1.trans ((Cert.ReferenceIdeal.Value.arr_9 m' c).trans ?_),
      h2.trans ((Cert.ReferenceIdeal.Value.arr_10 m' c).trans ?_), h3.trans ((Cert.ReferenceIdeal.Value.arr_11 m' c).trans ?_), hr⟩
    · rw [eY c]
    · rw [eY c]
    · rw [eH c]
    · rw [eH c]

end Cert.Alg
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Kernel.Frame
public import proofs.«01_k».proof.Proof.KernelIdeal.Frame
public import proofs.«01_k».proof.Proof.Gen.ReferenceIdeal.Frame
public import proofs.«01_k».proof.Proof.Value.Alg
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Alg.preFacts,
  fun m ρ _ => Cert.Kernel.Gen.Run.frame m ρ, fun m ρ _ => Cert.KernelIdeal.Gen.Run.frame m ρ, fun m ρ _ => Cert.KernelIdeal.Gen.Run.frame m ρ,
  fun m ρ _ => Cert.ReferenceIdeal.Gen.frame m ρ, fun m ρ _ => Cert.ReferenceIdeal.Gen.frame m ρ, trivial, Cert.Alg.algebraic⟩

end Cert.Proof

end
